-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scan (m : (ℓ : Loc Cert.Scan.nD Cert.Scan.τ Cert.Scan.sig) → Buf (Elt Bits) ℓ) : Prop :=
  True

def Pre_ScanIdeal (m : (ℓ : Loc Cert.ScanIdeal.nD Cert.ScanIdeal.τ Cert.ScanIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Scan [hScan : Cert.Scan.Facts] : Prop :=
  ∀ (m : (ℓ : Loc Cert.Scan.nD Cert.Scan.τ Cert.Scan.sig) → Buf (Elt Bits) ℓ) (g : Dev Cert.Scan.nD → PrngReg), Pre_Scan m →
    θ_run (Cert.Scan.defs (F := Bits)) (onTc (τ := Cert.Scan.τ) (Cert.Scan.main (F := Bits))) ⟨m, fun _ => 0, g⟩ (fun r => (∀ c : Dev Cert.Scan.nD,
      r.2.mem ((c.tc : Thread Cert.Scan.nD Cert.Scan.τ).loc Cert.Scan.main_arg0) = m ((c.tc : Thread Cert.Scan.nD Cert.Scan.τ).loc Cert.Scan.main_arg0)
      ∧ r.2.mem ((c.tc : Thread Cert.Scan.nD Cert.Scan.τ).loc Cert.Scan.main_arg1) = m ((c.tc : Thread Cert.Scan.nD Cert.Scan.τ).loc Cert.Scan.main_arg1)
      ∧ r.2.mem ((c.tc : Thread Cert.Scan.nD Cert.Scan.τ).loc Cert.Scan.main_arg2) = m ((c.tc : Thread Cert.Scan.nD Cert.Scan.τ).loc Cert.Scan.main_arg2)
      ∧ r.2.mem ((c.tc : Thread Cert.Scan.nD Cert.Scan.τ).loc Cert.Scan.main_arg3) = m ((c.tc : Thread Cert.Scan.nD Cert.Scan.τ).loc Cert.Scan.main_arg3)
      ∧ r.2.mem ((c.tc : Thread Cert.Scan.nD Cert.Scan.τ).loc Cert.Scan.main_arg4) = m ((c.tc : Thread Cert.Scan.nD Cert.Scan.τ).loc Cert.Scan.main_arg4)
      ∧ r.2.mem ((c.tc : Thread Cert.Scan.nD Cert.Scan.τ).loc Cert.Scan.main_arg5) = m ((c.tc : Thread Cert.Scan.nD Cert.Scan.τ).loc Cert.Scan.main_arg5)
      ∧ r.2.mem ((c.tc : Thread Cert.Scan.nD Cert.Scan.τ).loc Cert.Scan.main_arg6) = m ((c.tc : Thread Cert.Scan.nD Cert.Scan.τ).loc Cert.Scan.main_arg6)
      ∧ r.2.mem ((c.tc : Thread Cert.Scan.nD Cert.Scan.τ).loc Cert.Scan.main_arg7) = m ((c.tc : Thread Cert.Scan.nD Cert.Scan.τ).loc Cert.Scan.main_arg7)
      ∧ r.2.mem ((c.tc : Thread Cert.Scan.nD Cert.Scan.τ).loc Cert.Scan.main_arg8) = m ((c.tc : Thread Cert.Scan.nD Cert.Scan.τ).loc Cert.Scan.main_arg8))
      ∧ r.2.sem = fun _ => 0)

def quiescent_ScanIdeal [hScanIdeal : Cert.ScanIdeal.Facts] : Prop :=
  ∀ (m : (ℓ : Loc Cert.ScanIdeal.nD Cert.ScanIdeal.τ Cert.ScanIdeal.sig) → Buf (Elt Ideal) ℓ) (g : Dev Cert.ScanIdeal.nD → PrngReg), Pre_ScanIdeal m →
    θ_run (Cert.ScanIdeal.defs (F := Ideal)) (onTc (τ := Cert.ScanIdeal.τ) (Cert.ScanIdeal.main (F := Ideal))) ⟨m, fun _ => 0, g⟩ (fun r => (∀ c : Dev Cert.ScanIdeal.nD,
      r.2.mem ((c.tc : Thread Cert.ScanIdeal.nD Cert.ScanIdeal.τ).loc Cert.ScanIdeal.main_arg0) = m ((c.tc : Thread Cert.ScanIdeal.nD Cert.ScanIdeal.τ).loc Cert.ScanIdeal.main_arg0)
      ∧ r.2.mem ((c.tc : Thread Cert.ScanIdeal.nD Cert.ScanIdeal.τ).loc Cert.ScanIdeal.main_arg1) = m ((c.tc : Thread Cert.ScanIdeal.nD Cert.ScanIdeal.τ).loc Cert.ScanIdeal.main_arg1)
      ∧ r.2.mem ((c.tc : Thread Cert.ScanIdeal.nD Cert.ScanIdeal.τ).loc Cert.ScanIdeal.main_arg2) = m ((c.tc : Thread Cert.ScanIdeal.nD Cert.ScanIdeal.τ).loc Cert.ScanIdeal.main_arg2)
      ∧ r.2.mem ((c.tc : Thread Cert.ScanIdeal.nD Cert.ScanIdeal.τ).loc Cert.ScanIdeal.main_arg3) = m ((c.tc : Thread Cert.ScanIdeal.nD Cert.ScanIdeal.τ).loc Cert.ScanIdeal.main_arg3)
      ∧ r.2.mem ((c.tc : Thread Cert.ScanIdeal.nD Cert.ScanIdeal.τ).loc Cert.ScanIdeal.main_arg4) = m ((c.tc : Thread Cert.ScanIdeal.nD Cert.ScanIdeal.τ).loc Cert.ScanIdeal.main_arg4)
      ∧ r.2.mem ((c.tc : Thread Cert.ScanIdeal.nD Cert.ScanIdeal.τ).loc Cert.ScanIdeal.main_arg5) = m ((c.tc : Thread Cert.ScanIdeal.nD Cert.ScanIdeal.τ).loc Cert.ScanIdeal.main_arg5)
      ∧ r.2.mem ((c.tc : Thread Cert.ScanIdeal.nD Cert.ScanIdeal.τ).loc Cert.ScanIdeal.main_arg6) = m ((c.tc : Thread Cert.ScanIdeal.nD Cert.ScanIdeal.τ).loc Cert.ScanIdeal.main_arg6)
      ∧ r.2.mem ((c.tc : Thread Cert.ScanIdeal.nD Cert.ScanIdeal.τ).loc Cert.ScanIdeal.main_arg7) = m ((c.tc : Thread Cert.ScanIdeal.nD Cert.ScanIdeal.τ).loc Cert.ScanIdeal.main_arg7)
      ∧ r.2.mem ((c.tc : Thread Cert.ScanIdeal.nD Cert.ScanIdeal.τ).loc Cert.ScanIdeal.main_arg8) = m ((c.tc : Thread Cert.ScanIdeal.nD Cert.ScanIdeal.τ).loc Cert.ScanIdeal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)) (v3 : (c : Dev Cert.KernelIdeal.nD) → Buf (Elt Ideal) ((c.tc : Thread Cert.KernelIdeal.nD Cert.KernelIdeal.τ).loc Cert.KernelIdeal.main_v6_3)) (v4 : (c : Dev Cert.KernelIdeal.nD) → Buf (Elt Ideal) ((c.tc : Thread Cert.KernelIdeal.nD Cert.KernelIdeal.τ).loc Cert.KernelIdeal.main_v6_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_v6_3) = v3 c
          ∧ r.2.mem ((c.tc : Thread Cert.KernelIdeal.nD Cert.KernelIdeal.τ).loc Cert.KernelIdeal.main_v6_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_v0_3) = v3 c
          ∧ r.2.mem ((c.tc : Thread Cert.ReferenceIdeal.nD Cert.ReferenceIdeal.τ).loc Cert.ReferenceIdeal.main_v0_4) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Scan_ScanIdeal : Prop :=
  True

def Claim : Prop :=
  ∃ (hKernel : Cert.Kernel.Facts) (hKernelIdeal : Cert.KernelIdeal.Facts) (hReferenceIdeal : Cert.ReferenceIdeal.Facts) (hScan : Cert.Scan.Facts) (hScanIdeal : Cert.ScanIdeal.Facts),
    quiescent_Kernel (hKernel := hKernel)
    ∧ quiescent_KernelIdeal (hKernelIdeal := hKernelIdeal)
    ∧ quiescent_ReferenceIdeal (hReferenceIdeal := hReferenceIdeal)
    ∧ quiescent_Scan (hScan := hScan)
    ∧ quiescent_ScanIdeal (hScanIdeal := hScanIdeal)
    ∧ preserves_Kernel_KernelIdeal
    ∧ algebraic_KernelIdeal_ReferenceIdeal (hKernelIdeal := hKernelIdeal) (hReferenceIdeal := hReferenceIdeal)
    ∧ preserves_Scan_ScanIdeal
-- ==== Kernel.lean ====
abbrev S3x1024x8192 : Shape := ⟨3, ![3, 1024, 8192]⟩
abbrev S8192 : Shape := ⟨1, ![8192]⟩
abbrev S8192x4624 : Shape := ⟨2, ![8192, 4624]⟩
abbrev S4624 : Shape := ⟨1, ![4624]⟩
abbrev S4x2560 : Shape := ⟨2, ![4, 2560]⟩
abbrev S2560 : Shape := ⟨1, ![2560]⟩
abbrev S16 : Shape := ⟨1, ![16]⟩
abbrev S3072x8192 : Shape := ⟨2, ![3072, 8192]⟩
abbrev S1x8192 : Shape := ⟨2, ![1, 8192]⟩
abbrev S1x4624 : Shape := ⟨2, ![1, 4624]⟩
abbrev S1x2560 : Shape := ⟨2, ![1, 2560]⟩
abbrev S1x16 : Shape := ⟨2, ![1, 16]⟩
abbrev S3072x1 : Shape := ⟨2, ![3072, 1]⟩
abbrev S3072x2048 : Shape := ⟨2, ![3072, 2048]⟩
abbrev S3072x2560 : Shape := ⟨2, ![3072, 2560]⟩
abbrev S3072x16 : Shape := ⟨2, ![3072, 16]⟩
abbrev S256x8192 : Shape := ⟨2, ![256, 8192]⟩
abbrev S256x1 : Shape := ⟨2, ![256, 1]⟩
abbrev S256x2048 : Shape := ⟨2, ![256, 2048]⟩
abbrev S256x2560 : Shape := ⟨2, ![256, 2560]⟩
abbrev S256x16 : Shape := ⟨2, ![256, 16]⟩
abbrev S4x264x128 : Shape := ⟨3, ![4, 264, 128]⟩
abbrev S20x8x128 : Shape := ⟨3, ![20, 8, 128]⟩
abbrev S_ : Shape := ⟨0, ![]⟩
abbrev S8192x512 : Shape := ⟨2, ![8192, 512]⟩
abbrev S256x512 : Shape := ⟨2, ![256, 512]⟩
abbrev S1x512 : Shape := ⟨2, ![1, 512]⟩
abbrev S32x128 : Shape := ⟨2, ![32, 128]⟩
abbrev S32 : Shape := ⟨1, ![32]⟩
abbrev S32x1 : Shape := ⟨2, ![32, 1]⟩
abbrev S1x128 : Shape := ⟨2, ![1, 128]⟩
abbrev S1x8x128 : Shape := ⟨3, ![1, 8, 128]⟩
abbrev S8x128 : Shape := ⟨2, ![8, 128]⟩
abbrev S256x128 : Shape := ⟨2, ![256, 128]⟩
abbrev S1x256x128 : Shape := ⟨3, ![1, 256, 128]⟩
abbrev S8192x144 : Shape := ⟨2, ![8192, 144]⟩
abbrev S256x144 : Shape := ⟨2, ![256, 144]⟩

abbrev nBuf : Space → Nat
  | .hbm => 18
  | .vmem => 22
  | .smem => 0
  | _ => 0

abbrev bufTy : (tb : Table) → Fin (tcTables nBuf tb) → BufTy
  | .hbm, ⟨0, _⟩ => ⟨S3x1024x8192, .bf16⟩
  | .hbm, ⟨1, _⟩ => ⟨S8192, .bf16⟩
  | .hbm, ⟨2, _⟩ => ⟨S8192x4624, .fp8e4m3⟩
  | .hbm, ⟨3, _⟩ => ⟨S4624, .f32⟩
  | .hbm, ⟨4, _⟩ => ⟨S4x2560, .f32⟩
  | .hbm, ⟨5, _⟩ => ⟨S2560, .f32⟩
  | .hbm, ⟨6, _⟩ => ⟨S16, .f32⟩
  | .hbm, ⟨7, _⟩ => ⟨S3072x8192, .bf16⟩
  | .hbm, ⟨8, _⟩ => ⟨S8192, .f32⟩
  | .hbm, ⟨9, _⟩ => ⟨S1x8192, .f32⟩
  | .hbm, ⟨10, _⟩ => ⟨S1x4624, .f32⟩
  | .hbm, ⟨11, _⟩ => ⟨S1x2560, .f32⟩
  | .hbm, ⟨12, _⟩ => ⟨S1x16, .f32⟩
  | .hbm, ⟨13, _⟩ => ⟨S3072x8192, .fp8e4m3⟩
  | .hbm, ⟨14, _⟩ => ⟨S3072x1, .f32⟩
  | .hbm, ⟨15, _⟩ => ⟨S3072x2048, .f32⟩
  | .hbm, ⟨16, _⟩ => ⟨S3072x2560, .f32⟩
  | .hbm, ⟨17, _⟩ => ⟨S3072x16, .f32⟩
  | .local _ .vmem, ⟨0, _⟩ => ⟨S256x8192, .bf16⟩
  | .local _ .vmem, ⟨1, _⟩ => ⟨S256x8192, .bf16⟩
  | .local _ .vmem, ⟨2, _⟩ => ⟨S1x8192, .f32⟩
  | .local _ .vmem, ⟨3, _⟩ => ⟨S8192x4624, .fp8e4m3⟩
  | .local _ .vmem, ⟨4, _⟩ => ⟨S1x4624, .f32⟩
  | .local _ .vmem, ⟨5, _⟩ => ⟨S4x2560, .f32⟩
  | .local _ .vmem, ⟨6, _⟩ => ⟨S1x2560, .f32⟩
  | .local _ .vmem, ⟨7, _⟩ => ⟨S1x16, .f32⟩
  | .local _ .vmem, ⟨8, _⟩ => ⟨S256x1, .f32⟩
  | .local _ .vmem, ⟨9, _⟩ => ⟨S256x1, .f32⟩
  | .local _ .vmem, ⟨10, _⟩ => ⟨S256x2048, .f32⟩
  | .local _ .vmem, ⟨11, _⟩ => ⟨S256x2048, .f32⟩
  | .local _ .vmem, ⟨12, _⟩ => ⟨S256x2560, .f32⟩
  | .local _ .vmem, ⟨13, _⟩ => ⟨S256x2560, .f32⟩
  | .local _ .vmem, ⟨14, _⟩ => ⟨S256x16, .f32⟩
  | .local _ .vmem, ⟨15, _⟩ => ⟨S256x16, .f32⟩
  | .local _ .vmem, ⟨16, _⟩ => ⟨S256x8192, .fp8e4m3⟩
  | .local _ .vmem, ⟨17, _⟩ => ⟨S256x1, .f32⟩
  | .local _ .vmem, ⟨18, _⟩ => ⟨S256x8192, .fp8e4m3⟩
  | .local _ .vmem, ⟨19, _⟩ => ⟨S256x1, .f32⟩
  | .local _ .vmem, ⟨20, _⟩ => ⟨S4x264x128, .f32⟩
  | .local _ .vmem, ⟨21, _⟩ => ⟨S20x8x128, .f32⟩
  | _, _ => ⟨S3x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev main_v6_3 : Ref sig .tc := ⟨.hbm, 16, rfl⟩
abbrev main_v6_4 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg10_1 : Ref sig .tc := ⟨.vmem, 15, rfl⟩
abbrev cc0_scratch0 : Ref sig .tc := ⟨.vmem, 16, rfl⟩
abbrev cc0_scratch1 : Ref sig .tc := ⟨.vmem, 17, rfl⟩
abbrev cc0_scratch2 : Ref sig .tc := ⟨.vmem, 18, rfl⟩
abbrev cc0_scratch3 : Ref sig .tc := ⟨.vmem, 19, rfl⟩
abbrev cc0_scratch4 : Ref sig .tc := ⟨.vmem, 20, rfl⟩
abbrev cc0_scratch5 : Ref sig .tc := ⟨.vmem, 21, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem10_1 : DmaSem sig := 15

abbrev nD : Nat := 1
abbrev τ : Topo := Topo.v7x

variable {F : FTy → Type} [FloatOps F]

abbrev grid0 : Pipeline.Grid := ⟨1, ![13], ![false]⟩

def k0_mult1 (i : grid0.Coords) : BitVec 32 :=
  let arg0 : BitVec 32 := BitVec.ofNat 32 (i 0).val
  let c1_i32 : BitVec 32 := 1#32
  let v10 : BitVec 32 := Scalar.subi arg0 c1_i32
  let c0_i32 : BitVec 32 := 0#32
  let v11 : BitVec 32 := Scalar.maxsi v10 c0_i32
  let c256_i32 : BitVec 32 := 256#32
  let v12 : BitVec 32 := Scalar.muli v11 c256_i32
  v12
def k0_off1 (i : grid0.Coords) : Fin 2 → Nat :=
  let arg0 : BitVec 32 := BitVec.ofNat 32 (i 0).val
  let c1_i32 : BitVec 32 := 1#32
  let v10 : BitVec 32 := Scalar.subi arg0 c1_i32
  let c0_i32 : BitVec 32 := 0#32
  let v11 : BitVec 32 := Scalar.maxsi v10 c0_i32
  let c256_i32 : BitVec 32 := 256#32
  let v12 : BitVec 32 := Scalar.muli v11 c256_i32
  let v13 : BitVec 32 := v12
  let c0_i32_11 : BitVec 32 := 0#32
  ![v13.toNat, 0]
@[reducible] def k0_t1_loop : Scf.Loop 32 :=
  let c0_i32_22 : BitVec 32 := 0#32
  let c4_i32_23 : BitVec 32 := 4#32
  let v30 : BitVec 32 := Scalar.addi c0_i32_22 c4_i32_23
  let c1_i32_24 : BitVec 32 := 1#32
  ⟨c0_i32_22, v30, c1_i32_24⟩
def k0_mult2 (k0_t1 : Fin k0_t1_loop.trips) : BitVec 32 :=
  let c0_i32_22 : BitVec 32 := 0#32
  let c1_i32_24 : BitVec 32 := 1#32
  let arg20 : BitVec 32 := Scf.iv c0_i32_22 c1_i32_24 k0_t1
  let c512_i32 : BitVec 32 := 512#32
  let v62 : BitVec 32 := Scalar.muli arg20 c512_i32
  v62
def k0_off2 (k0_t1 : Fin k0_t1_loop.trips) : Fin 2 → Nat :=
  let c0_42 : Index := 0#32
  let c0_i32_22 : BitVec 32 := 0#32
  let c1_i32_24 : BitVec 32 := 1#32
  let arg20 : BitVec 32 := Scf.iv c0_i32_22 c1_i32_24 k0_t1
  let c512_i32 : BitVec 32 := 512#32
  let v62 : BitVec 32 := Scalar.muli arg20 c512_i32
  let v63 : BitVec 32 := v62
  let v65 : Index := Scalar.indexCast v63
  ![0, v65.toNat]
def k0_off3 (k0_t1 : Fin k0_t1_loop.trips) : Fin 2 → Nat :=
  let c0_44 : Index := 0#32
  let c0_i32_22 : BitVec 32 := 0#32
  let c1_i32_24 : BitVec 32 := 1#32
  let arg20 : BitVec 32 := Scf.iv c0_i32_22 c1_i32_24 k0_t1
  let c512_i32 : BitVec 32 := 512#32
  let v62 : BitVec 32 := Scalar.muli arg20 c512_i32
  let v63 : BitVec 32 := v62
  let v70 : Index := Scalar.indexCast v63
  ![0, v70.toNat]
def k0_mult3 (k0_t1 : Fin k0_t1_loop.trips) : BitVec 32 :=
  let c0_i32_22 : BitVec 32 := 0#32
  let c1_i32_24 : BitVec 32 := 1#32
  let arg20 : BitVec 32 := Scf.iv c0_i32_22 c1_i32_24 k0_t1
  let c512_i32_45 : BitVec 32 := 512#32
  let v77 : BitVec 32 := Scalar.muli arg20 c512_i32_45
  v77
def k0_off4 (k0_t1 : Fin k0_t1_loop.trips) : Fin 2 → Nat :=
  let c0_46 : Index := 0#32
  let c0_i32_22 : BitVec 32 := 0#32
  let c1_i32_24 : BitVec 32 := 1#32
  let arg20 : BitVec 32 := Scf.iv c0_i32_22 c1_i32_24 k0_t1
  let c512_i32_45 : BitVec 32 := 512#32
  let v77 : BitVec 32 := Scalar.muli arg20 c512_i32_45
  let v78 : BitVec 32 := v77
  let v79 : Index := Scalar.indexCast v78
  ![0, v79.toNat]
def k0_mult4 (k0_t1 : Fin k0_t1_loop.trips) : BitVec 32 :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  v82
def k0_off5 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v86 : Index := Scalar.indexCast v83
  let c0_49 : Index := 0#32
  ![v86.toNat, 0]
def k0_off6 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v92 : Index := Scalar.indexCast v83
  let c128 : Index := 128#32
  ![v92.toNat, 128]
def k0_off7 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v98 : Index := Scalar.indexCast v83
  let c256 : Index := 256#32
  ![v98.toNat, 256]
def k0_off8 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v104 : Index := Scalar.indexCast v83
  let c384 : Index := 384#32
  ![v104.toNat, 384]
def k0_off9 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v110 : Index := Scalar.indexCast v83
  let c512 : Index := 512#32
  ![v110.toNat, 512]
def k0_off10 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v116 : Index := Scalar.indexCast v83
  let c640 : Index := 640#32
  ![v116.toNat, 640]
def k0_off11 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v122 : Index := Scalar.indexCast v83
  let c768 : Index := 768#32
  ![v122.toNat, 768]
def k0_off12 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v128 : Index := Scalar.indexCast v83
  let c896 : Index := 896#32
  ![v128.toNat, 896]
def k0_off13 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v134 : Index := Scalar.indexCast v83
  let c1024 : Index := 1024#32
  ![v134.toNat, 1024]
def k0_off14 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v140 : Index := Scalar.indexCast v83
  let c1152 : Index := 1152#32
  ![v140.toNat, 1152]
def k0_off15 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v146 : Index := Scalar.indexCast v83
  let c1280 : Index := 1280#32
  ![v146.toNat, 1280]
def k0_off16 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v152 : Index := Scalar.indexCast v83
  let c1408 : Index := 1408#32
  ![v152.toNat, 1408]
def k0_off17 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v158 : Index := Scalar.indexCast v83
  let c1536 : Index := 1536#32
  ![v158.toNat, 1536]
def k0_off18 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v164 : Index := Scalar.indexCast v83
  let c1664 : Index := 1664#32
  ![v164.toNat, 1664]
def k0_off19 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v170 : Index := Scalar.indexCast v83
  let c1792 : Index := 1792#32
  ![v170.toNat, 1792]
def k0_off20 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v176 : Index := Scalar.indexCast v83
  let c1920 : Index := 1920#32
  ![v176.toNat, 1920]
def k0_off21 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v182 : Index := Scalar.indexCast v83
  let c2048 : Index := 2048#32
  ![v182.toNat, 2048]
def k0_off22 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v188 : Index := Scalar.indexCast v83
  let c2176 : Index := 2176#32
  ![v188.toNat, 2176]
def k0_off23 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v194 : Index := Scalar.indexCast v83
  let c2304 : Index := 2304#32
  ![v194.toNat, 2304]
def k0_off24 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v200 : Index := Scalar.indexCast v83
  let c2432 : Index := 2432#32
  ![v200.toNat, 2432]
def k0_off25 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v206 : Index := Scalar.indexCast v83
  let c2560 : Index := 2560#32
  ![v206.toNat, 2560]
def k0_off26 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v212 : Index := Scalar.indexCast v83
  let c2688 : Index := 2688#32
  ![v212.toNat, 2688]
def k0_off27 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v218 : Index := Scalar.indexCast v83
  let c2816 : Index := 2816#32
  ![v218.toNat, 2816]
def k0_off28 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v224 : Index := Scalar.indexCast v83
  let c2944 : Index := 2944#32
  ![v224.toNat, 2944]
def k0_off29 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v230 : Index := Scalar.indexCast v83
  let c3072 : Index := 3072#32
  ![v230.toNat, 3072]
def k0_off30 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v236 : Index := Scalar.indexCast v83
  let c3200 : Index := 3200#32
  ![v236.toNat, 3200]
def k0_off31 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v242 : Index := Scalar.indexCast v83
  let c3328 : Index := 3328#32
  ![v242.toNat, 3328]
def k0_off32 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v248 : Index := Scalar.indexCast v83
  let c3456 : Index := 3456#32
  ![v248.toNat, 3456]
def k0_off33 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v254 : Index := Scalar.indexCast v83
  let c3584 : Index := 3584#32
  ![v254.toNat, 3584]
def k0_off34 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v260 : Index := Scalar.indexCast v83
  let c3712 : Index := 3712#32
  ![v260.toNat, 3712]
def k0_off35 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v266 : Index := Scalar.indexCast v83
  let c3840 : Index := 3840#32
  ![v266.toNat, 3840]
def k0_off36 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v272 : Index := Scalar.indexCast v83
  let c3968 : Index := 3968#32
  ![v272.toNat, 3968]
def k0_off37 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v278 : Index := Scalar.indexCast v83
  let c4096 : Index := 4096#32
  ![v278.toNat, 4096]
def k0_off38 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v284 : Index := Scalar.indexCast v83
  let c4224 : Index := 4224#32
  ![v284.toNat, 4224]
def k0_off39 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v290 : Index := Scalar.indexCast v83
  let c4352 : Index := 4352#32
  ![v290.toNat, 4352]
def k0_off40 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v296 : Index := Scalar.indexCast v83
  let c4480_50 : Index := 4480#32
  ![v296.toNat, 4480]
def k0_off41 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v302 : Index := Scalar.indexCast v83
  let c4608_51 : Index := 4608#32
  ![v302.toNat, 4608]
def k0_off42 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v308 : Index := Scalar.indexCast v83
  let c4736 : Index := 4736#32
  ![v308.toNat, 4736]
def k0_off43 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v314 : Index := Scalar.indexCast v83
  let c4864 : Index := 4864#32
  ![v314.toNat, 4864]
def k0_off44 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v320 : Index := Scalar.indexCast v83
  let c4992 : Index := 4992#32
  ![v320.toNat, 4992]
def k0_off45 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v326 : Index := Scalar.indexCast v83
  let c5120 : Index := 5120#32
  ![v326.toNat, 5120]
def k0_off46 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v332 : Index := Scalar.indexCast v83
  let c5248 : Index := 5248#32
  ![v332.toNat, 5248]
def k0_off47 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v338 : Index := Scalar.indexCast v83
  let c5376 : Index := 5376#32
  ![v338.toNat, 5376]
def k0_off48 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v344 : Index := Scalar.indexCast v83
  let c5504 : Index := 5504#32
  ![v344.toNat, 5504]
def k0_off49 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v350 : Index := Scalar.indexCast v83
  let c5632 : Index := 5632#32
  ![v350.toNat, 5632]
def k0_off50 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v356 : Index := Scalar.indexCast v83
  let c5760 : Index := 5760#32
  ![v356.toNat, 5760]
def k0_off51 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v362 : Index := Scalar.indexCast v83
  let c5888 : Index := 5888#32
  ![v362.toNat, 5888]
def k0_off52 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v368 : Index := Scalar.indexCast v83
  let c6016 : Index := 6016#32
  ![v368.toNat, 6016]
def k0_off53 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v374 : Index := Scalar.indexCast v83
  let c6144 : Index := 6144#32
  ![v374.toNat, 6144]
def k0_off54 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v380 : Index := Scalar.indexCast v83
  let c6272 : Index := 6272#32
  ![v380.toNat, 6272]
def k0_off55 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v386 : Index := Scalar.indexCast v83
  let c6400 : Index := 6400#32
  ![v386.toNat, 6400]
def k0_off56 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v392 : Index := Scalar.indexCast v83
  let c6528 : Index := 6528#32
  ![v392.toNat, 6528]
def k0_off57 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v398 : Index := Scalar.indexCast v83
  let c6656 : Index := 6656#32
  ![v398.toNat, 6656]
def k0_off58 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v404 : Index := Scalar.indexCast v83
  let c6784 : Index := 6784#32
  ![v404.toNat, 6784]
def k0_off59 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v410 : Index := Scalar.indexCast v83
  let c6912 : Index := 6912#32
  ![v410.toNat, 6912]
def k0_off60 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v416 : Index := Scalar.indexCast v83
  let c7040 : Index := 7040#32
  ![v416.toNat, 7040]
def k0_off61 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v422 : Index := Scalar.indexCast v83
  let c7168 : Index := 7168#32
  ![v422.toNat, 7168]
def k0_off62 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v428 : Index := Scalar.indexCast v83
  let c7296 : Index := 7296#32
  ![v428.toNat, 7296]
def k0_off63 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v434 : Index := Scalar.indexCast v83
  let c7424 : Index := 7424#32
  ![v434.toNat, 7424]
def k0_off64 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v440 : Index := Scalar.indexCast v83
  let c7552 : Index := 7552#32
  ![v440.toNat, 7552]
def k0_off65 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v446 : Index := Scalar.indexCast v83
  let c7680 : Index := 7680#32
  ![v446.toNat, 7680]
def k0_off66 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v452 : Index := Scalar.indexCast v83
  let c7808 : Index := 7808#32
  ![v452.toNat, 7808]
def k0_off67 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v458 : Index := Scalar.indexCast v83
  let c7936 : Index := 7936#32
  ![v458.toNat, 7936]
def k0_off68 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v464 : Index := Scalar.indexCast v83
  let c8064 : Index := 8064#32
  ![v464.toNat, 8064]
def k0_off69 (k0_t1 : Fin k0_t1_loop.trips) : Fin 2 → Nat :=
  let c0_i32_22 : BitVec 32 := 0#32
  let c1_i32_24 : BitVec 32 := 1#32
  let arg20 : BitVec 32 := Scf.iv c0_i32_22 c1_i32_24 k0_t1
  let c7_i32 : BitVec 32 := 7#32
  let v81 : BitVec 32 := Scalar.minsi arg20 c7_i32
  let c32_i32 : BitVec 32 := 32#32
  let v82 : BitVec 32 := Scalar.muli v81 c32_i32
  let v83 : BitVec 32 := v82
  let v2691 : Index := Scalar.indexCast v83
  let c0_660 : Index := 0#32
  ![v2691.toNat, 0]
@[reducible] def k0_t2_loop : Scf.Loop 32 :=
  let c0_i32_26 : BitVec 32 := 0#32
  let c5_i32 : BitVec 32 := 5#32
  let v31 : BitVec 32 := Scalar.addi c0_i32_26 c5_i32
  let c1_i32_27 : BitVec 32 := 1#32
  ⟨c0_i32_26, v31, c1_i32_27⟩
def k0_mult5 (k0_t2 : Fin k0_t2_loop.trips) : BitVec 32 :=
  let c0_i32_26 : BitVec 32 := 0#32
  let c1_i32_27 : BitVec 32 := 1#32
  let arg20 : BitVec 32 := Scf.iv c0_i32_26 c1_i32_27 k0_t2
  let c4_i32_40 : BitVec 32 := 4#32
  let v62 : BitVec 32 := Scalar.addi arg20 c4_i32_40
  let c512_i32 : BitVec 32 := 512#32
  let v63 : BitVec 32 := Scalar.muli v62 c512_i32
  v63
def k0_off70 (k0_t2 : Fin k0_t2_loop.trips) : Fin 2 → Nat :=
  let c0_43 : Index := 0#32
  let c0_i32_26 : BitVec 32 := 0#32
  let c1_i32_27 : BitVec 32 := 1#32
  let arg20 : BitVec 32 := Scf.iv c0_i32_26 c1_i32_27 k0_t2
  let c4_i32_40 : BitVec 32 := 4#32
  let v62 : BitVec 32 := Scalar.addi arg20 c4_i32_40
  let c512_i32 : BitVec 32 := 512#32
  let v63 : BitVec 32 := Scalar.muli v62 c512_i32
  let v64 : BitVec 32 := v63
  let v66 : Index := Scalar.indexCast v64
  ![0, v66.toNat]
def k0_off71 (k0_t2 : Fin k0_t2_loop.trips) : Fin 2 → Nat :=
  let c0_45 : Index := 0#32
  let c0_i32_26 : BitVec 32 := 0#32
  let c1_i32_27 : BitVec 32 := 1#32
  let arg20 : BitVec 32 := Scf.iv c0_i32_26 c1_i32_27 k0_t2
  let c4_i32_40 : BitVec 32 := 4#32
  let v62 : BitVec 32 := Scalar.addi arg20 c4_i32_40
  let c512_i32 : BitVec 32 := 512#32
  let v63 : BitVec 32 := Scalar.muli v62 c512_i32
  let v64 : BitVec 32 := v63
  let v71 : Index := Scalar.indexCast v64
  ![0, v71.toNat]
def k0_mult6 (k0_t2 : Fin k0_t2_loop.trips) : BitVec 32 :=
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let c0_i32_47 : BitVec 32 := 0#32
  let v77 : BitVec 32 := Scalar.addi v76 c0_i32_47
  let c128_i32 : BitVec 32 := 128#32
  let v78 : BitVec 32 := Scalar.muli v77 c128_i32
  v78
def k0_off72 (k0_t2 : Fin k0_t2_loop.trips) (c0_i32_47 : BitVec 32) : Fin 3 → Nat :=
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let v80 : Index := Scalar.indexCast v77
  let c0_48 : Index := 0#32
  let c0_49 : Index := 0#32
  ![v80.toNat, 0, 0]
def k0_off73 (k0_t2 : Fin k0_t2_loop.trips) (c0_i32_47 : BitVec 32) : Fin 2 → Nat :=
  let c0_57 : Index := 0#32
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let c128_i32 : BitVec 32 := 128#32
  let v78 : BitVec 32 := Scalar.muli v77 c128_i32
  let v79 : BitVec 32 := v78
  let v92 : Index := Scalar.indexCast v79
  ![0, v92.toNat]
def k0_off74 (k0_t2 : Fin k0_t2_loop.trips) (c0_i32_47 : BitVec 32) : Fin 2 → Nat :=
  let c1 : Index := 1#32
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let c128_i32 : BitVec 32 := 128#32
  let v78 : BitVec 32 := Scalar.muli v77 c128_i32
  let v79 : BitVec 32 := v78
  let v98 : Index := Scalar.indexCast v79
  ![1, v98.toNat]
def k0_off75 (k0_t2 : Fin k0_t2_loop.trips) (c0_i32_47 : BitVec 32) : Fin 2 → Nat :=
  let c2 : Index := 2#32
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let c128_i32 : BitVec 32 := 128#32
  let v78 : BitVec 32 := Scalar.muli v77 c128_i32
  let v79 : BitVec 32 := v78
  let v105 : Index := Scalar.indexCast v79
  ![2, v105.toNat]
def k0_off76 (k0_t2 : Fin k0_t2_loop.trips) (c0_i32_47 : BitVec 32) : Fin 2 → Nat :=
  let c3 : Index := 3#32
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let c128_i32 : BitVec 32 := 128#32
  let v78 : BitVec 32 := Scalar.muli v77 c128_i32
  let v79 : BitVec 32 := v78
  let v112 : Index := Scalar.indexCast v79
  ![3, v112.toNat]
def k0_off77 (k0_t2 : Fin k0_t2_loop.trips) (c0_i32_47 : BitVec 32) : Fin 2 → Nat :=
  let c0_65 : Index := 0#32
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let c128_i32 : BitVec 32 := 128#32
  let v78 : BitVec 32 := Scalar.muli v77 c128_i32
  let v79 : BitVec 32 := v78
  let v117 : Index := Scalar.indexCast v79
  ![0, v117.toNat]
def k0_off78 (k0_t2 : Fin k0_t2_loop.trips) (c0_i32_47 : BitVec 32) : Fin 2 → Nat :=
  let c0_66 : Index := 0#32
  let c0_i32_26 : BitVec 32 := 0#32
  let c1_i32_27 : BitVec 32 := 1#32
  let arg20 : BitVec 32 := Scf.iv c0_i32_26 c1_i32_27 k0_t2
  let c4_i32_46 : BitVec 32 := 4#32
  let v76 : BitVec 32 := Scalar.muli arg20 c4_i32_46
  let v77 : BitVec 32 := Scalar.addi v76 c0_i32_47
  let c128_i32 : BitVec 32 := 128#32
  let v78 : BitVec 32 := Scalar.muli v77 c128_i32
  let v79 : BitVec 32 := v78
  let v124 : Index := Scalar.indexCast v79
  ![0, v124.toNat]
def k0_mult7 (k0_t2 : Fin k0_t2_loop.trips) : BitVec 32 :=
  let c0_i32_26 : BitVec 32 := 0#32
  let c1_i32_27 : BitVec 32 := 1#32
  let arg20 : BitVec 32 := Scf.iv c0_i32_26 c1_i32_27 k0_t2
  let c4_i32_71 : BitVec 32 := 4#32
  let v132 : BitVec 32 := Scalar.muli arg20 c4_i32_71
  let c1_i32_72 : BitVec 32 := 1#32
  let v133 : BitVec 32 := Scalar.addi v132 c1_i32_72
  let c128_i32_73 : BitVec 32 := 128#32
  let v134 : BitVec 32 := Scalar.muli v133 c128_i32_73
  v134
def k0_mult8 (k0_t2 : Fin k0_t2_loop.trips) : BitVec 32 :=
  let c0_i32_26 : BitVec 32 := 0#32
  let c1_i32_27 : BitVec 32 := 1#32
  let arg20 : BitVec 32 := Scf.iv c0_i32_26 c1_i32_27 k0_t2
  let c4_i32_105 : BitVec 32 := 4#32
  let v188 : BitVec 32 := Scalar.muli arg20 c4_i32_105
  let c2_i32 : BitVec 32 := 2#32
  let v189 : BitVec 32 := Scalar.addi v188 c2_i32
  let c128_i32_106 : BitVec 32 := 128#32
  let v190 : BitVec 32 := Scalar.muli v189 c128_i32_106
  v190
def k0_mult9 (k0_t2 : Fin k0_t2_loop.trips) : BitVec 32 :=
  let c0_i32_26 : BitVec 32 := 0#32
  let c1_i32_27 : BitVec 32 := 1#32
  let arg20 : BitVec 32 := Scf.iv c0_i32_26 c1_i32_27 k0_t2
  let c4_i32_138 : BitVec 32 := 4#32
  let v244 : BitVec 32 := Scalar.muli arg20 c4_i32_138
  let c3_i32 : BitVec 32 := 3#32
  let v245 : BitVec 32 := Scalar.addi v244 c3_i32
  let c128_i32_139 : BitVec 32 := 128#32
  let v246 : BitVec 32 := Scalar.muli v245 c128_i32_139
  v246
def k0_mult10 (k0_t2 : Fin k0_t2_loop.trips) : BitVec 32 :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  v302
def k0_off79 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v306 : Index := Scalar.indexCast v303
  let c0_174 : Index := 0#32
  ![v306.toNat, 0]
def k0_off80 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v312 : Index := Scalar.indexCast v303
  let c128 : Index := 128#32
  ![v312.toNat, 128]
def k0_off81 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v318 : Index := Scalar.indexCast v303
  let c256_175 : Index := 256#32
  ![v318.toNat, 256]
def k0_off82 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v324 : Index := Scalar.indexCast v303
  let c384 : Index := 384#32
  ![v324.toNat, 384]
def k0_off83 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v330 : Index := Scalar.indexCast v303
  let c512 : Index := 512#32
  ![v330.toNat, 512]
def k0_off84 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v336 : Index := Scalar.indexCast v303
  let c640 : Index := 640#32
  ![v336.toNat, 640]
def k0_off85 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v342 : Index := Scalar.indexCast v303
  let c768 : Index := 768#32
  ![v342.toNat, 768]
def k0_off86 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v348 : Index := Scalar.indexCast v303
  let c896 : Index := 896#32
  ![v348.toNat, 896]
def k0_off87 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v354 : Index := Scalar.indexCast v303
  let c1024 : Index := 1024#32
  ![v354.toNat, 1024]
def k0_off88 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v360 : Index := Scalar.indexCast v303
  let c1152 : Index := 1152#32
  ![v360.toNat, 1152]
def k0_off89 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v366 : Index := Scalar.indexCast v303
  let c1280 : Index := 1280#32
  ![v366.toNat, 1280]
def k0_off90 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v372 : Index := Scalar.indexCast v303
  let c1408 : Index := 1408#32
  ![v372.toNat, 1408]
def k0_off91 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v378 : Index := Scalar.indexCast v303
  let c1536 : Index := 1536#32
  ![v378.toNat, 1536]
def k0_off92 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v384 : Index := Scalar.indexCast v303
  let c1664 : Index := 1664#32
  ![v384.toNat, 1664]
def k0_off93 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v390 : Index := Scalar.indexCast v303
  let c1792 : Index := 1792#32
  ![v390.toNat, 1792]
def k0_off94 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v396 : Index := Scalar.indexCast v303
  let c1920 : Index := 1920#32
  ![v396.toNat, 1920]
def k0_off95 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v402 : Index := Scalar.indexCast v303
  let c2048 : Index := 2048#32
  ![v402.toNat, 2048]
def k0_off96 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v408 : Index := Scalar.indexCast v303
  let c2176 : Index := 2176#32
  ![v408.toNat, 2176]
def k0_off97 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v414 : Index := Scalar.indexCast v303
  let c2304 : Index := 2304#32
  ![v414.toNat, 2304]
def k0_off98 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v420 : Index := Scalar.indexCast v303
  let c2432 : Index := 2432#32
  ![v420.toNat, 2432]
def k0_off99 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v426 : Index := Scalar.indexCast v303
  let c2560 : Index := 2560#32
  ![v426.toNat, 2560]
def k0_off100 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v432 : Index := Scalar.indexCast v303
  let c2688 : Index := 2688#32
  ![v432.toNat, 2688]
def k0_off101 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v438 : Index := Scalar.indexCast v303
  let c2816 : Index := 2816#32
  ![v438.toNat, 2816]
def k0_off102 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v444 : Index := Scalar.indexCast v303
  let c2944 : Index := 2944#32
  ![v444.toNat, 2944]
def k0_off103 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v450 : Index := Scalar.indexCast v303
  let c3072 : Index := 3072#32
  ![v450.toNat, 3072]
def k0_off104 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v456 : Index := Scalar.indexCast v303
  let c3200 : Index := 3200#32
  ![v456.toNat, 3200]
def k0_off105 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v462 : Index := Scalar.indexCast v303
  let c3328 : Index := 3328#32
  ![v462.toNat, 3328]
def k0_off106 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v468 : Index := Scalar.indexCast v303
  let c3456 : Index := 3456#32
  ![v468.toNat, 3456]
def k0_off107 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v474 : Index := Scalar.indexCast v303
  let c3584 : Index := 3584#32
  ![v474.toNat, 3584]
def k0_off108 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v480 : Index := Scalar.indexCast v303
  let c3712 : Index := 3712#32
  ![v480.toNat, 3712]
def k0_off109 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v486 : Index := Scalar.indexCast v303
  let c3840 : Index := 3840#32
  ![v486.toNat, 3840]
def k0_off110 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v492 : Index := Scalar.indexCast v303
  let c3968 : Index := 3968#32
  ![v492.toNat, 3968]
def k0_off111 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v498 : Index := Scalar.indexCast v303
  let c4096 : Index := 4096#32
  ![v498.toNat, 4096]
def k0_off112 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v504 : Index := Scalar.indexCast v303
  let c4224 : Index := 4224#32
  ![v504.toNat, 4224]
def k0_off113 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v510 : Index := Scalar.indexCast v303
  let c4352 : Index := 4352#32
  ![v510.toNat, 4352]
def k0_off114 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v516 : Index := Scalar.indexCast v303
  let c4480_176 : Index := 4480#32
  ![v516.toNat, 4480]
def k0_off115 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v522 : Index := Scalar.indexCast v303
  let c4608_177 : Index := 4608#32
  ![v522.toNat, 4608]
def k0_off116 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v528 : Index := Scalar.indexCast v303
  let c4736 : Index := 4736#32
  ![v528.toNat, 4736]
def k0_off117 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v534 : Index := Scalar.indexCast v303
  let c4864 : Index := 4864#32
  ![v534.toNat, 4864]
def k0_off118 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v540 : Index := Scalar.indexCast v303
  let c4992 : Index := 4992#32
  ![v540.toNat, 4992]
def k0_off119 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v546 : Index := Scalar.indexCast v303
  let c5120 : Index := 5120#32
  ![v546.toNat, 5120]
def k0_off120 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v552 : Index := Scalar.indexCast v303
  let c5248 : Index := 5248#32
  ![v552.toNat, 5248]
def k0_off121 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v558 : Index := Scalar.indexCast v303
  let c5376 : Index := 5376#32
  ![v558.toNat, 5376]
def k0_off122 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v564 : Index := Scalar.indexCast v303
  let c5504 : Index := 5504#32
  ![v564.toNat, 5504]
def k0_off123 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v570 : Index := Scalar.indexCast v303
  let c5632 : Index := 5632#32
  ![v570.toNat, 5632]
def k0_off124 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v576 : Index := Scalar.indexCast v303
  let c5760 : Index := 5760#32
  ![v576.toNat, 5760]
def k0_off125 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v582 : Index := Scalar.indexCast v303
  let c5888 : Index := 5888#32
  ![v582.toNat, 5888]
def k0_off126 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v588 : Index := Scalar.indexCast v303
  let c6016 : Index := 6016#32
  ![v588.toNat, 6016]
def k0_off127 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v594 : Index := Scalar.indexCast v303
  let c6144 : Index := 6144#32
  ![v594.toNat, 6144]
def k0_off128 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v600 : Index := Scalar.indexCast v303
  let c6272 : Index := 6272#32
  ![v600.toNat, 6272]
def k0_off129 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v606 : Index := Scalar.indexCast v303
  let c6400 : Index := 6400#32
  ![v606.toNat, 6400]
def k0_off130 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v612 : Index := Scalar.indexCast v303
  let c6528 : Index := 6528#32
  ![v612.toNat, 6528]
def k0_off131 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v618 : Index := Scalar.indexCast v303
  let c6656 : Index := 6656#32
  ![v618.toNat, 6656]
def k0_off132 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v624 : Index := Scalar.indexCast v303
  let c6784 : Index := 6784#32
  ![v624.toNat, 6784]
def k0_off133 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v630 : Index := Scalar.indexCast v303
  let c6912 : Index := 6912#32
  ![v630.toNat, 6912]
def k0_off134 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v636 : Index := Scalar.indexCast v303
  let c7040 : Index := 7040#32
  ![v636.toNat, 7040]
def k0_off135 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v642 : Index := Scalar.indexCast v303
  let c7168 : Index := 7168#32
  ![v642.toNat, 7168]
def k0_off136 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v648 : Index := Scalar.indexCast v303
  let c7296 : Index := 7296#32
  ![v648.toNat, 7296]
def k0_off137 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v654 : Index := Scalar.indexCast v303
  let c7424 : Index := 7424#32
  ![v654.toNat, 7424]
def k0_off138 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v660 : Index := Scalar.indexCast v303
  let c7552 : Index := 7552#32
  ![v660.toNat, 7552]
def k0_off139 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v666 : Index := Scalar.indexCast v303
  let c7680 : Index := 7680#32
  ![v666.toNat, 7680]
def k0_off140 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v672 : Index := Scalar.indexCast v303
  let c7808 : Index := 7808#32
  ![v672.toNat, 7808]
def k0_off141 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v678 : Index := Scalar.indexCast v303
  let c7936 : Index := 7936#32
  ![v678.toNat, 7936]
def k0_off142 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v684 : Index := Scalar.indexCast v303
  let c8064 : Index := 8064#32
  ![v684.toNat, 8064]
def k0_off143 (k0_t2 : Fin k0_t2_loop.trips) : Fin 2 → Nat :=
  let c0_i32_26 : BitVec 32 := 0#32
  let c1_i32_27 : BitVec 32 := 1#32
  let arg20 : BitVec 32 := Scf.iv c0_i32_26 c1_i32_27 k0_t2
  let c4_i32_171 : BitVec 32 := 4#32
  let v300 : BitVec 32 := Scalar.addi arg20 c4_i32_171
  let c7_i32 : BitVec 32 := 7#32
  let v301 : BitVec 32 := Scalar.minsi v300 c7_i32
  let c32_i32 : BitVec 32 := 32#32
  let v302 : BitVec 32 := Scalar.muli v301 c32_i32
  let v303 : BitVec 32 := v302
  let v2911 : Index := Scalar.indexCast v303
  let c0_788 : Index := 0#32
  ![v2911.toNat, 0]
def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x8192 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8192x4624 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4624 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x1 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2560 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x16 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S3x1024x8192 : Shape := ⟨3, ![3, 1024, 8192]⟩
abbrev S8192 : Shape := ⟨1, ![8192]⟩
abbrev S8192x4624 : Shape := ⟨2, ![8192, 4624]⟩
abbrev S4624 : Shape := ⟨1, ![4624]⟩
abbrev S4x2560 : Shape := ⟨2, ![4, 2560]⟩
abbrev S2560 : Shape := ⟨1, ![2560]⟩
abbrev S16 : Shape := ⟨1, ![16]⟩
abbrev S3072x8192 : Shape := ⟨2, ![3072, 8192]⟩
abbrev S3072x1 : Shape := ⟨2, ![3072, 1]⟩
abbrev S3072x2048 : Shape := ⟨2, ![3072, 2048]⟩
abbrev S3072x2560 : Shape := ⟨2, ![3072, 2560]⟩
abbrev S3072x16 : Shape := ⟨2, ![3072, 16]⟩
abbrev S3072 : Shape := ⟨1, ![3072]⟩
abbrev S1x8192 : Shape := ⟨2, ![1, 8192]⟩
abbrev S1x254 : Shape := ⟨2, ![1, 254]⟩
abbrev S3072x254 : Shape := ⟨2, ![3072, 254]⟩
abbrev S3072x4624 : Shape := ⟨2, ![3072, 4624]⟩
abbrev S1x4624 : Shape := ⟨2, ![1, 4624]⟩
abbrev S3x3x2560 : Shape := ⟨3, ![3, 3, 2560]⟩
abbrev S3x1024x2560 : Shape := ⟨3, ![3, 1024, 2560]⟩
abbrev S3x1027x2560 : Shape := ⟨3, ![3, 1027, 2560]⟩
abbrev S1x2560 : Shape := ⟨2, ![1, 2560]⟩
abbrev S1x1x2560 : Shape := ⟨3, ![1, 1, 2560]⟩
abbrev S1x16 : Shape := ⟨2, ![1, 16]⟩

abbrev nBuf : Space → Nat
  | .hbm => 12
  | .vmem => 12
  | .smem => 0
  | _ => 0

abbrev bufTy : (tb : Table) → Fin (tcTables nBuf tb) → BufTy
  | .hbm, ⟨0, _⟩ => ⟨S3x1024x8192, .bf16⟩
  | .hbm, ⟨1, _⟩ => ⟨S8192, .bf16⟩
  | .hbm, ⟨2, _⟩ => ⟨S8192x4624, .fp8e4m3⟩
  | .hbm, ⟨3, _⟩ => ⟨S4624, .f32⟩
  | .hbm, ⟨4, _⟩ => ⟨S4x2560, .f32⟩
  | .hbm, ⟨5, _⟩ => ⟨S2560, .f32⟩
  | .hbm, ⟨6, _⟩ => ⟨S16, .f32⟩
  | .hbm, ⟨7, _⟩ => ⟨S3072x8192, .fp8e4m3⟩
  | .hbm, ⟨8, _⟩ => ⟨S3072x1, .f32⟩
  | .hbm, ⟨9, _⟩ => ⟨S3072x2048, .f32⟩
  | .hbm, ⟨10, _⟩ => ⟨S3072x2560, .f32⟩
  | .hbm, ⟨11, _⟩ => ⟨S3072x16, .f32⟩
  | .local _ .vmem, ⟨0, _⟩ => ⟨S3x1024x8192, .bf16⟩
  | .local _ .vmem, ⟨1, _⟩ => ⟨S8192, .bf16⟩
  | .local _ .vmem, ⟨2, _⟩ => ⟨S8192x4624, .fp8e4m3⟩
  | .local _ .vmem, ⟨3, _⟩ => ⟨S4624, .f32⟩
  | .local _ .vmem, ⟨4, _⟩ => ⟨S4x2560, .f32⟩
  | .local _ .vmem, ⟨5, _⟩ => ⟨S2560, .f32⟩
  | .local _ .vmem, ⟨6, _⟩ => ⟨S16, .f32⟩
  | .local _ .vmem, ⟨7, _⟩ => ⟨S3072x8192, .fp8e4m3⟩
  | .local _ .vmem, ⟨8, _⟩ => ⟨S3072x1, .f32⟩
  | .local _ .vmem, ⟨9, _⟩ => ⟨S3072x2048, .f32⟩
  | .local _ .vmem, ⟨10, _⟩ => ⟨S3072x2560, .f32⟩
  | .local _ .vmem, ⟨11, _⟩ => ⟨S3072x16, .f32⟩
  | _, _ => ⟨S3x1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev main_v0_4 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S3x1024x8192 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8192x4624 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4624 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4x2560 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S3072x8192 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S3072x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S3072x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S3072x2560 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S3072x16 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Scan.lean ====
abbrev S3072x2048 : Shape := ⟨2, ![3072, 2048]⟩
abbrev S3072x2560 : Shape := ⟨2, ![3072, 2560]⟩
abbrev S3072x16 : Shape := ⟨2, ![3072, 16]⟩
abbrev S16 : Shape := ⟨1, ![16]⟩
abbrev S2048 : Shape := ⟨1, ![2048]⟩
abbrev S2048x8192 : Shape := ⟨2, ![2048, 8192]⟩
abbrev S8192 : Shape := ⟨1, ![8192]⟩
abbrev S3x1024x8192 : Shape := ⟨3, ![3, 1024, 8192]⟩
abbrev S3072x8192 : Shape := ⟨2, ![3072, 8192]⟩
abbrev S1x16 : Shape := ⟨2, ![1, 16]⟩
abbrev S_ : Shape := ⟨0, ![]⟩
abbrev S1x128 : Shape := ⟨2, ![1, 128]⟩
abbrev S16x128 : Shape := ⟨2, ![16, 128]⟩
abbrev S1x2048 : Shape := ⟨2, ![1, 2048]⟩
abbrev S1x8192 : Shape := ⟨2, ![1, 8192]⟩
abbrev S3072x1 : Shape := ⟨2, ![3072, 1]⟩
abbrev S256x2048 : Shape := ⟨2, ![256, 2048]⟩
abbrev S256x2560 : Shape := ⟨2, ![256, 2560]⟩
abbrev S256x16 : Shape := ⟨2, ![256, 16]⟩
abbrev S256x8192 : Shape := ⟨2, ![256, 8192]⟩
abbrev S256x1 : Shape := ⟨2, ![256, 1]⟩
abbrev S2x128x1024 : Shape := ⟨3, ![2, 128, 1024]⟩
abbrev S2048x512 : Shape := ⟨2, ![2048, 512]⟩
abbrev S256x512 : Shape := ⟨2, ![256, 512]⟩
abbrev S1x512 : Shape := ⟨2, ![1, 512]⟩
abbrev S128x16 : Shape := ⟨2, ![128, 16]⟩
abbrev S128x112 : Shape := ⟨2, ![128, 112]⟩
abbrev S128x128 : Shape := ⟨2, ![128, 128]⟩
abbrev S1x128x1024 : Shape := ⟨3, ![1, 128, 1024]⟩
abbrev S128x1024 : Shape := ⟨2, ![128, 1024]⟩
abbrev S128x1 : Shape := ⟨2, ![128, 1]⟩
abbrev S1x1 : Shape := ⟨2, ![1, 1]⟩
abbrev S1x128x128 : Shape := ⟨3, ![1, 128, 128]⟩
abbrev S32x1 : Shape := ⟨2, ![32, 1]⟩
abbrev S32x1024 : Shape := ⟨2, ![32, 1024]⟩
abbrev S32 : Shape := ⟨1, ![32]⟩
abbrev S1x1024 : Shape := ⟨2, ![1, 1024]⟩
abbrev S32x2048 : Shape := ⟨2, ![32, 2048]⟩

abbrev nBuf : Space → Nat
  | .hbm => 23
  | .vmem => 25
  | .smem => 0
  | _ => 0

abbrev bufTy : (tb : Table) → Fin (tcTables nBuf tb) → BufTy
  | .hbm, ⟨0, _⟩ => ⟨S3072x2048, .f32⟩
  | .hbm, ⟨1, _⟩ => ⟨S3072x2560, .f32⟩
  | .hbm, ⟨2, _⟩ => ⟨S3072x16, .f32⟩
  | .hbm, ⟨3, _⟩ => ⟨S16, .f32⟩
  | .hbm, ⟨4, _⟩ => ⟨S16, .f32⟩
  | .hbm, ⟨5, _⟩ => ⟨S2048, .bf16⟩
  | .hbm, ⟨6, _⟩ => ⟨S2048x8192, .fp8e4m3⟩
  | .hbm, ⟨7, _⟩ => ⟨S8192, .f32⟩
  | .hbm, ⟨8, _⟩ => ⟨S3x1024x8192, .bf16⟩
  | .hbm, ⟨9, _⟩ => ⟨S3072x8192, .bf16⟩
  | .hbm, ⟨10, _⟩ => ⟨S1x16, .f32⟩
  | .hbm, ⟨11, _⟩ => ⟨S_, .i32⟩
  | .hbm, ⟨12, _⟩ => ⟨S_, .f32⟩
  | .hbm, ⟨13, _⟩ => ⟨S1x128, .f32⟩
  | .hbm, ⟨14, _⟩ => ⟨S16x128, .f32⟩
  | .hbm, ⟨15, _⟩ => ⟨S2048, .f32⟩
  | .hbm, ⟨16, _⟩ => ⟨S1x2048, .f32⟩
  | .hbm, ⟨17, _⟩ => ⟨S2048, .f32⟩
  | .hbm, ⟨18, _⟩ => ⟨S1x2048, .f32⟩
  | .hbm, ⟨19, _⟩ => ⟨S1x8192, .f32⟩
  | .hbm, ⟨20, _⟩ => ⟨S3072x8192, .bf16⟩
  | .hbm, ⟨21, _⟩ => ⟨S3072x2048, .fp8e4m3⟩
  | .hbm, ⟨22, _⟩ => ⟨S3072x1, .f32⟩
  | .local _ .vmem, ⟨0, _⟩ => ⟨S256x2048, .f32⟩
  | .local _ .vmem, ⟨1, _⟩ => ⟨S256x2048, .f32⟩
  | .local _ .vmem, ⟨2, _⟩ => ⟨S256x2560, .f32⟩
  | .local _ .vmem, ⟨3, _⟩ => ⟨S256x2560, .f32⟩
  | .local _ .vmem, ⟨4, _⟩ => ⟨S256x16, .f32⟩
  | .local _ .vmem, ⟨5, _⟩ => ⟨S256x16, .f32⟩
  | .local _ .vmem, ⟨6, _⟩ => ⟨S1x128, .f32⟩
  | .local _ .vmem, ⟨7, _⟩ => ⟨S1x2048, .f32⟩
  | .local _ .vmem, ⟨8, _⟩ => ⟨S1x2048, .f32⟩
  | .local _ .vmem, ⟨9, _⟩ => ⟨S2048x8192, .fp8e4m3⟩
  | .local _ .vmem, ⟨10, _⟩ => ⟨S1x8192, .f32⟩
  | .local _ .vmem, ⟨11, _⟩ => ⟨S256x8192, .bf16⟩
  | .local _ .vmem, ⟨12, _⟩ => ⟨S256x8192, .bf16⟩
  | .local _ .vmem, ⟨13, _⟩ => ⟨S256x8192, .bf16⟩
  | .local _ .vmem, ⟨14, _⟩ => ⟨S256x8192, .bf16⟩
  | .local _ .vmem, ⟨15, _⟩ => ⟨S256x2048, .fp8e4m3⟩
  | .local _ .vmem, ⟨16, _⟩ => ⟨S256x2048, .fp8e4m3⟩
  | .local _ .vmem, ⟨17, _⟩ => ⟨S256x1, .f32⟩
  | .local _ .vmem, ⟨18, _⟩ => ⟨S256x1, .f32⟩
  | .local _ .vmem, ⟨19, _⟩ => ⟨S2x128x1024, .f32⟩
  | .local _ .vmem, ⟨20, _⟩ => ⟨S256x2048, .f32⟩
  | .local _ .vmem, ⟨21, _⟩ => ⟨S256x2048, .fp8e4m3⟩
  | .local _ .vmem, ⟨22, _⟩ => ⟨S256x1, .f32⟩
  | .local _ .vmem, ⟨23, _⟩ => ⟨S256x2048, .fp8e4m3⟩
  | .local _ .vmem, ⟨24, _⟩ => ⟨S256x1, .f32⟩
  | _, _ => ⟨S3072x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_c : Ref sig .tc := ⟨.hbm, 11, rfl⟩
abbrev main_call0_v0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev main_v9_2 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18

abbrev nD : Nat := 1
abbrev τ : Topo := Topo.v7x

variable {F : FTy → Type} [FloatOps F]

abbrev grid0 : Pipeline.Grid := ⟨1, ![13], ![false]⟩

def cc0_transform_0 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c11_i32 : BitVec 32 := 11#32
  let v0 : BitVec 32 := Scalar.minsi arg0 c11_i32
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_9 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_10 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_11 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2560 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S2048x8192 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x8192 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x8192 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x2048 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S256x1 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]
-- ==== Proof.Kernel.Strip.lean ====
/- The quantisation of one strip of 32 rows, as a program of its own: three passes over the 64 lane blocks of 128
   columns (sum of squares, largest magnitude, codes), each pass a recursion over the blocks, and last the
   strip's scale. The two loops of the kernel run this strip; `Body.lean` says so by unfolding. -/
module

public import proofs.«01_k».proof.Proof.Gen.Kernel.Skeleton

@[expose] public section

noncomputable section

namespace Cert.Kernel.Own

open Cert.Kernel Cert.Kernel.Gen
open Idealize.ShloMosaic Idealize.SL.Sem

variable {F : FTy → Type} [FloatOps F]

/-! ## The values -/

/-- A block of the strip, in f32. -/
def xF (v : Vec F S32x128 .bf16) : FVec F S32x128 .f32 :=
  extf .f32 (shapeCast S32x128 v shapeCasts_S32x128_S32x128) bitsLt_bf16_f32

/-- The running sum of squares takes in one more block. -/
def sqF (s : FVec F S32x128 .f32) (v : Vec F S32x128 .bf16) : FVec F S32x128 .f32 := addf s (mulf (xF v) (xF v))

/-- A block of zeros. -/
def zeroF : FVec F S32x128 .f32 := broadcast S32x128 (Scalar.ofBits .f32 0x00000000#32)

/-- Each row's reciprocal root mean square, from the two partial sums. -/
def rmsF (s : FVec F S32x128 .f32 × FVec F S32x128 .f32) : FVec F S32x1 .f32 :=
  rsqrt (addf (mulf (shapeCast S32x1 (multiReduction .add [1] S32 (addf s.1 s.2) 0x00000000#32 reduces_S32x128_S32 (.inl rfl) rfl) shapeCasts_S32_S32x1)
    (broadcast S32x1 (Scalar.ofBits .f32 0x39000000#32))) (broadcast S32x1 (Scalar.ofBits .f32 0x3727C5AC#32)))

/-- A normalised block. -/
def hnF (r : FVec F S32x1 .f32) (v : Vec F S32x128 .bf16) (w : Vec F S1x128 .f32) : FVec F S32x128 .f32 :=
  mulf (mulf (xF v) (broadcastTo S32x128 r broadcasts_S32x1_S32x128))
    (broadcastTo S32x128 (shapeCast S1x128 w shapeCasts_S1x128_S1x128) broadcasts_S1x128_S32x128)

/-- The running largest magnitude takes in one more block. -/
def amF (r : FVec F S32x1 .f32) (a : FVec F S32x128 .f32) (v : Vec F S32x128 .bf16) (w : Vec F S1x128 .f32) :
    FVec F S32x128 .f32 := maximumf a (absf (hnF r v w))

/-- Each row's largest magnitude, as a multiple of the largest code. -/
def ratioF (a : FVec F S32x128 .f32 × FVec F S32x128 .f32) : FVec F S32x1 .f32 :=
  mulf (shapeCast S32x1 (multiReduction .maximumf [1] S32 (maximumf a.1 a.2) 0xFF800000#32 reduces_S32x128_S32 (.inl rfl) rfl) shapeCasts_S32_S32x1)
    (broadcast S32x1 (Scalar.ofBits .f32 0x3B124925#32))

/-- One rung of the search for the biased exponent. -/
def rungF (y : FVec F S32x1 .f32) (b : IVec S32x1 32) (k : BitVec 32) : IVec S32x1 32 :=
  select (cmpf .oge y (bitcastToFloat .f32 (shli (addi b (broadcast S32x1 k)) (broadcast S32x1 23#32))))
    (addi b (broadcast S32x1 k)) b

/-- The biased exponent, from the largest rung down. -/
def biasedF (y : FVec F S32x1 .f32) : IVec S32x1 32 :=
  rungF y (rungF y (rungF y (rungF y (rungF y (rungF y (rungF y (rungF y (broadcast S32x1 0#32) 128#32) 64#32) 32#32) 16#32) 8#32) 4#32) 2#32) 1#32

/-- The exponent. -/
def expF (y : FVec F S32x1 .f32) : IVec S32x1 32 :=
  select (ori (cmpi .eq (biasedF y) (broadcast S32x1 0#32)) (cmpi .eq (biasedF y) (broadcast S32x1 255#32)))
    (broadcast S32x1 0#32) (subi (biasedF y) (broadcast S32x1 126#32))

/-- The scale. -/
def scaleF (y : FVec F S32x1 .f32) : FVec F S32x1 .f32 :=
  bitcastToFloat .f32 (shli (addi (expF y) (broadcast S32x1 127#32)) (broadcast S32x1 23#32))

/-- The scale's reciprocal. -/
def invF (y : FVec F S32x1 .f32) : FVec F S32x1 .f32 :=
  bitcastToFloat .f32 (shli (maxsi (subi (broadcast S32x1 127#32) (expF y)) (broadcast S32x1 0#32)) (broadcast S32x1 23#32))

/-- The codes of a block. -/
def codeF (r i : FVec F S32x1 .f32) (v : Vec F S32x128 .bf16) (w : Vec F S1x128 .f32) : FVec F S32x128 .fp8e4m3 :=
  shapeCast S32x128 (truncf .fp8e4m3 (minimumf (broadcast S32x128 (Scalar.ofBits .f32 0x43E00000#32))
    (maximumf (broadcast S32x128 (Scalar.ofBits .f32 0xC3E00000#32)) (mulf (hnF r v w) (broadcastTo S32x128 i broadcasts_S32x1_S32x128))))
    bitsLt_fp8e4m3_f32) shapeCasts_S32x128_S32x128

/-! ## The program -/

/-- Where block `c` of the strip at row `n` begins. -/
def xOff (n c : ℕ) : Fin 2 → ℕ := ![n, 128 * c]

theorem xOff_inb {n c : ℕ} (hn : n + 32 ≤ 256) (hc : c < 64) : ∀ a, xOff n c a + S32x128.size a ≤ S256x8192.size a := by
  intro a; fin_cases a
  · exact hn
  · show 128 * c + 128 ≤ 8192; omega

theorem wOff_inb {c : ℕ} (hc : c < 64) : ∀ a, xOff 0 c a + S1x128.size a ≤ S1x8192.size a := by
  intro a; fin_cases a
  · show 0 + 1 ≤ 1; omega
  · show 128 * c + 128 ≤ 8192; omega

theorem sOff_inb {n : ℕ} (hn : n + 32 ≤ 256) : ∀ a, (![n, 0] : Fin 2 → ℕ) a + S32x1.size a ≤ S256x1.size a := by
  intro a; fin_cases a
  · exact hn
  · show 0 + 1 ≤ 1; omega

/-- The rows of a strip are whole words of the codes' buffer. -/
theorem xOff_packed {n c : ℕ} (hn : n + 32 ≤ 256) (hc : c < 64) (h4 : 4 ∣ n) :
    (Rect.unit (s := S256x8192) (xOff n c) S32x128.size (xOff_inb hn hc)).PackedRows (EltTy.packing .fp8e4m3) :=
  .inr ⟨by decide, rfl, .inl ⟨by show 4 ∣ n; exact h4, by show 4 ∣ 32; decide⟩⟩

section
variable (arg1 : Memref sig .tc .vmem S256x8192 .bf16) (arg2 : Memref sig .tc .vmem S1x8192 .f32)
  (arg15 : Memref sig .tc .vmem S256x8192 .fp8e4m3) (harg15 : arg15.IsWhole) (arg16 : Memref sig .tc .vmem S256x1 .f32)
variable (n : ℕ) (hn : n + 32 ≤ 256) (h4 : 4 ∣ n)

/-- Load block `c` of the strip. -/
def ldX (c : ℕ) (hc : c < 64) : Prog (TpuEff nD τ sig (Elt F) Λ₀ .tc) (Vec F S32x128 .bf16) :=
  Prog.lift (.load arg1 (Rect.unit (s := S256x8192) (xOff n c) S32x128.size (xOff_inb hn hc)).toLoadRect (View.loadsAt_vmem h_S32x128))

/-- Load block `c` of the norm's weights. -/
def ldW (c : ℕ) (hc : c < 64) : Prog (TpuEff nD τ sig (Elt F) Λ₀ .tc) (Vec F S1x128 .f32) :=
  Prog.lift (.load arg2 (Rect.unit (s := S1x8192) (xOff 0 c) S1x128.size (wOff_inb hc)).toLoadRect (View.loadsAt_vmem h_S1x128))

/-- The first pass, from pair `c` of blocks on. -/
def sumLoop : (f c : ℕ) → c + f = 32 → FVec F S32x128 .f32 × FVec F S32x128 .f32 →
    Prog (TpuEff nD τ sig (Elt F) Λ₀ .tc) (FVec F S32x128 .f32 × FVec F S32x128 .f32)
  | 0, _, _, s => pure s
  | f + 1, c, h, s => do
    let v ← ldX arg1 n hn (2 * c) (by omega)
    let v' ← ldX arg1 n hn (2 * c + 1) (by omega)
    sumLoop f (c + 1) (by omega) (sqF s.1 v, sqF s.2 v')

/-- The second pass, from pair `c` of blocks on. -/
def maxLoop (r : FVec F S32x1 .f32) : (f c : ℕ) → c + f = 32 → FVec F S32x128 .f32 × FVec F S32x128 .f32 →
    Prog (TpuEff nD τ sig (Elt F) Λ₀ .tc) (FVec F S32x128 .f32 × FVec F S32x128 .f32)
  | 0, _, _, s => pure s
  | f + 1, c, h, s => do
    let v ← ldX arg1 n hn (2 * c) (by omega)
    let w ← ldW arg2 (2 * c) (by omega)
    let v' ← ldX arg1 n hn (2 * c + 1) (by omega)
    let w' ← ldW arg2 (2 * c + 1) (by omega)
    maxLoop r f (c + 1) (by omega) (amF r s.1 v w, amF r s.2 v' w')

/-- Store the codes of block `c`. -/
def stQ (c : ℕ) (hc : c < 64) (q : FVec F S32x128 .fp8e4m3) : Prog (TpuEff nD τ sig (Elt F) Λ₀ .tc) PUnit := do
  let _ ← Prog.lift (.load arg15 (Rect.unit (s := S256x8192) (xOff n c) S32x128.size (xOff_inb hn hc)).toLoadRect (View.loadsAt_vmem h_S32x128))
  Prog.lift (.store arg15 (Rect.unit (s := S256x8192) (xOff n c) S32x128.size (xOff_inb hn hc)) q Finset.univ
    (View.stores_vmem h_S32x128 (harg15.storeExact_slice rfl _ (xOff_packed hn hc h4)) (fun _ => rfl)) (.inl rfl))

/-- The third pass, from block `c` on. -/
def codeLoop (r i : FVec F S32x1 .f32) : (f c : ℕ) → c + f = 64 → Prog (TpuEff nD τ sig (Elt F) Λ₀ .tc) PUnit
  | 0, _, _ => pure ⟨⟩
  | f + 1, c, h => do
    let v ← ldX arg1 n hn c (by omega)
    let w ← ldW arg2 c (by omega)
    stQ arg15 harg15 n hn h4 c (by omega) (codeF r i v w)
    codeLoop r i f (c + 1) (by omega)

/-- Store the strip's scales. -/
def stS (y : FVec F S32x1 .f32) : Prog (TpuEff nD τ sig (Elt F) Λ₀ .tc) PUnit := do
  let _ ← Prog.lift (.load arg16 (Rect.unit (s := S256x1) ![n, 0] S32x1.size (sOff_inb hn)).toLoadRect (View.loadsAt_vmem h_S32x1))
  Prog.lift (.store arg16 (Rect.unit (s := S256x1) ![n, 0] S32x1.size (sOff_inb hn)) (shapeCast S32x1 (scaleF y) shapeCasts_S32x1_S32x1) Finset.univ
    (View.stores_vmem_bits_univ h_S32x1 rfl) (.inl rfl))

/-- The strip. -/
def strip : Prog (TpuEff nD τ sig (Elt F) Λ₀ .tc) PUnit := do
  let s ← sumLoop arg1 n hn 32 0 rfl (zeroF, zeroF)
  let a ← maxLoop arg1 arg2 n hn (rmsF s) 32 0 rfl (zeroF, zeroF)
  codeLoop arg1 arg2 arg15 harg15 n hn h4 (rmsF s) (invF (ratioF a)) 64 0 rfl
  stS arg16 n hn (ratioF a)

end

end Cert.Kernel.Own

end
-- ==== Proof.Kernel.Trip1.lean ====
/- A trip of the kernel's first loop is a tile of z and a strip's quantisation. -/
module

public import proofs.«01_k».proof.Proof.Kernel.Strip

@[expose] public section

noncomputable section

namespace Cert.Kernel.Own

open Cert.Kernel Cert.Kernel.Gen
open Idealize.ShloMosaic Idealize.SL.Sem

variable {F : FTy → Type} [FloatOps F]

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)

/-- The first loop's strip begins at this row. -/
def row1 (k : Fin k0_t1_loop.trips) : ℕ := k0_off5 k 0
theorem row1_inb (k : Fin k0_t1_loop.trips) : row1 k + 32 ≤ 256 := k0_off5_inb k 0
theorem row1_dvd : ∀ k : Fin k0_t1_loop.trips, 4 ∣ row1 k := by decide +kernel

/-- A tile of z. -/
def zTile (v29 : Vec F S256x1 .f32) (k0_t1 : Fin k0_t1_loop.trips) : Prog (TpuEff nD τ sig (Elt F) Λ₀ .tc) PUnit := do
  let v64 : Vec F S256x8192 .fp8e4m3 ← Prog.lift (.load arg13 (Rect.unit (s := S256x8192) ![0, 0] S256x8192.size inb_S256x8192_S256x8192_0_0).toLoadRect (View.loadsAt_vmem h_S256x8192))
  let v66 : Vec F S8192x512 .fp8e4m3 ← Prog.lift (.load arg3 (Rect.unit (s := S8192x4624) (k0_off2 k0_t1) S8192x512.size (k0_off2_inb k0_t1)).toLoadRect (View.loadsAt_vmem h_S8192x512))
  let v71 : Vec F S1x512 .f32 ← Prog.lift (.load arg4 (Rect.unit (s := S1x4624) (k0_off3 k0_t1) S1x512.size (k0_off3_inb k0_t1)).toLoadRect (View.loadsAt_vmem h_S1x512))
  let v80 : Vec F S256x512 .f32 ← Prog.lift (.load arg10 (Rect.unit (s := S256x2048) (k0_off4 k0_t1) S256x512.size (k0_off4_inb k0_t1)).toLoadRect (View.loadsAt_vmem h_S256x512))
  Prog.lift (.store arg10 (Rect.unit (s := S256x2048) (k0_off4 k0_t1) S256x512.size (k0_off4_inb k0_t1)) (k0_pay1 v29 v64 v66 v71) Finset.univ (View.stores_vmem_bits_univ h_S256x512 rfl) (.inl rfl))

set_option maxRecDepth 65536 in
set_option maxHeartbeats 4000000 in
theorem trip1_eq (v29 : Vec F S256x1 .f32) (k : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29 k () =
      (do zTile arg3 arg4 arg10 arg13 v29 k
          strip arg1 arg2 arg15 harg15 arg16 (row1 k) (row1_inb k) (row1_dvd k)) := rfl

end

end Cert.Kernel.Own

end
-- ==== Proof.Kernel.Trip2.lean ====
/- A trip of the kernel's second loop is four chunks of the convolution and a strip's quantisation. -/
module

public import proofs.«01_k».proof.Proof.Kernel.Strip

@[expose] public section

noncomputable section

namespace Cert.Kernel.Own

open Cert.Kernel Cert.Kernel.Gen
open Idealize.ShloMosaic Idealize.SL.Sem

variable {F : FTy → Type} [FloatOps F]

/-! ## The values -/

/-- A tile of the projection, scaled back. -/
def accF (v29 : Vec F S256x1 .f32) (v65 : Vec F S256x8192 .fp8e4m3) (v67 : Vec F S8192x512 .fp8e4m3) (v72 : Vec F S1x512 .f32) :
    FVec F S256x512 .f32 :=
  mulf (mulf (matmul dot_S256x8192_S8192x512_S256x512_1_0_0_1_n_n none v65 v67 (constant S256x512 .f32 0x00000000#32))
    (broadcastTo S256x512 v29 broadcasts_S256x1_S256x512))
    (broadcastTo S256x512 (shapeCast S1x512 v72 shapeCasts_S1x512_S1x512) broadcasts_S1x512_S256x512)

theorem chunk_slices (c : Fin 4) : S256x512.Slices ![0, 128 * c.val] S256x128 := by
  revert c; decide

/-- A chunk of 128 columns of the tile. -/
def chunkF (c : Fin 4) (a : FVec F S256x512 .f32) : FVec F S256x128 .f32 :=
  extractStridedSlice S256x128 ![0, 128 * c.val] a (chunk_slices c)

/-- One tap of the convolution. -/
def tapF (v : Vec F S1x256x128 .f32) (w : Vec F S1x128 .f32) : FVec F S256x128 .f32 :=
  mulf (shapeCast S256x128 v shapeCasts_S1x256x128_S256x128) (broadcastTo S256x128 w broadcasts_S1x128_S256x128)

/-- A chunk of the convolution and its activation. -/
def convF (v0 v1 v2 v3 : Vec F S1x256x128 .f32) (w0 w1 w2 w3 b : Vec F S1x128 .f32) : FVec F S256x128 .f32 :=
  mulf (addf (addf (addf (addf (tapF v0 w0) (tapF v1 w1)) (tapF v2 w2)) (tapF v3 w3))
      (broadcastTo S256x128 (shapeCast S1x128 b shapeCasts_S1x128_S1x128) broadcasts_S1x128_S256x128))
    (logistic (addf (addf (addf (addf (tapF v0 w0) (tapF v1 w1)) (tapF v2 w2)) (tapF v3 w3))
      (broadcastTo S256x128 (shapeCast S1x128 b shapeCasts_S1x128_S1x128) broadcasts_S1x128_S256x128)))

/-- Eight rows, copied. -/
def haloF (v : Vec F S1x8x128 .f32) : FVec F S1x8x128 .f32 :=
  shapeCast S1x8x128 (shapeCast S8x128 v shapeCasts_S1x8x128_S8x128) shapeCasts_S8x128_S1x8x128

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)

/-- The second loop's strip begins at this row. -/
def row2 (k : Fin k0_t2_loop.trips) : ℕ := k0_off79 k 0
theorem row2_inb (k : Fin k0_t2_loop.trips) : row2 k + 32 ≤ 256 := k0_off79_inb k 0
theorem row2_dvd : ∀ k : Fin k0_t2_loop.trips, 4 ∣ row2 k := by decide +kernel

theorem cb8_inb (c : Fin 4) : ∀ a, (![c.val, 0, 0] : Fin 3 → ℕ) a + S1x8x128.size a ≤ S4x264x128.size a := by
  revert c; decide
theorem cbt_inb (c : Fin 4) (r : Fin 9) : ∀ a, (![c.val, r.val, 0] : Fin 3 → ℕ) a + S1x256x128.size a ≤ S4x264x128.size a := by
  revert c r; decide
theorem cbe_inb (c : Fin 4) : ∀ a, (![c.val, 256, 0] : Fin 3 → ℕ) a + S1x8x128.size a ≤ S4x264x128.size a := by
  revert c; decide

/-- Load 256 rows of buffer `c` of the convolution, from row `r` on. -/
def ldC (c : Fin 4) (r : Fin 9) : Prog (TpuEff nD τ sig (Elt F) Λ₀ .tc) (Vec F S1x256x128 .f32) :=
  Prog.lift (.load arg17 (Rect.unit (s := S4x264x128) ![c.val, r.val, 0] S1x256x128.size (cbt_inb c r)).toLoadRect (View.loadsAt_vmem h_S1x256x128))

/-- A chunk of the convolution. -/
def convChunk (k0_t2 : Fin k0_t2_loop.trips) (c : Fin 4) (a : FVec F S256x512 .f32) : Prog (TpuEff nD τ sig (Elt F) Λ₀ .tc) PUnit := do
  let v81 : Vec F S1x8x128 .f32 ← Prog.lift (.load arg18 (Rect.unit (s := S20x8x128) (k0_off72 k0_t2 (BitVec.ofNat 32 c.val)) S1x8x128.size (k0_off72_inb k0_t2 c)).toLoadRect (View.loadsAt_vmem h_S1x8x128))
  let _ ← Prog.lift (.load arg17 (Rect.unit (s := S4x264x128) ![c.val, 0, 0] S1x8x128.size (cb8_inb c)).toLoadRect (View.loadsAt_vmem h_S1x8x128))
  Prog.lift (.store arg17 (Rect.unit (s := S4x264x128) ![c.val, 0, 0] S1x8x128.size (cb8_inb c)) (haloF v81) Finset.univ (View.stores_vmem_bits_univ h_S1x8x128 rfl) (.inl rfl))
  let _ ← ldC (F := F) arg17 c 8
  Prog.lift (.store arg17 (Rect.unit (s := S4x264x128) ![c.val, (8 : Fin 9).val, 0] S1x256x128.size (cbt_inb c 8)) (shapeCast S1x256x128 (chunkF c a) shapeCasts_S256x128_S1x256x128) Finset.univ (View.stores_vmem_bits_univ h_S1x256x128 rfl) (.inl rfl))
  let v0 ← ldC (F := F) arg17 c 5
  let w0 : Vec F S1x128 .f32 ← Prog.lift (.load arg5 (Rect.unit (s := S4x2560) (k0_off73 k0_t2 (BitVec.ofNat 32 c.val)) S1x128.size (k0_off73_inb k0_t2 c)).toLoadRect (View.loadsAt_vmem h_S1x128))
  let v1 ← ldC (F := F) arg17 c 6
  let w1 : Vec F S1x128 .f32 ← Prog.lift (.load arg5 (Rect.unit (s := S4x2560) (k0_off74 k0_t2 (BitVec.ofNat 32 c.val)) S1x128.size (k0_off74_inb k0_t2 c)).toLoadRect (View.loadsAt_vmem h_S1x128))
  let v2 ← ldC (F := F) arg17 c 7
  let w2 : Vec F S1x128 .f32 ← Prog.lift (.load arg5 (Rect.unit (s := S4x2560) (k0_off75 k0_t2 (BitVec.ofNat 32 c.val)) S1x128.size (k0_off75_inb k0_t2 c)).toLoadRect (View.loadsAt_vmem h_S1x128))
  let v3 ← ldC (F := F) arg17 c 8
  let w3 : Vec F S1x128 .f32 ← Prog.lift (.load arg5 (Rect.unit (s := S4x2560) (k0_off76 k0_t2 (BitVec.ofNat 32 c.val)) S1x128.size (k0_off76_inb k0_t2 c)).toLoadRect (View.loadsAt_vmem h_S1x128))
  let b : Vec F S1x128 .f32 ← Prog.lift (.load arg6 (Rect.unit (s := S1x2560) (k0_off77 k0_t2 (BitVec.ofNat 32 c.val)) S1x128.size (k0_off77_inb k0_t2 c)).toLoadRect (View.loadsAt_vmem h_S1x128))
  let _ ← Prog.lift (.load arg11 (Rect.unit (s := S256x2560) (k0_off78 k0_t2 (BitVec.ofNat 32 c.val)) S256x128.size (k0_off78_inb k0_t2 c)).toLoadRect (View.loadsAt_vmem h_S256x128))
  Prog.lift (.store arg11 (Rect.unit (s := S256x2560) (k0_off78 k0_t2 (BitVec.ofNat 32 c.val)) S256x128.size (k0_off78_inb k0_t2 c)) (convF v0 v1 v2 v3 w0 w1 w2 w3 b) Finset.univ (View.stores_vmem_bits_univ h_S256x128 rfl) (.inl rfl))
  let e : Vec F S1x8x128 .f32 ← Prog.lift (.load arg17 (Rect.unit (s := S4x264x128) ![c.val, 256, 0] S1x8x128.size (cbe_inb c)).toLoadRect (View.loadsAt_vmem h_S1x8x128))
  let _ ← Prog.lift (.load arg18 (Rect.unit (s := S20x8x128) (k0_off72 k0_t2 (BitVec.ofNat 32 c.val)) S1x8x128.size (k0_off72_inb k0_t2 c)).toLoadRect (View.loadsAt_vmem h_S1x8x128))
  Prog.lift (.store arg18 (Rect.unit (s := S20x8x128) (k0_off72 k0_t2 (BitVec.ofNat 32 c.val)) S1x8x128.size (k0_off72_inb k0_t2 c)) (haloF e) Finset.univ (View.stores_vmem_bits_univ h_S1x8x128 rfl) (.inl rfl))

/-- The convolution's part of the trip. -/
def convTile (v29 : Vec F S256x1 .f32) (k0_t2 : Fin k0_t2_loop.trips) : Prog (TpuEff nD τ sig (Elt F) Λ₀ .tc) PUnit := do
  let v65 : Vec F S256x8192 .fp8e4m3 ← Prog.lift (.load arg13 (Rect.unit (s := S256x8192) ![0, 0] S256x8192.size inb_S256x8192_S256x8192_0_0).toLoadRect (View.loadsAt_vmem h_S256x8192))
  let v67 : Vec F S8192x512 .fp8e4m3 ← Prog.lift (.load arg3 (Rect.unit (s := S8192x4624) (k0_off70 k0_t2) S8192x512.size (k0_off70_inb k0_t2)).toLoadRect (View.loadsAt_vmem h_S8192x512))
  let v72 : Vec F S1x512 .f32 ← Prog.lift (.load arg4 (Rect.unit (s := S1x4624) (k0_off71 k0_t2) S1x512.size (k0_off71_inb k0_t2)).toLoadRect (View.loadsAt_vmem h_S1x512))
  convChunk arg5 arg6 arg11 arg17 arg18 k0_t2 0 (accF v29 v65 v67 v72)
  convChunk arg5 arg6 arg11 arg17 arg18 k0_t2 1 (accF v29 v65 v67 v72)
  convChunk arg5 arg6 arg11 arg17 arg18 k0_t2 2 (accF v29 v65 v67 v72)
  convChunk arg5 arg6 arg11 arg17 arg18 k0_t2 3 (accF v29 v65 v67 v72)

end

end Cert.Kernel.Own

end
-- ==== Proof.Rules.lean ====
/- Loads and stores through a rectangle of a memref held at an array (`owns`), the array after a store stated as the
   array before it with the rectangle replaced (`upd`). -/
module

public import Idealize.ShloMosaic.Lib.Tactic
public import Idealize.ShloMosaic.Lib.Memref

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

/-- The array `X` with the rectangle `r` replaced by `w`. -/
def upd {s : Shape} {α : Type} (r : Rect s) (w : r.shape.Idx → α) (X : s.Idx → α) : s.Idx → α :=
  open Classical in fun y => if h : ∃ x, r.emb x = y then w h.choose else X y

theorem upd_emb {s : Shape} {α : Type} (r : Rect s) (w : r.shape.Idx → α) (X : s.Idx → α) (x : r.shape.Idx) :
    upd r w X (r.emb x) = w x := by
  have h : ∃ x', r.emb x' = r.emb x := ⟨x, rfl⟩
  unfold upd
  rw [dif_pos h, r.emb.injective h.choose_spec]

theorem upd_not {s : Shape} {α : Type} (r : Rect s) (w : r.shape.Idx → α) (X : s.Idx → α) (y : s.Idx)
    (h : ∀ x, r.emb x ≠ y) : upd r w X y = X y := by
  unfold upd
  rw [dif_neg (fun ⟨x, hx⟩ => h x hx)]

/-- Writing through the slice is `upd` on the array read. -/
theorem read_slice_upd {sig : RefSig} {κ : Kind} {sp : Space} {s : Shape} {e : EltTy} {Val : EltTy → Type} (v : View sig κ sp s e)
    (r : Rect s) (f : v.ty.Contents Val) (w : r.shape.Idx → Val e) :
    v.read Val ((v.slice r).write Val f w Finset.univ) = upd r w (v.read Val f) := by
  funext y
  by_cases h : ∃ x, r.emb x = y
  · obtain ⟨x, rfl⟩ := h
    rw [View.read_slice_write_emb r f w (Finset.mem_univ x), upd_emb]
  · rw [upd_not _ _ _ _ fun x hx => h ⟨x, hx⟩]
    exact View.read_slice_write_of_not_mem r f w _ (fun hm => by
      obtain ⟨x, _, hx⟩ := Finset.mem_map.mp hm
      exact h ⟨x, hx⟩)

section
variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] {defs : Defs nD τ sig Val Λ} (𝒱 : Variants) (c : Thread nD τ) (bd : Option 𝒱.V) (E : Set Name)
variable {s : Shape} {e : EltTy}

/-- A load. -/
theorem wp_ld {cs : CoreSpace} {m : Memref sig c.2.kind cs s e} {r : Rect s} {hl : m.view.LoadsAt r.toLoadRect} {q : PosShare TreeShare}
    {X : s.Idx → Val e} {Q : (r.shape.Idx → Val e) → sProp (MT nD τ sig Ix Val Name U Lvl)} :
    (owns c m q X : sProp (MT nD τ sig Ix Val Name U Lvl))
      ⊢ iprop((owns c m q X -∗ Q (fun x => X (r.emb x)))
        -∗ wp frame (wpE defs 𝒱 c bd) E (Prog.lift (.load m r.toLoadRect hl)) Q) := by
  unfold owns
  iintro ⟨%f, %hf, H⟩ HK
  subst hf
  rw [show (fun x => m.view.read Val f (r.emb x)) = (m.access r).read Val f from rfl]
  iapply (wp_load_rect (defs := defs) 𝒱 c bd E (Q := Q) (k := .ret) (r := r) (m := m) (S := m.view.set) (f := f) (by
    rw [View.set_slice]; exact View.setOn_subset_set _ _)) $$ H
  iintro H
  iapply (le_wp_ret _ _ _ _ Q)
  iapply HK
  iexists f
  isplitr
  · ipureintro; rfl
  · iexact H

/-- A store. -/
theorem wp_st {cs : CoreSpace} {m : Memref sig c.2.kind cs s e} {r : Rect s} {w : r.shape.Idx → Val e}
    {hx : (m.access r).Stores Finset.univ} {hm : Finset.univ = Finset.univ ∨ ∀ a, r.stride a = 1}
    {X : s.Idx → Val e} {Q : PUnit → sProp (MT nD τ sig Ix Val Name U Lvl)} :
    (owns c m fullShare X : sProp (MT nD τ sig Ix Val Name U Lvl))
      ⊢ iprop((owns c m fullShare (upd r w X) -∗ Q ⟨⟩)
        -∗ wp frame (wpE defs 𝒱 c bd) E (Prog.lift (.store m r w Finset.univ hx hm)) Q) := by
  unfold owns
  iintro ⟨%f, %hf, H⟩ HK
  subst hf
  iapply (wp_store (defs := defs) 𝒱 c bd E (Q := Q) (k := .ret) (r := r) (m := m) (S := m.view.set) (f := f) (w := w) (Mk := Finset.univ) (by
    rw [show (m.access r).setOn Finset.univ = (m.access r).set from rfl, View.set_slice]; exact View.setOn_subset_set _ _)) $$ H
  iintro H
  iapply (le_wp_ret _ _ _ _ Q)
  iapply HK
  iexists _
  isplitr
  · ipureintro; exact read_slice_upd m.view r f w
  · iexact H

end

end Cert.Own

end
-- ==== Proof.Kernel.StripWp.lean ====
/- What the strip's program does: the two scratch arrays with one band of rows replaced by the codes and the scales
   that its three passes compute. -/
module

public import proofs.«01_k».proof.Proof.Kernel.Strip
public import proofs.«01_k».proof.Proof.Gen.Kernel.Frame
public import proofs.«01_k».proof.Proof.Rules

@[expose] public section

noncomputable section

namespace Cert.Kernel.Own

open Cert.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values of the three passes -/

section Values
variable (X : Vec F S256x8192 .bf16) (W : Vec F S1x8192 .f32) (n : ℕ) (hn : n + 32 ≤ 256)

/-- The rectangle of block `c` of the strip. -/
abbrev xRect (c : ℕ) (hc : c < 64) : Rect S256x8192 := Rect.unit (s := S256x8192) (xOff n c) S32x128.size (xOff_inb hn hc)

/-- Block `c` of the strip. -/
def blkX (c : ℕ) (hc : c < 64) : Vec F S32x128 .bf16 := fun x => X ((xRect n hn c hc).emb x)

/-- Block `c` of the norm's weights. -/
def blkW (c : ℕ) (hc : c < 64) : Vec F S1x128 .f32 :=
  fun x => W ((Rect.unit (s := S1x8192) (xOff 0 c) S1x128.size (wOff_inb hc)).emb x)

/-- The partial sums of squares. -/
def sumV : (f c : ℕ) → c + f = 32 → FVec F S32x128 .f32 × FVec F S32x128 .f32 → FVec F S32x128 .f32 × FVec F S32x128 .f32
  | 0, _, _, s => s
  | f + 1, c, h, s => sumV f (c + 1) (by omega)
      (sqF s.1 (blkX X n hn (2 * c) (by omega)), sqF s.2 (blkX X n hn (2 * c + 1) (by omega)))

/-- The largest magnitudes. -/
def maxV (r : FVec F S32x1 .f32) : (f c : ℕ) → c + f = 32 → FVec F S32x128 .f32 × FVec F S32x128 .f32 → FVec F S32x128 .f32 × FVec F S32x128 .f32
  | 0, _, _, s => s
  | f + 1, c, h, s => maxV r f (c + 1) (by omega)
      (amF r s.1 (blkX X n hn (2 * c) (by omega)) (blkW W (2 * c) (by omega)),
        amF r s.2 (blkX X n hn (2 * c + 1) (by omega)) (blkW W (2 * c + 1) (by omega)))

/-- The codes' array after the third pass. -/
def codeV (r i : FVec F S32x1 .f32) : (f c : ℕ) → c + f = 64 → Vec F S256x8192 .fp8e4m3 → Vec F S256x8192 .fp8e4m3
  | 0, _, _, Y => Y
  | f + 1, c, h, Y => codeV r i f (c + 1) (by omega)
      (upd (xRect n hn c (by omega)) (codeF r i (blkX X n hn c (by omega)) (blkW W c (by omega))) Y)

/-- The strip's reciprocal root mean squares. -/
def rmsV : FVec F S32x1 .f32 := rmsF (sumV X n hn 32 0 rfl (zeroF, zeroF))

/-- The strip's largest magnitudes, as multiples of the largest code. -/
def ratioV : FVec F S32x1 .f32 := ratioF (maxV X W n hn (rmsV X n hn) 32 0 rfl (zeroF, zeroF))

/-- The codes' array after the strip. -/
def stripQ (Y : Vec F S256x8192 .fp8e4m3) : Vec F S256x8192 .fp8e4m3 :=
  codeV X W n hn (rmsV X n hn) (invF (ratioV X W n hn)) 64 0 rfl Y

/-- The scales' array after the strip. -/
def stripS (S : Vec F S256x1 .f32) : Vec F S256x1 .f32 :=
  upd (Rect.unit (s := S256x1) ![n, 0] S32x1.size (sOff_inb hn)) (shapeCast S32x1 (scaleF (ratioV X W n hn)) shapeCasts_S32x1_S32x1) S

end Values

/-! ## The program's rules -/

section Rules
variable (𝒱 : Variants) (c : Dev nD) (bd : Option 𝒱.V) (E : Set ℕ)
variable {arg1 : Memref sig .tc .vmem S256x8192 .bf16} {arg2 : Memref sig .tc .vmem S1x8192 .f32}
  {arg15 : Memref sig .tc .vmem S256x8192 .fp8e4m3} {harg15 : arg15.IsWhole} {arg16 : Memref sig .tc .vmem S256x1 .f32}
variable {n : ℕ} {hn : n + 32 ≤ 256} {h4 : 4 ∣ n}
variable {X : Vec F S256x8192 .bf16} {W : Vec F S1x8192 .f32} {q1 q2 : PosShare TreeShare}

theorem wp_ldX {b : ℕ} {hb : b < 64} {Q : Vec F S32x128 .bf16 → sProp 𝕄} :
    (owns (c : Thread nD τ) arg1 q1 X : sProp 𝕄)
      ⊢ iprop((owns (c : Thread nD τ) arg1 q1 X -∗ Q (blkX X n hn b hb))
        -∗ wp frame (wpE (defs₀ (F := F)) 𝒱 (c : Thread nD τ) bd) E (ldX arg1 n hn b hb) Q) := by
  unfold ldX blkX
  exact wp_ld (defs := defs₀) 𝒱 (c : Thread nD τ) bd E (m := arg1) (r := xRect n hn b hb) (Q := Q)

theorem wp_ldW {b : ℕ} {hb : b < 64} {Q : Vec F S1x128 .f32 → sProp 𝕄} :
    (owns (c : Thread nD τ) arg2 q2 W : sProp 𝕄)
      ⊢ iprop((owns (c : Thread nD τ) arg2 q2 W -∗ Q (blkW W b hb))
        -∗ wp frame (wpE (defs₀ (F := F)) 𝒱 (c : Thread nD τ) bd) E (ldW arg2 b hb) Q) := by
  unfold ldW blkW
  exact wp_ld (defs := defs₀) 𝒱 (c : Thread nD τ) bd E (m := arg2) (r := Rect.unit (s := S1x8192) (xOff 0 b) S1x128.size (wOff_inb hb)) (Q := Q)

theorem wp_sumLoop (f : ℕ) : ∀ (b : ℕ) (h : b + f = 32) (s : FVec F S32x128 .f32 × FVec F S32x128 .f32)
    (Q : FVec F S32x128 .f32 × FVec F S32x128 .f32 → sProp 𝕄),
    (owns (c : Thread nD τ) arg1 q1 X : sProp 𝕄)
      ⊢ iprop((owns (c : Thread nD τ) arg1 q1 X -∗ Q (sumV X n hn f b h s))
        -∗ wp frame (wpE (defs₀ (F := F)) 𝒱 (c : Thread nD τ) bd) E (sumLoop arg1 n hn f b h s) Q) := by
  induction f with
  | zero =>
    intro b h s Q
    unfold sumLoop sumV
    iintro H HK
    iapply (le_wp_ret _ _ _ _ Q)
    iapply HK
    iexact H
  | succ f ih =>
    intro b h s Q
    unfold sumLoop sumV
    iintro H HK
    rw [wp_bind]
    iapply (wp_ldX 𝒱 c bd E) $$ H
    iintro H
    rw [wp_bind]
    iapply (wp_ldX 𝒱 c bd E) $$ H
    iintro H
    iapply (ih (b + 1) _ _ Q) $$ H
    iexact HK

theorem wp_maxLoop (r : FVec F S32x1 .f32) (f : ℕ) : ∀ (b : ℕ) (h : b + f = 32) (s : FVec F S32x128 .f32 × FVec F S32x128 .f32)
    (Q : FVec F S32x128 .f32 × FVec F S32x128 .f32 → sProp 𝕄),
    (owns (c : Thread nD τ) arg1 q1 X : sProp 𝕄)
      ⊢ iprop(owns (c : Thread nD τ) arg2 q2 W -∗ (owns (c : Thread nD τ) arg1 q1 X -∗ owns (c : Thread nD τ) arg2 q2 W -∗ Q (maxV X W n hn r f b h s))
        -∗ wp frame (wpE (defs₀ (F := F)) 𝒱 (c : Thread nD τ) bd) E (maxLoop arg1 arg2 n hn r f b h s) Q) := by
  induction f with
  | zero =>
    intro b h s Q
    unfold maxLoop maxV
    iintro H H2 HK
    iapply (le_wp_ret _ _ _ _ Q)
    iapply HK $$ H
    iexact H2
  | succ f ih =>
    intro b h s Q
    unfold maxLoop maxV
    iintro H H2 HK
    rw [wp_bind]
    iapply (wp_ldX 𝒱 c bd E) $$ H
    iintro H
    rw [wp_bind]
    iapply (wp_ldW 𝒱 c bd E) $$ H2
    iintro H2
    rw [wp_bind]
    iapply (wp_ldX 𝒱 c bd E) $$ H
    iintro H
    rw [wp_bind]
    iapply (wp_ldW 𝒱 c bd E) $$ H2
    iintro H2
    iapply (ih (b + 1) _ _ Q) $$ H H2
    iexact HK

theorem wp_stQ {b : ℕ} {hb : b < 64} {w : FVec F S32x128 .fp8e4m3} {Y : Vec F S256x8192 .fp8e4m3} {Q : PUnit → sProp 𝕄} :
    (owns (c : Thread nD τ) arg15 fullShare Y : sProp 𝕄)
      ⊢ iprop((owns (c : Thread nD τ) arg15 fullShare (upd (xRect n hn b hb) w Y) -∗ Q ⟨⟩)
        -∗ wp frame (wpE (defs₀ (F := F)) 𝒱 (c : Thread nD τ) bd) E (stQ arg15 harg15 n hn h4 b hb w) Q) := by
  unfold stQ
  iintro H HK
  rw [wp_bind]
  iapply (wp_ld (defs := defs₀) 𝒱 (c : Thread nD τ) bd E (m := arg15)) $$ H
  iintro H
  iapply (wp_st (defs := defs₀) 𝒱 (c : Thread nD τ) bd E (m := arg15)) $$ H
  iexact HK

theorem wp_codeLoop (r i : FVec F S32x1 .f32) (f : ℕ) : ∀ (b : ℕ) (h : b + f = 64) (Y : Vec F S256x8192 .fp8e4m3) (Q : PUnit → sProp 𝕄),
    (owns (c : Thread nD τ) arg1 q1 X : sProp 𝕄)
      ⊢ iprop(owns (c : Thread nD τ) arg2 q2 W -∗ owns (c : Thread nD τ) arg15 fullShare Y
        -∗ (owns (c : Thread nD τ) arg1 q1 X -∗ owns (c : Thread nD τ) arg2 q2 W -∗ owns (c : Thread nD τ) arg15 fullShare (codeV X W n hn r i f b h Y) -∗ Q ⟨⟩)
        -∗ wp frame (wpE (defs₀ (F := F)) 𝒱 (c : Thread nD τ) bd) E (codeLoop arg1 arg2 arg15 harg15 n hn h4 r i f b h) Q) := by
  induction f with
  | zero =>
    intro b h Y Q
    iintro H H2 H15 HK
    iapply (le_wp_ret _ _ _ _ Q)
    iapply HK $$ H H2
    iexact H15
  | succ f ih =>
    intro b h Y Q
    unfold codeLoop codeV
    iintro H H2 H15 HK
    rw [wp_bind]
    iapply (wp_ldX 𝒱 c bd E) $$ H
    iintro H
    rw [wp_bind]
    iapply (wp_ldW 𝒱 c bd E) $$ H2
    iintro H2
    rw [wp_bind]
    iapply (wp_stQ 𝒱 c bd E) $$ H15
    iintro H15
    iapply (ih (b + 1) _ _ Q) $$ H H2 H15
    iexact HK

/-- The strip. -/
theorem wp_strip {Y : Vec F S256x8192 .fp8e4m3} {S : Vec F S256x1 .f32} {Q : PUnit → sProp 𝕄} :
    (owns (c : Thread nD τ) arg1 q1 X : sProp 𝕄)
      ⊢ iprop(owns (c : Thread nD τ) arg2 q2 W -∗ owns (c : Thread nD τ) arg15 fullShare Y -∗ owns (c : Thread nD τ) arg16 fullShare S
        -∗ (owns (c : Thread nD τ) arg1 q1 X -∗ owns (c : Thread nD τ) arg2 q2 W
          -∗ owns (c : Thread nD τ) arg15 fullShare (stripQ X W n hn Y) -∗ owns (c : Thread nD τ) arg16 fullShare (stripS X W n hn S) -∗ Q ⟨⟩)
        -∗ wp frame (wpE (defs₀ (F := F)) 𝒱 (c : Thread nD τ) bd) E (strip arg1 arg2 arg15 harg15 arg16 n hn h4) Q) := by
  unfold strip stripQ stripS ratioV rmsV
  iintro H H2 H15 H16 HK
  rw [wp_bind]
  iapply (wp_sumLoop 𝒱 c bd E 32 0 rfl) $$ H
  iintro H
  rw [wp_bind]
  iapply (wp_maxLoop 𝒱 c bd E _ 32 0 rfl) $$ H H2
  iintro H H2
  rw [wp_bind]
  iapply (wp_codeLoop 𝒱 c bd E _ _ 64 0 rfl) $$ H H2 H15
  iintro H H2 H15
  unfold stS
  rw [wp_bind]
  iapply (wp_ld (defs := defs₀) 𝒱 (c : Thread nD τ) bd E (m := arg16)) $$ H16
  iintro H16
  iapply (wp_st (defs := defs₀) 𝒱 (c : Thread nD τ) bd E (m := arg16)) $$ H16
  iintro H16
  iapply HK $$ H H2 H15
  iexact H16

end Rules

end Cert.Kernel.Own

end
-- ==== Proof.Kernel.Tiles.lean ====
/- What the two kinds of tile do: a tile of z, and four chunks of the convolution, each as arrays updated by what the
   tile computes. -/
module

public import proofs.«01_k».proof.Proof.Kernel.Trip1
public import proofs.«01_k».proof.Proof.Kernel.Trip2
public import proofs.«01_k».proof.Proof.Kernel.StripWp

@[expose] public section

noncomputable section

namespace Cert.Kernel.Own

open Cert.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A rectangle's array read out of an array. -/
abbrev rd {s : Shape} {α : Type} (r : Rect s) (X : s.Idx → α) : r.shape.Idx → α := fun x => X (r.emb x)

/-! ## The values -/

/-- The whole codes' array as a rectangle. -/
abbrev rQ : Rect S256x8192 := Rect.unit (s := S256x8192) ![0, 0] S256x8192.size inb_S256x8192_S256x8192_0_0
/-- The whole scales' array as a rectangle. -/
abbrev rS : Rect S256x1 := Rect.unit (s := S256x1) ![0, 0] S256x1.size inb_S256x1_S256x1_0_0

section Values
variable (K : Vec F S256x8192 .fp8e4m3) (A : Vec F S8192x4624 .fp8e4m3) (As : Vec F S1x4624 .f32) (v29 : Vec F S256x1 .f32)

/-- The z array after tile `k`. -/
def zV (k : Fin k0_t1_loop.trips) (Z : Vec F S256x2048 .f32) : Vec F S256x2048 .f32 :=
  upd (Rect.unit (s := S256x2048) (k0_off4 k) S256x512.size (k0_off4_inb k))
    (k0_pay1 v29 (rd rQ K) (rd (Rect.unit (s := S8192x4624) (k0_off2 k) S8192x512.size (k0_off2_inb k)) A)
      (rd (Rect.unit (s := S1x4624) (k0_off3 k) S1x512.size (k0_off3_inb k)) As)) Z

/-- The convolution tile's projection. -/
def accV (k : Fin k0_t2_loop.trips) : FVec F S256x512 .f32 :=
  accF v29 (rd rQ K) (rd (Rect.unit (s := S8192x4624) (k0_off70 k) S8192x512.size (k0_off70_inb k)) A)
    (rd (Rect.unit (s := S1x4624) (k0_off71 k) S1x512.size (k0_off71_inb k)) As)

variable (cw : Vec F S4x2560 .f32) (cb : Vec F S1x2560 .f32)

/-- The rectangle of a chunk's slot among the eight rows kept. -/
abbrev rH (k : Fin k0_t2_loop.trips) (c : Fin 4) : Rect S20x8x128 :=
  Rect.unit (s := S20x8x128) (k0_off72 k (BitVec.ofNat 32 c.val)) S1x8x128.size (k0_off72_inb k c)
/-- 256 rows of a convolution buffer. -/
abbrev rC (c : Fin 4) (r : Fin 9) : Rect S4x264x128 := Rect.unit (s := S4x264x128) ![c.val, r.val, 0] S1x256x128.size (cbt_inb c r)
/-- The first eight rows of a convolution buffer. -/
abbrev rC0 (c : Fin 4) : Rect S4x264x128 := Rect.unit (s := S4x264x128) ![c.val, 0, 0] S1x8x128.size (cb8_inb c)
/-- Its last eight rows. -/
abbrev rCe (c : Fin 4) : Rect S4x264x128 := Rect.unit (s := S4x264x128) ![c.val, 256, 0] S1x8x128.size (cbe_inb c)

/-- The convolution's buffers with a chunk and the rows before it written. -/
def cbufV (k : Fin k0_t2_loop.trips) (c : Fin 4) (a : FVec F S256x512 .f32) (C : Vec F S4x264x128 .f32) (H : Vec F S20x8x128 .f32) :
    Vec F S4x264x128 .f32 :=
  upd (rC c 8) (shapeCast S1x256x128 (chunkF c a) shapeCasts_S256x128_S1x256x128) (upd (rC0 c) (haloF (rd (rH k c) H)) C)

/-- What a chunk of the convolution computes from the buffers. -/
def chunkV (k : Fin k0_t2_loop.trips) (c : Fin 4) (C : Vec F S4x264x128 .f32) : FVec F S256x128 .f32 :=
  convF (rd (rC c 5) C) (rd (rC c 6) C) (rd (rC c 7) C) (rd (rC c 8) C)
    (rd (Rect.unit (s := S4x2560) (k0_off73 k (BitVec.ofNat 32 c.val)) S1x128.size (k0_off73_inb k c)) cw)
    (rd (Rect.unit (s := S4x2560) (k0_off74 k (BitVec.ofNat 32 c.val)) S1x128.size (k0_off74_inb k c)) cw)
    (rd (Rect.unit (s := S4x2560) (k0_off75 k (BitVec.ofNat 32 c.val)) S1x128.size (k0_off75_inb k c)) cw)
    (rd (Rect.unit (s := S4x2560) (k0_off76 k (BitVec.ofNat 32 c.val)) S1x128.size (k0_off76_inb k c)) cw)
    (rd (Rect.unit (s := S1x2560) (k0_off77 k (BitVec.ofNat 32 c.val)) S1x128.size (k0_off77_inb k c)) cb)

/-- The arrays the convolution writes: its result, its buffers, the rows kept. -/
abbrev Conv (F : FTy → Type) : Type := Vec F S256x2560 .f32 × Vec F S4x264x128 .f32 × Vec F S20x8x128 .f32

/-- Those arrays after one chunk. -/
def convV (k : Fin k0_t2_loop.trips) (c : Fin 4) (a : FVec F S256x512 .f32) (s : Conv F) : Conv F :=
  (upd (Rect.unit (s := S256x2560) (k0_off78 k (BitVec.ofNat 32 c.val)) S256x128.size (k0_off78_inb k c))
      (chunkV cw cb k c (cbufV k c a s.2.1 s.2.2)) s.1,
    cbufV k c a s.2.1 s.2.2,
    upd (rH k c) (haloF (rd (rCe c) (cbufV k c a s.2.1 s.2.2))) s.2.2)

/-- Those arrays after a tile. -/
def tileV (k : Fin k0_t2_loop.trips) (s : Conv F) : Conv F :=
  convV cw cb k 3 (accV K A As v29 k) (convV cw cb k 2 (accV K A As v29 k) (convV cw cb k 1 (accV K A As v29 k)
    (convV cw cb k 0 (accV K A As v29 k) s)))

end Values

/-! ## The rules -/

section Rules
variable (𝒱 : Variants) (c : Dev nD) (bd : Option 𝒱.V) (E : Set ℕ)
variable {arg3 : Memref sig .tc .vmem S8192x4624 .fp8e4m3} {arg4 : Memref sig .tc .vmem S1x4624 .f32}
  {arg5 : Memref sig .tc .vmem S4x2560 .f32} {arg6 : Memref sig .tc .vmem S1x2560 .f32}
  {arg10 : Memref sig .tc .vmem S256x2048 .f32} {arg11 : Memref sig .tc .vmem S256x2560 .f32}
  {arg13 : Memref sig .tc .vmem S256x8192 .fp8e4m3}
  {arg17 : Memref sig .tc .vmem S4x264x128 .f32} {arg18 : Memref sig .tc .vmem S20x8x128 .f32}
variable {K : Vec F S256x8192 .fp8e4m3} {A : Vec F S8192x4624 .fp8e4m3} {As : Vec F S1x4624 .f32} {v29 : Vec F S256x1 .f32}
  {cw : Vec F S4x2560 .f32} {cb : Vec F S1x2560 .f32}
  {qK qA qS qw qb : PosShare TreeShare}

theorem wp_zTile {k : Fin k0_t1_loop.trips} {Z : Vec F S256x2048 .f32} {Q : PUnit → sProp 𝕄} :
    (owns (c : Thread nD τ) arg13 qK K : sProp 𝕄)
      ⊢ iprop(owns (c : Thread nD τ) arg3 qA A -∗ owns (c : Thread nD τ) arg4 qS As -∗ owns (c : Thread nD τ) arg10 fullShare Z
        -∗ (owns (c : Thread nD τ) arg13 qK K -∗ owns (c : Thread nD τ) arg3 qA A -∗ owns (c : Thread nD τ) arg4 qS As
          -∗ owns (c : Thread nD τ) arg10 fullShare (zV K A As v29 k Z) -∗ Q ⟨⟩)
        -∗ wp frame (wpE (defs₀ (F := F)) 𝒱 (c : Thread nD τ) bd) E (zTile arg3 arg4 arg10 arg13 v29 k) Q) := by
  unfold zTile zV
  iintro HK HA HS HZ HQ
  rw [wp_bind]
  iapply (wp_ld (defs := defs₀) 𝒱 (c : Thread nD τ) bd E (m := arg13)) $$ HK
  iintro HK
  rw [wp_bind]
  iapply (wp_ld (defs := defs₀) 𝒱 (c : Thread nD τ) bd E (m := arg3)) $$ HA
  iintro HA
  rw [wp_bind]
  iapply (wp_ld (defs := defs₀) 𝒱 (c : Thread nD τ) bd E (m := arg4)) $$ HS
  iintro HS
  rw [wp_bind]
  iapply (wp_ld (defs := defs₀) 𝒱 (c : Thread nD τ) bd E (m := arg10)) $$ HZ
  iintro HZ
  iapply (wp_st (defs := defs₀) 𝒱 (c : Thread nD τ) bd E (m := arg10)) $$ HZ
  iintro HZ
  iapply HQ $$ HK HA HS
  iexact HZ

theorem wp_ldC {b : Fin 4} {r : Fin 9} {C : Vec F S4x264x128 .f32} {Q : Vec F S1x256x128 .f32 → sProp 𝕄} :
    (owns (c : Thread nD τ) arg17 fullShare C : sProp 𝕄)
      ⊢ iprop((owns (c : Thread nD τ) arg17 fullShare C -∗ Q (rd (rC b r) C))
        -∗ wp frame (wpE (defs₀ (F := F)) 𝒱 (c : Thread nD τ) bd) E (ldC arg17 b r) Q) := by
  unfold ldC
  exact wp_ld (defs := defs₀) 𝒱 (c : Thread nD τ) bd E (m := arg17) (r := rC b r) (Q := Q)

theorem wp_convChunk {k : Fin k0_t2_loop.trips} {b : Fin 4} {a : FVec F S256x512 .f32} {s : Conv F} {Q : PUnit → sProp 𝕄} :
    (owns (c : Thread nD τ) arg5 qw cw : sProp 𝕄)
      ⊢ iprop(owns (c : Thread nD τ) arg6 qb cb -∗ owns (c : Thread nD τ) arg11 fullShare s.1
        -∗ owns (c : Thread nD τ) arg17 fullShare s.2.1 -∗ owns (c : Thread nD τ) arg18 fullShare s.2.2
        -∗ (owns (c : Thread nD τ) arg5 qw cw -∗ owns (c : Thread nD τ) arg6 qb cb
          -∗ owns (c : Thread nD τ) arg11 fullShare (convV cw cb k b a s).1
          -∗ owns (c : Thread nD τ) arg17 fullShare (convV cw cb k b a s).2.1
          -∗ owns (c : Thread nD τ) arg18 fullShare (convV cw cb k b a s).2.2 -∗ Q ⟨⟩)
        -∗ wp frame (wpE (defs₀ (F := F)) 𝒱 (c : Thread nD τ) bd) E (convChunk arg5 arg6 arg11 arg17 arg18 k b a) Q) := by
  obtain ⟨B, C, H⟩ := s
  unfold convChunk convV chunkV cbufV
  dsimp only
  iintro Hw Hb HB HC HH HQ
  rw [wp_bind]
  iapply (wp_ld (defs := defs₀) 𝒱 (c : Thread nD τ) bd E (m := arg18)) $$ HH
  iintro HH
  rw [wp_bind]
  iapply (wp_ld (defs := defs₀) 𝒱 (c : Thread nD τ) bd E (m := arg17)) $$ HC
  iintro HC
  rw [wp_bind]
  iapply (wp_st (defs := defs₀) 𝒱 (c : Thread nD τ) bd E (m := arg17)) $$ HC
  iintro HC
  rw [wp_bind]
  iapply (wp_ldC 𝒱 c bd E) $$ HC
  iintro HC
  rw [wp_bind]
  iapply (wp_st (defs := defs₀) 𝒱 (c : Thread nD τ) bd E (m := arg17)) $$ HC
  iintro HC
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ld (defs := defs₀) 𝒱 (c : Thread nD τ) bd E (m := arg6)) $$ Hb
  iintro Hb
  rw [wp_bind]
  iapply (wp_ld (defs := defs₀) 𝒱 (c : Thread nD τ) bd E (m := arg11)) $$ HB
  iintro HB
  rw [wp_bind]
  iapply (wp_st (defs := defs₀) 𝒱 (c : Thread nD τ) bd E (m := arg11)) $$ HB
  iintro HB
  rw [wp_bind]
  iapply (wp_ld (defs := defs₀) 𝒱 (c : Thread nD τ) bd E (m := arg17)) $$ HC
  iintro HC
  rw [wp_bind]
  iapply (wp_ld (defs := defs₀) 𝒱 (c : Thread nD τ) bd E (m := arg18)) $$ HH
  iintro HH
  iapply (wp_st (defs := defs₀) 𝒱 (c : Thread nD τ) bd E (m := arg18)) $$ HH
  iintro HH
  iapply HQ $$ Hw Hb HB HC
  iexact HH

theorem wp_convTile {k : Fin k0_t2_loop.trips} {s : Conv F} {Q : PUnit → sProp 𝕄} :
    (owns (c : Thread nD τ) arg13 qK K : sProp 𝕄)
      ⊢ iprop(owns (c : Thread nD τ) arg3 qA A -∗ owns (c : Thread nD τ) arg4 qS As
        -∗ owns (c : Thread nD τ) arg5 qw cw -∗ owns (c : Thread nD τ) arg6 qb cb -∗ owns (c : Thread nD τ) arg11 fullShare s.1
        -∗ owns (c : Thread nD τ) arg17 fullShare s.2.1 -∗ owns (c : Thread nD τ) arg18 fullShare s.2.2
        -∗ (owns (c : Thread nD τ) arg13 qK K -∗ owns (c : Thread nD τ) arg3 qA A -∗ owns (c : Thread nD τ) arg4 qS As
          -∗ owns (c : Thread nD τ) arg5 qw cw -∗ owns (c : Thread nD τ) arg6 qb cb
          -∗ owns (c : Thread nD τ) arg11 fullShare (tileV K A As v29 cw cb k s).1
          -∗ owns (c : Thread nD τ) arg17 fullShare (tileV K A As v29 cw cb k s).2.1
          -∗ owns (c : Thread nD τ) arg18 fullShare (tileV K A As v29 cw cb k s).2.2 -∗ Q ⟨⟩)
        -∗ wp frame (wpE (defs₀ (F := F)) 𝒱 (c : Thread nD τ) bd) E (convTile arg3 arg4 arg5 arg6 arg11 arg13 arg17 arg18 v29 k) Q) := by
  unfold convTile tileV accV
  iintro HK HA HS Hw Hb HB HC HH HQ
  rw [wp_bind]
  iapply (wp_ld (defs := defs₀) 𝒱 (c : Thread nD τ) bd E (m := arg13)) $$ HK
  iintro HK
  rw [wp_bind]
  iapply (wp_ld (defs := defs₀) 𝒱 (c : Thread nD τ) bd E (m := arg3)) $$ HA
  iintro HA
  rw [wp_bind]
  iapply (wp_ld (defs := defs₀) 𝒱 (c : Thread nD τ) bd E (m := arg4)) $$ HS
  iintro HS
  rw [wp_bind]
  iapply (wp_convChunk 𝒱 c bd E) $$ Hw Hb HB HC HH
  iintro Hw Hb HB HC HH
  rw [wp_bind]
  iapply (wp_convChunk 𝒱 c bd E) $$ Hw Hb HB HC HH
  iintro Hw Hb HB HC HH
  rw [wp_bind]
  iapply (wp_convChunk 𝒱 c bd E) $$ Hw Hb HB HC HH
  iintro Hw Hb HB HC HH
  iapply (wp_convChunk 𝒱 c bd E) $$ Hw Hb HB HC HH
  iintro Hw Hb HB HC HH
  iapply HQ $$ HK HA HS Hw Hb HB HC
  iexact HH

end Rules

end Cert.Kernel.Own

end
-- ==== Proof.Dma.lean ====
/- A transfer into a rectangle of a memref, and the wait for it, over arrays (`owns`). -/
module

public import proofs.«01_k».proof.Proof.Rules
public import Idealize.ShloMosaic.Lib.Transfers
public import Idealize.ShloMosaic.Lib.MemrefSat

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

/-- A rectangle of the whole shape embeds each index as itself. -/
theorem emb_whole {s : Shape} {o : Fin s.rank → ℕ} (h : ∀ a, o a + s.size a ≤ s.size a) (x : s.Idx) :
    (Rect.unit (s := s) o s.size h).emb x = x := by
  funext a
  apply Fin.ext
  have h0 : o a = 0 := by have := h a; omega
  show o a + 1 * (x a).val = (x a).val
  omega

theorem rd_whole {s : Shape} {α : Type} {o : Fin s.rank → ℕ} (h : ∀ a, o a + s.size a ≤ s.size a) (X : s.Idx → α) :
    (fun x => X ((Rect.unit (s := s) o s.size h).emb x)) = X := by
  funext x
  exact congrArg X (emb_whole h x)

theorem upd_whole {s : Shape} {α : Type} {o : Fin s.rank → ℕ} (h : ∀ a, o a + s.size a ≤ s.size a) (w X : s.Idx → α) :
    upd (Rect.unit (s := s) o s.size h) w X = w := by
  funext x
  have e := upd_emb (Rect.unit (s := s) o s.size h) w X x
  rw [emb_whole h x] at e
  exact e

section
variable {nD : Nat} {τ : Topo} {sig : RefSig}
variable {Val : EltTy → Type}
variable {U : Type} [URA U]
variable {Λ : Labels}
local notation "𝕄" => MT nD τ sig Unit Val ℕ U ℕ
variable (EC : UEmb Counters (MT nD τ sig Unit Val ℕ U ℕ)) [EC.LandsIn (upEmb : UEmb _ (MT nD τ sig Unit Val ℕ U ℕ))]
variable {defs : Defs nD τ sig Val Λ} (𝒱 : Variants) (c : Thread nD τ) (bd : Option 𝒱.V)

/-- The start of a transfer into a rectangle. -/
theorem wp_start {sp sp' : Space} {s : Shape} {e : EltTy} {m : Memref sig c.2.kind sp' s e} {r : Rect s} {h : ∀ a, r.stride a = 1}
    {src : Memref sig c.2.kind sp r.shape e} {sem : DmaSem sig} {hsrc : src.view.WordExact} {hdst : (m.slice r h).view.WordExact}
    {hsem : DmaTarget.Typed (nD := nD) sp (.dma sem) (.here (m.slice r h))} (hn : 0 < r.shape.numel)
    {q : PosShare TreeShare} {X : r.shape.Idx → Val e} {D : s.Idx → Val e} {Q : PUnit → sProp 𝕄} :
    iprop(owns c src q X ∗ owns c m fullShare D ∗ semVal (c, .dma sem) 0)
      ⊢ iprop((Transfers.Flight EC c (.dma sem) () (m.slice r h).view.dmaCredit iprop(owns c m fullShare (upd r X D) ∗ owns c src q X) -∗ Q ⟨⟩)
        -∗ wp frame (wpE defs 𝒱 c bd) Set.univ (Prog.lift (.enqueueDma src (.here (m.slice r h)) (.dma sem) hsrc hdst hsem)) Q) := by
  unfold owns
  iintro ⟨⟨%fs, %hs, Hs⟩, ⟨%fd, %hd, Hd⟩, Hv⟩ HQ
  subst hs
  subst hd
  iapply (Transfers.wp_dmaLocal EC 𝒱 c bd (k := .ret) (Q := Q) (src := src) (dst := m.slice r h) (via := .same) (fs := fs) (fd := fd) (Sd := m.view.set)
    () (m.slice r h).view.dmaCredit rfl (View.dmaCredit_pos _ hn) (by
      show (m.view.slice r).set ⊆ m.view.set
      rw [View.set_slice]; exact View.setOn_subset_set _ _)) $$ [Hs Hd Hv]
  · isplitl [Hs]
    · iexact Hs
    isplitl [Hd]
    · iexact Hd
    iexact Hv
  iintro HF
  iapply (le_wp_ret _ _ _ _ Q)
  iapply HQ
  iapply (Transfers.Flight_mono EC c (by
    iintro ⟨Hd, Hs⟩
    isplitl [Hd]
    · iexists _
      isplitr
      · ipureintro; exact read_slice_upd m.view r fd _
      · iexact Hd
    · iexists fs
      isplitr
      · ipureintro; rfl
      · iexact Hs)) $$ HF

/-- The wait. -/
theorem wp_await {sp sp' : Space} {s : Shape} {e : EltTy} {dst : Memref sig c.2.kind sp' s e}
    {src : Memref sig c.2.kind sp s e} {sem : DmaSem sig} {hsrc : src.view.WordExact} {hdst : dst.view.WordExact}
    {P : sProp 𝕄} {W : Waits sig Unit} {Q : PUnit → sProp 𝕄} :
    iprop(Transfers.Flight EC c (.dma sem) () dst.view.dmaCredit P ∗ owes c 0 W)
      ⊢ iprop((iprop(P ∗ semVal (c, .dma sem) 0 ∗ owes c 0 (insert (SemLoc.dma sem, ()) W)) -∗ Q ⟨⟩)
        -∗ wp frame (wpE defs 𝒱 c bd) Set.univ (Prog.lift (.waitDma2 sem src dst hsrc hdst)) Q) := by
  iintro H HQ
  iapply (Transfers.wp_waitLocal EC 𝒱 c bd (k := .ret) (Q := Q) () rfl) $$ H
  iintro H
  iapply (le_wp_ret _ _ _ _ Q)
  iapply HQ
  iexact H

end

end Cert.Own

end
-- ==== Proof.Kernel.Head.lean ====
/- The kernel's body before its loops. -/
module

public import proofs.«01_k».proof.Proof.Kernel.Tiles
public import proofs.«01_k».proof.Proof.Dma
public import Idealize.ShloMosaic.Lib.Pipeline.Value

@[expose] public section

noncomputable section

namespace Cert.Kernel.Own

open Cert.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The transfers' counters. -/
local notation "EC" => countersEmb (U := Pipeline.UD sig nD τ)

/-- The rectangle of the result that a grid point's transfer writes. -/
abbrev rD (i : grid0.Coords) : Rect S3072x8192 := Rect.unit (s := S3072x8192) (k0_off1 i) S256x8192.size (k0_off1_inb i)

/-- Whether the grid point begins a sequence, as the kernel computes it. -/
def resetBit (i : grid0.Coords) : BitVec 1 :=
  let arg0 : BitVec 32 := BitVec.ofNat 32 (i 0).val
  let v15 : BitVec 32 := Scalar.subi arg0 1#32
  let v16 : BitVec 1 := Scalar.cmpi .eq 4#32 0#32
  let v17 : BitVec 32 := Scalar.select v16 1#32 4#32
  let v18 : BitVec 32 := Scalar.remsi v15 v17
  let v19 : BitVec 1 := Scalar.cmpi .ne v18 0#32
  let v20 : BitVec 1 := Scalar.cmpi .slt v18 0#32
  let v21 : BitVec 1 := Scalar.cmpi .slt v17 0#32
  let v22 : BitVec 1 := Scalar.xori v20 v21
  let v23 : BitVec 1 := Scalar.andi v22 v19
  let v24 : BitVec 32 := Scalar.addi v18 v17
  let v25 : BitVec 32 := Scalar.select v23 v24 v18
  let v26 : BitVec 1 := Scalar.cmpi .eq v25 0#32
  let v27 : BitVec 32 := Scalar.extui v26
  Scalar.cmpi .ne v27 0#32

/-- The rows kept, zeroed at the beginning of a sequence. -/
def haloV (i : grid0.Coords) (H : Vec F S20x8x128 .f32) : Vec F S20x8x128 .f32 :=
  if resetBit i = 1#1 then k0_pay365 (F := F) else H

theorem pay363_eq (v : Vec F S256x8192 .fp8e4m3) : k0_pay363 v = v := shapeCast_self _ _
theorem pay364_eq (v : Vec F S256x1 .f32) : k0_pay364 v = v := shapeCast_self _ _

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K K0 : Vec F S256x8192 .fp8e4m3} {A : Vec F S8192x4624 .fp8e4m3}
  {As : Vec F S1x4624 .f32} {v29 S0 x0 : Vec F S256x1 .f32} {cw : Vec F S4x2560 .f32} {cb : Vec F S1x2560 .f32} {db : Vec F S1x16 .f32}
  {D : Vec F S3072x8192 .fp8e4m3} {T : Vec F S256x16 .f32}
  {Z : Vec F S256x2048 .f32} {Y : Vec F S256x8192 .fp8e4m3} {S : Vec F S256x1 .f32} {H : Vec F S20x8x128 .f32} {s : Conv F}
  {q1 q2 qK qA qS qw qb qd : PosShare TreeShare}
variable (𝒱 : Variants) (c : Dev nD) (bd : Option 𝒱.V)

theorem wp_head {Q : PUnit → sProp 𝕄} :
    (owns (c : Thread nD τ) arg15 fullShare Y : sProp 𝕄)
      ⊢ iprop(owns (c : Thread nD τ) arg13 fullShare K0 -∗ owns (c : Thread nD τ) arg16 fullShare S -∗ owns (c : Thread nD τ) arg14 fullShare S0 -∗ owns (c : Thread nD τ) arg9 fullShare x0 -∗ owns (c : Thread nD τ) arg18 fullShare H -∗ owns (c : Thread nD τ) arg8 fullShare D
        -∗ semVal ((c : Thread nD τ), SemLoc.dma arg19.sem) 0
        -∗ (owns (c : Thread nD τ) arg15 fullShare Y -∗ owns (c : Thread nD τ) arg13 fullShare.left Y -∗ owns (c : Thread nD τ) arg16 fullShare S -∗ owns (c : Thread nD τ) arg14 fullShare S -∗ owns (c : Thread nD τ) arg9 fullShare S -∗ owns (c : Thread nD τ) arg18 fullShare (haloV i H)
          -∗ Transfers.Flight EC (c : Thread nD τ) (.dma arg19.sem) () (arg8.slice (rD i) (fun _ => rfl)).view.dmaCredit iprop(owns (c : Thread nD τ) arg8 fullShare (upd (rD i) Y D) ∗ owns (c : Thread nD τ) arg13 fullShare.right Y) -∗ Q ⟨⟩)
        -∗ wp frame (wpE (defs₀ (F := F)) 𝒱 (c : Thread nD τ) bd) Set.univ (k0_part121 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [k0_part121_eq_skeleton]
  unfold k0_part121_skel
  iintro H15 H13 H16 H14 H9 H18 H8 Hv HQ
  rw [wp_bind]
  iapply (wp_ld (defs := defs₀) 𝒱 (c : Thread nD τ) bd Set.univ (m := arg15)) $$ H15
  iintro H15
  rw [wp_bind]
  iapply (wp_ld (defs := defs₀) 𝒱 (c : Thread nD τ) bd Set.univ (m := arg13)) $$ H13
  iintro H13
  rw [wp_bind]
  iapply (wp_st (defs := defs₀) 𝒱 (c : Thread nD τ) bd Set.univ (m := arg13)) $$ H13
  iintro H13
  rw [wp_bind]
  iapply (wp_ld (defs := defs₀) 𝒱 (c : Thread nD τ) bd Set.univ (m := arg16)) $$ H16
  iintro H16
  rw [wp_bind]
  iapply (wp_ld (defs := defs₀) 𝒱 (c : Thread nD τ) bd Set.univ (m := arg14)) $$ H14
  iintro H14
  rw [wp_bind]
  iapply (wp_st (defs := defs₀) 𝒱 (c : Thread nD τ) bd Set.univ (m := arg14)) $$ H14
  iintro H14
  rw [wp_bind]
  iapply (wp_ld (defs := defs₀) 𝒱 (c : Thread nD τ) bd Set.univ (m := arg16)) $$ H16
  iintro H16
  rw [wp_bind]
  iapply (wp_ld (defs := defs₀) 𝒱 (c : Thread nD τ) bd Set.univ (m := arg9)) $$ H9
  iintro H9
  rw [wp_bind]
  iapply (wp_st (defs := defs₀) 𝒱 (c : Thread nD τ) bd Set.univ (m := arg9)) $$ H9
  iintro H9
  rw [rd_whole, rd_whole, pay363_eq, pay364_eq, upd_whole, upd_whole, upd_whole]
  ihave H13 := (owns_halves (c : Thread nD τ) arg13 fullShare Y).1 $$ H13
  icases H13 with ⟨H13, H13r⟩
  rw [wp_bind]
  iapply (wp_start EC (defs := defs₀) 𝒱 (c : Thread nD τ) bd (m := arg8) (r := rD i) (h := fun _ => rfl) (src := arg13) (show 0 < S256x8192.numel by decide)) $$ [H13r H8 Hv]
  · isplitl [H13r]
    · iexact H13r
    isplitl [H8]
    · iexact H8
    iexact Hv
  iintro HF
  dsimp only
  by_cases hr : resetBit i = 1#1
  · rw [show haloV i H = k0_pay365 (F := F) from if_pos hr]
    unfold resetBit at hr
    dsimp only at hr
    rw [dif_pos hr]
    rw [wp_bind]
    iapply (wp_ld (defs := defs₀) 𝒱 (c : Thread nD τ) bd Set.univ (m := arg18)) $$ H18
    iintro H18
    rw [wp_bind]
    iapply (wp_st (defs := defs₀) 𝒱 (c : Thread nD τ) bd Set.univ (m := arg18)) $$ H18
    iintro H18
    rw [upd_whole]
    iapply (le_wp_ret _ _ _ _ Q)
    iapply HQ $$ H15 H13 H16 H14 H9 H18
    iexact HF
  · rw [show haloV i H = H from if_neg hr]
    unfold resetBit at hr
    dsimp only at hr
    rw [dif_neg hr]
    iapply (le_wp_ret _ _ _ _ Q)
    iapply HQ $$ H15 H13 H16 H14 H9 H18
    iexact HF

end

end Cert.Kernel.Own

end
-- ==== Proof.Kernel.Loop1.lean ====
/- The kernel's first loop. -/
module

public import proofs.«01_k».proof.Proof.Kernel.Tiles

@[expose] public section

noncomputable section

namespace Cert.Kernel.Own

open Cert.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values
variable (X : Vec F S256x8192 .bf16) (W : Vec F S1x8192 .f32)
variable (K : Vec F S256x8192 .fp8e4m3) (A : Vec F S8192x4624 .fp8e4m3) (As : Vec F S1x4624 .f32) (v29 : Vec F S256x1 .f32)

/-- The z array after the first `j` tiles. -/
def zIter (Z : Vec F S256x2048 .f32) : ℕ → Vec F S256x2048 .f32
  | 0 => Z
  | j + 1 => if h : j < k0_t1_loop.trips then zV K A As v29 ⟨j, h⟩ (zIter Z j) else zIter Z j
/-- The codes after the first `j` strips. -/
def qIter1 (Y : Vec F S256x8192 .fp8e4m3) : ℕ → Vec F S256x8192 .fp8e4m3
  | 0 => Y
  | j + 1 => if h : j < k0_t1_loop.trips then stripQ X W (row1 ⟨j, h⟩) (row1_inb ⟨j, h⟩) (qIter1 Y j) else qIter1 Y j
/-- The scales after the first `j` strips. -/
def sIter1 (S : Vec F S256x1 .f32) : ℕ → Vec F S256x1 .f32
  | 0 => S
  | j + 1 => if h : j < k0_t1_loop.trips then stripS X W (row1 ⟨j, h⟩) (row1_inb ⟨j, h⟩) (sIter1 S j) else sIter1 S j

theorem zIter_succ (Z : Vec F S256x2048 .f32) (k : Fin k0_t1_loop.trips) :
    zIter K A As v29 Z (k.val + 1) = zV K A As v29 k (zIter K A As v29 Z k.val) := dif_pos k.isLt
theorem qIter1_succ (Y : Vec F S256x8192 .fp8e4m3) (k : Fin k0_t1_loop.trips) :
    qIter1 X W Y (k.val + 1) = stripQ X W (row1 k) (row1_inb k) (qIter1 X W Y k.val) := dif_pos k.isLt
theorem sIter1_succ (S : Vec F S256x1 .f32) (k : Fin k0_t1_loop.trips) :
    sIter1 X W S (k.val + 1) = stripS X W (row1 k) (row1_inb k) (sIter1 X W S k.val) := dif_pos k.isLt

end Values

section Rule
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K : Vec F S256x8192 .fp8e4m3} {A : Vec F S8192x4624 .fp8e4m3}
  {As : Vec F S1x4624 .f32} {v29 : Vec F S256x1 .f32} {cw : Vec F S4x2560 .f32} {cb : Vec F S1x2560 .f32}
  {Z : Vec F S256x2048 .f32} {Y : Vec F S256x8192 .fp8e4m3} {S : Vec F S256x1 .f32} {s : Conv F}
  {q1 q2 qK qA qS qw qb : PosShare TreeShare}
variable (𝒱 : Variants) (c : Dev nD) (bd : Option 𝒱.V) (E : Set ℕ)

/-- The loop: its arrays taken to the iterates at its number of trips. -/
theorem wp_loop1 {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg13 qK K -∗ owns (c : Thread nD τ) arg10 fullShare Z -∗ owns (c : Thread nD τ) arg15 fullShare Y -∗ owns (c : Thread nD τ) arg16 fullShare S
        -∗ (owns (c : Thread nD τ) arg1 q1 X -∗ owns (c : Thread nD τ) arg2 q2 W -∗ owns (c : Thread nD τ) arg3 qA A -∗ owns (c : Thread nD τ) arg4 qS As -∗ owns (c : Thread nD τ) arg13 qK K -∗ owns (c : Thread nD τ) arg10 fullShare (zIter K A As v29 Z k0_t1_loop.trips) -∗ owns (c : Thread nD τ) arg15 fullShare (qIter1 X W Y k0_t1_loop.trips) -∗ owns (c : Thread nD τ) arg16 fullShare (sIter1 X W S k0_t1_loop.trips) -∗ Q ⟨⟩)
        -∗ wp frame (wpE (defs₀ (F := F)) 𝒱 (c : Thread nD τ) bd) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)) Q) := by
  iintro H1 H2 HA HS HK HZ H15 H16 HQ
  unfold Scf.Loop.for
  iapply (Scf.wp_for frame (wpE (defs₀ (F := F)) 𝒱 (c : Thread nD τ) bd) E _ _ _ k0_t1_ok ⟨⟩
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)
    (fun k _ => iprop(owns (c : Thread nD τ) arg1 q1 X ∗ owns (c : Thread nD τ) arg2 q2 W ∗ owns (c : Thread nD τ) arg3 qA A ∗ owns (c : Thread nD τ) arg4 qS As ∗ owns (c : Thread nD τ) arg13 qK K ∗ owns (c : Thread nD τ) arg10 fullShare (zIter K A As v29 Z k) ∗ owns (c : Thread nD τ) arg15 fullShare (qIter1 X W Y k) ∗ owns (c : Thread nD τ) arg16 fullShare (sIter1 X W S k))) (by
    intro k acc
    rw [trip1_eq]
    iintro ⟨H1, H2, HA, HS, HK, HZ, H15, H16⟩
    rw [zIter_succ, qIter1_succ, sIter1_succ, wp_bind]
    iapply (wp_zTile 𝒱 c bd E) $$ HK HA HS HZ
    iintro HK HA HS HZ
    iapply (wp_strip 𝒱 c bd E) $$ H1 H2 H15 H16
    iintro H1 H2 H15 H16
    isplitl [H1]
    · iexact H1
    isplitl [H2]
    · iexact H2
    isplitl [HA]
    · iexact HA
    isplitl [HS]
    · iexact HS
    isplitl [HK]
    · iexact HK
    isplitl [HZ]
    · iexact HZ
    isplitl [H15]
    · iexact H15
    iexact H16) (Q := Q))
  isplitl [H1 H2 HA HS HK HZ H15 H16]
  · dsimp only [zIter, qIter1, sIter1]
    isplitl [H1]
    · iexact H1
    isplitl [H2]
    · iexact H2
    isplitl [HA]
    · iexact HA
    isplitl [HS]
    · iexact HS
    isplitl [HK]
    · iexact HK
    isplitl [HZ]
    · iexact HZ
    isplitl [H15]
    · iexact H15
    iexact H16
  · iintro %acc ⟨H1, H2, HA, HS, HK, HZ, H15, H16⟩
    iapply HQ $$ H1 H2 HA HS HK HZ H15
    iexact H16

end Rule

end Cert.Kernel.Own

end
-- ==== Proof.Kernel.Trip2Eq.lean ====
/- A trip of the loop, as printed, is the trip as `Trip2` states it: by unfolding. -/
module

public import proofs.«01_k».proof.Proof.Kernel.Trip2

@[expose] public section

noncomputable section

namespace Cert.Kernel.Own

open Cert.Kernel Cert.Kernel.Gen
open Idealize.ShloMosaic Idealize.SL.Sem

variable {F : FTy → Type} [FloatOps F]

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)

/-- Two programs beginning with the same operation agree when what follows agrees. -/
theorem step {α β : Type} {e e' : Prog (TpuEff nD τ sig (Elt F) Λ₀ .tc) α} {k k' : α → Prog (TpuEff nD τ sig (Elt F) Λ₀ .tc) β}
    (he : e = e') (hk : ∀ v, k v = k' v) : (e >>= k) = (e' >>= k') := by
  rw [he, funext hk]

set_option maxRecDepth 65536 in
set_option maxHeartbeats 16000000 in
theorem trip2_eq (v29 : Vec F S256x1 .f32) (k : Fin k0_t2_loop.trips) :
    k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29 k () =
      (do convTile arg3 arg4 arg5 arg6 arg11 arg13 arg17 arg18 v29 k
          strip arg1 arg2 arg15 harg15 arg16 (row2 k) (row2_inb k) (row2_dvd k)) := by
  unfold k0_t2_body
  rw [k0_part120_eq_skeleton]
  unfold k0_part120_skel
  rw [k0_part58_eq_skeleton, k0_part59_eq_skeleton, k0_part60_eq_skeleton, k0_part61_eq_skeleton, k0_part62_eq_skeleton,
    k0_part63_eq_skeleton, k0_part64_eq_skeleton]
  unfold k0_part58_skel k0_part59_skel k0_part60_skel k0_part61_skel k0_part62_skel k0_part63_skel k0_part64_skel
  unfold convTile convChunk ldC
  simp only [bind_assoc, pure_bind]
  iterate 79 (refine step rfl fun _ => ?_)

  rfl

end

end Cert.Kernel.Own

end
-- ==== Proof.Kernel.Loop2.lean ====
/- The kernel's second loop. -/
module

public import proofs.«01_k».proof.Proof.Kernel.Trip2Eq
public import proofs.«01_k».proof.Proof.Kernel.Tiles

@[expose] public section

noncomputable section

namespace Cert.Kernel.Own

open Cert.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values
variable (X : Vec F S256x8192 .bf16) (W : Vec F S1x8192 .f32)
variable (K : Vec F S256x8192 .fp8e4m3) (A : Vec F S8192x4624 .fp8e4m3) (As : Vec F S1x4624 .f32) (v29 : Vec F S256x1 .f32)
variable (cw : Vec F S4x2560 .f32) (cb : Vec F S1x2560 .f32)

/-- The convolution's arrays after the first `j` tiles. -/
def tIter (s : Conv F) : ℕ → Conv F
  | 0 => s
  | j + 1 => if h : j < k0_t2_loop.trips then tileV K A As v29 cw cb ⟨j, h⟩ (tIter s j) else tIter s j
/-- The codes after the first `j` strips. -/
def qIter2 (Y : Vec F S256x8192 .fp8e4m3) : ℕ → Vec F S256x8192 .fp8e4m3
  | 0 => Y
  | j + 1 => if h : j < k0_t2_loop.trips then stripQ X W (row2 ⟨j, h⟩) (row2_inb ⟨j, h⟩) (qIter2 Y j) else qIter2 Y j
/-- The scales after the first `j` strips. -/
def sIter2 (S : Vec F S256x1 .f32) : ℕ → Vec F S256x1 .f32
  | 0 => S
  | j + 1 => if h : j < k0_t2_loop.trips then stripS X W (row2 ⟨j, h⟩) (row2_inb ⟨j, h⟩) (sIter2 S j) else sIter2 S j

theorem tIter_succ (s : Conv F) (k : Fin k0_t2_loop.trips) :
    tIter K A As v29 cw cb s (k.val + 1) = tileV K A As v29 cw cb k (tIter K A As v29 cw cb s k.val) := dif_pos k.isLt
theorem qIter2_succ (Y : Vec F S256x8192 .fp8e4m3) (k : Fin k0_t2_loop.trips) :
    qIter2 X W Y (k.val + 1) = stripQ X W (row2 k) (row2_inb k) (qIter2 X W Y k.val) := dif_pos k.isLt
theorem sIter2_succ (S : Vec F S256x1 .f32) (k : Fin k0_t2_loop.trips) :
    sIter2 X W S (k.val + 1) = stripS X W (row2 k) (row2_inb k) (sIter2 X W S k.val) := dif_pos k.isLt

end Values

section Rule
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K : Vec F S256x8192 .fp8e4m3} {A : Vec F S8192x4624 .fp8e4m3}
  {As : Vec F S1x4624 .f32} {v29 : Vec F S256x1 .f32} {cw : Vec F S4x2560 .f32} {cb : Vec F S1x2560 .f32}
  {Z : Vec F S256x2048 .f32} {Y : Vec F S256x8192 .fp8e4m3} {S : Vec F S256x1 .f32} {s : Conv F}
  {q1 q2 qK qA qS qw qb : PosShare TreeShare}
variable (𝒱 : Variants) (c : Dev nD) (bd : Option 𝒱.V) (E : Set ℕ)

/-- The loop: its arrays taken to the iterates at its number of trips. -/
theorem wp_loop2 {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg13 qK K -∗ owns (c : Thread nD τ) arg11 fullShare s.1 -∗ owns (c : Thread nD τ) arg17 fullShare s.2.1 -∗ owns (c : Thread nD τ) arg18 fullShare s.2.2 -∗ owns (c : Thread nD τ) arg15 fullShare Y -∗ owns (c : Thread nD τ) arg16 fullShare S
        -∗ (owns (c : Thread nD τ) arg1 q1 X -∗ owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg13 qK K -∗ owns (c : Thread nD τ) arg11 fullShare (tIter K A As v29 cw cb s k0_t2_loop.trips).1 -∗ owns (c : Thread nD τ) arg17 fullShare (tIter K A As v29 cw cb s k0_t2_loop.trips).2.1 -∗ owns (c : Thread nD τ) arg18 fullShare (tIter K A As v29 cw cb s k0_t2_loop.trips).2.2 -∗ owns (c : Thread nD τ) arg15 fullShare (qIter2 X W Y k0_t2_loop.trips) -∗ owns (c : Thread nD τ) arg16 fullShare (sIter2 X W S k0_t2_loop.trips) -∗ Q ⟨⟩)
        -∗ wp frame (wpE (defs₀ (F := F)) 𝒱 (c : Thread nD τ) bd) E
          (Scf.Loop.for k0_t2_loop k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)) Q) := by
  iintro H1 H2 HA HS Hw Hb HK HB HC HH H15 H16 HQ
  unfold Scf.Loop.for
  iapply (Scf.wp_for frame (wpE (defs₀ (F := F)) 𝒱 (c : Thread nD τ) bd) E _ _ _ k0_t2_ok ⟨⟩
    (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)
    (fun k _ => iprop(owns (c : Thread nD τ) arg1 q1 X ∗ owns (c : Thread nD τ) arg2 q2 W ∗ owns (c : Thread nD τ) arg3 qA A ∗ owns (c : Thread nD τ) arg4 qS As ∗ owns (c : Thread nD τ) arg5 qw cw ∗ owns (c : Thread nD τ) arg6 qb cb ∗ owns (c : Thread nD τ) arg13 qK K ∗ owns (c : Thread nD τ) arg11 fullShare (tIter K A As v29 cw cb s k).1 ∗ owns (c : Thread nD τ) arg17 fullShare (tIter K A As v29 cw cb s k).2.1 ∗ owns (c : Thread nD τ) arg18 fullShare (tIter K A As v29 cw cb s k).2.2 ∗ owns (c : Thread nD τ) arg15 fullShare (qIter2 X W Y k) ∗ owns (c : Thread nD τ) arg16 fullShare (sIter2 X W S k))) (by
    intro k acc
    rw [trip2_eq]
    iintro ⟨H1, H2, HA, HS, Hw, Hb, HK, HB, HC, HH, H15, H16⟩
    rw [tIter_succ, qIter2_succ, sIter2_succ, wp_bind]
    iapply (wp_convTile 𝒱 c bd E) $$ HK HA HS Hw Hb HB HC HH
    iintro HK HA HS Hw Hb HB HC HH
    iapply (wp_strip 𝒱 c bd E) $$ H1 H2 H15 H16
    iintro H1 H2 H15 H16
    isplitl [H1]
    · iexact H1
    isplitl [H2]
    · iexact H2
    isplitl [HA]
    · iexact HA
    isplitl [HS]
    · iexact HS
    isplitl [Hw]
    · iexact Hw
    isplitl [Hb]
    · iexact Hb
    isplitl [HK]
    · iexact HK
    isplitl [HB]
    · iexact HB
    isplitl [HC]
    · iexact HC
    isplitl [HH]
    · iexact HH
    isplitl [H15]
    · iexact H15
    iexact H16) (Q := Q))
  isplitl [H1 H2 HA HS Hw Hb HK HB HC HH H15 H16]
  · dsimp only [tIter, qIter2, sIter2]
    isplitl [H1]
    · iexact H1
    isplitl [H2]
    · iexact H2
    isplitl [HA]
    · iexact HA
    isplitl [HS]
    · iexact HS
    isplitl [Hw]
    · iexact Hw
    isplitl [Hb]
    · iexact Hb
    isplitl [HK]
    · iexact HK
    isplitl [HB]
    · iexact HB
    isplitl [HC]
    · iexact HC
    isplitl [HH]
    · iexact HH
    isplitl [H15]
    · iexact H15
    iexact H16
  · iintro %acc ⟨H1, H2, HA, HS, Hw, Hb, HK, HB, HC, HH, H15, H16⟩
    iapply HQ $$ H1 H2 HA HS Hw Hb HK HB HC HH H15
    iexact H16

end Rule

end Cert.Kernel.Own

end
-- ==== Proof.Kernel.Body.lean ====
/- The kernel's body from its loops on, and the whole body. -/
module

public import proofs.«01_k».proof.Proof.Kernel.Head
public import proofs.«01_k».proof.Proof.Kernel.Loop1
public import proofs.«01_k».proof.Proof.Kernel.Loop2

@[expose] public section

noncomputable section

namespace Cert.Kernel.Own

open Cert.Own
open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The transfers' counters. -/
local notation "EC" => countersEmb (U := Pipeline.UD sig nD τ)

section Values
variable (X : Vec F S256x8192 .bf16) (W : Vec F S1x8192 .f32)
variable (K : Vec F S256x8192 .fp8e4m3) (A : Vec F S8192x4624 .fp8e4m3) (As : Vec F S1x4624 .f32) (v29 : Vec F S256x1 .f32)
variable (cw : Vec F S4x2560 .f32) (cb : Vec F S1x2560 .f32) (db : Vec F S1x16 .f32)

/-- The tile of dt. -/
def dtV : Vec F S256x16 .f32 :=
  k0_pay371 v29 K (rd (Rect.unit (s := S8192x4624) ![0, 4480] S8192x144.size inb_S8192x4624_S8192x144_0_4480) A)
    (rd (Rect.unit (s := S1x4624) ![0, 4608] S1x16.size inb_S1x4624_S1x16_0_4608) As) db

/-- The z array after the body. -/
def zFin (Z : Vec F S256x2048 .f32) : Vec F S256x2048 .f32 := zIter K A As v29 Z k0_t1_loop.trips
/-- The convolution's arrays after the body. -/
def tFin (s : Conv F) : Conv F := tIter K A As v29 cw cb s k0_t2_loop.trips
/-- The codes after the body. -/
def qFin (Y : Vec F S256x8192 .fp8e4m3) : Vec F S256x8192 .fp8e4m3 := qIter2 X W (qIter1 X W Y k0_t1_loop.trips) k0_t2_loop.trips
/-- The scales after the body. -/
def sFin (S : Vec F S256x1 .f32) : Vec F S256x1 .f32 := sIter2 X W (sIter1 X W S k0_t1_loop.trips) k0_t2_loop.trips

end Values

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K K0 : Vec F S256x8192 .fp8e4m3} {A : Vec F S8192x4624 .fp8e4m3}
  {As : Vec F S1x4624 .f32} {v29 S0 x0 : Vec F S256x1 .f32} {cw : Vec F S4x2560 .f32} {cb : Vec F S1x2560 .f32} {db : Vec F S1x16 .f32}
  {D : Vec F S3072x8192 .fp8e4m3} {T : Vec F S256x16 .f32}
  {Z : Vec F S256x2048 .f32} {Y : Vec F S256x8192 .fp8e4m3} {S : Vec F S256x1 .f32} {H : Vec F S20x8x128 .f32} {s : Conv F}
  {q1 q2 qK qA qS qw qb qd : PosShare TreeShare}
variable (𝒱 : Variants) (c : Dev nD) (bd : Option 𝒱.V)

theorem wp_tail {q : PosShare TreeShare} {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg10 fullShare Z -∗ owns (c : Thread nD τ) arg11 fullShare s.1 -∗ owns (c : Thread nD τ) arg12 fullShare T -∗ owns (c : Thread nD τ) arg13 qK K -∗ owns (c : Thread nD τ) arg14 q v29 -∗ owns (c : Thread nD τ) arg15 fullShare Y -∗ owns (c : Thread nD τ) arg16 fullShare S -∗ owns (c : Thread nD τ) arg17 fullShare s.2.1 -∗ owns (c : Thread nD τ) arg18 fullShare s.2.2
        -∗ (owns (c : Thread nD τ) arg1 q1 X -∗ owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg10 fullShare (zFin K A As v29 Z) -∗ owns (c : Thread nD τ) arg11 fullShare (tFin K A As v29 cw cb s).1 -∗ owns (c : Thread nD τ) arg12 fullShare (dtV K A As v29 db) -∗ owns (c : Thread nD τ) arg13 qK K -∗ owns (c : Thread nD τ) arg14 q v29 -∗ owns (c : Thread nD τ) arg15 fullShare (qFin X W Y) -∗ owns (c : Thread nD τ) arg16 fullShare (sFin X W S) -∗ owns (c : Thread nD τ) arg17 fullShare (tFin K A As v29 cw cb s).2.1 -∗ owns (c : Thread nD τ) arg18 fullShare (tFin K A As v29 cw cb s).2.2 -∗ Q ⟨⟩)
        -∗ wp frame (wpE (defs₀ (F := F)) 𝒱 (c : Thread nD τ) bd) Set.univ (k0_part122 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [k0_part122_eq_skeleton]
  unfold k0_part122_skel zFin tFin qFin sFin dtV
  iintro H1 H2 H3 H4 H5 H6 H7 H10 H11 H12 H13 H14 H15 H16 H17 H18 HQ
  rw [wp_bind]
  iapply (wp_ld (defs := defs₀) 𝒱 (c : Thread nD τ) bd Set.univ (m := arg14)) $$ H14
  iintro H14
  rw [rd_whole]
  rw [wp_bind]
  iapply (wp_loop1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd Set.univ) $$ H1 H2 H3 H4 H13 H10 H15 H16
  iintro H1 H2 H3 H4 H13 H10 H15 H16
  rw [wp_bind]
  iapply (wp_loop2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd Set.univ) $$ H1 H2 H3 H4 H5 H6 H13 H11 H17 H18 H15 H16
  iintro H1 H2 H3 H4 H5 H6 H13 H11 H17 H18 H15 H16
  rw [wp_bind]
  iapply (wp_ld (defs := defs₀) 𝒱 (c : Thread nD τ) bd Set.univ (m := arg13)) $$ H13
  iintro H13
  rw [wp_bind]
  iapply (wp_ld (defs := defs₀) 𝒱 (c : Thread nD τ) bd Set.univ (m := arg3)) $$ H3
  iintro H3
  rw [wp_bind]
  iapply (wp_ld (defs := defs₀) 𝒱 (c : Thread nD τ) bd Set.univ (m := arg4)) $$ H4
  iintro H4
  rw [wp_bind]
  iapply (wp_ld (defs := defs₀) 𝒱 (c : Thread nD τ) bd Set.univ (m := arg7)) $$ H7
  iintro H7
  rw [wp_bind]
  iapply (wp_ld (defs := defs₀) 𝒱 (c : Thread nD τ) bd Set.univ (m := arg12)) $$ H12
  iintro H12
  rw [wp_bind]
  iapply (wp_st (defs := defs₀) 𝒱 (c : Thread nD τ) bd Set.univ (m := arg12)) $$ H12
  iintro H12
  rw [rd_whole, rd_whole, upd_whole]
  iapply (le_wp_ret _ _ _ _ Q)
  iapply HQ $$ H1 H2 H3 H4 H5 H6 H7 H10 H11 H12 H13 H14 H15 H16 H17
  iexact H18

/-- The body. -/
theorem wp_body {Wt : Waits sig Unit} {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg8 fullShare D -∗ owns (c : Thread nD τ) arg9 fullShare x0 -∗ owns (c : Thread nD τ) arg10 fullShare Z -∗ owns (c : Thread nD τ) arg11 fullShare s.1 -∗ owns (c : Thread nD τ) arg12 fullShare T -∗ owns (c : Thread nD τ) arg13 fullShare K -∗ owns (c : Thread nD τ) arg14 fullShare S0 -∗ owns (c : Thread nD τ) arg15 fullShare Y -∗ owns (c : Thread nD τ) arg16 fullShare S -∗ owns (c : Thread nD τ) arg17 fullShare s.2.1 -∗ owns (c : Thread nD τ) arg18 fullShare s.2.2
        -∗ semVal ((c : Thread nD τ), SemLoc.dma arg19.sem) 0 -∗ owes (c : Thread nD τ) 0 Wt
        -∗ (owns (c : Thread nD τ) arg1 q1 X -∗ owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg8 fullShare (upd (rD i) Y D) -∗ owns (c : Thread nD τ) arg9 fullShare S -∗ owns (c : Thread nD τ) arg10 fullShare (zFin Y A As S Z) -∗ owns (c : Thread nD τ) arg11 fullShare (tFin Y A As S cw cb (s.1, s.2.1, haloV i s.2.2)).1 -∗ owns (c : Thread nD τ) arg12 fullShare (dtV Y A As S db) -∗ owns (c : Thread nD τ) arg13 fullShare Y -∗ owns (c : Thread nD τ) arg14 fullShare S -∗ owns (c : Thread nD τ) arg15 fullShare (qFin X W Y) -∗ owns (c : Thread nD τ) arg16 fullShare (sFin X W S) -∗ owns (c : Thread nD τ) arg17 fullShare (tFin Y A As S cw cb (s.1, s.2.1, haloV i s.2.2)).2.1 -∗ owns (c : Thread nD τ) arg18 fullShare (tFin Y A As S cw cb (s.1, s.2.1, haloV i s.2.2)).2.2 -∗ semVal ((c : Thread nD τ), SemLoc.dma arg19.sem) 0 -∗ owes (c : Thread nD τ) 0 (insert (SemLoc.dma arg19.sem, ()) Wt) -∗ Q ⟨⟩)
        -∗ wp frame (wpE (defs₀ (F := F)) 𝒱 (c : Thread nD τ) bd) Set.univ (cc0_in_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [cc0_in_proj_eq_skeleton]
  unfold cc0_in_proj_skel
  iintro H1 H2 H3 H4 H5 H6 H7 H8 H9 H10 H11 H12 H13 H14 H15 H16 H17 H18 Hv HO HQ
  rw [wp_bind]
  iapply (wp_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd) $$ H15 H13 H16 H14 H9 H18 H8 Hv
  iintro H15 H13 H16 H14 H9 H18 HF
  rw [wp_bind]
  iapply (wp_tail (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd (s := (s.1, s.2.1, haloV i s.2.2))) $$ H1 H2 H3 H4 H5 H6 H7 H10 H11 H12 H13 H14 H15 H16 H17 H18
  iintro H1 H2 H3 H4 H5 H6 H7 H10 H11 H12 H13 H14 H15 H16 H17 H18
  dsimp only
  rw [wp_bind]
  iapply (wp_await EC (defs := defs₀) 𝒱 (c : Thread nD τ) bd) $$ [HF HO]
  · isplitl [HF]
    · iexact HF
    iexact HO
  iintro ⟨⟨H8, H13r⟩, Hv, HO⟩
  ihave H13 := (owns_halves (c : Thread nD τ) arg13 fullShare Y).2 $$ [H13 H13r]
  · isplitl [H13]
    · iexact H13
    iexact H13r
  iapply (le_wp_ret _ _ _ _ Q)
  iapply HQ $$ H1 H2 H3 H4 H5 H6 H7 H8 H9 H10 H11 H12 H13 H14 H15 H16 H17 H18 Hv
  iexact HO

end

end Cert.Kernel.Own

end
-- ==== Proof.Bands.lean ====
/- An array with a box of entries replaced, read inside and outside the box. -/
module

public import proofs.«01_k».proof.Proof.Rules
public import Idealize.ShloMosaic.Lib.ValueIdxCore

@[expose] public section

noncomputable section

namespace Cert.Own

open Idealize.ShloMosaic

/-- Inside: the entry written. -/
theorem upd_at {s : Shape} {α : Type} (r : Rect s) (w : r.shape.Idx → α) (X : s.Idx → α) (y : s.Idx) (x : r.shape.Idx)
    (h : ∀ a, (y a).val = r.off a + r.stride a * (x a).val) : upd r w X y = w x := by
  have e : y = r.emb x := by
    funext a
    exact Fin.ext (h a)
  rw [e, upd_emb]

/-- Outside: the entry before. -/
theorem upd_out {s : Shape} {α : Type} (off size : Fin s.rank → ℕ) (inb : ∀ a, off a + size a ≤ s.size a)
    (w : (Rect.unit (s := s) off size inb).shape.Idx → α) (X : s.Idx → α) (y : s.Idx) (a : Fin s.rank)
    (h : (y a).val < off a ∨ off a + size a ≤ (y a).val) : upd (Rect.unit (s := s) off size inb) w X y = X y := by
  apply upd_not
  intro x hx
  have h1 : ((Rect.unit (s := s) off size inb).emb x a).val = off a + 1 * (x a).val := rfl
  have h2 : (x a).val < size a := (x a).isLt
  rw [hx] at h1
  omega

/-- An index of a box, in the array's coordinates. -/
theorem emb_eq {s : Shape} (r : Rect s) (x : r.shape.Idx) (y : s.Idx) (h : ∀ a, (y a).val = r.off a + r.stride a * (x a).val) :
    r.emb x = y := by
  funext a
  exact (Fin.ext (h a)).symm

end Cert.Own

end
-- ==== Proof.Kernel.Closed.lean ====
/- The arrays the body leaves, each in closed form: they do not depend on what the scratch arrays held before, but for
   the eight rows kept, which enter the convolution. -/
module

public import proofs.«01_k».proof.Proof.Kernel.Body
public import proofs.«01_k».proof.Proof.Bands

@[expose] public section

noncomputable section

namespace Cert.Kernel.Own

open Cert.Own
open Cert.Kernel Cert.Kernel.Gen
open Idealize.ShloMosaic Idealize.ShloMosaic.ValueIdx

variable {F : FTy → Type} [FloatOps F]

/-! ## The codes and the scales -/

section Strips
variable (X : Vec F S256x8192 .bf16) (W : Vec F S1x8192 .f32)

/-- The codes of strip `s`, block `c`. -/
def qBlk (s : Fin 8) (c : Fin 64) : FVec F S32x128 .fp8e4m3 :=
  codeF (rmsV X (32 * s.val) (by omega)) (invF (ratioV X W (32 * s.val) (by omega)))
    (blkX X (32 * s.val) (by omega) c.val c.isLt) (blkW W c.val c.isLt)

/-- The scales of strip `s`. -/
def sBlk (s : Fin 8) : FVec F S32x1 .f32 :=
  shapeCast S32x1 (scaleF (ratioV X W (32 * s.val) (by omega))) shapeCasts_S32x1_S32x1

/-- The codes. -/
def QV : Vec F S256x8192 .fp8e4m3 := fun y =>
  have h0 : (y 0).val < 256 := (y 0).isLt
  have h1 : (y 1).val < 8192 := (y 1).isLt
  qBlk X W ⟨(y 0).val / 32, by omega⟩ ⟨(y 1).val / 128, by omega⟩
    (ix2 ⟨(y 0).val % 32, by omega⟩ ⟨(y 1).val % 128, by omega⟩)

/-- The scales. -/
def SV : Vec F S256x1 .f32 := fun y =>
  have h0 : (y 0).val < 256 := (y 0).isLt
  sBlk X W ⟨(y 0).val / 32, by omega⟩ (ix2 ⟨(y 0).val % 32, by omega⟩ ⟨0, by omega⟩)

theorem codeV_row (n : ℕ) (hn : n + 32 ≤ 256) (r i : FVec F S32x1 .f32) (f : ℕ) : ∀ (c : ℕ) (h : c + f = 64) (Y : Vec F S256x8192 .fp8e4m3) (y : S256x8192.Idx),
    ((y 0).val < n ∨ n + 32 ≤ (y 0).val ∨ (y 1).val < 128 * c) → codeV X W n hn r i f c h Y y = Y y := by
  induction f with
  | zero => intro c h Y y hy; rfl
  | succ f ih =>
    intro c h Y y hy
    unfold codeV
    rw [ih (c + 1) _ _ y (by omega)]
    by_cases hr : (y 0).val < n ∨ n + 32 ≤ (y 0).val
    · exact upd_out _ _ _ _ _ y 0 hr
    · exact upd_out _ _ _ _ _ y 1 (Or.inl (by show (y 1).val < 128 * c; omega))

theorem codeV_at (n : ℕ) (hn : n + 32 ≤ 256) (r i : FVec F S32x1 .f32) (f : ℕ) : ∀ (c : ℕ) (h : c + f = 64) (Y : Vec F S256x8192 .fp8e4m3) (y : S256x8192.Idx)
    (b : ℕ) (hb : b < 64) (x : S32x128.Idx) (h0 : (y 0).val = n + (x 0).val) (h1 : (y 1).val = 128 * b + (x 1).val), c ≤ b →
    codeV X W n hn r i f c h Y y = codeF r i (blkX X n hn b hb) (blkW W b hb) x := by
  induction f with
  | zero => intro c h Y y b hb x h0 h1 hc; omega
  | succ f ih =>
    intro c h Y y b hb x h0 h1 hc
    unfold codeV
    by_cases e : c = b
    · subst e
      have hx1 : (x 1).val < 128 := (x 1).isLt
      rw [codeV_row X W n hn r i f _ _ _ y (by omega)]
      apply upd_at
      intro a
      fin_cases a
      · show (y 0).val = n + 1 * (x 0).val; omega
      · show (y 1).val = 128 * c + 1 * (x 1).val; omega
    · exact ih _ _ _ y b hb x h0 h1 (by omega)

/-- A strip makes its own rows right. -/
theorem stripQ_at (s : Fin 8) (n : ℕ) (hn : n + 32 ≤ 256) (e : n = 32 * s.val) (Y : Vec F S256x8192 .fp8e4m3) (y : S256x8192.Idx)
    (hy : (y 0).val / 32 = s.val) : stripQ X W n hn Y y = QV X W y := by
  subst e
  have h0 : (y 0).val < 256 := (y 0).isLt
  have h1 : (y 1).val < 8192 := (y 1).isLt
  obtain ⟨k, hk⟩ := s
  dsimp only at hy hn ⊢
  subst hy
  unfold stripQ QV qBlk
  exact codeV_at X W _ _ _ _ 64 0 rfl Y y ((y 1).val / 128) (by omega) (ix2 ⟨(y 0).val % 32, by omega⟩ ⟨(y 1).val % 128, by omega⟩)
    (by show (y 0).val = 32 * ((y 0).val / 32) + (y 0).val % 32; omega)
    (by show (y 1).val = 128 * ((y 1).val / 128) + (y 1).val % 128; omega) (Nat.zero_le _)

/-- It leaves the others. -/
theorem stripQ_row (s : Fin 8) (n : ℕ) (hn : n + 32 ≤ 256) (e : n = 32 * s.val) (Y : Vec F S256x8192 .fp8e4m3) (y : S256x8192.Idx)
    (hy : (y 0).val / 32 ≠ s.val) : stripQ X W n hn Y y = Y y := by
  subst e
  unfold stripQ
  exact codeV_row X W _ _ _ _ 64 0 rfl Y y (by omega)

theorem stripS_at (s : Fin 8) (n : ℕ) (hn : n + 32 ≤ 256) (e : n = 32 * s.val) (S : Vec F S256x1 .f32) (y : S256x1.Idx)
    (hy : (y 0).val / 32 = s.val) : stripS X W n hn S y = SV X W y := by
  subst e
  have h0 : (y 0).val < 256 := (y 0).isLt
  have h1 : (y 1).val < 1 := (y 1).isLt
  obtain ⟨k, hk⟩ := s
  dsimp only at hy hn ⊢
  subst hy
  unfold stripS SV sBlk
  apply upd_at
  intro a
  fin_cases a
  · show (y 0).val = 32 * ((y 0).val / 32) + 1 * ((y 0).val % 32); omega
  · show (y 1).val = 0 + 1 * 0; omega

theorem stripS_row (s : Fin 8) (n : ℕ) (hn : n + 32 ≤ 256) (e : n = 32 * s.val) (S : Vec F S256x1 .f32) (y : S256x1.Idx)
    (hy : (y 0).val / 32 ≠ s.val) : stripS X W n hn S y = S y := by
  subst e
  unfold stripS
  exact upd_out _ _ _ _ _ y 0 (by show (y 0).val < 32 * s.val ∨ 32 * s.val + 32 ≤ (y 0).val; omega)

theorem trips1 : k0_t1_loop.trips = 4 := by decide +kernel
theorem trips2 : k0_t2_loop.trips = 5 := by decide +kernel
theorem row1_eq : ∀ k : Fin k0_t1_loop.trips, row1 k = 32 * (min k.val 7) := by decide +kernel
theorem row2_eq : ∀ k : Fin k0_t2_loop.trips, row2 k = 32 * (min (k.val + 4) 7) := by decide +kernel

theorem qIter1_at (Y : Vec F S256x8192 .fp8e4m3) (y : S256x8192.Idx) : ∀ j ≤ k0_t1_loop.trips,
    (y 0).val / 32 < j → qIter1 X W Y j y = QV X W y := by
  intro j
  induction j with
  | zero => intro _ h; omega
  | succ j ih =>
    intro hj h
    have ht : k0_t1_loop.trips = 4 := trips1
    have hs := qIter1_succ X W Y ⟨j, hj⟩
    have hr := row1_eq ⟨j, hj⟩
    dsimp only at hs hr
    rw [hs]
    by_cases e : (y 0).val / 32 = min j 7
    · exact stripQ_at X W ⟨min j 7, by omega⟩ _ _ hr _ y e
    · rw [stripQ_row X W ⟨min j 7, by omega⟩ _ _ hr _ y e]
      exact ih (by omega) (by omega)

theorem qIter2_at (Y : Vec F S256x8192 .fp8e4m3) (y : S256x8192.Idx) : ∀ j ≤ k0_t2_loop.trips,
    ((y 0).val / 32 < 4 → Y y = QV X W y) → (y 0).val / 32 < 4 + j → qIter2 X W Y j y = QV X W y := by
  intro j
  induction j with
  | zero => intro _ h h'; exact h h'
  | succ j ih =>
    intro hj hY h
    have ht : k0_t2_loop.trips = 5 := trips2
    have h0 : (y 0).val < 256 := (y 0).isLt
    have hs := qIter2_succ X W Y ⟨j, hj⟩
    have hr := row2_eq ⟨j, hj⟩
    dsimp only at hs hr
    rw [hs]
    by_cases e : (y 0).val / 32 = min (j + 4) 7
    · exact stripQ_at X W ⟨min (j + 4) 7, by omega⟩ _ _ hr _ y e
    · rw [stripQ_row X W ⟨min (j + 4) 7, by omega⟩ _ _ hr _ y e]
      exact ih (by omega) hY (by omega)

/-- The codes after the body. -/
theorem qFin_eq (Y : Vec F S256x8192 .fp8e4m3) : qFin X W Y = QV X W := by
  funext y
  have h0 : (y 0).val < 256 := (y 0).isLt
  have h1 := trips1
  have h2 := trips2
  exact qIter2_at X W _ y _ le_rfl (fun h => qIter1_at X W Y y _ le_rfl (by omega)) (by omega)

theorem sIter1_at (Y : Vec F S256x1 .f32) (y : S256x1.Idx) : ∀ j ≤ k0_t1_loop.trips,
    (y 0).val / 32 < j → sIter1 X W Y j y = SV X W y := by
  intro j
  induction j with
  | zero => intro _ h; omega
  | succ j ih =>
    intro hj h
    have ht : k0_t1_loop.trips = 4 := trips1
    have hs := sIter1_succ X W Y ⟨j, hj⟩
    have hr := row1_eq ⟨j, hj⟩
    dsimp only at hs hr
    rw [hs]
    by_cases e : (y 0).val / 32 = min j 7
    · exact stripS_at X W ⟨min j 7, by omega⟩ _ _ hr _ y e
    · rw [stripS_row X W ⟨min j 7, by omega⟩ _ _ hr _ y e]
      exact ih (by omega) (by omega)

theorem sIter2_at (Y : Vec F S256x1 .f32) (y : S256x1.Idx) : ∀ j ≤ k0_t2_loop.trips,
    ((y 0).val / 32 < 4 → Y y = SV X W y) → (y 0).val / 32 < 4 + j → sIter2 X W Y j y = SV X W y := by
  intro j
  induction j with
  | zero => intro _ h h'; exact h h'
  | succ j ih =>
    intro hj hY h
    have ht : k0_t2_loop.trips = 5 := trips2
    have h0 : (y 0).val < 256 := (y 0).isLt
    have hs := sIter2_succ X W Y ⟨j, hj⟩
    have hr := row2_eq ⟨j, hj⟩
    dsimp only at hs hr
    rw [hs]
    by_cases e : (y 0).val / 32 = min (j + 4) 7
    · exact stripS_at X W ⟨min (j + 4) 7, by omega⟩ _ _ hr _ y e
    · rw [stripS_row X W ⟨min (j + 4) 7, by omega⟩ _ _ hr _ y e]
      exact ih (by omega) hY (by omega)

/-- The scales after the body. -/
theorem sFin_eq (Y : Vec F S256x1 .f32) : sFin X W Y = SV X W := by
  funext y
  have h0 : (y 0).val < 256 := (y 0).isLt
  have h1 := trips1
  have h2 := trips2
  exact sIter2_at X W _ y _ le_rfl (fun h => sIter1_at X W Y y _ le_rfl (by omega)) (by omega)

end Strips

/-! ## The tiles of z -/

section Tiles
variable (K : Vec F S256x8192 .fp8e4m3) (A : Vec F S8192x4624 .fp8e4m3) (As : Vec F S1x4624 .f32) (v29 : Vec F S256x1 .f32)

/-- Tile `k` of z. -/
def zBlk (k : Fin k0_t1_loop.trips) : FVec F S256x512 .f32 :=
  k0_pay1 v29 (rd rQ K) (rd (Rect.unit (s := S8192x4624) (k0_off2 k) S8192x512.size (k0_off2_inb k)) A)
      (rd (Rect.unit (s := S1x4624) (k0_off3 k) S1x512.size (k0_off3_inb k)) As)

/-- z. -/
def zC : Vec F S256x2048 .f32 := fun y =>
  have h1 : (y 1).val < 2048 := (y 1).isLt
  have ht := trips1
  zBlk K A As v29 ⟨(y 1).val / 512, by omega⟩ (ix2 (y 0) ⟨(y 1).val % 512, by omega⟩)

theorem off4_eq : ∀ k : Fin k0_t1_loop.trips, k0_off4 k 0 = 0 ∧ k0_off4 k 1 = 512 * k.val := by decide +kernel

theorem zIter_at (Z : Vec F S256x2048 .f32) (y : S256x2048.Idx) : ∀ j ≤ k0_t1_loop.trips,
    (y 1).val / 512 < j → zIter K A As v29 Z j y = zC K A As v29 y := by
  intro j
  induction j with
  | zero => intro _ h; omega
  | succ j ih =>
    intro hj h
    have ht : k0_t1_loop.trips = 4 := trips1
    have h1 : (y 1).val < 2048 := (y 1).isLt
    have hs := zIter_succ K A As v29 Z ⟨j, hj⟩
    have hr := off4_eq ⟨j, hj⟩
    dsimp only at hs hr
    rw [hs]
    unfold zV
    by_cases e : (y 1).val / 512 = j
    · subst e
      unfold zC zBlk
      apply upd_at
      intro a
      fin_cases a
      · show (y 0).val = k0_off4 ⟨(y 1).val / 512, hj⟩ 0 + 1 * (y 0).val
        rw [hr.1]; omega
      · show (y 1).val = k0_off4 ⟨(y 1).val / 512, hj⟩ 1 + 1 * ((y 1).val % 512)
        rw [hr.2]; omega
    · rw [upd_out _ _ _ _ _ y 1 (by
        show (y 1).val < k0_off4 ⟨j, hj⟩ 1 ∨ k0_off4 ⟨j, hj⟩ 1 + 512 ≤ (y 1).val
        rw [hr.2]; omega)]
      exact ih (by omega) (by omega)

theorem zFin_eq (Z : Vec F S256x2048 .f32) : zFin K A As v29 Z = zC K A As v29 := by
  funext y
  have h1 : (y 1).val < 2048 := (y 1).isLt
  have ht := trips1
  exact zIter_at K A As v29 Z y _ le_rfl (by omega)

end Tiles

end Cert.Kernel.Own

end
-- ==== Proof.Kernel.ClosedConv.lean ====
/- The convolution's arrays after the body, each in closed form: the result and the rows kept for the next block depend on
   the rows kept from the block before, and on nothing else that the scratch arrays held. -/
module

public import proofs.«01_k».proof.Proof.Kernel.Closed
public import Idealize.ShloMosaic.Lib.Pipeline.Value

@[expose] public section

noncomputable section

namespace Cert.Kernel.Own

open Cert.Own
open Cert.Kernel Cert.Kernel.Gen
open Idealize.ShloMosaic Idealize.ShloMosaic.ValueIdx

variable {F : FTy → Type} [FloatOps F]

theorem haloF_eq (v : Vec F S1x8x128 .f32) : haloF v = v := shapeCast_shapeCast _ _ _

/-- 256 rows, from row `r` on, of eight rows followed by a chunk. -/
def tapRows (a : FVec F S256x128 .f32) (h : Vec F S1x8x128 .f32) (r : Fin 9) : Vec F S1x256x128 .f32 := fun x =>
  have h1 : (x 1).val < 256 := (x 1).isLt
  if e : (x 1).val + r.val < 8 then h (ix3 ⟨0, by omega⟩ ⟨(x 1).val + r.val, e⟩ (x 2))
  else a (ix2 ⟨(x 1).val + r.val - 8, by omega⟩ (x 2))

section
variable (k : Fin k0_t2_loop.trips) (c : Fin 4) (a : FVec F S256x512 .f32) (C : Vec F S4x264x128 .f32) (H : Vec F S20x8x128 .f32)

theorem cbuf_hi (y : S4x264x128.Idx) (x : S256x128.Idx) (h0 : (y 0).val = c.val) (h1 : (y 1).val = 8 + (x 0).val)
    (h2 : (y 2).val = (x 1).val) : cbufV k c a C H y = chunkF c a x := by
  unfold cbufV
  rw [upd_at (rC c 8) _ _ y (ix3 ⟨0, by omega⟩ (x 0) (x 1)) (by
    intro b
    fin_cases b
    · show (y 0).val = c.val + 1 * 0; omega
    · show (y 1).val = 8 + 1 * (x 0).val; omega
    · show (y 2).val = 0 + 1 * (x 1).val; omega)]
  rw [show shapeCast S1x256x128 (chunkF c a) shapeCasts_S256x128_S1x256x128 (ix3 ⟨0, by omega⟩ (x 0) (x 1)) = _ from
    shapeCast_addUnit_apply _ _ _ _]
  congr 1
  funext b
  fin_cases b <;> rfl

theorem cbuf_lo (y : S4x264x128.Idx) (x : S1x8x128.Idx) (h0 : (y 0).val = c.val) (h1 : (y 1).val = (x 1).val)
    (h2 : (y 2).val = (x 2).val) : cbufV k c a C H y = rd (rH k c) H x := by
  have hx0 : (x 0).val < 1 := (x 0).isLt
  have hx1 : (x 1).val < 8 := (x 1).isLt
  unfold cbufV
  rw [haloF_eq, upd_out _ _ _ _ _ y 1 (Or.inl (by show (y 1).val < 8; omega))]
  apply upd_at
  intro b
  fin_cases b
  · show (y 0).val = c.val + 1 * (x 0).val; omega
  · show (y 1).val = 0 + 1 * (x 1).val; omega
  · show (y 2).val = 0 + 1 * (x 2).val; omega

theorem rd_tap (r : Fin 9) : rd (rC c r) (cbufV k c a C H) = tapRows (chunkF c a) (rd (rH k c) H) r := by
  funext x
  have hx0 : (x 0).val < 1 := (x 0).isLt
  have hx1 : (x 1).val < 256 := (x 1).isLt
  have e0 : ((rC c r).emb x 0).val = c.val + 1 * (x 0).val := rfl
  have e1 : ((rC c r).emb x 1).val = r.val + 1 * (x 1).val := rfl
  have e2 : ((rC c r).emb x 2).val = 0 + 1 * (x 2).val := rfl
  unfold tapRows
  by_cases e : (x 1).val + r.val < 8
  · rw [dif_pos e]
    exact cbuf_lo k c a C H _ _ (by omega) (by show _ = (x 1).val + r.val; omega) (by show _ = (x 2).val; omega)
  · rw [dif_neg e]
    exact cbuf_hi k c a C H _ _ (by omega) (by show _ = 8 + ((x 1).val + r.val - 8); omega) (by show _ = (x 2).val; omega)

/-- The last eight rows of a chunk. -/
def lastRows (a : FVec F S256x128 .f32) : Vec F S1x8x128 .f32 := fun x =>
  have h1 : (x 1).val < 8 := (x 1).isLt
  a (ix2 ⟨248 + (x 1).val, by omega⟩ (x 2))

theorem rd_last : rd (rCe c) (cbufV k c a C H) = lastRows (chunkF c a) := by
  funext x
  have hx0 : (x 0).val < 1 := (x 0).isLt
  have hx1 : (x 1).val < 8 := (x 1).isLt
  have e0 : ((rCe c).emb x 0).val = c.val + 1 * (x 0).val := rfl
  have e1 : ((rCe c).emb x 1).val = 256 + 1 * (x 1).val := rfl
  have e2 : ((rCe c).emb x 2).val = 0 + 1 * (x 2).val := rfl
  exact cbuf_hi k c a C H _ _ (by omega) (by show _ = 8 + (248 + (x 1).val); omega) (by show _ = (x 2).val; omega)

end

theorem off72_eq : ∀ (k : Fin k0_t2_loop.trips) (c : Fin 4), k0_off72 k (BitVec.ofNat 32 c.val) 0 = 4 * k.val + c.val ∧
    k0_off72 k (BitVec.ofNat 32 c.val) 1 = 0 ∧ k0_off72 k (BitVec.ofNat 32 c.val) 2 = 0 := by decide +kernel
theorem off78_eq : ∀ (k : Fin k0_t2_loop.trips) (c : Fin 4), k0_off78 k (BitVec.ofNat 32 c.val) 0 = 0 ∧
    k0_off78 k (BitVec.ofNat 32 c.val) 1 = 128 * (4 * k.val + c.val) := by decide +kernel

section Values
variable (cw : Vec F S4x2560 .f32) (cb : Vec F S1x2560 .f32)

/-- Chunk `c` of tile `k` of the convolution's result, from the projection's tile and the eight rows before it. -/
def xBlk (k : Fin k0_t2_loop.trips) (c : Fin 4) (a : FVec F S256x512 .f32) (h : Vec F S1x8x128 .f32) : FVec F S256x128 .f32 :=
  convF (tapRows (chunkF c a) h 5) (tapRows (chunkF c a) h 6) (tapRows (chunkF c a) h 7) (tapRows (chunkF c a) h 8)
    (rd (Rect.unit (s := S4x2560) (k0_off73 k (BitVec.ofNat 32 c.val)) S1x128.size (k0_off73_inb k c)) cw)
    (rd (Rect.unit (s := S4x2560) (k0_off74 k (BitVec.ofNat 32 c.val)) S1x128.size (k0_off74_inb k c)) cw)
    (rd (Rect.unit (s := S4x2560) (k0_off75 k (BitVec.ofNat 32 c.val)) S1x128.size (k0_off75_inb k c)) cw)
    (rd (Rect.unit (s := S4x2560) (k0_off76 k (BitVec.ofNat 32 c.val)) S1x128.size (k0_off76_inb k c)) cw)
    (rd (Rect.unit (s := S1x2560) (k0_off77 k (BitVec.ofNat 32 c.val)) S1x128.size (k0_off77_inb k c)) cb)

theorem chunkV_eq (k : Fin k0_t2_loop.trips) (c : Fin 4) (a : FVec F S256x512 .f32) (C : Vec F S4x264x128 .f32) (H : Vec F S20x8x128 .f32) :
    chunkV cw cb k c (cbufV k c a C H) = xBlk cw cb k c a (rd (rH k c) H) := by
  unfold chunkV xBlk
  rw [rd_tap, rd_tap, rd_tap, rd_tap]

/-! ## One chunk -/

section Step
variable (k : Fin k0_t2_loop.trips) (c : Fin 4) (a : FVec F S256x512 .f32) (s : Conv F)

theorem conv_at (y : S256x2560.Idx) (x : S256x128.Idx) (h0 : (y 0).val = (x 0).val) (h1 : (y 1).val = 128 * (4 * k.val + c.val) + (x 1).val) :
    (convV cw cb k c a s).1 y = xBlk cw cb k c a (rd (rH k c) s.2.2) x := by
  unfold convV
  dsimp only
  rw [chunkV_eq]
  have h := off78_eq k c
  apply upd_at
  intro b
  fin_cases b
  · show (y 0).val = k0_off78 k (BitVec.ofNat 32 c.val) 0 + 1 * (x 0).val; omega
  · show (y 1).val = k0_off78 k (BitVec.ofNat 32 c.val) 1 + 1 * (x 1).val; omega

theorem conv_out (y : S256x2560.Idx) (h1 : (y 1).val / 128 ≠ 4 * k.val + c.val) : (convV cw cb k c a s).1 y = s.1 y := by
  have h := off78_eq k c
  unfold convV
  dsimp only
  exact upd_out _ _ _ _ _ y 1 (by
    show (y 1).val < k0_off78 k (BitVec.ofNat 32 c.val) 1 ∨ k0_off78 k (BitVec.ofNat 32 c.val) 1 + 128 ≤ (y 1).val
    omega)

theorem kept_at (y : S20x8x128.Idx) (x : S1x8x128.Idx) (h0 : (y 0).val = 4 * k.val + c.val) (h1 : (y 1).val = (x 1).val)
    (h2 : (y 2).val = (x 2).val) : (convV cw cb k c a s).2.2 y = lastRows (chunkF c a) x := by
  have hx0 : (x 0).val < 1 := (x 0).isLt
  unfold convV
  dsimp only
  rw [haloF_eq, rd_last]
  have h := off72_eq k c
  apply upd_at
  intro b
  fin_cases b
  · show (y 0).val = k0_off72 k (BitVec.ofNat 32 c.val) 0 + 1 * (x 0).val; omega
  · show (y 1).val = k0_off72 k (BitVec.ofNat 32 c.val) 1 + 1 * (x 1).val; omega
  · show (y 2).val = k0_off72 k (BitVec.ofNat 32 c.val) 2 + 1 * (x 2).val; omega

theorem kept_out (y : S20x8x128.Idx) (h0 : (y 0).val ≠ 4 * k.val + c.val) : (convV cw cb k c a s).2.2 y = s.2.2 y := by
  have h := off72_eq k c
  unfold convV
  dsimp only
  exact upd_out _ _ _ _ _ y 0 (by
    show (y 0).val < k0_off72 k (BitVec.ofNat 32 c.val) 0 ∨ k0_off72 k (BitVec.ofNat 32 c.val) 0 + 1 ≤ (y 0).val
    omega)

end Step

/-! ## All chunks -/

variable (K : Vec F S256x8192 .fp8e4m3) (A : Vec F S8192x4624 .fp8e4m3) (As : Vec F S1x4624 .f32) (v29 : Vec F S256x1 .f32)

/-- Chunk number `n`'s tile and place in it. -/
abbrev ckK (n : ℕ) (h : n < 20) : Fin k0_t2_loop.trips := ⟨n / 4, by have := trips2; omega⟩
abbrev ckC (n : ℕ) : Fin 4 := ⟨n % 4, by omega⟩

/-- The convolution's result. -/
def xbcV (H : Vec F S20x8x128 .f32) : Vec F S256x2560 .f32 := fun y =>
  have h1 : (y 1).val < 2560 := (y 1).isLt
  xBlk cw cb (ckK ((y 1).val / 128) (by omega)) (ckC ((y 1).val / 128)) (accV K A As v29 (ckK ((y 1).val / 128) (by omega)))
    (rd (rH (ckK ((y 1).val / 128) (by omega)) (ckC ((y 1).val / 128))) H) (ix2 (y 0) ⟨(y 1).val % 128, by omega⟩)

/-- The rows kept. -/
def haloC : Vec F S20x8x128 .f32 := fun y =>
  have h0 : (y 0).val < 20 := (y 0).isLt
  lastRows (chunkF (ckC (y 0).val) (accV K A As v29 (ckK (y 0).val (by omega)))) (ix3 ⟨0, by omega⟩ (y 1) (y 2))

theorem xBlk_congr (H : Vec F S20x8x128 .f32) (x : S256x128.Idx) (k' : Fin k0_t2_loop.trips) (c' : Fin 4) (k : Fin k0_t2_loop.trips)
    (c : Fin 4) (ek : k' = k) (ec : c' = c) :
    xBlk cw cb k' c' (accV K A As v29 k') (rd (rH k' c') H) x = xBlk cw cb k c (accV K A As v29 k) (rd (rH k c) H) x := by
  subst ek ec; rfl

theorem last_congr (x : S1x8x128.Idx) (k' : Fin k0_t2_loop.trips) (c' : Fin 4) (k : Fin k0_t2_loop.trips)
    (c : Fin 4) (ek : k' = k) (ec : c' = c) :
    lastRows (chunkF c' (accV K A As v29 k')) x = lastRows (chunkF c (accV K A As v29 k)) x := by
  subst ek ec; rfl

/-- The arrays when the first `n` chunks are done. -/
def Inv (H : Vec F S20x8x128 .f32) (n : ℕ) (s : Conv F) : Prop :=
  (∀ y : S256x2560.Idx, (y 1).val / 128 < n → s.1 y = xbcV cw cb K A As v29 H y) ∧
  (∀ y : S20x8x128.Idx, (y 0).val < n → s.2.2 y = haloC K A As v29 y) ∧
  (∀ y : S20x8x128.Idx, n ≤ (y 0).val → s.2.2 y = H y)

theorem inv_step (H : Vec F S20x8x128 .f32) (k : Fin k0_t2_loop.trips) (c : Fin 4) (n : ℕ) (e : n = 4 * k.val + c.val) (s : Conv F)
    (h : Inv cw cb K A As v29 H n s) : Inv cw cb K A As v29 H (n + 1) (convV cw cb k c (accV K A As v29 k) s) := by
  obtain ⟨hx, hk, hH⟩ := h
  have ht := trips2
  have hk5 : k.val < k0_t2_loop.trips := k.isLt
  have hc4 : c.val < 4 := c.isLt
  have eH : rd (rH k c) s.2.2 = rd (rH k c) H := by
    funext x
    have hx0 : (x 0).val < 1 := (x 0).isLt
    have h := off72_eq k c
    apply hH
    show n ≤ k0_off72 k (BitVec.ofNat 32 c.val) 0 + 1 * (x 0).val
    omega
  refine ⟨fun y hy => ?_, fun y hy => ?_, fun y hy => ?_⟩
  · have h1 : (y 1).val < 2560 := (y 1).isLt
    by_cases hn : (y 1).val / 128 = n
    · rw [conv_at cw cb k c _ s y (ix2 (y 0) ⟨(y 1).val % 128, by omega⟩) rfl
        (by show (y 1).val = 128 * (4 * k.val + c.val) + (y 1).val % 128; omega), eH]
      have ek : ckK ((y 1).val / 128) (by omega) = k := Fin.ext (by show (y 1).val / 128 / 4 = k.val; omega)
      have ec : ckC ((y 1).val / 128) = c := Fin.ext (by show (y 1).val / 128 % 4 = c.val; omega)
      exact (xBlk_congr cw cb K A As v29 H _ _ _ k c ek ec).symm
    · rw [conv_out cw cb k c _ s y (by omega)]
      exact hx y (by omega)
  · have h0 : (y 0).val < 20 := (y 0).isLt
    by_cases hn : (y 0).val = n
    · rw [kept_at cw cb k c _ s y (ix3 ⟨0, by omega⟩ (y 1) (y 2)) (by omega) rfl rfl]
      have ek : ckK (y 0).val (by omega) = k := Fin.ext (by show (y 0).val / 4 = k.val; omega)
      have ec : ckC (y 0).val = c := Fin.ext (by show (y 0).val % 4 = c.val; omega)
      exact (last_congr K A As v29 _ _ _ k c ek ec).symm
    · rw [kept_out cw cb k c _ s y (by omega)]
      exact hk y (by omega)
  · rw [kept_out cw cb k c _ s y (by omega)]
    exact hH y (by omega)

theorem inv_iter (s : Conv F) : ∀ j ≤ k0_t2_loop.trips, Inv cw cb K A As v29 s.2.2 (4 * j) (tIter K A As v29 cw cb s j) := by
  intro j
  induction j with
  | zero => exact fun _ => ⟨fun y h => absurd h (by omega), fun y h => absurd h (by omega), fun y _ => rfl⟩
  | succ j ih =>
    intro hj
    have hs := tIter_succ K A As v29 cw cb s ⟨j, hj⟩
    dsimp only at hs
    rw [hs]
    unfold tileV
    exact inv_step cw cb K A As v29 s.2.2 ⟨j, hj⟩ 3 (4 * j + 3) rfl _
      (inv_step cw cb K A As v29 s.2.2 ⟨j, hj⟩ 2 (4 * j + 2) rfl _
        (inv_step cw cb K A As v29 s.2.2 ⟨j, hj⟩ 1 (4 * j + 1) rfl _
          (inv_step cw cb K A As v29 s.2.2 ⟨j, hj⟩ 0 (4 * j) rfl _ (ih (by omega)))))

/-- The convolution's result after the body. -/
theorem tFin_xbc (s : Conv F) : (tFin K A As v29 cw cb s).1 = xbcV cw cb K A As v29 s.2.2 := by
  funext y
  have h1 : (y 1).val < 2560 := (y 1).isLt
  have ht := trips2
  exact (inv_iter cw cb K A As v29 s _ le_rfl).1 y (by omega)

/-- The rows kept after the body. -/
theorem tFin_halo (s : Conv F) : (tFin K A As v29 cw cb s).2.2 = haloC K A As v29 := by
  funext y
  have h1 : (y 0).val < 20 := (y 0).isLt
  have ht := trips2
  exact (inv_iter cw cb K A As v29 s _ le_rfl).2.1 y (by omega)

end Values

end Cert.Kernel.Own

end
-- ==== Proof.Kernel.Data.lean ====
/- The kernel's pipeline: what every window's buffer and the scratch arrays hold at each of its thirteen points. -/
module

public import proofs.«01_k».proof.Proof.Kernel.ClosedConv
public import proofs.«01_k».proof.Proof.Gen.Kernel.Frame
public import Idealize.ShloMosaic.Lib.Pipeline.DatRel
public import Idealize.ShloMosaic.Lib.Pipeline.FrameValue
public import Idealize.ShloMosaic.Lib.Pipeline.ArrRel

@[expose] public section

noncomputable section

namespace Cert.Kernel.Own

open Cert.Own
open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The values -/

/-- A grid point by its number. -/
def pt (n : ℕ) : Fin cfg0.N := ⟨min n 12, by show min n 12 < grid0.N; rw [N_0]; omega⟩

theorem pt_val (t : Fin cfg0.N) : pt t.val = t :=
  Fin.ext (Nat.min_eq_left (by have h : t.val < grid0.N := t.isLt; rw [N_0] at h; omega))

/-- The block of activations that a point reads. -/
def Xb (n : ℕ) : Vec F S256x8192 .bf16 := iblk m c 0 (pt n)
/-- The other operands, whole at every point. -/
def Wb : Vec F S1x8192 .f32 := iblk m c 1 (pt 0)
def Ab : Vec F S8192x4624 .fp8e4m3 := iblk m c 2 (pt 0)
def Sb : Vec F S1x4624 .f32 := iblk m c 3 (pt 0)
def cwb : Vec F S4x2560 .f32 := iblk m c 4 (pt 0)
def cbb : Vec F S1x2560 .f32 := iblk m c 5 (pt 0)
def dbb : Vec F S1x16 .f32 := iblk m c 6 (pt 0)

theorem iblk1 (t : Fin cfg0.N) : iblk m c 1 t = Wb m c := rfl
theorem iblk2 (t : Fin cfg0.N) : iblk m c 2 t = Ab m c := rfl
theorem iblk3 (t : Fin cfg0.N) : iblk m c 3 t = Sb m c := rfl
theorem iblk4 (t : Fin cfg0.N) : iblk m c 4 t = cwb m c := rfl
theorem iblk5 (t : Fin cfg0.N) : iblk m c 5 t = cbb m c := rfl
theorem iblk6 (t : Fin cfg0.N) : iblk m c 6 t = dbb m c := rfl

/-- Block `n`'s codes and scales. -/
def KQ (n : ℕ) : Vec F S256x8192 .fp8e4m3 := QV (Xb m c n) (Wb m c)
def SS (n : ℕ) : Vec F S256x1 .f32 := SV (Xb m c n) (Wb m c)
/-- The rows that block `n` of the projection hands to the next. -/
def HC (n : ℕ) : Vec F S20x8x128 .f32 := haloC (KQ m c n) (Ab m c) (Sb m c) (SS m c n)
/-- The rows that block `n` finds: zero at the beginning of a sequence. -/
def HI (n : ℕ) : Vec F S20x8x128 .f32 := if n % 4 = 0 then k0_pay365 (F := F) else HC m c (n - 1)

/-- Block `n` of z, of the convolution and of dt. -/
def ZB (n : ℕ) : Vec F S256x2048 .f32 := zC (KQ m c n) (Ab m c) (Sb m c) (SS m c n)
def BB (n : ℕ) : Vec F S256x2560 .f32 := xbcV (cwb m c) (cbb m c) (KQ m c n) (Ab m c) (Sb m c) (SS m c n) (HI m c n)
def TB (n : ℕ) : Vec F S256x16 .f32 := dtV (KQ m c n) (Ab m c) (Sb m c) (SS m c n) (dbb m c)

/-- The result the transfers write. -/
def GD : Vec F S3072x8192 .fp8e4m3 := fun y => KQ m c ((y 0).val / 256) (ix2 ⟨(y 0).val % 256, by omega⟩ (y 1))

/-! ## What holds between points -/

/-- Before point `t`. -/
structure Holds (t : ℕ) (Y : Vec F S256x8192 .fp8e4m3) (S : Vec F S256x1 .f32) (H : Vec F S20x8x128 .f32) (D : Vec F S3072x8192 .fp8e4m3) : Prop where
  codes : 1 ≤ t → Y = KQ m c (t - 1)
  scales : 1 ≤ t → S = SS m c (t - 1)
  kept : 2 ≤ t → H = HC m c (t - 2)
  rows : ∀ y : S3072x8192.Idx, (y 0).val / 256 + 1 < t → D y = GD m c y

/-- The scratch arrays, the result the transfers write, their semaphore. -/
def Phi (t : ℕ) : sProp 𝕄 :=
  iprop(∃ K0 S0 Y S C H D, owns (c : Thread nD τ) (Memref.whole cc0_scratch0) fullShare K0 ∗ owns (c : Thread nD τ) (Memref.whole cc0_scratch1) fullShare S0
    ∗ owns (c : Thread nD τ) (Memref.whole cc0_scratch2) fullShare Y ∗ owns (c : Thread nD τ) (Memref.whole cc0_scratch3) fullShare S
    ∗ owns (c : Thread nD τ) (Memref.whole cc0_scratch4) fullShare C ∗ owns (c : Thread nD τ) (Memref.whole cc0_scratch5) fullShare H
    ∗ owns (c : Thread nD τ) (Memref.whole main_v6_0) fullShare D
    ∗ (∃ r, prngReg c r) ∗ semVal ((c : Thread nD τ), SemLoc.dma cc0_scratch6.sem) 0
    ∗ ⌜Holds m c t Y S H D⌝)

/-- The proof data of the pipeline: the inputs' buffers at their blocks, the outputs' at what a point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => SS m c (t.val - 1)
    | ⟨8, _⟩ => ZB m c (t.val - 1)
    | ⟨9, _⟩ => BB m c (t.val - 1)
    | ⟨10, _⟩ => TB m c (t.val - 1)
    | ⟨_ + 11, h⟩ => absurd h (Nat.not_lt.2 (Nat.le_add_left _ _))
  Φ t := Phi m c t.val
  q _ := fullShare
  owed _ := 0

/-- The outputs. -/
def outs : Fin cfg0.W → Bool
  | ⟨0, _⟩ => false | ⟨1, _⟩ => false | ⟨2, _⟩ => false | ⟨3, _⟩ => false | ⟨4, _⟩ => false | ⟨5, _⟩ => false | ⟨6, _⟩ => false
  | ⟨7, _⟩ => true | ⟨8, _⟩ => true | ⟨9, _⟩ => true | ⟨10, _⟩ => true
  | ⟨_ + 11, h⟩ => absurd h (Nat.not_lt.2 (Nat.le_add_left _ _))

/-- What a point leaves in an output's buffer: from the second point on, the block before. -/
def left (w : Fin cfg0.W) (t : Fin cfg0.N) (X : (cfg0.win w).block.Idx → Elt F (cfg0.win w).elt) : Prop :=
  1 ≤ t.val → X = (dats m 0 c).after w t

theorem A_eq (w : Fin cfg0.W) : (dats m 0 c).A w = V m c (Pipeline.arrRef spec0 w) := by
  dsimp only [dats]

section Before
variable (t : Fin cfg0.N)

theorem before_0 (d) : (dats m 0 c).before 0 t d = iblk m c 0 t :=
  ((dats m 0 c).before_in_eq_fetched 0 rfl (fun _ => rfl) (fun _ _ _ => rfl) (fun t => rfl) t d).trans rfl
theorem before_1 (d) : (dats m 0 c).before 1 t d = Wb m c :=
  ((dats m 0 c).before_in_eq_fetched 1 rfl (fun _ => rfl) (fun _ _ _ => rfl) (fun t => rfl) t d).trans rfl
theorem before_2 (d) : (dats m 0 c).before 2 t d = Ab m c :=
  ((dats m 0 c).before_in_eq_fetched 2 rfl (fun _ => rfl) (fun _ _ _ => rfl) (fun t => rfl) t d).trans rfl
theorem before_3 (d) : (dats m 0 c).before 3 t d = Sb m c :=
  ((dats m 0 c).before_in_eq_fetched 3 rfl (fun _ => rfl) (fun _ _ _ => rfl) (fun t => rfl) t d).trans rfl
theorem before_4 (d) : (dats m 0 c).before 4 t d = cwb m c :=
  ((dats m 0 c).before_in_eq_fetched 4 rfl (fun _ => rfl) (fun _ _ _ => rfl) (fun t => rfl) t d).trans rfl
theorem before_5 (d) : (dats m 0 c).before 5 t d = cbb m c :=
  ((dats m 0 c).before_in_eq_fetched 5 rfl (fun _ => rfl) (fun _ _ _ => rfl) (fun t => rfl) t d).trans rfl
theorem before_6 (d) : (dats m 0 c).before 6 t d = dbb m c :=
  ((dats m 0 c).before_in_eq_fetched 6 rfl (fun _ => rfl) (fun _ _ _ => rfl) (fun t => rfl) t d).trans rfl

end Before

/-! ## The grid -/

theorem off1_eq : ∀ t : Fin grid0.N, k0_off1 (grid0.coords t) 0 = (t.val - 1) * 256 ∧ k0_off1 (grid0.coords t) 1 = 0 := by decide +kernel
theorem reset_eq : ∀ t : Fin grid0.N, 1 ≤ t.val → (resetBit (grid0.coords t) = 1#1 ↔ (t.val - 1) % 4 = 0) := by decide +kernel

end Cert.Kernel.Own

end
-- ==== Proof.Kernel.Point.lean ====
/- One point of the kernel's pipeline: the body takes what holds before the point to what holds after it. -/
module

public import proofs.«01_k».proof.Proof.Kernel.Data

@[expose] public section

noncomputable section

namespace Cert.Kernel.Own

open Cert.Own
open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

section Step
variable {m c} {t : Fin cfg0.N} {Y : Vec F S256x8192 .fp8e4m3} {S : Vec F S256x1 .f32} {H : Vec F S20x8x128 .f32} {D : Vec F S3072x8192 .fp8e4m3}

/-- The rows a point finds. -/
theorem halo_eq (h : Holds m c t.val Y S H D) (ht : 1 ≤ t.val) : haloV (grid0.coords t) H = HI m c (t.val - 1) := by
  have hr := reset_eq t ht
  unfold haloV HI
  by_cases e : (t.val - 1) % 4 = 0
  · rw [if_pos (hr.2 e), if_pos e]
  · rw [if_neg (fun h' => e (hr.1 h')), if_neg e]
    exact h.kept (by omega)

/-- What holds after a point. -/
theorem holds_succ (h : Holds m c t.val Y S H D) :
    Holds m c (t.val + 1) (QV (Xb m c t.val) (Wb m c)) (SV (Xb m c t.val) (Wb m c)) (haloC Y (Ab m c) (Sb m c) S) (upd (rD (grid0.coords t)) Y D) := by
  refine ⟨fun _ => rfl, fun _ => rfl, fun ht => ?_, fun y hy => ?_⟩
  · rw [h.codes (by omega), h.scales (by omega)]; rfl
  · have ho := off1_eq t
    by_cases e : (y 0).val / 256 + 1 = t.val
    · rw [h.codes (by omega)]
      unfold GD
      have e' : (y 0).val / 256 = t.val - 1 := by omega
      rw [e']
      apply upd_at
      intro a
      fin_cases a
      · show (y 0).val = k0_off1 (grid0.coords t) 0 + 1 * ((y 0).val % 256)
        rw [ho.1]; omega
      · show (y 1).val = k0_off1 (grid0.coords t) 1 + 1 * (y 1).val
        rw [ho.2]; omega
    · rw [upd_out _ _ _ _ _ y 0 (by
        show (y 0).val < k0_off1 (grid0.coords t) 0 ∨ k0_off1 (grid0.coords t) 0 + 256 ≤ (y 0).val
        rw [ho.1]; omega)]
      exact h.rows y (by omega)

end Step

def pointPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel outs (left m c)).Finds 7 t Y⌝ ∗ owns (c : Thread nD τ) (st0_7 t) fullShare Y)
    ∗ (∃ Y, ⌜((dats m 0 c).toRRel outs (left m c)).Finds 8 t Y⌝ ∗ owns (c : Thread nD τ) (st0_8 t) fullShare Y)
    ∗ (∃ Y, ⌜((dats m 0 c).toRRel outs (left m c)).Finds 9 t Y⌝ ∗ owns (c : Thread nD τ) (st0_9 t) fullShare Y)
    ∗ (∃ Y, ⌜((dats m 0 c).toRRel outs (left m c)).Finds 10 t Y⌝ ∗ owns (c : Thread nD τ) (st0_10 t) fullShare Y))

def pointPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜left m c 7 t X⌝ ∗ owns (c : Thread nD τ) (st0_7 t) fullShare X)
    ∗ (∃ X, ⌜left m c 8 t X⌝ ∗ owns (c : Thread nD τ) (st0_8 t) fullShare X)
    ∗ (∃ X, ⌜left m c 9 t X⌝ ∗ owns (c : Thread nD τ) (st0_9 t) fullShare X)
    ∗ (∃ X, ⌜left m c 10 t X⌝ ∗ owns (c : Thread nD τ) (st0_10 t) fullShare X))

theorem sound_point (t : Fin cfg0.N) :
    pointPre m c t ⊢ wp frame (wpE (defs₀ (F := F)) Variants.none (c : Thread nD τ) none) Set.univ (bodyAt0 t) (fun _ => pointPost m c t) := by
  unfold pointPre pointPost
  simp only [before_0, before_1, before_2, before_3, before_4, before_5, before_6]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi
  iintro ⟨⟨%K0, %S0, %Y, %S, %C, %H, %D, H13, H14, H15, H16, H17, H18, H8, Hg, Hv, %hI⟩, ⟨%Wt, -, HO⟩, ⟨%d0, H1⟩, ⟨%d1, H2⟩, ⟨%d2, H3⟩, ⟨%d3, H4⟩,
    ⟨%d4, H5⟩, ⟨%d5, H6⟩, ⟨%d6, H7⟩, ⟨%x0, -, H9⟩, ⟨%Z, -, H10⟩, ⟨%B, -, H11⟩, ⟨%T, -, H12⟩⟩
  iapply (wp_body (F := F) (grid0.coords t) _ _ _ _ _ _ _ _ _ _ _ _ _ _ _ _ _ _ _ _ _ _ _ _ _ _ _ _ _ _ _ _ _ _ _ _ cc0_scratch6 Variants.none c none
    (s := (B, C, H))) $$ H1 H2 H3 H4 H5 H6 H7 H8 H9 H10 H11 H12 H13 H14 H15 H16 H17 H18 Hv HO
  iintro H1 H2 H3 H4 H5 H6 H7 H8 H9 H10 H11 H12 H13 H14 H15 H16 H17 H18 Hv HO
  rw [qFin_eq, sFin_eq, zFin_eq, tFin_xbc, tFin_halo]
  isplitl [H8 H13 H14 H15 H16 H17 H18 Hg Hv]
  · iexists _, _, _, _, _, _, _
    isplitl [H13]; · iexact H13
    isplitl [H14]; · iexact H14
    isplitl [H15]; · iexact H15
    isplitl [H16]; · iexact H16
    isplitl [H17]; · iexact H17
    isplitl [H18]; · iexact H18
    isplitl [H8]; · iexact H8
    isplitl [Hg]; · iexact Hg
    isplitl [Hv]; · iexact Hv
    ipureintro
    have h := holds_succ hI
    unfold Xb at h
    rw [pt_val] at h
    exact h
  isplitl [HO]
  · iexists (insert (SemLoc.dma cc0_scratch6.sem, ()) Wt); isplitr; · ipureintro; exact fun _ _ => Or.inl trivial
    iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]
  · iexists _; isplitr; swap; · iexact H9
    ipureintro; intro ht; exact hI.scales ht
  isplitl [H10]
  · iexists _; isplitr; swap; · iexact H10
    ipureintro; intro ht; rw [hI.codes ht, hI.scales ht]; rfl
  isplitl [H11]
  · iexists _; isplitr; swap; · iexact H11
    ipureintro; intro ht; dsimp only; rw [halo_eq hI ht, hI.codes ht, hI.scales ht]; rfl
  iexists _; isplitr; swap; · iexact H12
  ipureintro; intro ht; rw [hI.codes ht, hI.scales ht]; rfl

theorem defs₀_row (t : Fin cfg0.N) :
    defs₀ (F := F) .tc cfg0.body (cfg0.bodyArgs t (cfg0.slots t)) = bodyAt0 t := by
  unfold defs₀; rw [Defs.onTc_tc]

theorem body_rel : Pipeline.BodyObligationRel (dats m 0 c) (defs₀ (F := F)) Variants.none () Set.univ outs (left m c) := fun t => by
  rw [bigSep_W0, bigSep_W0, defs₀_row]
  exact triple_restated (sound_point m c t) rfl .rfl fun _ => .rfl

end Cert.Kernel.Own

end
-- ==== Proof.Kernel.Run.lean ====
/- The kernel's run: it ends, its arguments unchanged, its semaphores at zero, its results at the points' blocks. -/
module

public import proofs.«01_k».proof.Proof.Kernel.Point

@[expose] public section

noncomputable section

namespace Cert.Kernel.Own

open Cert.Own
open Cert.Kernel Cert.Kernel.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds of its own -/

/-- Its semaphore. -/
abbrev osem : Fin 1 → SemLoc sig := fun j => (![SemLoc.dma cc0_scratch6.sem] : Fin 1 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma cc0_scratch6.sem) 0 := by
  rw [Pipeline.ownSems0_eq_of_list c osem [0] (by decide) (by decide)]; rfl

/-- The result its transfers write. -/
def R0 : Finset (Ref sig .tc) := {main_v6_0}
theorem R0_sub : R0 ⊆ Pipeline.restRefs sig spec0 \ ∅ := by decide

theorem routed_eq (G : (b : Ref sig .tc) → Buf (Elt F) ((c.tc : Thread nD τ).loc b)) :
    (Pipeline.routed R0 c G : sProp 𝕄) = (((c : Thread nD τ).loc main_v6_0) ↦{fullShare} G main_v6_0) := by
  unfold Pipeline.routed
  rw [BI.bigSep_eq_bigSepL_of_eq [main_v6_0] (by decide) (by decide)]; rfl

/-- What is in the unscoped buffers when the region ends, of those that the transfers write. -/
def GR (b : Ref sig .tc) : Buf (Elt F) ((c.tc : Thread nD τ).loc b) :=
  if h : b = main_v6_0 then h ▸ (GD m c : Buf (Elt F) ((c.tc : Thread nD τ).loc main_v6_0)) else V m c b

theorem GR_eq : GR m c main_v6_0 = GD m c := dif_pos rfl

theorem Phi_in : (Pipeline.ΦDRG osem spec0 ∅ R0 (V m) (V m) c : sProp 𝕄) ⊢ (dats m 0 c).Φ 0 := by
  rw [show (dats m 0 c).Φ 0 = Phi m c 0 from rfl, Pipeline.ΦDRG_eq, scopedRest0_eq, osem_eq, routed_eq]
  unfold Phi
  simp only [owns_whole]
  iintro ⟨⟨⟨%K0, H0⟩, ⟨%S0, H1⟩, ⟨%Y, H2⟩, ⟨%S, H3⟩, ⟨%C, H4⟩, ⟨%H, H5⟩⟩, Hg, Hv, -, HD⟩
  iexists K0, S0, Y, S, C, H, (V m c main_v6_0)
  isplitl [H0]; · iexact H0
  isplitl [H1]; · iexact H1
  isplitl [H2]; · iexact H2
  isplitl [H3]; · iexact H3
  isplitl [H4]; · iexact H4
  isplitl [H5]; · iexact H5
  isplitl [HD]; · iexact HD
  isplitl [Hg]; · iexact Hg
  isplitl [Hv]; · iexact Hv
  ipureintro
  exact ⟨fun h => absurd h (by omega), fun h => absurd h (by omega), fun h => absurd h (by omega), fun y h => absurd h (by omega)⟩

theorem Phi_out : (dats m 0 c).Φ (Fin.last cfg0.N) ⊢ (Pipeline.ΦDRG osem spec0 ∅ R0 (V m) (GR m) c : sProp 𝕄) := by
  rw [show (dats m 0 c).Φ (Fin.last cfg0.N) = Phi m c grid0.N from rfl, Pipeline.ΦDRG_eq, scopedRest0_eq, osem_eq, routed_eq, GR_eq]
  unfold Phi
  simp only [owns_whole]
  iintro ⟨%K0, %S0, %Y, %S, %C, %H, %D, H0, H1, H2, H3, H4, H5, HD, Hg, Hv, %hI⟩
  have e : D = GD m c := by
    funext y
    have h0 : (y 0).val < 3072 := (y 0).isLt
    exact hI.rows y (by rw [N_0]; omega)
  subst e
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  isplitl [Hg]; · iexact Hg
  isplitl [Hv]; · iexact Hv
  isplitr
  · rw [BI.bigSep_empty]
    iempintro
  iexact HD

/-! ## The run -/

/-- The data, the outputs known from the second point on. -/
abbrev rdats (c : Dev nD) : RDat τ (Elt F) Unit ℕ (Pipeline.UD sig nD τ) ℕ cfg0 c := (dats m 0 c).toRRel outs (left m c)

set_option backward.isDefEq.respectTransparency.types false in
theorem run_main : θ_run defs (onTc (τ := τ) (main (F := F))) (s₀ m ρ)
    (fun r => RDat.FramePostRG cfg0 (rdats m) R0 (V m) (GR m) r ∧ r.2.sem = fun _ => 0) :=
  RDat.θ_run_frame_dmaRG (Q' := _) cfgs (0 : Fin 1) launch0 osem defs₀ Variants.none (rdats m) osem_facts ∅ R0 (by decide) R0_sub m ρ main
    (hbody := fun c => (body_rel m c).toRRel) (hshare := fun c => (dats m 0 c).share_full fun _ => rfl)
    (howed := fun _ _ => rfl) (V := V m) (hmain := main_prefix m Variants.none) (hA := A_eq m) (G := GR m)
    (hin := Phi_in m) (hout := Phi_out m) (hQ' := fun _ h => h)

/-- The arguments are as they were. -/
theorem kept {r : PUnit × MemSt nD τ sig (Elt F)} (hR : RDat.FramePostR cfg0 (rdats m) R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rest : ∀ (b : Ref sig .tc) (hb : b ∈ Pipeline.restRefs sig spec0 \ R0), r.2.mem ((c.tc : Thread nD τ).loc b) = V m c b :=
    fun b hb => (hR c).2 b hb
  have inp : ∀ (w : Fin cfg0.W) (hw : (cfg0.win w).isOut = false),
      r.2.mem ((cfg0.spec w).arr.view.loc (c.tc : Thread nD τ)) = V m c (Pipeline.arrRef spec0 w) := fun w hw => by
    have h := (hR c).1 w
    rw [RDat.ArrAt_in _ w hw] at h
    exact h.trans (A_eq m c w)
  exact ⟨(rest main_arg0 (by decide)).trans (V_main_arg0 m c), (rest main_arg1 (by decide)).trans (V_main_arg1 m c),
    (inp 2 rfl).trans (V_main_arg2 m c), (rest main_arg3 (by decide)).trans (V_main_arg3 m c), (inp 4 rfl).trans (V_main_arg4 m c),
    (rest main_arg5 (by decide)).trans (V_main_arg5 m c), (rest main_arg6 (by decide)).trans (V_main_arg6 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m h.1.toR c, h.2⟩) (run_main m ρ)

end Cert.Kernel.Own

end
-- ==== Proof.KernelIdeal.Strip.lean ====
/- The quantisation of one strip of 32 rows, as a program of its own: three passes over the 64 lane blocks of 128
   columns (sum of squares, largest magnitude, codes), each pass a recursion over the blocks, and last the
   strip's scale. The two loops of the kernel run this strip; `Body.lean` says so by unfolding. -/
module

public import proofs.«01_k».proof.Proof.Gen.KernelIdeal.Skeleton

@[expose] public section

noncomputable section

namespace Cert.KernelIdeal.Own

open Cert.KernelIdeal Cert.KernelIdeal.Gen
open Idealize.ShloMosaic Idealize.SL.Sem

variable {F : FTy → Type} [FloatOps F]

/-! ## The values -/

/-- A block of the strip, in f32. -/
def xF (v : Vec F S32x128 .bf16) : FVec F S32x128 .f32 :=
  extf .f32 (shapeCast S32x128 v shapeCasts_S32x128_S32x128) bitsLt_bf16_f32

/-- The running sum of squares takes in one more block. -/
def sqF (s : FVec F S32x128 .f32) (v : Vec F S32x128 .bf16) : FVec F S32x128 .f32 := addf s (mulf (xF v) (xF v))

/-- A block of zeros. -/
def zeroF : FVec F S32x128 .f32 := broadcast S32x128 (Scalar.ofBits .f32 0x00000000#32)

/-- Each row's reciprocal root mean square, from the two partial sums. -/
def rmsF (s : FVec F S32x128 .f32 × FVec F S32x128 .f32) : FVec F S32x1 .f32 :=
  rsqrt (addf (mulf (shapeCast S32x1 (multiReduction .add [1] S32 (addf s.1 s.2) 0x00000000#32 reduces_S32x128_S32 (.inl rfl) rfl) shapeCasts_S32_S32x1)
    (broadcast S32x1 (Scalar.ofBits .f32 0x39000000#32))) (broadcast S32x1 (Scalar.ofBits .f32 0x3727C5AC#32)))

/-- A normalised block. -/
def hnF (r : FVec F S32x1 .f32) (v : Vec F S32x128 .bf16) (w : Vec F S1x128 .f32) : FVec F S32x128 .f32 :=
  mulf (mulf (xF v) (broadcastTo S32x128 r broadcasts_S32x1_S32x128))
    (broadcastTo S32x128 (shapeCast S1x128 w shapeCasts_S1x128_S1x128) broadcasts_S1x128_S32x128)

/-- The running largest magnitude takes in one more block. -/
def amF (r : FVec F S32x1 .f32) (a : FVec F S32x128 .f32) (v : Vec F S32x128 .bf16) (w : Vec F S1x128 .f32) :
    FVec F S32x128 .f32 := maximumf a (absf (hnF r v w))

/-- Each row's largest magnitude, as a multiple of the largest code. -/
def ratioF (a : FVec F S32x128 .f32 × FVec F S32x128 .f32) : FVec F S32x1 .f32 :=
  mulf (shapeCast S32x1 (multiReduction .maximumf [1] S32 (maximumf a.1 a.2) 0xFF800000#32 reduces_S32x128_S32 (.inl rfl) rfl) shapeCasts_S32_S32x1)
    (broadcast S32x1 (Scalar.ofBits .f32 0x3B124925#32))

/-- One rung of the search for the biased exponent. -/
def rungF (y : FVec F S32x1 .f32) (b : IVec S32x1 32) (k : BitVec 32) : IVec S32x1 32 :=
  select (cmpf .oge y (bitcastToFloat .f32 (shli (addi b (broadcast S32x1 k)) (broadcast S32x1 23#32))))
    (addi b (broadcast S32x1 k)) b

/-- The biased exponent, from the largest rung down. -/
def biasedF (y : FVec F S32x1 .f32) : IVec S32x1 32 :=
  rungF y (rungF y (rungF y (rungF y (rungF y (rungF y (rungF y (rungF y (broadcast S32x1 0#32) 128#32) 64#32) 32#32) 16#32) 8#32) 4#32) 2#32) 1#32

/-- The exponent. -/
def expF (y : FVec F S32x1 .f32) : IVec S32x1 32 :=
  select (ori (cmpi .eq (biasedF y) (broadcast S32x1 0#32)) (cmpi .eq (biasedF y) (broadcast S32x1 255#32)))
    (broadcast S32x1 0#32) (subi (biasedF y) (broadcast S32x1 126#32))

/-- The scale. -/
def scaleF (y : FVec F S32x1 .f32) : FVec F S32x1 .f32 :=
  bitcastToFloat .f32 (shli (addi (expF y) (broadcast S32x1 127#32)) (broadcast S32x1 23#32))

/-- The scale's reciprocal. -/
def invF (y : FVec F S32x1 .f32) : FVec F S32x1 .f32 :=
  bitcastToFloat .f32 (shli (maxsi (subi (broadcast S32x1 127#32) (expF y)) (broadcast S32x1 0#32)) (broadcast S32x1 23#32))

/-- The codes of a block. -/
def codeF (r i : FVec F S32x1 .f32) (v : Vec F S32x128 .bf16) (w : Vec F S1x128 .f32) : FVec F S32x128 .fp8e4m3 :=
  shapeCast S32x128 (truncf .fp8e4m3 (minimumf (broadcast S32x128 (Scalar.ofBits .f32 0x43E00000#32))
    (maximumf (broadcast S32x128 (Scalar.ofBits .f32 0xC3E00000#32)) (mulf (hnF r v w) (broadcastTo S32x128 i broadcasts_S32x1_S32x128))))
    bitsLt_fp8e4m3_f32) shapeCasts_S32x128_S32x128

/-! ## The program -/

/-- Where block `c` of the strip at row `n` begins. -/
def xOff (n c : ℕ) : Fin 2 → ℕ := ![n, 128 * c]

theorem xOff_inb {n c : ℕ} (hn : n + 32 ≤ 256) (hc : c < 64) : ∀ a, xOff n c a + S32x128.size a ≤ S256x8192.size a := by
  intro a; fin_cases a
  · exact hn
  · show 128 * c + 128 ≤ 8192; omega

theorem wOff_inb {c : ℕ} (hc : c < 64) : ∀ a, xOff 0 c a + S1x128.size a ≤ S1x8192.size a := by
  intro a; fin_cases a
  · show 0 + 1 ≤ 1; omega
  · show 128 * c + 128 ≤ 8192; omega

theorem sOff_inb {n : ℕ} (hn : n + 32 ≤ 256) : ∀ a, (![n, 0] : Fin 2 → ℕ) a + S32x1.size a ≤ S256x1.size a := by
  intro a; fin_cases a
  · exact hn
  · show 0 + 1 ≤ 1; omega

/-- The rows of a strip are whole words of the codes' buffer. -/
theorem xOff_packed {n c : ℕ} (hn : n + 32 ≤ 256) (hc : c < 64) (h4 : 4 ∣ n) :
    (Rect.unit (s := S256x8192) (xOff n c) S32x128.size (xOff_inb hn hc)).PackedRows (EltTy.packing .fp8e4m3) :=
  .inr ⟨by decide, rfl, .inl ⟨by show 4 ∣ n; exact h4, by show 4 ∣ 32; decide⟩⟩

section
variable (arg1 : Memref sig .tc .vmem S256x8192 .bf16) (arg2 : Memref sig .tc .vmem S1x8192 .f32)
  (arg15 : Memref sig .tc .vmem S256x8192 .fp8e4m3) (harg15 : arg15.IsWhole) (arg16 : Memref sig .tc .vmem S256x1 .f32)
variable (n : ℕ) (hn : n + 32 ≤ 256) (h4 : 4 ∣ n)

/-- Load block `c` of the strip. -/
def ldX (c : ℕ) (hc : c < 64) : Prog (TpuEff nD τ sig (Elt F) Λ₀ .tc) (Vec F S32x128 .bf16) :=
  Prog.lift (.load arg1 (Rect.unit (s := S256x8192) (xOff n c) S32x128.size (xOff_inb hn hc)).toLoadRect (View.loadsAt_vmem h_S32x128))

/-- Load block `c` of the norm's weights. -/
def ldW (c : ℕ) (hc : c < 64) : Prog (TpuEff nD τ sig (Elt F) Λ₀ .tc) (Vec F S1x128 .f32) :=
  Prog.lift (.load arg2 (Rect.unit (s := S1x8192) (xOff 0 c) S1x128.size (wOff_inb hc)).toLoadRect (View.loadsAt_vmem h_S1x128))

/-- The first pass, from pair `c` of blocks on. -/
def sumLoop : (f c : ℕ) → c + f = 32 → FVec F S32x128 .f32 × FVec F S32x128 .f32 →
    Prog (TpuEff nD τ sig (Elt F) Λ₀ .tc) (FVec F S32x128 .f32 × FVec F S32x128 .f32)
  | 0, _, _, s => pure s
  | f + 1, c, h, s => do
    let v ← ldX arg1 n hn (2 * c) (by omega)
    let v' ← ldX arg1 n hn (2 * c + 1) (by omega)
    sumLoop f (c + 1) (by omega) (sqF s.1 v, sqF s.2 v')

/-- The second pass, from pair `c` of blocks on. -/
def maxLoop (r : FVec F S32x1 .f32) : (f c : ℕ) → c + f = 32 → FVec F S32x128 .f32 × FVec F S32x128 .f32 →
    Prog (TpuEff nD τ sig (Elt F) Λ₀ .tc) (FVec F S32x128 .f32 × FVec F S32x128 .f32)
  | 0, _, _, s => pure s
  | f + 1, c, h, s => do
    let v ← ldX arg1 n hn (2 * c) (by omega)
    let w ← ldW arg2 (2 * c) (by omega)
    let v' ← ldX arg1 n hn (2 * c + 1) (by omega)
    let w' ← ldW arg2 (2 * c + 1) (by omega)
    maxLoop r f (c + 1) (by omega) (amF r s.1 v w, amF r s.2 v' w')

/-- Store the codes of block `c`. -/
def stQ (c : ℕ) (hc : c < 64) (q : FVec F S32x128 .fp8e4m3) : Prog (TpuEff nD τ sig (Elt F) Λ₀ .tc) PUnit := do
  let _ ← Prog.lift (.load arg15 (Rect.unit (s := S256x8192) (xOff n c) S32x128.size (xOff_inb hn hc)).toLoadRect (View.loadsAt_vmem h_S32x128))
  Prog.lift (.store arg15 (Rect.unit (s := S256x8192) (xOff n c) S32x128.size (xOff_inb hn hc)) q Finset.univ
    (View.stores_vmem h_S32x128 (harg15.storeExact_slice rfl _ (xOff_packed hn hc h4)) (fun _ => rfl)) (.inl rfl))

/-- The third pass, from block `c` on. -/
def codeLoop (r i : FVec F S32x1 .f32) : (f c : ℕ) → c + f = 64 → Prog (TpuEff nD τ sig (Elt F) Λ₀ .tc) PUnit
  | 0, _, _ => pure ⟨⟩
  | f + 1, c, h => do
    let v ← ldX arg1 n hn c (by omega)
    let w ← ldW arg2 c (by omega)
    stQ arg15 harg15 n hn h4 c (by omega) (codeF r i v w)
    codeLoop r i f (c + 1) (by omega)

/-- Store the strip's scales. -/
def stS (y : FVec F S32x1 .f32) : Prog (TpuEff nD τ sig (Elt F) Λ₀ .tc) PUnit := do
  let _ ← Prog.lift (.load arg16 (Rect.unit (s := S256x1) ![n, 0] S32x1.size (sOff_inb hn)).toLoadRect (View.loadsAt_vmem h_S32x1))
  Prog.lift (.store arg16 (Rect.unit (s := S256x1) ![n, 0] S32x1.size (sOff_inb hn)) (shapeCast S32x1 (scaleF y) shapeCasts_S32x1_S32x1) Finset.univ
    (View.stores_vmem_bits_univ h_S32x1 rfl) (.inl rfl))

/-- The strip. -/
def strip : Prog (TpuEff nD τ sig (Elt F) Λ₀ .tc) PUnit := do
  let s ← sumLoop arg1 n hn 32 0 rfl (zeroF, zeroF)
  let a ← maxLoop arg1 arg2 n hn (rmsF s) 32 0 rfl (zeroF, zeroF)
  codeLoop arg1 arg2 arg15 harg15 n hn h4 (rmsF s) (invF (ratioF a)) 64 0 rfl
  stS arg16 n hn (ratioF a)

end

end Cert.KernelIdeal.Own

end
-- ==== Proof.KernelIdeal.Trip1.lean ====
/- A trip of the kernel's first loop is a tile of z and a strip's quantisation. -/
module

public import proofs.«01_k».proof.Proof.KernelIdeal.Strip

@[expose] public section

noncomputable section

namespace Cert.KernelIdeal.Own

open Cert.KernelIdeal Cert.KernelIdeal.Gen
open Idealize.ShloMosaic Idealize.SL.Sem

variable {F : FTy → Type} [FloatOps F]

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)

/-- The first loop's strip begins at this row. -/
def row1 (k : Fin k0_t1_loop.trips) : ℕ := k0_off5 k 0
theorem row1_inb (k : Fin k0_t1_loop.trips) : row1 k + 32 ≤ 256 := k0_off5_inb k 0
theorem row1_dvd : ∀ k : Fin k0_t1_loop.trips, 4 ∣ row1 k := by decide +kernel

/-- A tile of z. -/
def zTile (v29 : Vec F S256x1 .f32) (k0_t1 : Fin k0_t1_loop.trips) : Prog (TpuEff nD τ sig (Elt F) Λ₀ .tc) PUnit := do
  let v64 : Vec F S256x8192 .fp8e4m3 ← Prog.lift (.load arg13 (Rect.unit (s := S256x8192) ![0, 0] S256x8192.size inb_S256x8192_S256x8192_0_0).toLoadRect (View.loadsAt_vmem h_S256x8192))
  let v66 : Vec F S8192x512 .fp8e4m3 ← Prog.lift (.load arg3 (Rect.unit (s := S8192x4624) (k0_off2 k0_t1) S8192x512.size (k0_off2_inb k0_t1)).toLoadRect (View.loadsAt_vmem h_S8192x512))
  let v71 : Vec F S1x512 .f32 ← Prog.lift (.load arg4 (Rect.unit (s := S1x4624) (k0_off3 k0_t1) S1x512.size (k0_off3_inb k0_t1)).toLoadRect (View.loadsAt_vmem h_S1x512))
  let v80 : Vec F S256x512 .f32 ← Prog.lift (.load arg10 (Rect.unit (s := S256x2048) (k0_off4 k0_t1) S256x512.size (k0_off4_inb k0_t1)).toLoadRect (View.loadsAt_vmem h_S256x512))
  Prog.lift (.store arg10 (Rect.unit (s := S256x2048) (k0_off4 k0_t1) S256x512.size (k0_off4_inb k0_t1)) (k0_pay1 v29 v64 v66 v71) Finset.univ (View.stores_vmem_bits_univ h_S256x512 rfl) (.inl rfl))

set_option maxRecDepth 65536 in
set_option maxHeartbeats 4000000 in
theorem trip1_eq (v29 : Vec F S256x1 .f32) (k : Fin k0_t1_loop.trips) :
    k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29 k () =
      (do zTile arg3 arg4 arg10 arg13 v29 k
          strip arg1 arg2 arg15 harg15 arg16 (row1 k) (row1_inb k) (row1_dvd k)) := rfl

end

end Cert.KernelIdeal.Own

end
-- ==== Proof.KernelIdeal.Trip2.lean ====
/- A trip of the kernel's second loop is four chunks of the convolution and a strip's quantisation. -/
module

public import proofs.«01_k».proof.Proof.KernelIdeal.Strip

@[expose] public section

noncomputable section

namespace Cert.KernelIdeal.Own

open Cert.KernelIdeal Cert.KernelIdeal.Gen
open Idealize.ShloMosaic Idealize.SL.Sem

variable {F : FTy → Type} [FloatOps F]

/-! ## The values -/

/-- A tile of the projection, scaled back. -/
def accF (v29 : Vec F S256x1 .f32) (v65 : Vec F S256x8192 .fp8e4m3) (v67 : Vec F S8192x512 .fp8e4m3) (v72 : Vec F S1x512 .f32) :
    FVec F S256x512 .f32 :=
  mulf (mulf (matmul dot_S256x8192_S8192x512_S256x512_1_0_0_1_n_n none v65 v67 (constant S256x512 .f32 0x00000000#32))
    (broadcastTo S256x512 v29 broadcasts_S256x1_S256x512))
    (broadcastTo S256x512 (shapeCast S1x512 v72 shapeCasts_S1x512_S1x512) broadcasts_S1x512_S256x512)

theorem chunk_slices (c : Fin 4) : S256x512.Slices ![0, 128 * c.val] S256x128 := by
  revert c; decide

/-- A chunk of 128 columns of the tile. -/
def chunkF (c : Fin 4) (a : FVec F S256x512 .f32) : FVec F S256x128 .f32 :=
  extractStridedSlice S256x128 ![0, 128 * c.val] a (chunk_slices c)

/-- One tap of the convolution. -/
def tapF (v : Vec F S1x256x128 .f32) (w : Vec F S1x128 .f32) : FVec F S256x128 .f32 :=
  mulf (shapeCast S256x128 v shapeCasts_S1x256x128_S256x128) (broadcastTo S256x128 w broadcasts_S1x128_S256x128)

/-- A chunk of the convolution and its activation. -/
def convF (v0 v1 v2 v3 : Vec F S1x256x128 .f32) (w0 w1 w2 w3 b : Vec F S1x128 .f32) : FVec F S256x128 .f32 :=
  mulf (addf (addf (addf (addf (tapF v0 w0) (tapF v1 w1)) (tapF v2 w2)) (tapF v3 w3))
      (broadcastTo S256x128 (shapeCast S1x128 b shapeCasts_S1x128_S1x128) broadcasts_S1x128_S256x128))
    (logistic (addf (addf (addf (addf (tapF v0 w0) (tapF v1 w1)) (tapF v2 w2)) (tapF v3 w3))
      (broadcastTo S256x128 (shapeCast S1x128 b shapeCasts_S1x128_S1x128) broadcasts_S1x128_S256x128)))

/-- Eight rows, copied. -/
def haloF (v : Vec F S1x8x128 .f32) : FVec F S1x8x128 .f32 :=
  shapeCast S1x8x128 (shapeCast S8x128 v shapeCasts_S1x8x128_S8x128) shapeCasts_S8x128_S1x8x128

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)

/-- The second loop's strip begins at this row. -/
def row2 (k : Fin k0_t2_loop.trips) : ℕ := k0_off79 k 0
theorem row2_inb (k : Fin k0_t2_loop.trips) : row2 k + 32 ≤ 256 := k0_off79_inb k 0
theorem row2_dvd : ∀ k : Fin k0_t2_loop.trips, 4 ∣ row2 k := by decide +kernel

theorem cb8_inb (c : Fin 4) : ∀ a, (![c.val, 0, 0] : Fin 3 → ℕ) a + S1x8x128.size a ≤ S4x264x128.size a := by
  revert c; decide
theorem cbt_inb (c : Fin 4) (r : Fin 9) : ∀ a, (![c.val, r.val, 0] : Fin 3 → ℕ) a + S1x256x128.size a ≤ S4x264x128.size a := by
  revert c r; decide
theorem cbe_inb (c : Fin 4) : ∀ a, (![c.val, 256, 0] : Fin 3 → ℕ) a + S1x8x128.size a ≤ S4x264x128.size a := by
  revert c; decide

/-- Load 256 rows of buffer `c` of the convolution, from row `r` on. -/
def ldC (c : Fin 4) (r : Fin 9) : Prog (TpuEff nD τ sig (Elt F) Λ₀ .tc) (Vec F S1x256x128 .f32) :=
  Prog.lift (.load arg17 (Rect.unit (s := S4x264x128) ![c.val, r.val, 0] S1x256x128.size (cbt_inb c r)).toLoadRect (View.loadsAt_vmem h_S1x256x128))

/-- A chunk of the convolution. -/
def convChunk (k0_t2 : Fin k0_t2_loop.trips) (c : Fin 4) (a : FVec F S256x512 .f32) : Prog (TpuEff nD τ sig (Elt F) Λ₀ .tc) PUnit := do
  let v81 : Vec F S1x8x128 .f32 ← Prog.lift (.load arg18 (Rect.unit (s := S20x8x128) (k0_off72 k0_t2 (BitVec.ofNat 32 c.val)) S1x8x128.size (k0_off72_inb k0_t2 c)).toLoadRect (View.loadsAt_vmem h_S1x8x128))
  let _ ← Prog.lift (.load arg17 (Rect.unit (s := S4x264x128) ![c.val, 0, 0] S1x8x128.size (cb8_inb c)).toLoadRect (View.loadsAt_vmem h_S1x8x128))
  Prog.lift (.store arg17 (Rect.unit (s := S4x264x128) ![c.val, 0, 0] S1x8x128.size (cb8_inb c)) (haloF v81) Finset.univ (View.stores_vmem_bits_univ h_S1x8x128 rfl) (.inl rfl))
  let _ ← ldC (F := F) arg17 c 8
  Prog.lift (.store arg17 (Rect.unit (s := S4x264x128) ![c.val, (8 : Fin 9).val, 0] S1x256x128.size (cbt_inb c 8)) (shapeCast S1x256x128 (chunkF c a) shapeCasts_S256x128_S1x256x128) Finset.univ (View.stores_vmem_bits_univ h_S1x256x128 rfl) (.inl rfl))
  let v0 ← ldC (F := F) arg17 c 5
  let w0 : Vec F S1x128 .f32 ← Prog.lift (.load arg5 (Rect.unit (s := S4x2560) (k0_off73 k0_t2 (BitVec.ofNat 32 c.val)) S1x128.size (k0_off73_inb k0_t2 c)).toLoadRect (View.loadsAt_vmem h_S1x128))
  let v1 ← ldC (F := F) arg17 c 6
  let w1 : Vec F S1x128 .f32 ← Prog.lift (.load arg5 (Rect.unit (s := S4x2560) (k0_off74 k0_t2 (BitVec.ofNat 32 c.val)) S1x128.size (k0_off74_inb k0_t2 c)).toLoadRect (View.loadsAt_vmem h_S1x128))
  let v2 ← ldC (F := F) arg17 c 7
  let w2 : Vec F S1x128 .f32 ← Prog.lift (.load arg5 (Rect.unit (s := S4x2560) (k0_off75 k0_t2 (BitVec.ofNat 32 c.val)) S1x128.size (k0_off75_inb k0_t2 c)).toLoadRect (View.loadsAt_vmem h_S1x128))
  let v3 ← ldC (F := F) arg17 c 8
  let w3 : Vec F S1x128 .f32 ← Prog.lift (.load arg5 (Rect.unit (s := S4x2560) (k0_off76 k0_t2 (BitVec.ofNat 32 c.val)) S1x128.size (k0_off76_inb k0_t2 c)).toLoadRect (View.loadsAt_vmem h_S1x128))
  let b : Vec F S1x128 .f32 ← Prog.lift (.load arg6 (Rect.unit (s := S1x2560) (k0_off77 k0_t2 (BitVec.ofNat 32 c.val)) S1x128.size (k0_off77_inb k0_t2 c)).toLoadRect (View.loadsAt_vmem h_S1x128))
  let _ ← Prog.lift (.load arg11 (Rect.unit (s := S256x2560) (k0_off78 k0_t2 (BitVec.ofNat 32 c.val)) S256x128.size (k0_off78_inb k0_t2 c)).toLoadRect (View.loadsAt_vmem h_S256x128))
  Prog.lift (.store arg11 (Rect.unit (s := S256x2560) (k0_off78 k0_t2 (BitVec.ofNat 32 c.val)) S256x128.size (k0_off78_inb k0_t2 c)) (convF v0 v1 v2 v3 w0 w1 w2 w3 b) Finset.univ (View.stores_vmem_bits_univ h_S256x128 rfl) (.inl rfl))
  let e : Vec F S1x8x128 .f32 ← Prog.lift (.load arg17 (Rect.unit (s := S4x264x128) ![c.val, 256, 0] S1x8x128.size (cbe_inb c)).toLoadRect (View.loadsAt_vmem h_S1x8x128))
  let _ ← Prog.lift (.load arg18 (Rect.unit (s := S20x8x128) (k0_off72 k0_t2 (BitVec.ofNat 32 c.val)) S1x8x128.size (k0_off72_inb k0_t2 c)).toLoadRect (View.loadsAt_vmem h_S1x8x128))
  Prog.lift (.store arg18 (Rect.unit (s := S20x8x128) (k0_off72 k0_t2 (BitVec.ofNat 32 c.val)) S1x8x128.size (k0_off72_inb k0_t2 c)) (haloF e) Finset.univ (View.stores_vmem_bits_univ h_S1x8x128 rfl) (.inl rfl))

/-- The convolution's part of the trip. -/
def convTile (v29 : Vec F S256x1 .f32) (k0_t2 : Fin k0_t2_loop.trips) : Prog (TpuEff nD τ sig (Elt F) Λ₀ .tc) PUnit := do
  let v65 : Vec F S256x8192 .fp8e4m3 ← Prog.lift (.load arg13 (Rect.unit (s := S256x8192) ![0, 0] S256x8192.size inb_S256x8192_S256x8192_0_0).toLoadRect (View.loadsAt_vmem h_S256x8192))
  let v67 : Vec F S8192x512 .fp8e4m3 ← Prog.lift (.load arg3 (Rect.unit (s := S8192x4624) (k0_off70 k0_t2) S8192x512.size (k0_off70_inb k0_t2)).toLoadRect (View.loadsAt_vmem h_S8192x512))
  let v72 : Vec F S1x512 .f32 ← Prog.lift (.load arg4 (Rect.unit (s := S1x4624) (k0_off71 k0_t2) S1x512.size (k0_off71_inb k0_t2)).toLoadRect (View.loadsAt_vmem h_S1x512))
  convChunk arg5 arg6 arg11 arg17 arg18 k0_t2 0 (accF v29 v65 v67 v72)
  convChunk arg5 arg6 arg11 arg17 arg18 k0_t2 1 (accF v29 v65 v67 v72)
  convChunk arg5 arg6 arg11 arg17 arg18 k0_t2 2 (accF v29 v65 v67 v72)
  convChunk arg5 arg6 arg11 arg17 arg18 k0_t2 3 (accF v29 v65 v67 v72)

end

end Cert.KernelIdeal.Own

end
-- ==== Proof.KernelIdeal.StripWp.lean ====
/- What the strip's program does: the two scratch arrays with one band of rows replaced by the codes and the scales
   that its three passes compute. -/
module

public import proofs.«01_k».proof.Proof.KernelIdeal.Strip
public import proofs.«01_k».proof.Proof.Gen.KernelIdeal.Frame
public import proofs.«01_k».proof.Proof.Rules

@[expose] public section

noncomputable section

namespace Cert.KernelIdeal.Own

open Cert.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-! ## The values of the three passes -/

section Values
variable (X : Vec F S256x8192 .bf16) (W : Vec F S1x8192 .f32) (n : ℕ) (hn : n + 32 ≤ 256)

/-- The rectangle of block `c` of the strip. -/
abbrev xRect (c : ℕ) (hc : c < 64) : Rect S256x8192 := Rect.unit (s := S256x8192) (xOff n c) S32x128.size (xOff_inb hn hc)

/-- Block `c` of the strip. -/
def blkX (c : ℕ) (hc : c < 64) : Vec F S32x128 .bf16 := fun x => X ((xRect n hn c hc).emb x)

/-- Block `c` of the norm's weights. -/
def blkW (c : ℕ) (hc : c < 64) : Vec F S1x128 .f32 :=
  fun x => W ((Rect.unit (s := S1x8192) (xOff 0 c) S1x128.size (wOff_inb hc)).emb x)

/-- The partial sums of squares. -/
def sumV : (f c : ℕ) → c + f = 32 → FVec F S32x128 .f32 × FVec F S32x128 .f32 → FVec F S32x128 .f32 × FVec F S32x128 .f32
  | 0, _, _, s => s
  | f + 1, c, h, s => sumV f (c + 1) (by omega)
      (sqF s.1 (blkX X n hn (2 * c) (by omega)), sqF s.2 (blkX X n hn (2 * c + 1) (by omega)))

/-- The largest magnitudes. -/
def maxV (r : FVec F S32x1 .f32) : (f c : ℕ) → c + f = 32 → FVec F S32x128 .f32 × FVec F S32x128 .f32 → FVec F S32x128 .f32 × FVec F S32x128 .f32
  | 0, _, _, s => s
  | f + 1, c, h, s => maxV r f (c + 1) (by omega)
      (amF r s.1 (blkX X n hn (2 * c) (by omega)) (blkW W (2 * c) (by omega)),
        amF r s.2 (blkX X n hn (2 * c + 1) (by omega)) (blkW W (2 * c + 1) (by omega)))

/-- The codes' array after the third pass. -/
def codeV (r i : FVec F S32x1 .f32) : (f c : ℕ) → c + f = 64 → Vec F S256x8192 .fp8e4m3 → Vec F S256x8192 .fp8e4m3
  | 0, _, _, Y => Y
  | f + 1, c, h, Y => codeV r i f (c + 1) (by omega)
      (upd (xRect n hn c (by omega)) (codeF r i (blkX X n hn c (by omega)) (blkW W c (by omega))) Y)

/-- The strip's reciprocal root mean squares. -/
def rmsV : FVec F S32x1 .f32 := rmsF (sumV X n hn 32 0 rfl (zeroF, zeroF))

/-- The strip's largest magnitudes, as multiples of the largest code. -/
def ratioV : FVec F S32x1 .f32 := ratioF (maxV X W n hn (rmsV X n hn) 32 0 rfl (zeroF, zeroF))

/-- The codes' array after the strip. -/
def stripQ (Y : Vec F S256x8192 .fp8e4m3) : Vec F S256x8192 .fp8e4m3 :=
  codeV X W n hn (rmsV X n hn) (invF (ratioV X W n hn)) 64 0 rfl Y

/-- The scales' array after the strip. -/
def stripS (S : Vec F S256x1 .f32) : Vec F S256x1 .f32 :=
  upd (Rect.unit (s := S256x1) ![n, 0] S32x1.size (sOff_inb hn)) (shapeCast S32x1 (scaleF (ratioV X W n hn)) shapeCasts_S32x1_S32x1) S

end Values

/-! ## The program's rules -/

section Rules
variable (𝒱 : Variants) (c : Dev nD) (bd : Option 𝒱.V) (E : Set ℕ)
variable {arg1 : Memref sig .tc .vmem S256x8192 .bf16} {arg2 : Memref sig .tc .vmem S1x8192 .f32}
  {arg15 : Memref sig .tc .vmem S256x8192 .fp8e4m3} {harg15 : arg15.IsWhole} {arg16 : Memref sig .tc .vmem S256x1 .f32}
variable {n : ℕ} {hn : n + 32 ≤ 256} {h4 : 4 ∣ n}
variable {X : Vec F S256x8192 .bf16} {W : Vec F S1x8192 .f32} {q1 q2 : PosShare TreeShare}

theorem wp_ldX {b : ℕ} {hb : b < 64} {Q : Vec F S32x128 .bf16 → sProp 𝕄} :
    (owns (c : Thread nD τ) arg1 q1 X : sProp 𝕄)
      ⊢ iprop((owns (c : Thread nD τ) arg1 q1 X -∗ Q (blkX X n hn b hb))
        -∗ wp frame (wpE (defs₀ (F := F)) 𝒱 (c : Thread nD τ) bd) E (ldX arg1 n hn b hb) Q) := by
  unfold ldX blkX
  exact wp_ld (defs := defs₀) 𝒱 (c : Thread nD τ) bd E (m := arg1) (r := xRect n hn b hb) (Q := Q)

theorem wp_ldW {b : ℕ} {hb : b < 64} {Q : Vec F S1x128 .f32 → sProp 𝕄} :
    (owns (c : Thread nD τ) arg2 q2 W : sProp 𝕄)
      ⊢ iprop((owns (c : Thread nD τ) arg2 q2 W -∗ Q (blkW W b hb))
        -∗ wp frame (wpE (defs₀ (F := F)) 𝒱 (c : Thread nD τ) bd) E (ldW arg2 b hb) Q) := by
  unfold ldW blkW
  exact wp_ld (defs := defs₀) 𝒱 (c : Thread nD τ) bd E (m := arg2) (r := Rect.unit (s := S1x8192) (xOff 0 b) S1x128.size (wOff_inb hb)) (Q := Q)

theorem wp_sumLoop (f : ℕ) : ∀ (b : ℕ) (h : b + f = 32) (s : FVec F S32x128 .f32 × FVec F S32x128 .f32)
    (Q : FVec F S32x128 .f32 × FVec F S32x128 .f32 → sProp 𝕄),
    (owns (c : Thread nD τ) arg1 q1 X : sProp 𝕄)
      ⊢ iprop((owns (c : Thread nD τ) arg1 q1 X -∗ Q (sumV X n hn f b h s))
        -∗ wp frame (wpE (defs₀ (F := F)) 𝒱 (c : Thread nD τ) bd) E (sumLoop arg1 n hn f b h s) Q) := by
  induction f with
  | zero =>
    intro b h s Q
    unfold sumLoop sumV
    iintro H HK
    iapply (le_wp_ret _ _ _ _ Q)
    iapply HK
    iexact H
  | succ f ih =>
    intro b h s Q
    unfold sumLoop sumV
    iintro H HK
    rw [wp_bind]
    iapply (wp_ldX 𝒱 c bd E) $$ H
    iintro H
    rw [wp_bind]
    iapply (wp_ldX 𝒱 c bd E) $$ H
    iintro H
    iapply (ih (b + 1) _ _ Q) $$ H
    iexact HK

theorem wp_maxLoop (r : FVec F S32x1 .f32) (f : ℕ) : ∀ (b : ℕ) (h : b + f = 32) (s : FVec F S32x128 .f32 × FVec F S32x128 .f32)
    (Q : FVec F S32x128 .f32 × FVec F S32x128 .f32 → sProp 𝕄),
    (owns (c : Thread nD τ) arg1 q1 X : sProp 𝕄)
      ⊢ iprop(owns (c : Thread nD τ) arg2 q2 W -∗ (owns (c : Thread nD τ) arg1 q1 X -∗ owns (c : Thread nD τ) arg2 q2 W -∗ Q (maxV X W n hn r f b h s))
        -∗ wp frame (wpE (defs₀ (F := F)) 𝒱 (c : Thread nD τ) bd) E (maxLoop arg1 arg2 n hn r f b h s) Q) := by
  induction f with
  | zero =>
    intro b h s Q
    unfold maxLoop maxV
    iintro H H2 HK
    iapply (le_wp_ret _ _ _ _ Q)
    iapply HK $$ H
    iexact H2
  | succ f ih =>
    intro b h s Q
    unfold maxLoop maxV
    iintro H H2 HK
    rw [wp_bind]
    iapply (wp_ldX 𝒱 c bd E) $$ H
    iintro H
    rw [wp_bind]
    iapply (wp_ldW 𝒱 c bd E) $$ H2
    iintro H2
    rw [wp_bind]
    iapply (wp_ldX 𝒱 c bd E) $$ H
    iintro H
    rw [wp_bind]
    iapply (wp_ldW 𝒱 c bd E) $$ H2
    iintro H2
    iapply (ih (b + 1) _ _ Q) $$ H H2
    iexact HK

theorem wp_stQ {b : ℕ} {hb : b < 64} {w : FVec F S32x128 .fp8e4m3} {Y : Vec F S256x8192 .fp8e4m3} {Q : PUnit → sProp 𝕄} :
    (owns (c : Thread nD τ) arg15 fullShare Y : sProp 𝕄)
      ⊢ iprop((owns (c : Thread nD τ) arg15 fullShare (upd (xRect n hn b hb) w Y) -∗ Q ⟨⟩)
        -∗ wp frame (wpE (defs₀ (F := F)) 𝒱 (c : Thread nD τ) bd) E (stQ arg15 harg15 n hn h4 b hb w) Q) := by
  unfold stQ
  iintro H HK
  rw [wp_bind]
  iapply (wp_ld (defs := defs₀) 𝒱 (c : Thread nD τ) bd E (m := arg15)) $$ H
  iintro H
  iapply (wp_st (defs := defs₀) 𝒱 (c : Thread nD τ) bd E (m := arg15)) $$ H
  iexact HK

theorem wp_codeLoop (r i : FVec F S32x1 .f32) (f : ℕ) : ∀ (b : ℕ) (h : b + f = 64) (Y : Vec F S256x8192 .fp8e4m3) (Q : PUnit → sProp 𝕄),
    (owns (c : Thread nD τ) arg1 q1 X : sProp 𝕄)
      ⊢ iprop(owns (c : Thread nD τ) arg2 q2 W -∗ owns (c : Thread nD τ) arg15 fullShare Y
        -∗ (owns (c : Thread nD τ) arg1 q1 X -∗ owns (c : Thread nD τ) arg2 q2 W -∗ owns (c : Thread nD τ) arg15 fullShare (codeV X W n hn r i f b h Y) -∗ Q ⟨⟩)
        -∗ wp frame (wpE (defs₀ (F := F)) 𝒱 (c : Thread nD τ) bd) E (codeLoop arg1 arg2 arg15 harg15 n hn h4 r i f b h) Q) := by
  induction f with
  | zero =>
    intro b h Y Q
    iintro H H2 H15 HK
    iapply (le_wp_ret _ _ _ _ Q)
    iapply HK $$ H H2
    iexact H15
  | succ f ih =>
    intro b h Y Q
    unfold codeLoop codeV
    iintro H H2 H15 HK
    rw [wp_bind]
    iapply (wp_ldX 𝒱 c bd E) $$ H
    iintro H
    rw [wp_bind]
    iapply (wp_ldW 𝒱 c bd E) $$ H2
    iintro H2
    rw [wp_bind]
    iapply (wp_stQ 𝒱 c bd E) $$ H15
    iintro H15
    iapply (ih (b + 1) _ _ Q) $$ H H2 H15
    iexact HK

/-- The strip. -/
theorem wp_strip {Y : Vec F S256x8192 .fp8e4m3} {S : Vec F S256x1 .f32} {Q : PUnit → sProp 𝕄} :
    (owns (c : Thread nD τ) arg1 q1 X : sProp 𝕄)
      ⊢ iprop(owns (c : Thread nD τ) arg2 q2 W -∗ owns (c : Thread nD τ) arg15 fullShare Y -∗ owns (c : Thread nD τ) arg16 fullShare S
        -∗ (owns (c : Thread nD τ) arg1 q1 X -∗ owns (c : Thread nD τ) arg2 q2 W
          -∗ owns (c : Thread nD τ) arg15 fullShare (stripQ X W n hn Y) -∗ owns (c : Thread nD τ) arg16 fullShare (stripS X W n hn S) -∗ Q ⟨⟩)
        -∗ wp frame (wpE (defs₀ (F := F)) 𝒱 (c : Thread nD τ) bd) E (strip arg1 arg2 arg15 harg15 arg16 n hn h4) Q) := by
  unfold strip stripQ stripS ratioV rmsV
  iintro H H2 H15 H16 HK
  rw [wp_bind]
  iapply (wp_sumLoop 𝒱 c bd E 32 0 rfl) $$ H
  iintro H
  rw [wp_bind]
  iapply (wp_maxLoop 𝒱 c bd E _ 32 0 rfl) $$ H H2
  iintro H H2
  rw [wp_bind]
  iapply (wp_codeLoop 𝒱 c bd E _ _ 64 0 rfl) $$ H H2 H15
  iintro H H2 H15
  unfold stS
  rw [wp_bind]
  iapply (wp_ld (defs := defs₀) 𝒱 (c : Thread nD τ) bd E (m := arg16)) $$ H16
  iintro H16
  iapply (wp_st (defs := defs₀) 𝒱 (c : Thread nD τ) bd E (m := arg16)) $$ H16
  iintro H16
  iapply HK $$ H H2 H15
  iexact H16

end Rules

end Cert.KernelIdeal.Own

end
-- ==== Proof.KernelIdeal.Tiles.lean ====
/- What the two kinds of tile do: a tile of z, and four chunks of the convolution, each as arrays updated by what the
   tile computes. -/
module

public import proofs.«01_k».proof.Proof.KernelIdeal.Trip1
public import proofs.«01_k».proof.Proof.KernelIdeal.Trip2
public import proofs.«01_k».proof.Proof.KernelIdeal.StripWp

@[expose] public section

noncomputable section

namespace Cert.KernelIdeal.Own

open Cert.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- A rectangle's array read out of an array. -/
abbrev rd {s : Shape} {α : Type} (r : Rect s) (X : s.Idx → α) : r.shape.Idx → α := fun x => X (r.emb x)

/-! ## The values -/

/-- The whole codes' array as a rectangle. -/
abbrev rQ : Rect S256x8192 := Rect.unit (s := S256x8192) ![0, 0] S256x8192.size inb_S256x8192_S256x8192_0_0
/-- The whole scales' array as a rectangle. -/
abbrev rS : Rect S256x1 := Rect.unit (s := S256x1) ![0, 0] S256x1.size inb_S256x1_S256x1_0_0

section Values
variable (K : Vec F S256x8192 .fp8e4m3) (A : Vec F S8192x4624 .fp8e4m3) (As : Vec F S1x4624 .f32) (v29 : Vec F S256x1 .f32)

/-- The z array after tile `k`. -/
def zV (k : Fin k0_t1_loop.trips) (Z : Vec F S256x2048 .f32) : Vec F S256x2048 .f32 :=
  upd (Rect.unit (s := S256x2048) (k0_off4 k) S256x512.size (k0_off4_inb k))
    (k0_pay1 v29 (rd rQ K) (rd (Rect.unit (s := S8192x4624) (k0_off2 k) S8192x512.size (k0_off2_inb k)) A)
      (rd (Rect.unit (s := S1x4624) (k0_off3 k) S1x512.size (k0_off3_inb k)) As)) Z

/-- The convolution tile's projection. -/
def accV (k : Fin k0_t2_loop.trips) : FVec F S256x512 .f32 :=
  accF v29 (rd rQ K) (rd (Rect.unit (s := S8192x4624) (k0_off70 k) S8192x512.size (k0_off70_inb k)) A)
    (rd (Rect.unit (s := S1x4624) (k0_off71 k) S1x512.size (k0_off71_inb k)) As)

variable (cw : Vec F S4x2560 .f32) (cb : Vec F S1x2560 .f32)

/-- The rectangle of a chunk's slot among the eight rows kept. -/
abbrev rH (k : Fin k0_t2_loop.trips) (c : Fin 4) : Rect S20x8x128 :=
  Rect.unit (s := S20x8x128) (k0_off72 k (BitVec.ofNat 32 c.val)) S1x8x128.size (k0_off72_inb k c)
/-- 256 rows of a convolution buffer. -/
abbrev rC (c : Fin 4) (r : Fin 9) : Rect S4x264x128 := Rect.unit (s := S4x264x128) ![c.val, r.val, 0] S1x256x128.size (cbt_inb c r)
/-- The first eight rows of a convolution buffer. -/
abbrev rC0 (c : Fin 4) : Rect S4x264x128 := Rect.unit (s := S4x264x128) ![c.val, 0, 0] S1x8x128.size (cb8_inb c)
/-- Its last eight rows. -/
abbrev rCe (c : Fin 4) : Rect S4x264x128 := Rect.unit (s := S4x264x128) ![c.val, 256, 0] S1x8x128.size (cbe_inb c)

/-- The convolution's buffers with a chunk and the rows before it written. -/
def cbufV (k : Fin k0_t2_loop.trips) (c : Fin 4) (a : FVec F S256x512 .f32) (C : Vec F S4x264x128 .f32) (H : Vec F S20x8x128 .f32) :
    Vec F S4x264x128 .f32 :=
  upd (rC c 8) (shapeCast S1x256x128 (chunkF c a) shapeCasts_S256x128_S1x256x128) (upd (rC0 c) (haloF (rd (rH k c) H)) C)

/-- What a chunk of the convolution computes from the buffers. -/
def chunkV (k : Fin k0_t2_loop.trips) (c : Fin 4) (C : Vec F S4x264x128 .f32) : FVec F S256x128 .f32 :=
  convF (rd (rC c 5) C) (rd (rC c 6) C) (rd (rC c 7) C) (rd (rC c 8) C)
    (rd (Rect.unit (s := S4x2560) (k0_off73 k (BitVec.ofNat 32 c.val)) S1x128.size (k0_off73_inb k c)) cw)
    (rd (Rect.unit (s := S4x2560) (k0_off74 k (BitVec.ofNat 32 c.val)) S1x128.size (k0_off74_inb k c)) cw)
    (rd (Rect.unit (s := S4x2560) (k0_off75 k (BitVec.ofNat 32 c.val)) S1x128.size (k0_off75_inb k c)) cw)
    (rd (Rect.unit (s := S4x2560) (k0_off76 k (BitVec.ofNat 32 c.val)) S1x128.size (k0_off76_inb k c)) cw)
    (rd (Rect.unit (s := S1x2560) (k0_off77 k (BitVec.ofNat 32 c.val)) S1x128.size (k0_off77_inb k c)) cb)

/-- The arrays the convolution writes: its result, its buffers, the rows kept. -/
abbrev Conv (F : FTy → Type) : Type := Vec F S256x2560 .f32 × Vec F S4x264x128 .f32 × Vec F S20x8x128 .f32

/-- Those arrays after one chunk. -/
def convV (k : Fin k0_t2_loop.trips) (c : Fin 4) (a : FVec F S256x512 .f32) (s : Conv F) : Conv F :=
  (upd (Rect.unit (s := S256x2560) (k0_off78 k (BitVec.ofNat 32 c.val)) S256x128.size (k0_off78_inb k c))
      (chunkV cw cb k c (cbufV k c a s.2.1 s.2.2)) s.1,
    cbufV k c a s.2.1 s.2.2,
    upd (rH k c) (haloF (rd (rCe c) (cbufV k c a s.2.1 s.2.2))) s.2.2)

/-- Those arrays after a tile. -/
def tileV (k : Fin k0_t2_loop.trips) (s : Conv F) : Conv F :=
  convV cw cb k 3 (accV K A As v29 k) (convV cw cb k 2 (accV K A As v29 k) (convV cw cb k 1 (accV K A As v29 k)
    (convV cw cb k 0 (accV K A As v29 k) s)))

end Values

/-! ## The rules -/

section Rules
variable (𝒱 : Variants) (c : Dev nD) (bd : Option 𝒱.V) (E : Set ℕ)
variable {arg3 : Memref sig .tc .vmem S8192x4624 .fp8e4m3} {arg4 : Memref sig .tc .vmem S1x4624 .f32}
  {arg5 : Memref sig .tc .vmem S4x2560 .f32} {arg6 : Memref sig .tc .vmem S1x2560 .f32}
  {arg10 : Memref sig .tc .vmem S256x2048 .f32} {arg11 : Memref sig .tc .vmem S256x2560 .f32}
  {arg13 : Memref sig .tc .vmem S256x8192 .fp8e4m3}
  {arg17 : Memref sig .tc .vmem S4x264x128 .f32} {arg18 : Memref sig .tc .vmem S20x8x128 .f32}
variable {K : Vec F S256x8192 .fp8e4m3} {A : Vec F S8192x4624 .fp8e4m3} {As : Vec F S1x4624 .f32} {v29 : Vec F S256x1 .f32}
  {cw : Vec F S4x2560 .f32} {cb : Vec F S1x2560 .f32}
  {qK qA qS qw qb : PosShare TreeShare}

theorem wp_zTile {k : Fin k0_t1_loop.trips} {Z : Vec F S256x2048 .f32} {Q : PUnit → sProp 𝕄} :
    (owns (c : Thread nD τ) arg13 qK K : sProp 𝕄)
      ⊢ iprop(owns (c : Thread nD τ) arg3 qA A -∗ owns (c : Thread nD τ) arg4 qS As -∗ owns (c : Thread nD τ) arg10 fullShare Z
        -∗ (owns (c : Thread nD τ) arg13 qK K -∗ owns (c : Thread nD τ) arg3 qA A -∗ owns (c : Thread nD τ) arg4 qS As
          -∗ owns (c : Thread nD τ) arg10 fullShare (zV K A As v29 k Z) -∗ Q ⟨⟩)
        -∗ wp frame (wpE (defs₀ (F := F)) 𝒱 (c : Thread nD τ) bd) E (zTile arg3 arg4 arg10 arg13 v29 k) Q) := by
  unfold zTile zV
  iintro HK HA HS HZ HQ
  rw [wp_bind]
  iapply (wp_ld (defs := defs₀) 𝒱 (c : Thread nD τ) bd E (m := arg13)) $$ HK
  iintro HK
  rw [wp_bind]
  iapply (wp_ld (defs := defs₀) 𝒱 (c : Thread nD τ) bd E (m := arg3)) $$ HA
  iintro HA
  rw [wp_bind]
  iapply (wp_ld (defs := defs₀) 𝒱 (c : Thread nD τ) bd E (m := arg4)) $$ HS
  iintro HS
  rw [wp_bind]
  iapply (wp_ld (defs := defs₀) 𝒱 (c : Thread nD τ) bd E (m := arg10)) $$ HZ
  iintro HZ
  iapply (wp_st (defs := defs₀) 𝒱 (c : Thread nD τ) bd E (m := arg10)) $$ HZ
  iintro HZ
  iapply HQ $$ HK HA HS
  iexact HZ

theorem wp_ldC {b : Fin 4} {r : Fin 9} {C : Vec F S4x264x128 .f32} {Q : Vec F S1x256x128 .f32 → sProp 𝕄} :
    (owns (c : Thread nD τ) arg17 fullShare C : sProp 𝕄)
      ⊢ iprop((owns (c : Thread nD τ) arg17 fullShare C -∗ Q (rd (rC b r) C))
        -∗ wp frame (wpE (defs₀ (F := F)) 𝒱 (c : Thread nD τ) bd) E (ldC arg17 b r) Q) := by
  unfold ldC
  exact wp_ld (defs := defs₀) 𝒱 (c : Thread nD τ) bd E (m := arg17) (r := rC b r) (Q := Q)

theorem wp_convChunk {k : Fin k0_t2_loop.trips} {b : Fin 4} {a : FVec F S256x512 .f32} {s : Conv F} {Q : PUnit → sProp 𝕄} :
    (owns (c : Thread nD τ) arg5 qw cw : sProp 𝕄)
      ⊢ iprop(owns (c : Thread nD τ) arg6 qb cb -∗ owns (c : Thread nD τ) arg11 fullShare s.1
        -∗ owns (c : Thread nD τ) arg17 fullShare s.2.1 -∗ owns (c : Thread nD τ) arg18 fullShare s.2.2
        -∗ (owns (c : Thread nD τ) arg5 qw cw -∗ owns (c : Thread nD τ) arg6 qb cb
          -∗ owns (c : Thread nD τ) arg11 fullShare (convV cw cb k b a s).1
          -∗ owns (c : Thread nD τ) arg17 fullShare (convV cw cb k b a s).2.1
          -∗ owns (c : Thread nD τ) arg18 fullShare (convV cw cb k b a s).2.2 -∗ Q ⟨⟩)
        -∗ wp frame (wpE (defs₀ (F := F)) 𝒱 (c : Thread nD τ) bd) E (convChunk arg5 arg6 arg11 arg17 arg18 k b a) Q) := by
  obtain ⟨B, C, H⟩ := s
  unfold convChunk convV chunkV cbufV
  dsimp only
  iintro Hw Hb HB HC HH HQ
  rw [wp_bind]
  iapply (wp_ld (defs := defs₀) 𝒱 (c : Thread nD τ) bd E (m := arg18)) $$ HH
  iintro HH
  rw [wp_bind]
  iapply (wp_ld (defs := defs₀) 𝒱 (c : Thread nD τ) bd E (m := arg17)) $$ HC
  iintro HC
  rw [wp_bind]
  iapply (wp_st (defs := defs₀) 𝒱 (c : Thread nD τ) bd E (m := arg17)) $$ HC
  iintro HC
  rw [wp_bind]
  iapply (wp_ldC 𝒱 c bd E) $$ HC
  iintro HC
  rw [wp_bind]
  iapply (wp_st (defs := defs₀) 𝒱 (c : Thread nD τ) bd E (m := arg17)) $$ HC
  iintro HC
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ldC 𝒱 c bd E) $$ HC
  iintro HC
  rw [wp_bind]
  iapply (wp_ld (defs := defs₀) 𝒱 (c : Thread nD τ) bd E (m := arg5)) $$ Hw
  iintro Hw
  rw [wp_bind]
  iapply (wp_ld (defs := defs₀) 𝒱 (c : Thread nD τ) bd E (m := arg6)) $$ Hb
  iintro Hb
  rw [wp_bind]
  iapply (wp_ld (defs := defs₀) 𝒱 (c : Thread nD τ) bd E (m := arg11)) $$ HB
  iintro HB
  rw [wp_bind]
  iapply (wp_st (defs := defs₀) 𝒱 (c : Thread nD τ) bd E (m := arg11)) $$ HB
  iintro HB
  rw [wp_bind]
  iapply (wp_ld (defs := defs₀) 𝒱 (c : Thread nD τ) bd E (m := arg17)) $$ HC
  iintro HC
  rw [wp_bind]
  iapply (wp_ld (defs := defs₀) 𝒱 (c : Thread nD τ) bd E (m := arg18)) $$ HH
  iintro HH
  iapply (wp_st (defs := defs₀) 𝒱 (c : Thread nD τ) bd E (m := arg18)) $$ HH
  iintro HH
  iapply HQ $$ Hw Hb HB HC
  iexact HH

theorem wp_convTile {k : Fin k0_t2_loop.trips} {s : Conv F} {Q : PUnit → sProp 𝕄} :
    (owns (c : Thread nD τ) arg13 qK K : sProp 𝕄)
      ⊢ iprop(owns (c : Thread nD τ) arg3 qA A -∗ owns (c : Thread nD τ) arg4 qS As
        -∗ owns (c : Thread nD τ) arg5 qw cw -∗ owns (c : Thread nD τ) arg6 qb cb -∗ owns (c : Thread nD τ) arg11 fullShare s.1
        -∗ owns (c : Thread nD τ) arg17 fullShare s.2.1 -∗ owns (c : Thread nD τ) arg18 fullShare s.2.2
        -∗ (owns (c : Thread nD τ) arg13 qK K -∗ owns (c : Thread nD τ) arg3 qA A -∗ owns (c : Thread nD τ) arg4 qS As
          -∗ owns (c : Thread nD τ) arg5 qw cw -∗ owns (c : Thread nD τ) arg6 qb cb
          -∗ owns (c : Thread nD τ) arg11 fullShare (tileV K A As v29 cw cb k s).1
          -∗ owns (c : Thread nD τ) arg17 fullShare (tileV K A As v29 cw cb k s).2.1
          -∗ owns (c : Thread nD τ) arg18 fullShare (tileV K A As v29 cw cb k s).2.2 -∗ Q ⟨⟩)
        -∗ wp frame (wpE (defs₀ (F := F)) 𝒱 (c : Thread nD τ) bd) E (convTile arg3 arg4 arg5 arg6 arg11 arg13 arg17 arg18 v29 k) Q) := by
  unfold convTile tileV accV
  iintro HK HA HS Hw Hb HB HC HH HQ
  rw [wp_bind]
  iapply (wp_ld (defs := defs₀) 𝒱 (c : Thread nD τ) bd E (m := arg13)) $$ HK
  iintro HK
  rw [wp_bind]
  iapply (wp_ld (defs := defs₀) 𝒱 (c : Thread nD τ) bd E (m := arg3)) $$ HA
  iintro HA
  rw [wp_bind]
  iapply (wp_ld (defs := defs₀) 𝒱 (c : Thread nD τ) bd E (m := arg4)) $$ HS
  iintro HS
  rw [wp_bind]
  iapply (wp_convChunk 𝒱 c bd E) $$ Hw Hb HB HC HH
  iintro Hw Hb HB HC HH
  rw [wp_bind]
  iapply (wp_convChunk 𝒱 c bd E) $$ Hw Hb HB HC HH
  iintro Hw Hb HB HC HH
  rw [wp_bind]
  iapply (wp_convChunk 𝒱 c bd E) $$ Hw Hb HB HC HH
  iintro Hw Hb HB HC HH
  iapply (wp_convChunk 𝒱 c bd E) $$ Hw Hb HB HC HH
  iintro Hw Hb HB HC HH
  iapply HQ $$ HK HA HS Hw Hb HB HC
  iexact HH

end Rules

end Cert.KernelIdeal.Own

end
-- ==== Proof.KernelIdeal.Head.lean ====
/- The kernel's body before its loops. -/
module

public import proofs.«01_k».proof.Proof.KernelIdeal.Tiles
public import proofs.«01_k».proof.Proof.Dma
public import Idealize.ShloMosaic.Lib.Pipeline.Value

@[expose] public section

noncomputable section

namespace Cert.KernelIdeal.Own

open Cert.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The transfers' counters. -/
local notation "EC" => countersEmb (U := Pipeline.UD sig nD τ)

/-- The rectangle of the result that a grid point's transfer writes. -/
abbrev rD (i : grid0.Coords) : Rect S3072x8192 := Rect.unit (s := S3072x8192) (k0_off1 i) S256x8192.size (k0_off1_inb i)

/-- Whether the grid point begins a sequence, as the kernel computes it. -/
def resetBit (i : grid0.Coords) : BitVec 1 :=
  let arg0 : BitVec 32 := BitVec.ofNat 32 (i 0).val
  let v15 : BitVec 32 := Scalar.subi arg0 1#32
  let v16 : BitVec 1 := Scalar.cmpi .eq 4#32 0#32
  let v17 : BitVec 32 := Scalar.select v16 1#32 4#32
  let v18 : BitVec 32 := Scalar.remsi v15 v17
  let v19 : BitVec 1 := Scalar.cmpi .ne v18 0#32
  let v20 : BitVec 1 := Scalar.cmpi .slt v18 0#32
  let v21 : BitVec 1 := Scalar.cmpi .slt v17 0#32
  let v22 : BitVec 1 := Scalar.xori v20 v21
  let v23 : BitVec 1 := Scalar.andi v22 v19
  let v24 : BitVec 32 := Scalar.addi v18 v17
  let v25 : BitVec 32 := Scalar.select v23 v24 v18
  let v26 : BitVec 1 := Scalar.cmpi .eq v25 0#32
  let v27 : BitVec 32 := Scalar.extui v26
  Scalar.cmpi .ne v27 0#32

/-- The rows kept, zeroed at the beginning of a sequence. -/
def haloV (i : grid0.Coords) (H : Vec F S20x8x128 .f32) : Vec F S20x8x128 .f32 :=
  if resetBit i = 1#1 then k0_pay365 (F := F) else H

theorem pay363_eq (v : Vec F S256x8192 .fp8e4m3) : k0_pay363 v = v := shapeCast_self _ _
theorem pay364_eq (v : Vec F S256x1 .f32) : k0_pay364 v = v := shapeCast_self _ _

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K K0 : Vec F S256x8192 .fp8e4m3} {A : Vec F S8192x4624 .fp8e4m3}
  {As : Vec F S1x4624 .f32} {v29 S0 x0 : Vec F S256x1 .f32} {cw : Vec F S4x2560 .f32} {cb : Vec F S1x2560 .f32} {db : Vec F S1x16 .f32}
  {D : Vec F S3072x8192 .fp8e4m3} {T : Vec F S256x16 .f32}
  {Z : Vec F S256x2048 .f32} {Y : Vec F S256x8192 .fp8e4m3} {S : Vec F S256x1 .f32} {H : Vec F S20x8x128 .f32} {s : Conv F}
  {q1 q2 qK qA qS qw qb qd : PosShare TreeShare}
variable (𝒱 : Variants) (c : Dev nD) (bd : Option 𝒱.V)

theorem wp_head {Q : PUnit → sProp 𝕄} :
    (owns (c : Thread nD τ) arg15 fullShare Y : sProp 𝕄)
      ⊢ iprop(owns (c : Thread nD τ) arg13 fullShare K0 -∗ owns (c : Thread nD τ) arg16 fullShare S -∗ owns (c : Thread nD τ) arg14 fullShare S0 -∗ owns (c : Thread nD τ) arg9 fullShare x0 -∗ owns (c : Thread nD τ) arg18 fullShare H -∗ owns (c : Thread nD τ) arg8 fullShare D
        -∗ semVal ((c : Thread nD τ), SemLoc.dma arg19.sem) 0
        -∗ (owns (c : Thread nD τ) arg15 fullShare Y -∗ owns (c : Thread nD τ) arg13 fullShare.left Y -∗ owns (c : Thread nD τ) arg16 fullShare S -∗ owns (c : Thread nD τ) arg14 fullShare S -∗ owns (c : Thread nD τ) arg9 fullShare S -∗ owns (c : Thread nD τ) arg18 fullShare (haloV i H)
          -∗ Transfers.Flight EC (c : Thread nD τ) (.dma arg19.sem) () (arg8.slice (rD i) (fun _ => rfl)).view.dmaCredit iprop(owns (c : Thread nD τ) arg8 fullShare (upd (rD i) Y D) ∗ owns (c : Thread nD τ) arg13 fullShare.right Y) -∗ Q ⟨⟩)
        -∗ wp frame (wpE (defs₀ (F := F)) 𝒱 (c : Thread nD τ) bd) Set.univ (k0_part121 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [k0_part121_eq_skeleton]
  unfold k0_part121_skel
  iintro H15 H13 H16 H14 H9 H18 H8 Hv HQ
  rw [wp_bind]
  iapply (wp_ld (defs := defs₀) 𝒱 (c : Thread nD τ) bd Set.univ (m := arg15)) $$ H15
  iintro H15
  rw [wp_bind]
  iapply (wp_ld (defs := defs₀) 𝒱 (c : Thread nD τ) bd Set.univ (m := arg13)) $$ H13
  iintro H13
  rw [wp_bind]
  iapply (wp_st (defs := defs₀) 𝒱 (c : Thread nD τ) bd Set.univ (m := arg13)) $$ H13
  iintro H13
  rw [wp_bind]
  iapply (wp_ld (defs := defs₀) 𝒱 (c : Thread nD τ) bd Set.univ (m := arg16)) $$ H16
  iintro H16
  rw [wp_bind]
  iapply (wp_ld (defs := defs₀) 𝒱 (c : Thread nD τ) bd Set.univ (m := arg14)) $$ H14
  iintro H14
  rw [wp_bind]
  iapply (wp_st (defs := defs₀) 𝒱 (c : Thread nD τ) bd Set.univ (m := arg14)) $$ H14
  iintro H14
  rw [wp_bind]
  iapply (wp_ld (defs := defs₀) 𝒱 (c : Thread nD τ) bd Set.univ (m := arg16)) $$ H16
  iintro H16
  rw [wp_bind]
  iapply (wp_ld (defs := defs₀) 𝒱 (c : Thread nD τ) bd Set.univ (m := arg9)) $$ H9
  iintro H9
  rw [wp_bind]
  iapply (wp_st (defs := defs₀) 𝒱 (c : Thread nD τ) bd Set.univ (m := arg9)) $$ H9
  iintro H9
  rw [rd_whole, rd_whole, pay363_eq, pay364_eq, upd_whole, upd_whole, upd_whole]
  ihave H13 := (owns_halves (c : Thread nD τ) arg13 fullShare Y).1 $$ H13
  icases H13 with ⟨H13, H13r⟩
  rw [wp_bind]
  iapply (wp_start EC (defs := defs₀) 𝒱 (c : Thread nD τ) bd (m := arg8) (r := rD i) (h := fun _ => rfl) (src := arg13) (show 0 < S256x8192.numel by decide)) $$ [H13r H8 Hv]
  · isplitl [H13r]
    · iexact H13r
    isplitl [H8]
    · iexact H8
    iexact Hv
  iintro HF
  dsimp only
  by_cases hr : resetBit i = 1#1
  · rw [show haloV i H = k0_pay365 (F := F) from if_pos hr]
    unfold resetBit at hr
    dsimp only at hr
    rw [dif_pos hr]
    rw [wp_bind]
    iapply (wp_ld (defs := defs₀) 𝒱 (c : Thread nD τ) bd Set.univ (m := arg18)) $$ H18
    iintro H18
    rw [wp_bind]
    iapply (wp_st (defs := defs₀) 𝒱 (c : Thread nD τ) bd Set.univ (m := arg18)) $$ H18
    iintro H18
    rw [upd_whole]
    iapply (le_wp_ret _ _ _ _ Q)
    iapply HQ $$ H15 H13 H16 H14 H9 H18
    iexact HF
  · rw [show haloV i H = H from if_neg hr]
    unfold resetBit at hr
    dsimp only at hr
    rw [dif_neg hr]
    iapply (le_wp_ret _ _ _ _ Q)
    iapply HQ $$ H15 H13 H16 H14 H9 H18
    iexact HF

end

end Cert.KernelIdeal.Own

end
-- ==== Proof.KernelIdeal.Loop1.lean ====
/- The kernel's first loop. -/
module

public import proofs.«01_k».proof.Proof.KernelIdeal.Tiles

@[expose] public section

noncomputable section

namespace Cert.KernelIdeal.Own

open Cert.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values
variable (X : Vec F S256x8192 .bf16) (W : Vec F S1x8192 .f32)
variable (K : Vec F S256x8192 .fp8e4m3) (A : Vec F S8192x4624 .fp8e4m3) (As : Vec F S1x4624 .f32) (v29 : Vec F S256x1 .f32)

/-- The z array after the first `j` tiles. -/
def zIter (Z : Vec F S256x2048 .f32) : ℕ → Vec F S256x2048 .f32
  | 0 => Z
  | j + 1 => if h : j < k0_t1_loop.trips then zV K A As v29 ⟨j, h⟩ (zIter Z j) else zIter Z j
/-- The codes after the first `j` strips. -/
def qIter1 (Y : Vec F S256x8192 .fp8e4m3) : ℕ → Vec F S256x8192 .fp8e4m3
  | 0 => Y
  | j + 1 => if h : j < k0_t1_loop.trips then stripQ X W (row1 ⟨j, h⟩) (row1_inb ⟨j, h⟩) (qIter1 Y j) else qIter1 Y j
/-- The scales after the first `j` strips. -/
def sIter1 (S : Vec F S256x1 .f32) : ℕ → Vec F S256x1 .f32
  | 0 => S
  | j + 1 => if h : j < k0_t1_loop.trips then stripS X W (row1 ⟨j, h⟩) (row1_inb ⟨j, h⟩) (sIter1 S j) else sIter1 S j

theorem zIter_succ (Z : Vec F S256x2048 .f32) (k : Fin k0_t1_loop.trips) :
    zIter K A As v29 Z (k.val + 1) = zV K A As v29 k (zIter K A As v29 Z k.val) := dif_pos k.isLt
theorem qIter1_succ (Y : Vec F S256x8192 .fp8e4m3) (k : Fin k0_t1_loop.trips) :
    qIter1 X W Y (k.val + 1) = stripQ X W (row1 k) (row1_inb k) (qIter1 X W Y k.val) := dif_pos k.isLt
theorem sIter1_succ (S : Vec F S256x1 .f32) (k : Fin k0_t1_loop.trips) :
    sIter1 X W S (k.val + 1) = stripS X W (row1 k) (row1_inb k) (sIter1 X W S k.val) := dif_pos k.isLt

end Values

section Rule
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K : Vec F S256x8192 .fp8e4m3} {A : Vec F S8192x4624 .fp8e4m3}
  {As : Vec F S1x4624 .f32} {v29 : Vec F S256x1 .f32} {cw : Vec F S4x2560 .f32} {cb : Vec F S1x2560 .f32}
  {Z : Vec F S256x2048 .f32} {Y : Vec F S256x8192 .fp8e4m3} {S : Vec F S256x1 .f32} {s : Conv F}
  {q1 q2 qK qA qS qw qb : PosShare TreeShare}
variable (𝒱 : Variants) (c : Dev nD) (bd : Option 𝒱.V) (E : Set ℕ)

/-- The loop: its arrays taken to the iterates at its number of trips. -/
theorem wp_loop1 {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg13 qK K -∗ owns (c : Thread nD τ) arg10 fullShare Z -∗ owns (c : Thread nD τ) arg15 fullShare Y -∗ owns (c : Thread nD τ) arg16 fullShare S
        -∗ (owns (c : Thread nD τ) arg1 q1 X -∗ owns (c : Thread nD τ) arg2 q2 W -∗ owns (c : Thread nD τ) arg3 qA A -∗ owns (c : Thread nD τ) arg4 qS As -∗ owns (c : Thread nD τ) arg13 qK K -∗ owns (c : Thread nD τ) arg10 fullShare (zIter K A As v29 Z k0_t1_loop.trips) -∗ owns (c : Thread nD τ) arg15 fullShare (qIter1 X W Y k0_t1_loop.trips) -∗ owns (c : Thread nD τ) arg16 fullShare (sIter1 X W S k0_t1_loop.trips) -∗ Q ⟨⟩)
        -∗ wp frame (wpE (defs₀ (F := F)) 𝒱 (c : Thread nD τ) bd) E
          (Scf.Loop.for k0_t1_loop k0_t1_ok ⟨⟩ (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)) Q) := by
  iintro H1 H2 HA HS HK HZ H15 H16 HQ
  unfold Scf.Loop.for
  iapply (Scf.wp_for frame (wpE (defs₀ (F := F)) 𝒱 (c : Thread nD τ) bd) E _ _ _ k0_t1_ok ⟨⟩
    (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)
    (fun k _ => iprop(owns (c : Thread nD τ) arg1 q1 X ∗ owns (c : Thread nD τ) arg2 q2 W ∗ owns (c : Thread nD τ) arg3 qA A ∗ owns (c : Thread nD τ) arg4 qS As ∗ owns (c : Thread nD τ) arg13 qK K ∗ owns (c : Thread nD τ) arg10 fullShare (zIter K A As v29 Z k) ∗ owns (c : Thread nD τ) arg15 fullShare (qIter1 X W Y k) ∗ owns (c : Thread nD τ) arg16 fullShare (sIter1 X W S k))) (by
    intro k acc
    rw [trip1_eq]
    iintro ⟨H1, H2, HA, HS, HK, HZ, H15, H16⟩
    rw [zIter_succ, qIter1_succ, sIter1_succ, wp_bind]
    iapply (wp_zTile 𝒱 c bd E) $$ HK HA HS HZ
    iintro HK HA HS HZ
    iapply (wp_strip 𝒱 c bd E) $$ H1 H2 H15 H16
    iintro H1 H2 H15 H16
    isplitl [H1]
    · iexact H1
    isplitl [H2]
    · iexact H2
    isplitl [HA]
    · iexact HA
    isplitl [HS]
    · iexact HS
    isplitl [HK]
    · iexact HK
    isplitl [HZ]
    · iexact HZ
    isplitl [H15]
    · iexact H15
    iexact H16) (Q := Q))
  isplitl [H1 H2 HA HS HK HZ H15 H16]
  · dsimp only [zIter, qIter1, sIter1]
    isplitl [H1]
    · iexact H1
    isplitl [H2]
    · iexact H2
    isplitl [HA]
    · iexact HA
    isplitl [HS]
    · iexact HS
    isplitl [HK]
    · iexact HK
    isplitl [HZ]
    · iexact HZ
    isplitl [H15]
    · iexact H15
    iexact H16
  · iintro %acc ⟨H1, H2, HA, HS, HK, HZ, H15, H16⟩
    iapply HQ $$ H1 H2 HA HS HK HZ H15
    iexact H16

end Rule

end Cert.KernelIdeal.Own

end
-- ==== Proof.KernelIdeal.Trip2Eq.lean ====
/- A trip of the loop, as printed, is the trip as `Trip2` states it: by unfolding. -/
module

public import proofs.«01_k».proof.Proof.KernelIdeal.Trip2

@[expose] public section

noncomputable section

namespace Cert.KernelIdeal.Own

open Cert.KernelIdeal Cert.KernelIdeal.Gen
open Idealize.ShloMosaic Idealize.SL.Sem

variable {F : FTy → Type} [FloatOps F]

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)

/-- Two programs beginning with the same operation agree when what follows agrees. -/
theorem step {α β : Type} {e e' : Prog (TpuEff nD τ sig (Elt F) Λ₀ .tc) α} {k k' : α → Prog (TpuEff nD τ sig (Elt F) Λ₀ .tc) β}
    (he : e = e') (hk : ∀ v, k v = k' v) : (e >>= k) = (e' >>= k') := by
  rw [he, funext hk]

set_option maxRecDepth 65536 in
set_option maxHeartbeats 16000000 in
theorem trip2_eq (v29 : Vec F S256x1 .f32) (k : Fin k0_t2_loop.trips) :
    k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29 k () =
      (do convTile arg3 arg4 arg5 arg6 arg11 arg13 arg17 arg18 v29 k
          strip arg1 arg2 arg15 harg15 arg16 (row2 k) (row2_inb k) (row2_dvd k)) := by
  unfold k0_t2_body
  rw [k0_part120_eq_skeleton]
  unfold k0_part120_skel
  rw [k0_part58_eq_skeleton, k0_part59_eq_skeleton, k0_part60_eq_skeleton, k0_part61_eq_skeleton, k0_part62_eq_skeleton,
    k0_part63_eq_skeleton, k0_part64_eq_skeleton]
  unfold k0_part58_skel k0_part59_skel k0_part60_skel k0_part61_skel k0_part62_skel k0_part63_skel k0_part64_skel
  unfold convTile convChunk ldC
  simp only [bind_assoc, pure_bind]
  iterate 79 (refine step rfl fun _ => ?_)

  rfl

end

end Cert.KernelIdeal.Own

end
-- ==== Proof.KernelIdeal.Loop2.lean ====
/- The kernel's second loop. -/
module

public import proofs.«01_k».proof.Proof.KernelIdeal.Trip2Eq
public import proofs.«01_k».proof.Proof.KernelIdeal.Tiles

@[expose] public section

noncomputable section

namespace Cert.KernelIdeal.Own

open Cert.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

section Values
variable (X : Vec F S256x8192 .bf16) (W : Vec F S1x8192 .f32)
variable (K : Vec F S256x8192 .fp8e4m3) (A : Vec F S8192x4624 .fp8e4m3) (As : Vec F S1x4624 .f32) (v29 : Vec F S256x1 .f32)
variable (cw : Vec F S4x2560 .f32) (cb : Vec F S1x2560 .f32)

/-- The convolution's arrays after the first `j` tiles. -/
def tIter (s : Conv F) : ℕ → Conv F
  | 0 => s
  | j + 1 => if h : j < k0_t2_loop.trips then tileV K A As v29 cw cb ⟨j, h⟩ (tIter s j) else tIter s j
/-- The codes after the first `j` strips. -/
def qIter2 (Y : Vec F S256x8192 .fp8e4m3) : ℕ → Vec F S256x8192 .fp8e4m3
  | 0 => Y
  | j + 1 => if h : j < k0_t2_loop.trips then stripQ X W (row2 ⟨j, h⟩) (row2_inb ⟨j, h⟩) (qIter2 Y j) else qIter2 Y j
/-- The scales after the first `j` strips. -/
def sIter2 (S : Vec F S256x1 .f32) : ℕ → Vec F S256x1 .f32
  | 0 => S
  | j + 1 => if h : j < k0_t2_loop.trips then stripS X W (row2 ⟨j, h⟩) (row2_inb ⟨j, h⟩) (sIter2 S j) else sIter2 S j

theorem tIter_succ (s : Conv F) (k : Fin k0_t2_loop.trips) :
    tIter K A As v29 cw cb s (k.val + 1) = tileV K A As v29 cw cb k (tIter K A As v29 cw cb s k.val) := dif_pos k.isLt
theorem qIter2_succ (Y : Vec F S256x8192 .fp8e4m3) (k : Fin k0_t2_loop.trips) :
    qIter2 X W Y (k.val + 1) = stripQ X W (row2 k) (row2_inb k) (qIter2 X W Y k.val) := dif_pos k.isLt
theorem sIter2_succ (S : Vec F S256x1 .f32) (k : Fin k0_t2_loop.trips) :
    sIter2 X W S (k.val + 1) = stripS X W (row2 k) (row2_inb k) (sIter2 X W S k.val) := dif_pos k.isLt

end Values

section Rule
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K : Vec F S256x8192 .fp8e4m3} {A : Vec F S8192x4624 .fp8e4m3}
  {As : Vec F S1x4624 .f32} {v29 : Vec F S256x1 .f32} {cw : Vec F S4x2560 .f32} {cb : Vec F S1x2560 .f32}
  {Z : Vec F S256x2048 .f32} {Y : Vec F S256x8192 .fp8e4m3} {S : Vec F S256x1 .f32} {s : Conv F}
  {q1 q2 qK qA qS qw qb : PosShare TreeShare}
variable (𝒱 : Variants) (c : Dev nD) (bd : Option 𝒱.V) (E : Set ℕ)

/-- The loop: its arrays taken to the iterates at its number of trips. -/
theorem wp_loop2 {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg13 qK K -∗ owns (c : Thread nD τ) arg11 fullShare s.1 -∗ owns (c : Thread nD τ) arg17 fullShare s.2.1 -∗ owns (c : Thread nD τ) arg18 fullShare s.2.2 -∗ owns (c : Thread nD τ) arg15 fullShare Y -∗ owns (c : Thread nD τ) arg16 fullShare S
        -∗ (owns (c : Thread nD τ) arg1 q1 X -∗ owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg13 qK K -∗ owns (c : Thread nD τ) arg11 fullShare (tIter K A As v29 cw cb s k0_t2_loop.trips).1 -∗ owns (c : Thread nD τ) arg17 fullShare (tIter K A As v29 cw cb s k0_t2_loop.trips).2.1 -∗ owns (c : Thread nD τ) arg18 fullShare (tIter K A As v29 cw cb s k0_t2_loop.trips).2.2 -∗ owns (c : Thread nD τ) arg15 fullShare (qIter2 X W Y k0_t2_loop.trips) -∗ owns (c : Thread nD τ) arg16 fullShare (sIter2 X W S k0_t2_loop.trips) -∗ Q ⟨⟩)
        -∗ wp frame (wpE (defs₀ (F := F)) 𝒱 (c : Thread nD τ) bd) E
          (Scf.Loop.for k0_t2_loop k0_t2_ok ⟨⟩ (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)) Q) := by
  iintro H1 H2 HA HS Hw Hb HK HB HC HH H15 H16 HQ
  unfold Scf.Loop.for
  iapply (Scf.wp_for frame (wpE (defs₀ (F := F)) 𝒱 (c : Thread nD τ) bd) E _ _ _ k0_t2_ok ⟨⟩
    (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 v29)
    (fun k _ => iprop(owns (c : Thread nD τ) arg1 q1 X ∗ owns (c : Thread nD τ) arg2 q2 W ∗ owns (c : Thread nD τ) arg3 qA A ∗ owns (c : Thread nD τ) arg4 qS As ∗ owns (c : Thread nD τ) arg5 qw cw ∗ owns (c : Thread nD τ) arg6 qb cb ∗ owns (c : Thread nD τ) arg13 qK K ∗ owns (c : Thread nD τ) arg11 fullShare (tIter K A As v29 cw cb s k).1 ∗ owns (c : Thread nD τ) arg17 fullShare (tIter K A As v29 cw cb s k).2.1 ∗ owns (c : Thread nD τ) arg18 fullShare (tIter K A As v29 cw cb s k).2.2 ∗ owns (c : Thread nD τ) arg15 fullShare (qIter2 X W Y k) ∗ owns (c : Thread nD τ) arg16 fullShare (sIter2 X W S k))) (by
    intro k acc
    rw [trip2_eq]
    iintro ⟨H1, H2, HA, HS, Hw, Hb, HK, HB, HC, HH, H15, H16⟩
    rw [tIter_succ, qIter2_succ, sIter2_succ, wp_bind]
    iapply (wp_convTile 𝒱 c bd E) $$ HK HA HS Hw Hb HB HC HH
    iintro HK HA HS Hw Hb HB HC HH
    iapply (wp_strip 𝒱 c bd E) $$ H1 H2 H15 H16
    iintro H1 H2 H15 H16
    isplitl [H1]
    · iexact H1
    isplitl [H2]
    · iexact H2
    isplitl [HA]
    · iexact HA
    isplitl [HS]
    · iexact HS
    isplitl [Hw]
    · iexact Hw
    isplitl [Hb]
    · iexact Hb
    isplitl [HK]
    · iexact HK
    isplitl [HB]
    · iexact HB
    isplitl [HC]
    · iexact HC
    isplitl [HH]
    · iexact HH
    isplitl [H15]
    · iexact H15
    iexact H16) (Q := Q))
  isplitl [H1 H2 HA HS Hw Hb HK HB HC HH H15 H16]
  · dsimp only [tIter, qIter2, sIter2]
    isplitl [H1]
    · iexact H1
    isplitl [H2]
    · iexact H2
    isplitl [HA]
    · iexact HA
    isplitl [HS]
    · iexact HS
    isplitl [Hw]
    · iexact Hw
    isplitl [Hb]
    · iexact Hb
    isplitl [HK]
    · iexact HK
    isplitl [HB]
    · iexact HB
    isplitl [HC]
    · iexact HC
    isplitl [HH]
    · iexact HH
    isplitl [H15]
    · iexact H15
    iexact H16
  · iintro %acc ⟨H1, H2, HA, HS, Hw, Hb, HK, HB, HC, HH, H15, H16⟩
    iapply HQ $$ H1 H2 HA HS Hw Hb HK HB HC HH H15
    iexact H16

end Rule

end Cert.KernelIdeal.Own

end
-- ==== Proof.KernelIdeal.Body.lean ====
/- The kernel's body from its loops on, and the whole body. -/
module

public import proofs.«01_k».proof.Proof.KernelIdeal.Head
public import proofs.«01_k».proof.Proof.KernelIdeal.Loop1
public import proofs.«01_k».proof.Proof.KernelIdeal.Loop2

@[expose] public section

noncomputable section

namespace Cert.KernelIdeal.Own

open Cert.Own
open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The transfers' counters. -/
local notation "EC" => countersEmb (U := Pipeline.UD sig nD τ)

section Values
variable (X : Vec F S256x8192 .bf16) (W : Vec F S1x8192 .f32)
variable (K : Vec F S256x8192 .fp8e4m3) (A : Vec F S8192x4624 .fp8e4m3) (As : Vec F S1x4624 .f32) (v29 : Vec F S256x1 .f32)
variable (cw : Vec F S4x2560 .f32) (cb : Vec F S1x2560 .f32) (db : Vec F S1x16 .f32)

/-- The tile of dt. -/
def dtV : Vec F S256x16 .f32 :=
  k0_pay371 v29 K (rd (Rect.unit (s := S8192x4624) ![0, 4480] S8192x144.size inb_S8192x4624_S8192x144_0_4480) A)
    (rd (Rect.unit (s := S1x4624) ![0, 4608] S1x16.size inb_S1x4624_S1x16_0_4608) As) db

/-- The z array after the body. -/
def zFin (Z : Vec F S256x2048 .f32) : Vec F S256x2048 .f32 := zIter K A As v29 Z k0_t1_loop.trips
/-- The convolution's arrays after the body. -/
def tFin (s : Conv F) : Conv F := tIter K A As v29 cw cb s k0_t2_loop.trips
/-- The codes after the body. -/
def qFin (Y : Vec F S256x8192 .fp8e4m3) : Vec F S256x8192 .fp8e4m3 := qIter2 X W (qIter1 X W Y k0_t1_loop.trips) k0_t2_loop.trips
/-- The scales after the body. -/
def sFin (S : Vec F S256x1 .f32) : Vec F S256x1 .f32 := sIter2 X W (sIter1 X W S k0_t1_loop.trips) k0_t2_loop.trips

end Values

section
variable (i : grid0.Coords) (arg1 : Memref sig .tc .vmem S256x8192 .bf16) (harg1 : arg1.IsWhole) (arg2 : Memref sig .tc .vmem S1x8192 .f32) (harg2 : arg2.IsWhole)
  (arg3 : Memref sig .tc .vmem S8192x4624 .fp8e4m3) (harg3 : arg3.IsWhole) (arg4 : Memref sig .tc .vmem S1x4624 .f32) (harg4 : arg4.IsWhole)
  (arg5 : Memref sig .tc .vmem S4x2560 .f32) (harg5 : arg5.IsWhole) (arg6 : Memref sig .tc .vmem S1x2560 .f32) (harg6 : arg6.IsWhole)
  (arg7 : Memref sig .tc .vmem S1x16 .f32) (harg7 : arg7.IsWhole) (arg8 : Memref sig .tc .hbm S3072x8192 .fp8e4m3) (harg8 : arg8.IsWhole)
  (arg9 : Memref sig .tc .vmem S256x1 .f32) (harg9 : arg9.IsWhole) (arg10 : Memref sig .tc .vmem S256x2048 .f32) (harg10 : arg10.IsWhole)
  (arg11 : Memref sig .tc .vmem S256x2560 .f32) (harg11 : arg11.IsWhole) (arg12 : Memref sig .tc .vmem S256x16 .f32) (harg12 : arg12.IsWhole)
  (arg13 : Memref sig .tc .vmem S256x8192 .fp8e4m3) (harg13 : arg13.IsWhole) (arg14 : Memref sig .tc .vmem S256x1 .f32) (harg14 : arg14.IsWhole)
  (arg15 : Memref sig .tc .vmem S256x8192 .fp8e4m3) (harg15 : arg15.IsWhole) (arg16 : Memref sig .tc .vmem S256x1 .f32) (harg16 : arg16.IsWhole)
  (arg17 : Memref sig .tc .vmem S4x264x128 .f32) (harg17 : arg17.IsWhole) (arg18 : Memref sig .tc .vmem S20x8x128 .f32) (harg18 : arg18.IsWhole)
  (arg19 : DmaSems sig S_)
variable {X : Vec F S256x8192 .bf16} {W : Vec F S1x8192 .f32} {K K0 : Vec F S256x8192 .fp8e4m3} {A : Vec F S8192x4624 .fp8e4m3}
  {As : Vec F S1x4624 .f32} {v29 S0 x0 : Vec F S256x1 .f32} {cw : Vec F S4x2560 .f32} {cb : Vec F S1x2560 .f32} {db : Vec F S1x16 .f32}
  {D : Vec F S3072x8192 .fp8e4m3} {T : Vec F S256x16 .f32}
  {Z : Vec F S256x2048 .f32} {Y : Vec F S256x8192 .fp8e4m3} {S : Vec F S256x1 .f32} {H : Vec F S20x8x128 .f32} {s : Conv F}
  {q1 q2 qK qA qS qw qb qd : PosShare TreeShare}
variable (𝒱 : Variants) (c : Dev nD) (bd : Option 𝒱.V)

theorem wp_tail {q : PosShare TreeShare} {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg10 fullShare Z -∗ owns (c : Thread nD τ) arg11 fullShare s.1 -∗ owns (c : Thread nD τ) arg12 fullShare T -∗ owns (c : Thread nD τ) arg13 qK K -∗ owns (c : Thread nD τ) arg14 q v29 -∗ owns (c : Thread nD τ) arg15 fullShare Y -∗ owns (c : Thread nD τ) arg16 fullShare S -∗ owns (c : Thread nD τ) arg17 fullShare s.2.1 -∗ owns (c : Thread nD τ) arg18 fullShare s.2.2
        -∗ (owns (c : Thread nD τ) arg1 q1 X -∗ owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg10 fullShare (zFin K A As v29 Z) -∗ owns (c : Thread nD τ) arg11 fullShare (tFin K A As v29 cw cb s).1 -∗ owns (c : Thread nD τ) arg12 fullShare (dtV K A As v29 db) -∗ owns (c : Thread nD τ) arg13 qK K -∗ owns (c : Thread nD τ) arg14 q v29 -∗ owns (c : Thread nD τ) arg15 fullShare (qFin X W Y) -∗ owns (c : Thread nD τ) arg16 fullShare (sFin X W S) -∗ owns (c : Thread nD τ) arg17 fullShare (tFin K A As v29 cw cb s).2.1 -∗ owns (c : Thread nD τ) arg18 fullShare (tFin K A As v29 cw cb s).2.2 -∗ Q ⟨⟩)
        -∗ wp frame (wpE (defs₀ (F := F)) 𝒱 (c : Thread nD τ) bd) Set.univ (k0_part122 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [k0_part122_eq_skeleton]
  unfold k0_part122_skel zFin tFin qFin sFin dtV
  iintro H1 H2 H3 H4 H5 H6 H7 H10 H11 H12 H13 H14 H15 H16 H17 H18 HQ
  rw [wp_bind]
  iapply (wp_ld (defs := defs₀) 𝒱 (c : Thread nD τ) bd Set.univ (m := arg14)) $$ H14
  iintro H14
  rw [rd_whole]
  rw [wp_bind]
  iapply (wp_loop1 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd Set.univ) $$ H1 H2 H3 H4 H13 H10 H15 H16
  iintro H1 H2 H3 H4 H13 H10 H15 H16
  rw [wp_bind]
  iapply (wp_loop2 (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd Set.univ) $$ H1 H2 H3 H4 H5 H6 H13 H11 H17 H18 H15 H16
  iintro H1 H2 H3 H4 H5 H6 H13 H11 H17 H18 H15 H16
  rw [wp_bind]
  iapply (wp_ld (defs := defs₀) 𝒱 (c : Thread nD τ) bd Set.univ (m := arg13)) $$ H13
  iintro H13
  rw [wp_bind]
  iapply (wp_ld (defs := defs₀) 𝒱 (c : Thread nD τ) bd Set.univ (m := arg3)) $$ H3
  iintro H3
  rw [wp_bind]
  iapply (wp_ld (defs := defs₀) 𝒱 (c : Thread nD τ) bd Set.univ (m := arg4)) $$ H4
  iintro H4
  rw [wp_bind]
  iapply (wp_ld (defs := defs₀) 𝒱 (c : Thread nD τ) bd Set.univ (m := arg7)) $$ H7
  iintro H7
  rw [wp_bind]
  iapply (wp_ld (defs := defs₀) 𝒱 (c : Thread nD τ) bd Set.univ (m := arg12)) $$ H12
  iintro H12
  rw [wp_bind]
  iapply (wp_st (defs := defs₀) 𝒱 (c : Thread nD τ) bd Set.univ (m := arg12)) $$ H12
  iintro H12
  rw [rd_whole, rd_whole, upd_whole]
  iapply (le_wp_ret _ _ _ _ Q)
  iapply HQ $$ H1 H2 H3 H4 H5 H6 H7 H10 H11 H12 H13 H14 H15 H16 H17
  iexact H18

/-- The body. -/
theorem wp_body {Wt : Waits sig Unit} {Q : PUnit → sProp 𝕄} :
    (owns (c : Thread nD τ) arg1 q1 X : sProp 𝕄)
      ⊢ iprop(owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg8 fullShare D -∗ owns (c : Thread nD τ) arg9 fullShare x0 -∗ owns (c : Thread nD τ) arg10 fullShare Z -∗ owns (c : Thread nD τ) arg11 fullShare s.1 -∗ owns (c : Thread nD τ) arg12 fullShare T -∗ owns (c : Thread nD τ) arg13 fullShare K -∗ owns (c : Thread nD τ) arg14 fullShare S0 -∗ owns (c : Thread nD τ) arg15 fullShare Y -∗ owns (c : Thread nD τ) arg16 fullShare S -∗ owns (c : Thread nD τ) arg17 fullShare s.2.1 -∗ owns (c : Thread nD τ) arg18 fullShare s.2.2
        -∗ semVal ((c : Thread nD τ), SemLoc.dma arg19.sem) 0 -∗ owes (c : Thread nD τ) 0 Wt
        -∗ (owns (c : Thread nD τ) arg1 q1 X -∗ owns (c : Thread nD τ) arg2 q2 W -∗ owns (c : Thread nD τ) arg3 qA A -∗ owns (c : Thread nD τ) arg4 qS As -∗ owns (c : Thread nD τ) arg5 qw cw -∗ owns (c : Thread nD τ) arg6 qb cb -∗ owns (c : Thread nD τ) arg7 qd db -∗ owns (c : Thread nD τ) arg8 fullShare (upd (rD i) Y D) -∗ owns (c : Thread nD τ) arg9 fullShare S -∗ owns (c : Thread nD τ) arg10 fullShare (zFin Y A As S Z) -∗ owns (c : Thread nD τ) arg11 fullShare (tFin Y A As S cw cb (s.1, s.2.1, haloV i s.2.2)).1 -∗ owns (c : Thread nD τ) arg12 fullShare (dtV Y A As S db) -∗ owns (c : Thread nD τ) arg13 fullShare Y -∗ owns (c : Thread nD τ) arg14 fullShare S -∗ owns (c : Thread nD τ) arg15 fullShare (qFin X W Y) -∗ owns (c : Thread nD τ) arg16 fullShare (sFin X W S) -∗ owns (c : Thread nD τ) arg17 fullShare (tFin Y A As S cw cb (s.1, s.2.1, haloV i s.2.2)).2.1 -∗ owns (c : Thread nD τ) arg18 fullShare (tFin Y A As S cw cb (s.1, s.2.1, haloV i s.2.2)).2.2 -∗ semVal ((c : Thread nD τ), SemLoc.dma arg19.sem) 0 -∗ owes (c : Thread nD τ) 0 (insert (SemLoc.dma arg19.sem, ()) Wt) -∗ Q ⟨⟩)
        -∗ wp frame (wpE (defs₀ (F := F)) 𝒱 (c : Thread nD τ) bd) Set.univ (cc0_in_proj (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19) Q) := by
  rw [cc0_in_proj_eq_skeleton]
  unfold cc0_in_proj_skel
  iintro H1 H2 H3 H4 H5 H6 H7 H8 H9 H10 H11 H12 H13 H14 H15 H16 H17 H18 Hv HO HQ
  rw [wp_bind]
  iapply (wp_head (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd) $$ H15 H13 H16 H14 H9 H18 H8 Hv
  iintro H15 H13 H16 H14 H9 H18 HF
  rw [wp_bind]
  iapply (wp_tail (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 𝒱 c bd (s := (s.1, s.2.1, haloV i s.2.2))) $$ H1 H2 H3 H4 H5 H6 H7 H10 H11 H12 H13 H14 H15 H16 H17 H18
  iintro H1 H2 H3 H4 H5 H6 H7 H10 H11 H12 H13 H14 H15 H16 H17 H18
  dsimp only
  rw [wp_bind]
  iapply (wp_await EC (defs := defs₀) 𝒱 (c : Thread nD τ) bd) $$ [HF HO]
  · isplitl [HF]
    · iexact HF
    iexact HO
  iintro ⟨⟨H8, H13r⟩, Hv, HO⟩
  ihave H13 := (owns_halves (c : Thread nD τ) arg13 fullShare Y).2 $$ [H13 H13r]
  · isplitl [H13]
    · iexact H13
    iexact H13r
  iapply (le_wp_ret _ _ _ _ Q)
  iapply HQ $$ H1 H2 H3 H4 H5 H6 H7 H8 H9 H10 H11 H12 H13 H14 H15 H16 H17 H18 Hv
  iexact HO

end

end Cert.KernelIdeal.Own

end
-- ==== Proof.KernelIdeal.Closed.lean ====
/- The arrays the body leaves, each in closed form: they do not depend on what the scratch arrays held before, but for
   the eight rows kept, which enter the convolution. -/
module

public import proofs.«01_k».proof.Proof.KernelIdeal.Body
public import proofs.«01_k».proof.Proof.Bands

@[expose] public section

noncomputable section

namespace Cert.KernelIdeal.Own

open Cert.Own
open Cert.KernelIdeal Cert.KernelIdeal.Gen
open Idealize.ShloMosaic Idealize.ShloMosaic.ValueIdx

variable {F : FTy → Type} [FloatOps F]

/-! ## The codes and the scales -/

section Strips
variable (X : Vec F S256x8192 .bf16) (W : Vec F S1x8192 .f32)

/-- The codes of strip `s`, block `c`. -/
def qBlk (s : Fin 8) (c : Fin 64) : FVec F S32x128 .fp8e4m3 :=
  codeF (rmsV X (32 * s.val) (by omega)) (invF (ratioV X W (32 * s.val) (by omega)))
    (blkX X (32 * s.val) (by omega) c.val c.isLt) (blkW W c.val c.isLt)

/-- The scales of strip `s`. -/
def sBlk (s : Fin 8) : FVec F S32x1 .f32 :=
  shapeCast S32x1 (scaleF (ratioV X W (32 * s.val) (by omega))) shapeCasts_S32x1_S32x1

/-- The codes. -/
def QV : Vec F S256x8192 .fp8e4m3 := fun y =>
  have h0 : (y 0).val < 256 := (y 0).isLt
  have h1 : (y 1).val < 8192 := (y 1).isLt
  qBlk X W ⟨(y 0).val / 32, by omega⟩ ⟨(y 1).val / 128, by omega⟩
    (ix2 ⟨(y 0).val % 32, by omega⟩ ⟨(y 1).val % 128, by omega⟩)

/-- The scales. -/
def SV : Vec F S256x1 .f32 := fun y =>
  have h0 : (y 0).val < 256 := (y 0).isLt
  sBlk X W ⟨(y 0).val / 32, by omega⟩ (ix2 ⟨(y 0).val % 32, by omega⟩ ⟨0, by omega⟩)

theorem codeV_row (n : ℕ) (hn : n + 32 ≤ 256) (r i : FVec F S32x1 .f32) (f : ℕ) : ∀ (c : ℕ) (h : c + f = 64) (Y : Vec F S256x8192 .fp8e4m3) (y : S256x8192.Idx),
    ((y 0).val < n ∨ n + 32 ≤ (y 0).val ∨ (y 1).val < 128 * c) → codeV X W n hn r i f c h Y y = Y y := by
  induction f with
  | zero => intro c h Y y hy; rfl
  | succ f ih =>
    intro c h Y y hy
    unfold codeV
    rw [ih (c + 1) _ _ y (by omega)]
    by_cases hr : (y 0).val < n ∨ n + 32 ≤ (y 0).val
    · exact upd_out _ _ _ _ _ y 0 hr
    · exact upd_out _ _ _ _ _ y 1 (Or.inl (by show (y 1).val < 128 * c; omega))

theorem codeV_at (n : ℕ) (hn : n + 32 ≤ 256) (r i : FVec F S32x1 .f32) (f : ℕ) : ∀ (c : ℕ) (h : c + f = 64) (Y : Vec F S256x8192 .fp8e4m3) (y : S256x8192.Idx)
    (b : ℕ) (hb : b < 64) (x : S32x128.Idx) (h0 : (y 0).val = n + (x 0).val) (h1 : (y 1).val = 128 * b + (x 1).val), c ≤ b →
    codeV X W n hn r i f c h Y y = codeF r i (blkX X n hn b hb) (blkW W b hb) x := by
  induction f with
  | zero => intro c h Y y b hb x h0 h1 hc; omega
  | succ f ih =>
    intro c h Y y b hb x h0 h1 hc
    unfold codeV
    by_cases e : c = b
    · subst e
      have hx1 : (x 1).val < 128 := (x 1).isLt
      rw [codeV_row X W n hn r i f _ _ _ y (by omega)]
      apply upd_at
      intro a
      fin_cases a
      · show (y 0).val = n + 1 * (x 0).val; omega
      · show (y 1).val = 128 * c + 1 * (x 1).val; omega
    · exact ih _ _ _ y b hb x h0 h1 (by omega)

/-- A strip makes its own rows right. -/
theorem stripQ_at (s : Fin 8) (n : ℕ) (hn : n + 32 ≤ 256) (e : n = 32 * s.val) (Y : Vec F S256x8192 .fp8e4m3) (y : S256x8192.Idx)
    (hy : (y 0).val / 32 = s.val) : stripQ X W n hn Y y = QV X W y := by
  subst e
  have h0 : (y 0).val < 256 := (y 0).isLt
  have h1 : (y 1).val < 8192 := (y 1).isLt
  obtain ⟨k, hk⟩ := s
  dsimp only at hy hn ⊢
  subst hy
  unfold stripQ QV qBlk
  exact codeV_at X W _ _ _ _ 64 0 rfl Y y ((y 1).val / 128) (by omega) (ix2 ⟨(y 0).val % 32, by omega⟩ ⟨(y 1).val % 128, by omega⟩)
    (by show (y 0).val = 32 * ((y 0).val / 32) + (y 0).val % 32; omega)
    (by show (y 1).val = 128 * ((y 1).val / 128) + (y 1).val % 128; omega) (Nat.zero_le _)

/-- It leaves the others. -/
theorem stripQ_row (s : Fin 8) (n : ℕ) (hn : n + 32 ≤ 256) (e : n = 32 * s.val) (Y : Vec F S256x8192 .fp8e4m3) (y : S256x8192.Idx)
    (hy : (y 0).val / 32 ≠ s.val) : stripQ X W n hn Y y = Y y := by
  subst e
  unfold stripQ
  exact codeV_row X W _ _ _ _ 64 0 rfl Y y (by omega)

theorem stripS_at (s : Fin 8) (n : ℕ) (hn : n + 32 ≤ 256) (e : n = 32 * s.val) (S : Vec F S256x1 .f32) (y : S256x1.Idx)
    (hy : (y 0).val / 32 = s.val) : stripS X W n hn S y = SV X W y := by
  subst e
  have h0 : (y 0).val < 256 := (y 0).isLt
  have h1 : (y 1).val < 1 := (y 1).isLt
  obtain ⟨k, hk⟩ := s
  dsimp only at hy hn ⊢
  subst hy
  unfold stripS SV sBlk
  apply upd_at
  intro a
  fin_cases a
  · show (y 0).val = 32 * ((y 0).val / 32) + 1 * ((y 0).val % 32); omega
  · show (y 1).val = 0 + 1 * 0; omega

theorem stripS_row (s : Fin 8) (n : ℕ) (hn : n + 32 ≤ 256) (e : n = 32 * s.val) (S : Vec F S256x1 .f32) (y : S256x1.Idx)
    (hy : (y 0).val / 32 ≠ s.val) : stripS X W n hn S y = S y := by
  subst e
  unfold stripS
  exact upd_out _ _ _ _ _ y 0 (by show (y 0).val < 32 * s.val ∨ 32 * s.val + 32 ≤ (y 0).val; omega)

theorem trips1 : k0_t1_loop.trips = 4 := by decide +kernel
theorem trips2 : k0_t2_loop.trips = 5 := by decide +kernel
theorem row1_eq : ∀ k : Fin k0_t1_loop.trips, row1 k = 32 * (min k.val 7) := by decide +kernel
theorem row2_eq : ∀ k : Fin k0_t2_loop.trips, row2 k = 32 * (min (k.val + 4) 7) := by decide +kernel

theorem qIter1_at (Y : Vec F S256x8192 .fp8e4m3) (y : S256x8192.Idx) : ∀ j ≤ k0_t1_loop.trips,
    (y 0).val / 32 < j → qIter1 X W Y j y = QV X W y := by
  intro j
  induction j with
  | zero => intro _ h; omega
  | succ j ih =>
    intro hj h
    have ht : k0_t1_loop.trips = 4 := trips1
    have hs := qIter1_succ X W Y ⟨j, hj⟩
    have hr := row1_eq ⟨j, hj⟩
    dsimp only at hs hr
    rw [hs]
    by_cases e : (y 0).val / 32 = min j 7
    · exact stripQ_at X W ⟨min j 7, by omega⟩ _ _ hr _ y e
    · rw [stripQ_row X W ⟨min j 7, by omega⟩ _ _ hr _ y e]
      exact ih (by omega) (by omega)

theorem qIter2_at (Y : Vec F S256x8192 .fp8e4m3) (y : S256x8192.Idx) : ∀ j ≤ k0_t2_loop.trips,
    ((y 0).val / 32 < 4 → Y y = QV X W y) → (y 0).val / 32 < 4 + j → qIter2 X W Y j y = QV X W y := by
  intro j
  induction j with
  | zero => intro _ h h'; exact h h'
  | succ j ih =>
    intro hj hY h
    have ht : k0_t2_loop.trips = 5 := trips2
    have h0 : (y 0).val < 256 := (y 0).isLt
    have hs := qIter2_succ X W Y ⟨j, hj⟩
    have hr := row2_eq ⟨j, hj⟩
    dsimp only at hs hr
    rw [hs]
    by_cases e : (y 0).val / 32 = min (j + 4) 7
    · exact stripQ_at X W ⟨min (j + 4) 7, by omega⟩ _ _ hr _ y e
    · rw [stripQ_row X W ⟨min (j + 4) 7, by omega⟩ _ _ hr _ y e]
      exact ih (by omega) hY (by omega)

/-- The codes after the body. -/
theorem qFin_eq (Y : Vec F S256x8192 .fp8e4m3) : qFin X W Y = QV X W := by
  funext y
  have h0 : (y 0).val < 256 := (y 0).isLt
  have h1 := trips1
  have h2 := trips2
  exact qIter2_at X W _ y _ le_rfl (fun h => qIter1_at X W Y y _ le_rfl (by omega)) (by omega)

theorem sIter1_at (Y : Vec F S256x1 .f32) (y : S256x1.Idx) : ∀ j ≤ k0_t1_loop.trips,
    (y 0).val / 32 < j → sIter1 X W Y j y = SV X W y := by
  intro j
  induction j with
  | zero => intro _ h; omega
  | succ j ih =>
    intro hj h
    have ht : k0_t1_loop.trips = 4 := trips1
    have hs := sIter1_succ X W Y ⟨j, hj⟩
    have hr := row1_eq ⟨j, hj⟩
    dsimp only at hs hr
    rw [hs]
    by_cases e : (y 0).val / 32 = min j 7
    · exact stripS_at X W ⟨min j 7, by omega⟩ _ _ hr _ y e
    · rw [stripS_row X W ⟨min j 7, by omega⟩ _ _ hr _ y e]
      exact ih (by omega) (by omega)

theorem sIter2_at (Y : Vec F S256x1 .f32) (y : S256x1.Idx) : ∀ j ≤ k0_t2_loop.trips,
    ((y 0).val / 32 < 4 → Y y = SV X W y) → (y 0).val / 32 < 4 + j → sIter2 X W Y j y = SV X W y := by
  intro j
  induction j with
  | zero => intro _ h h'; exact h h'
  | succ j ih =>
    intro hj hY h
    have ht : k0_t2_loop.trips = 5 := trips2
    have h0 : (y 0).val < 256 := (y 0).isLt
    have hs := sIter2_succ X W Y ⟨j, hj⟩
    have hr := row2_eq ⟨j, hj⟩
    dsimp only at hs hr
    rw [hs]
    by_cases e : (y 0).val / 32 = min (j + 4) 7
    · exact stripS_at X W ⟨min (j + 4) 7, by omega⟩ _ _ hr _ y e
    · rw [stripS_row X W ⟨min (j + 4) 7, by omega⟩ _ _ hr _ y e]
      exact ih (by omega) hY (by omega)

/-- The scales after the body. -/
theorem sFin_eq (Y : Vec F S256x1 .f32) : sFin X W Y = SV X W := by
  funext y
  have h0 : (y 0).val < 256 := (y 0).isLt
  have h1 := trips1
  have h2 := trips2
  exact sIter2_at X W _ y _ le_rfl (fun h => sIter1_at X W Y y _ le_rfl (by omega)) (by omega)

end Strips

/-! ## The tiles of z -/

section Tiles
variable (K : Vec F S256x8192 .fp8e4m3) (A : Vec F S8192x4624 .fp8e4m3) (As : Vec F S1x4624 .f32) (v29 : Vec F S256x1 .f32)

/-- Tile `k` of z. -/
def zBlk (k : Fin k0_t1_loop.trips) : FVec F S256x512 .f32 :=
  k0_pay1 v29 (rd rQ K) (rd (Rect.unit (s := S8192x4624) (k0_off2 k) S8192x512.size (k0_off2_inb k)) A)
      (rd (Rect.unit (s := S1x4624) (k0_off3 k) S1x512.size (k0_off3_inb k)) As)

/-- z. -/
def zC : Vec F S256x2048 .f32 := fun y =>
  have h1 : (y 1).val < 2048 := (y 1).isLt
  have ht := trips1
  zBlk K A As v29 ⟨(y 1).val / 512, by omega⟩ (ix2 (y 0) ⟨(y 1).val % 512, by omega⟩)

theorem off4_eq : ∀ k : Fin k0_t1_loop.trips, k0_off4 k 0 = 0 ∧ k0_off4 k 1 = 512 * k.val := by decide +kernel

theorem zIter_at (Z : Vec F S256x2048 .f32) (y : S256x2048.Idx) : ∀ j ≤ k0_t1_loop.trips,
    (y 1).val / 512 < j → zIter K A As v29 Z j y = zC K A As v29 y := by
  intro j
  induction j with
  | zero => intro _ h; omega
  | succ j ih =>
    intro hj h
    have ht : k0_t1_loop.trips = 4 := trips1
    have h1 : (y 1).val < 2048 := (y 1).isLt
    have hs := zIter_succ K A As v29 Z ⟨j, hj⟩
    have hr := off4_eq ⟨j, hj⟩
    dsimp only at hs hr
    rw [hs]
    unfold zV
    by_cases e : (y 1).val / 512 = j
    · subst e
      unfold zC zBlk
      apply upd_at
      intro a
      fin_cases a
      · show (y 0).val = k0_off4 ⟨(y 1).val / 512, hj⟩ 0 + 1 * (y 0).val
        rw [hr.1]; omega
      · show (y 1).val = k0_off4 ⟨(y 1).val / 512, hj⟩ 1 + 1 * ((y 1).val % 512)
        rw [hr.2]; omega
    · rw [upd_out _ _ _ _ _ y 1 (by
        show (y 1).val < k0_off4 ⟨j, hj⟩ 1 ∨ k0_off4 ⟨j, hj⟩ 1 + 512 ≤ (y 1).val
        rw [hr.2]; omega)]
      exact ih (by omega) (by omega)

theorem zFin_eq (Z : Vec F S256x2048 .f32) : zFin K A As v29 Z = zC K A As v29 := by
  funext y
  have h1 : (y 1).val < 2048 := (y 1).isLt
  have ht := trips1
  exact zIter_at K A As v29 Z y _ le_rfl (by omega)

end Tiles

end Cert.KernelIdeal.Own

end
-- ==== Proof.KernelIdeal.ClosedConv.lean ====
/- The convolution's arrays after the body, each in closed form: the result and the rows kept for the next block depend on
   the rows kept from the block before, and on nothing else that the scratch arrays held. -/
module

public import proofs.«01_k».proof.Proof.KernelIdeal.Closed
public import Idealize.ShloMosaic.Lib.Pipeline.Value

@[expose] public section

noncomputable section

namespace Cert.KernelIdeal.Own

open Cert.Own
open Cert.KernelIdeal Cert.KernelIdeal.Gen
open Idealize.ShloMosaic Idealize.ShloMosaic.ValueIdx

variable {F : FTy → Type} [FloatOps F]

theorem haloF_eq (v : Vec F S1x8x128 .f32) : haloF v = v := shapeCast_shapeCast _ _ _

/-- 256 rows, from row `r` on, of eight rows followed by a chunk. -/
def tapRows (a : FVec F S256x128 .f32) (h : Vec F S1x8x128 .f32) (r : Fin 9) : Vec F S1x256x128 .f32 := fun x =>
  have h1 : (x 1).val < 256 := (x 1).isLt
  if e : (x 1).val + r.val < 8 then h (ix3 ⟨0, by omega⟩ ⟨(x 1).val + r.val, e⟩ (x 2))
  else a (ix2 ⟨(x 1).val + r.val - 8, by omega⟩ (x 2))

section
variable (k : Fin k0_t2_loop.trips) (c : Fin 4) (a : FVec F S256x512 .f32) (C : Vec F S4x264x128 .f32) (H : Vec F S20x8x128 .f32)

theorem cbuf_hi (y : S4x264x128.Idx) (x : S256x128.Idx) (h0 : (y 0).val = c.val) (h1 : (y 1).val = 8 + (x 0).val)
    (h2 : (y 2).val = (x 1).val) : cbufV k c a C H y = chunkF c a x := by
  unfold cbufV
  rw [upd_at (rC c 8) _ _ y (ix3 ⟨0, by omega⟩ (x 0) (x 1)) (by
    intro b
    fin_cases b
    · show (y 0).val = c.val + 1 * 0; omega
    · show (y 1).val = 8 + 1 * (x 0).val; omega
    · show (y 2).val = 0 + 1 * (x 1).val; omega)]
  rw [show shapeCast S1x256x128 (chunkF c a) shapeCasts_S256x128_S1x256x128 (ix3 ⟨0, by omega⟩ (x 0) (x 1)) = _ from
    shapeCast_addUnit_apply _ _ _ _]
  congr 1
  funext b
  fin_cases b <;> rfl

theorem cbuf_lo (y : S4x264x128.Idx) (x : S1x8x128.Idx) (h0 : (y 0).val = c.val) (h1 : (y 1).val = (x 1).val)
    (h2 : (y 2).val = (x 2).val) : cbufV k c a C H y = rd (rH k c) H x := by
  have hx0 : (x 0).val < 1 := (x 0).isLt
  have hx1 : (x 1).val < 8 := (x 1).isLt
  unfold cbufV
  rw [haloF_eq, upd_out _ _ _ _ _ y 1 (Or.inl (by show (y 1).val < 8; omega))]
  apply upd_at
  intro b
  fin_cases b
  · show (y 0).val = c.val + 1 * (x 0).val; omega
  · show (y 1).val = 0 + 1 * (x 1).val; omega
  · show (y 2).val = 0 + 1 * (x 2).val; omega

theorem rd_tap (r : Fin 9) : rd (rC c r) (cbufV k c a C H) = tapRows (chunkF c a) (rd (rH k c) H) r := by
  funext x
  have hx0 : (x 0).val < 1 := (x 0).isLt
  have hx1 : (x 1).val < 256 := (x 1).isLt
  have e0 : ((rC c r).emb x 0).val = c.val + 1 * (x 0).val := rfl
  have e1 : ((rC c r).emb x 1).val = r.val + 1 * (x 1).val := rfl
  have e2 : ((rC c r).emb x 2).val = 0 + 1 * (x 2).val := rfl
  unfold tapRows
  by_cases e : (x 1).val + r.val < 8
  · rw [dif_pos e]
    exact cbuf_lo k c a C H _ _ (by omega) (by show _ = (x 1).val + r.val; omega) (by show _ = (x 2).val; omega)
  · rw [dif_neg e]
    exact cbuf_hi k c a C H _ _ (by omega) (by show _ = 8 + ((x 1).val + r.val - 8); omega) (by show _ = (x 2).val; omega)

/-- The last eight rows of a chunk. -/
def lastRows (a : FVec F S256x128 .f32) : Vec F S1x8x128 .f32 := fun x =>
  have h1 : (x 1).val < 8 := (x 1).isLt
  a (ix2 ⟨248 + (x 1).val, by omega⟩ (x 2))

theorem rd_last : rd (rCe c) (cbufV k c a C H) = lastRows (chunkF c a) := by
  funext x
  have hx0 : (x 0).val < 1 := (x 0).isLt
  have hx1 : (x 1).val < 8 := (x 1).isLt
  have e0 : ((rCe c).emb x 0).val = c.val + 1 * (x 0).val := rfl
  have e1 : ((rCe c).emb x 1).val = 256 + 1 * (x 1).val := rfl
  have e2 : ((rCe c).emb x 2).val = 0 + 1 * (x 2).val := rfl
  exact cbuf_hi k c a C H _ _ (by omega) (by show _ = 8 + (248 + (x 1).val); omega) (by show _ = (x 2).val; omega)

end

theorem off72_eq : ∀ (k : Fin k0_t2_loop.trips) (c : Fin 4), k0_off72 k (BitVec.ofNat 32 c.val) 0 = 4 * k.val + c.val ∧
    k0_off72 k (BitVec.ofNat 32 c.val) 1 = 0 ∧ k0_off72 k (BitVec.ofNat 32 c.val) 2 = 0 := by decide +kernel
theorem off78_eq : ∀ (k : Fin k0_t2_loop.trips) (c : Fin 4), k0_off78 k (BitVec.ofNat 32 c.val) 0 = 0 ∧
    k0_off78 k (BitVec.ofNat 32 c.val) 1 = 128 * (4 * k.val + c.val) := by decide +kernel

section Values
variable (cw : Vec F S4x2560 .f32) (cb : Vec F S1x2560 .f32)

/-- Chunk `c` of tile `k` of the convolution's result, from the projection's tile and the eight rows before it. -/
def xBlk (k : Fin k0_t2_loop.trips) (c : Fin 4) (a : FVec F S256x512 .f32) (h : Vec F S1x8x128 .f32) : FVec F S256x128 .f32 :=
  convF (tapRows (chunkF c a) h 5) (tapRows (chunkF c a) h 6) (tapRows (chunkF c a) h 7) (tapRows (chunkF c a) h 8)
    (rd (Rect.unit (s := S4x2560) (k0_off73 k (BitVec.ofNat 32 c.val)) S1x128.size (k0_off73_inb k c)) cw)
    (rd (Rect.unit (s := S4x2560) (k0_off74 k (BitVec.ofNat 32 c.val)) S1x128.size (k0_off74_inb k c)) cw)
    (rd (Rect.unit (s := S4x2560) (k0_off75 k (BitVec.ofNat 32 c.val)) S1x128.size (k0_off75_inb k c)) cw)
    (rd (Rect.unit (s := S4x2560) (k0_off76 k (BitVec.ofNat 32 c.val)) S1x128.size (k0_off76_inb k c)) cw)
    (rd (Rect.unit (s := S1x2560) (k0_off77 k (BitVec.ofNat 32 c.val)) S1x128.size (k0_off77_inb k c)) cb)

theorem chunkV_eq (k : Fin k0_t2_loop.trips) (c : Fin 4) (a : FVec F S256x512 .f32) (C : Vec F S4x264x128 .f32) (H : Vec F S20x8x128 .f32) :
    chunkV cw cb k c (cbufV k c a C H) = xBlk cw cb k c a (rd (rH k c) H) := by
  unfold chunkV xBlk
  rw [rd_tap, rd_tap, rd_tap, rd_tap]

/-! ## One chunk -/

section Step
variable (k : Fin k0_t2_loop.trips) (c : Fin 4) (a : FVec F S256x512 .f32) (s : Conv F)

theorem conv_at (y : S256x2560.Idx) (x : S256x128.Idx) (h0 : (y 0).val = (x 0).val) (h1 : (y 1).val = 128 * (4 * k.val + c.val) + (x 1).val) :
    (convV cw cb k c a s).1 y = xBlk cw cb k c a (rd (rH k c) s.2.2) x := by
  unfold convV
  dsimp only
  rw [chunkV_eq]
  have h := off78_eq k c
  apply upd_at
  intro b
  fin_cases b
  · show (y 0).val = k0_off78 k (BitVec.ofNat 32 c.val) 0 + 1 * (x 0).val; omega
  · show (y 1).val = k0_off78 k (BitVec.ofNat 32 c.val) 1 + 1 * (x 1).val; omega

theorem conv_out (y : S256x2560.Idx) (h1 : (y 1).val / 128 ≠ 4 * k.val + c.val) : (convV cw cb k c a s).1 y = s.1 y := by
  have h := off78_eq k c
  unfold convV
  dsimp only
  exact upd_out _ _ _ _ _ y 1 (by
    show (y 1).val < k0_off78 k (BitVec.ofNat 32 c.val) 1 ∨ k0_off78 k (BitVec.ofNat 32 c.val) 1 + 128 ≤ (y 1).val
    omega)

theorem kept_at (y : S20x8x128.Idx) (x : S1x8x128.Idx) (h0 : (y 0).val = 4 * k.val + c.val) (h1 : (y 1).val = (x 1).val)
    (h2 : (y 2).val = (x 2).val) : (convV cw cb k c a s).2.2 y = lastRows (chunkF c a) x := by
  have hx0 : (x 0).val < 1 := (x 0).isLt
  unfold convV
  dsimp only
  rw [haloF_eq, rd_last]
  have h := off72_eq k c
  apply upd_at
  intro b
  fin_cases b
  · show (y 0).val = k0_off72 k (BitVec.ofNat 32 c.val) 0 + 1 * (x 0).val; omega
  · show (y 1).val = k0_off72 k (BitVec.ofNat 32 c.val) 1 + 1 * (x 1).val; omega
  · show (y 2).val = k0_off72 k (BitVec.ofNat 32 c.val) 2 + 1 * (x 2).val; omega

theorem kept_out (y : S20x8x128.Idx) (h0 : (y 0).val ≠ 4 * k.val + c.val) : (convV cw cb k c a s).2.2 y = s.2.2 y := by
  have h := off72_eq k c
  unfold convV
  dsimp only
  exact upd_out _ _ _ _ _ y 0 (by
    show (y 0).val < k0_off72 k (BitVec.ofNat 32 c.val) 0 ∨ k0_off72 k (BitVec.ofNat 32 c.val) 0 + 1 ≤ (y 0).val
    omega)

end Step

/-! ## All chunks -/

variable (K : Vec F S256x8192 .fp8e4m3) (A : Vec F S8192x4624 .fp8e4m3) (As : Vec F S1x4624 .f32) (v29 : Vec F S256x1 .f32)

/-- Chunk number `n`'s tile and place in it. -/
abbrev ckK (n : ℕ) (h : n < 20) : Fin k0_t2_loop.trips := ⟨n / 4, by have := trips2; omega⟩
abbrev ckC (n : ℕ) : Fin 4 := ⟨n % 4, by omega⟩

/-- The convolution's result. -/
def xbcV (H : Vec F S20x8x128 .f32) : Vec F S256x2560 .f32 := fun y =>
  have h1 : (y 1).val < 2560 := (y 1).isLt
  xBlk cw cb (ckK ((y 1).val / 128) (by omega)) (ckC ((y 1).val / 128)) (accV K A As v29 (ckK ((y 1).val / 128) (by omega)))
    (rd (rH (ckK ((y 1).val / 128) (by omega)) (ckC ((y 1).val / 128))) H) (ix2 (y 0) ⟨(y 1).val % 128, by omega⟩)

/-- The rows kept. -/
def haloC : Vec F S20x8x128 .f32 := fun y =>
  have h0 : (y 0).val < 20 := (y 0).isLt
  lastRows (chunkF (ckC (y 0).val) (accV K A As v29 (ckK (y 0).val (by omega)))) (ix3 ⟨0, by omega⟩ (y 1) (y 2))

theorem xBlk_congr (H : Vec F S20x8x128 .f32) (x : S256x128.Idx) (k' : Fin k0_t2_loop.trips) (c' : Fin 4) (k : Fin k0_t2_loop.trips)
    (c : Fin 4) (ek : k' = k) (ec : c' = c) :
    xBlk cw cb k' c' (accV K A As v29 k') (rd (rH k' c') H) x = xBlk cw cb k c (accV K A As v29 k) (rd (rH k c) H) x := by
  subst ek ec; rfl

theorem last_congr (x : S1x8x128.Idx) (k' : Fin k0_t2_loop.trips) (c' : Fin 4) (k : Fin k0_t2_loop.trips)
    (c : Fin 4) (ek : k' = k) (ec : c' = c) :
    lastRows (chunkF c' (accV K A As v29 k')) x = lastRows (chunkF c (accV K A As v29 k)) x := by
  subst ek ec; rfl

/-- The arrays when the first `n` chunks are done. -/
def Inv (H : Vec F S20x8x128 .f32) (n : ℕ) (s : Conv F) : Prop :=
  (∀ y : S256x2560.Idx, (y 1).val / 128 < n → s.1 y = xbcV cw cb K A As v29 H y) ∧
  (∀ y : S20x8x128.Idx, (y 0).val < n → s.2.2 y = haloC K A As v29 y) ∧
  (∀ y : S20x8x128.Idx, n ≤ (y 0).val → s.2.2 y = H y)

theorem inv_step (H : Vec F S20x8x128 .f32) (k : Fin k0_t2_loop.trips) (c : Fin 4) (n : ℕ) (e : n = 4 * k.val + c.val) (s : Conv F)
    (h : Inv cw cb K A As v29 H n s) : Inv cw cb K A As v29 H (n + 1) (convV cw cb k c (accV K A As v29 k) s) := by
  obtain ⟨hx, hk, hH⟩ := h
  have ht := trips2
  have hk5 : k.val < k0_t2_loop.trips := k.isLt
  have hc4 : c.val < 4 := c.isLt
  have eH : rd (rH k c) s.2.2 = rd (rH k c) H := by
    funext x
    have hx0 : (x 0).val < 1 := (x 0).isLt
    have h := off72_eq k c
    apply hH
    show n ≤ k0_off72 k (BitVec.ofNat 32 c.val) 0 + 1 * (x 0).val
    omega
  refine ⟨fun y hy => ?_, fun y hy => ?_, fun y hy => ?_⟩
  · have h1 : (y 1).val < 2560 := (y 1).isLt
    by_cases hn : (y 1).val / 128 = n
    · rw [conv_at cw cb k c _ s y (ix2 (y 0) ⟨(y 1).val % 128, by omega⟩) rfl
        (by show (y 1).val = 128 * (4 * k.val + c.val) + (y 1).val % 128; omega), eH]
      have ek : ckK ((y 1).val / 128) (by omega) = k := Fin.ext (by show (y 1).val / 128 / 4 = k.val; omega)
      have ec : ckC ((y 1).val / 128) = c := Fin.ext (by show (y 1).val / 128 % 4 = c.val; omega)
      exact (xBlk_congr cw cb K A As v29 H _ _ _ k c ek ec).symm
    · rw [conv_out cw cb k c _ s y (by omega)]
      exact hx y (by omega)
  · have h0 : (y 0).val < 20 := (y 0).isLt
    by_cases hn : (y 0).val = n
    · rw [kept_at cw cb k c _ s y (ix3 ⟨0, by omega⟩ (y 1) (y 2)) (by omega) rfl rfl]
      have ek : ckK (y 0).val (by omega) = k := Fin.ext (by show (y 0).val / 4 = k.val; omega)
      have ec : ckC (y 0).val = c := Fin.ext (by show (y 0).val % 4 = c.val; omega)
      exact (last_congr K A As v29 _ _ _ k c ek ec).symm
    · rw [kept_out cw cb k c _ s y (by omega)]
      exact hk y (by omega)
  · rw [kept_out cw cb k c _ s y (by omega)]
    exact hH y (by omega)

theorem inv_iter (s : Conv F) : ∀ j ≤ k0_t2_loop.trips, Inv cw cb K A As v29 s.2.2 (4 * j) (tIter K A As v29 cw cb s j) := by
  intro j
  induction j with
  | zero => exact fun _ => ⟨fun y h => absurd h (by omega), fun y h => absurd h (by omega), fun y _ => rfl⟩
  | succ j ih =>
    intro hj
    have hs := tIter_succ K A As v29 cw cb s ⟨j, hj⟩
    dsimp only at hs
    rw [hs]
    unfold tileV
    exact inv_step cw cb K A As v29 s.2.2 ⟨j, hj⟩ 3 (4 * j + 3) rfl _
      (inv_step cw cb K A As v29 s.2.2 ⟨j, hj⟩ 2 (4 * j + 2) rfl _
        (inv_step cw cb K A As v29 s.2.2 ⟨j, hj⟩ 1 (4 * j + 1) rfl _
          (inv_step cw cb K A As v29 s.2.2 ⟨j, hj⟩ 0 (4 * j) rfl _ (ih (by omega)))))

/-- The convolution's result after the body. -/
theorem tFin_xbc (s : Conv F) : (tFin K A As v29 cw cb s).1 = xbcV cw cb K A As v29 s.2.2 := by
  funext y
  have h1 : (y 1).val < 2560 := (y 1).isLt
  have ht := trips2
  exact (inv_iter cw cb K A As v29 s _ le_rfl).1 y (by omega)

/-- The rows kept after the body. -/
theorem tFin_halo (s : Conv F) : (tFin K A As v29 cw cb s).2.2 = haloC K A As v29 := by
  funext y
  have h1 : (y 0).val < 20 := (y 0).isLt
  have ht := trips2
  exact (inv_iter cw cb K A As v29 s _ le_rfl).2.1 y (by omega)

end Values

end Cert.KernelIdeal.Own

end
-- ==== Proof.KernelIdeal.Data.lean ====
/- The kernel's pipeline: what every window's buffer and the scratch arrays hold at each of its thirteen points. -/
module

public import proofs.«01_k».proof.Proof.KernelIdeal.ClosedConv
public import proofs.«01_k».proof.Proof.Gen.KernelIdeal.Frame
public import Idealize.ShloMosaic.Lib.Pipeline.DatRel
public import Idealize.ShloMosaic.Lib.Pipeline.FrameValue
public import Idealize.ShloMosaic.Lib.Pipeline.ArrRel

@[expose] public section

noncomputable section

namespace Cert.KernelIdeal.Own

open Cert.Own
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

/-! ## The values -/

/-- A grid point by its number. -/
def pt (n : ℕ) : Fin cfg0.N := ⟨min n 12, by show min n 12 < grid0.N; rw [N_0]; omega⟩

theorem pt_val (t : Fin cfg0.N) : pt t.val = t :=
  Fin.ext (Nat.min_eq_left (by have h : t.val < grid0.N := t.isLt; rw [N_0] at h; omega))

/-- The block of activations that a point reads. -/
def Xb (n : ℕ) : Vec F S256x8192 .bf16 := iblk m c 0 (pt n)
/-- The other operands, whole at every point. -/
def Wb : Vec F S1x8192 .f32 := iblk m c 1 (pt 0)
def Ab : Vec F S8192x4624 .fp8e4m3 := iblk m c 2 (pt 0)
def Sb : Vec F S1x4624 .f32 := iblk m c 3 (pt 0)
def cwb : Vec F S4x2560 .f32 := iblk m c 4 (pt 0)
def cbb : Vec F S1x2560 .f32 := iblk m c 5 (pt 0)
def dbb : Vec F S1x16 .f32 := iblk m c 6 (pt 0)

theorem iblk1 (t : Fin cfg0.N) : iblk m c 1 t = Wb m c := rfl
theorem iblk2 (t : Fin cfg0.N) : iblk m c 2 t = Ab m c := rfl
theorem iblk3 (t : Fin cfg0.N) : iblk m c 3 t = Sb m c := rfl
theorem iblk4 (t : Fin cfg0.N) : iblk m c 4 t = cwb m c := rfl
theorem iblk5 (t : Fin cfg0.N) : iblk m c 5 t = cbb m c := rfl
theorem iblk6 (t : Fin cfg0.N) : iblk m c 6 t = dbb m c := rfl

/-- Block `n`'s codes and scales. -/
def KQ (n : ℕ) : Vec F S256x8192 .fp8e4m3 := QV (Xb m c n) (Wb m c)
def SS (n : ℕ) : Vec F S256x1 .f32 := SV (Xb m c n) (Wb m c)
/-- The rows that block `n` of the projection hands to the next. -/
def HC (n : ℕ) : Vec F S20x8x128 .f32 := haloC (KQ m c n) (Ab m c) (Sb m c) (SS m c n)
/-- The rows that block `n` finds: zero at the beginning of a sequence. -/
def HI (n : ℕ) : Vec F S20x8x128 .f32 := if n % 4 = 0 then k0_pay365 (F := F) else HC m c (n - 1)

/-- Block `n` of z, of the convolution and of dt. -/
def ZB (n : ℕ) : Vec F S256x2048 .f32 := zC (KQ m c n) (Ab m c) (Sb m c) (SS m c n)
def BB (n : ℕ) : Vec F S256x2560 .f32 := xbcV (cwb m c) (cbb m c) (KQ m c n) (Ab m c) (Sb m c) (SS m c n) (HI m c n)
def TB (n : ℕ) : Vec F S256x16 .f32 := dtV (KQ m c n) (Ab m c) (Sb m c) (SS m c n) (dbb m c)

/-- The result the transfers write. -/
def GD : Vec F S3072x8192 .fp8e4m3 := fun y => KQ m c ((y 0).val / 256) (ix2 ⟨(y 0).val % 256, by omega⟩ (y 1))

/-! ## What holds between points -/

/-- Before point `t`. -/
structure Holds (t : ℕ) (Y : Vec F S256x8192 .fp8e4m3) (S : Vec F S256x1 .f32) (H : Vec F S20x8x128 .f32) (D : Vec F S3072x8192 .fp8e4m3) : Prop where
  codes : 1 ≤ t → Y = KQ m c (t - 1)
  scales : 1 ≤ t → S = SS m c (t - 1)
  kept : 2 ≤ t → H = HC m c (t - 2)
  rows : ∀ y : S3072x8192.Idx, (y 0).val / 256 + 1 < t → D y = GD m c y

/-- The scratch arrays, the result the transfers write, their semaphore. -/
def Phi (t : ℕ) : sProp 𝕄 :=
  iprop(∃ K0 S0 Y S C H D, owns (c : Thread nD τ) (Memref.whole cc0_scratch0) fullShare K0 ∗ owns (c : Thread nD τ) (Memref.whole cc0_scratch1) fullShare S0
    ∗ owns (c : Thread nD τ) (Memref.whole cc0_scratch2) fullShare Y ∗ owns (c : Thread nD τ) (Memref.whole cc0_scratch3) fullShare S
    ∗ owns (c : Thread nD τ) (Memref.whole cc0_scratch4) fullShare C ∗ owns (c : Thread nD τ) (Memref.whole cc0_scratch5) fullShare H
    ∗ owns (c : Thread nD τ) (Memref.whole main_v6_0) fullShare D
    ∗ (∃ r, prngReg c r) ∗ semVal ((c : Thread nD τ), SemLoc.dma cc0_scratch6.sem) 0
    ∗ ⌜Holds m c t Y S H D⌝)

/-- The proof data of the pipeline: the inputs' buffers at their blocks, the outputs' at what a point leaves. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => SS m c (t.val - 1)
    | ⟨8, _⟩ => ZB m c (t.val - 1)
    | ⟨9, _⟩ => BB m c (t.val - 1)
    | ⟨10, _⟩ => TB m c (t.val - 1)
    | ⟨_ + 11, h⟩ => absurd h (Nat.not_lt.2 (Nat.le_add_left _ _))
  Φ t := Phi m c t.val
  q _ := fullShare
  owed _ := 0

/-- The outputs. -/
def outs : Fin cfg0.W → Bool
  | ⟨0, _⟩ => false | ⟨1, _⟩ => false | ⟨2, _⟩ => false | ⟨3, _⟩ => false | ⟨4, _⟩ => false | ⟨5, _⟩ => false | ⟨6, _⟩ => false
  | ⟨7, _⟩ => true | ⟨8, _⟩ => true | ⟨9, _⟩ => true | ⟨10, _⟩ => true
  | ⟨_ + 11, h⟩ => absurd h (Nat.not_lt.2 (Nat.le_add_left _ _))

/-- What a point leaves in an output's buffer: from the second point on, the block before. -/
def left (w : Fin cfg0.W) (t : Fin cfg0.N) (X : (cfg0.win w).block.Idx → Elt F (cfg0.win w).elt) : Prop :=
  1 ≤ t.val → X = (dats m 0 c).after w t

theorem A_eq (w : Fin cfg0.W) : (dats m 0 c).A w = V m c (Pipeline.arrRef spec0 w) := by
  dsimp only [dats]

section Before
variable (t : Fin cfg0.N)

theorem before_0 (d) : (dats m 0 c).before 0 t d = iblk m c 0 t :=
  ((dats m 0 c).before_in_eq_fetched 0 rfl (fun _ => rfl) (fun _ _ _ => rfl) (fun t => rfl) t d).trans rfl
theorem before_1 (d) : (dats m 0 c).before 1 t d = Wb m c :=
  ((dats m 0 c).before_in_eq_fetched 1 rfl (fun _ => rfl) (fun _ _ _ => rfl) (fun t => rfl) t d).trans rfl
theorem before_2 (d) : (dats m 0 c).before 2 t d = Ab m c :=
  ((dats m 0 c).before_in_eq_fetched 2 rfl (fun _ => rfl) (fun _ _ _ => rfl) (fun t => rfl) t d).trans rfl
theorem before_3 (d) : (dats m 0 c).before 3 t d = Sb m c :=
  ((dats m 0 c).before_in_eq_fetched 3 rfl (fun _ => rfl) (fun _ _ _ => rfl) (fun t => rfl) t d).trans rfl
theorem before_4 (d) : (dats m 0 c).before 4 t d = cwb m c :=
  ((dats m 0 c).before_in_eq_fetched 4 rfl (fun _ => rfl) (fun _ _ _ => rfl) (fun t => rfl) t d).trans rfl
theorem before_5 (d) : (dats m 0 c).before 5 t d = cbb m c :=
  ((dats m 0 c).before_in_eq_fetched 5 rfl (fun _ => rfl) (fun _ _ _ => rfl) (fun t => rfl) t d).trans rfl
theorem before_6 (d) : (dats m 0 c).before 6 t d = dbb m c :=
  ((dats m 0 c).before_in_eq_fetched 6 rfl (fun _ => rfl) (fun _ _ _ => rfl) (fun t => rfl) t d).trans rfl

end Before

/-! ## The grid -/

theorem off1_eq : ∀ t : Fin grid0.N, k0_off1 (grid0.coords t) 0 = (t.val - 1) * 256 ∧ k0_off1 (grid0.coords t) 1 = 0 := by decide +kernel
theorem reset_eq : ∀ t : Fin grid0.N, 1 ≤ t.val → (resetBit (grid0.coords t) = 1#1 ↔ (t.val - 1) % 4 = 0) := by decide +kernel

end Cert.KernelIdeal.Own

end
-- ==== Proof.KernelIdeal.Point.lean ====
/- One point of the kernel's pipeline: the body takes what holds before the point to what holds after it. -/
module

public import proofs.«01_k».proof.Proof.KernelIdeal.Data

@[expose] public section

noncomputable section

namespace Cert.KernelIdeal.Own

open Cert.Own
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

section Step
variable {m c} {t : Fin cfg0.N} {Y : Vec F S256x8192 .fp8e4m3} {S : Vec F S256x1 .f32} {H : Vec F S20x8x128 .f32} {D : Vec F S3072x8192 .fp8e4m3}

/-- The rows a point finds. -/
theorem halo_eq (h : Holds m c t.val Y S H D) (ht : 1 ≤ t.val) : haloV (grid0.coords t) H = HI m c (t.val - 1) := by
  have hr := reset_eq t ht
  unfold haloV HI
  by_cases e : (t.val - 1) % 4 = 0
  · rw [if_pos (hr.2 e), if_pos e]
  · rw [if_neg (fun h' => e (hr.1 h')), if_neg e]
    exact h.kept (by omega)

/-- What holds after a point. -/
theorem holds_succ (h : Holds m c t.val Y S H D) :
    Holds m c (t.val + 1) (QV (Xb m c t.val) (Wb m c)) (SV (Xb m c t.val) (Wb m c)) (haloC Y (Ab m c) (Sb m c) S) (upd (rD (grid0.coords t)) Y D) := by
  refine ⟨fun _ => rfl, fun _ => rfl, fun ht => ?_, fun y hy => ?_⟩
  · rw [h.codes (by omega), h.scales (by omega)]; rfl
  · have ho := off1_eq t
    by_cases e : (y 0).val / 256 + 1 = t.val
    · rw [h.codes (by omega)]
      unfold GD
      have e' : (y 0).val / 256 = t.val - 1 := by omega
      rw [e']
      apply upd_at
      intro a
      fin_cases a
      · show (y 0).val = k0_off1 (grid0.coords t) 0 + 1 * ((y 0).val % 256)
        rw [ho.1]; omega
      · show (y 1).val = k0_off1 (grid0.coords t) 1 + 1 * (y 1).val
        rw [ho.2]; omega
    · rw [upd_out _ _ _ _ _ y 0 (by
        show (y 0).val < k0_off1 (grid0.coords t) 0 ∨ k0_off1 (grid0.coords t) 0 + 256 ≤ (y 0).val
        rw [ho.1]; omega)]
      exact h.rows y (by omega)

end Step

def pointPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ Y, ⌜((dats m 0 c).toRRel outs (left m c)).Finds 7 t Y⌝ ∗ owns (c : Thread nD τ) (st0_7 t) fullShare Y)
    ∗ (∃ Y, ⌜((dats m 0 c).toRRel outs (left m c)).Finds 8 t Y⌝ ∗ owns (c : Thread nD τ) (st0_8 t) fullShare Y)
    ∗ (∃ Y, ⌜((dats m 0 c).toRRel outs (left m c)).Finds 9 t Y⌝ ∗ owns (c : Thread nD τ) (st0_9 t) fullShare Y)
    ∗ (∃ Y, ⌜((dats m 0 c).toRRel outs (left m c)).Finds 10 t Y⌝ ∗ owns (c : Thread nD τ) (st0_10 t) fullShare Y))

def pointPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ (∃ X, ⌜left m c 7 t X⌝ ∗ owns (c : Thread nD τ) (st0_7 t) fullShare X)
    ∗ (∃ X, ⌜left m c 8 t X⌝ ∗ owns (c : Thread nD τ) (st0_8 t) fullShare X)
    ∗ (∃ X, ⌜left m c 9 t X⌝ ∗ owns (c : Thread nD τ) (st0_9 t) fullShare X)
    ∗ (∃ X, ⌜left m c 10 t X⌝ ∗ owns (c : Thread nD τ) (st0_10 t) fullShare X))

theorem sound_point (t : Fin cfg0.N) :
    pointPre m c t ⊢ wp frame (wpE (defs₀ (F := F)) Variants.none (c : Thread nD τ) none) Set.univ (bodyAt0 t) (fun _ => pointPost m c t) := by
  unfold pointPre pointPost
  simp only [before_0, before_1, before_2, before_3, before_4, before_5, before_6]
  rw [show (dats m 0 c).Φ t.castSucc = Phi m c t.val from rfl, show (dats m 0 c).Φ t.succ = Phi m c (t.val + 1) from rfl]
  unfold Dat.owesAt Pipeline.owesWithin
  rw [show (dats m 0 c).owed t.castSucc = 0 from rfl, show (dats m 0 c).owed t.succ = 0 from rfl]
  unfold Phi
  iintro ⟨⟨%K0, %S0, %Y, %S, %C, %H, %D, H13, H14, H15, H16, H17, H18, H8, Hg, Hv, %hI⟩, ⟨%Wt, -, HO⟩, ⟨%d0, H1⟩, ⟨%d1, H2⟩, ⟨%d2, H3⟩, ⟨%d3, H4⟩,
    ⟨%d4, H5⟩, ⟨%d5, H6⟩, ⟨%d6, H7⟩, ⟨%x0, -, H9⟩, ⟨%Z, -, H10⟩, ⟨%B, -, H11⟩, ⟨%T, -, H12⟩⟩
  iapply (wp_body (F := F) (grid0.coords t) _ _ _ _ _ _ _ _ _ _ _ _ _ _ _ _ _ _ _ _ _ _ _ _ _ _ _ _ _ _ _ _ _ _ _ _ cc0_scratch6 Variants.none c none
    (s := (B, C, H))) $$ H1 H2 H3 H4 H5 H6 H7 H8 H9 H10 H11 H12 H13 H14 H15 H16 H17 H18 Hv HO
  iintro H1 H2 H3 H4 H5 H6 H7 H8 H9 H10 H11 H12 H13 H14 H15 H16 H17 H18 Hv HO
  rw [qFin_eq, sFin_eq, zFin_eq, tFin_xbc, tFin_halo]
  isplitl [H8 H13 H14 H15 H16 H17 H18 Hg Hv]
  · iexists _, _, _, _, _, _, _
    isplitl [H13]; · iexact H13
    isplitl [H14]; · iexact H14
    isplitl [H15]; · iexact H15
    isplitl [H16]; · iexact H16
    isplitl [H17]; · iexact H17
    isplitl [H18]; · iexact H18
    isplitl [H8]; · iexact H8
    isplitl [Hg]; · iexact Hg
    isplitl [Hv]; · iexact Hv
    ipureintro
    have h := holds_succ hI
    unfold Xb at h
    rw [pt_val] at h
    exact h
  isplitl [HO]
  · iexists (insert (SemLoc.dma cc0_scratch6.sem, ()) Wt); isplitr; · ipureintro; exact fun _ _ => Or.inl trivial
    iexact HO
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H9]
  · iexists _; isplitr; swap; · iexact H9
    ipureintro; intro ht; exact hI.scales ht
  isplitl [H10]
  · iexists _; isplitr; swap; · iexact H10
    ipureintro; intro ht; rw [hI.codes ht, hI.scales ht]; rfl
  isplitl [H11]
  · iexists _; isplitr; swap; · iexact H11
    ipureintro; intro ht; dsimp only; rw [halo_eq hI ht, hI.codes ht, hI.scales ht]; rfl
  iexists _; isplitr; swap; · iexact H12
  ipureintro; intro ht; rw [hI.codes ht, hI.scales ht]; rfl

theorem defs₀_row (t : Fin cfg0.N) :
    defs₀ (F := F) .tc cfg0.body (cfg0.bodyArgs t (cfg0.slots t)) = bodyAt0 t := by
  unfold defs₀; rw [Defs.onTc_tc]

theorem body_rel : Pipeline.BodyObligationRel (dats m 0 c) (defs₀ (F := F)) Variants.none () Set.univ outs (left m c) := fun t => by
  rw [bigSep_W0, bigSep_W0, defs₀_row]
  exact triple_restated (sound_point m c t) rfl .rfl fun _ => .rfl

end Cert.KernelIdeal.Own

end
-- ==== Proof.KernelIdeal.Run.lean ====
/- The kernel's run: it ends, its arguments unchanged, its semaphores at zero, its results at the points' blocks. -/
module

public import proofs.«01_k».proof.Proof.KernelIdeal.Point

@[expose] public section

noncomputable section

namespace Cert.KernelIdeal.Own

open Cert.Own
open Cert.KernelIdeal Cert.KernelIdeal.Gen
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg) (c : Dev nD)

theorem main_prefix (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-! ## What the body holds of its own -/

/-- Its semaphore. -/
abbrev osem : Fin 1 → SemLoc sig := fun j => (![SemLoc.dma cc0_scratch6.sem] : Fin 1 → SemLoc sig) j
theorem osem_facts : Pipeline.OwnSemFacts spec0 osem := by decide
theorem osem_eq (c : Dev nD) :
    (Pipeline.ownSems0 (Ix := Unit) (Name := ℕ) (U := Pipeline.UD sig nD τ) (Lvl := ℕ) (Val := Elt F) (τ := τ) osem c : sProp 𝕄)
      = semVal ((c : Thread nD τ), SemLoc.dma cc0_scratch6.sem) 0 := by
  rw [Pipeline.ownSems0_eq_of_list c osem [0] (by decide) (by decide)]; rfl

/-- The result its transfers write. -/
def R0 : Finset (Ref sig .tc) := {main_v6_0}
theorem R0_sub : R0 ⊆ Pipeline.restRefs sig spec0 \ ∅ := by decide

theorem routed_eq (G : (b : Ref sig .tc) → Buf (Elt F) ((c.tc : Thread nD τ).loc b)) :
    (Pipeline.routed R0 c G : sProp 𝕄) = (((c : Thread nD τ).loc main_v6_0) ↦{fullShare} G main_v6_0) := by
  unfold Pipeline.routed
  rw [BI.bigSep_eq_bigSepL_of_eq [main_v6_0] (by decide) (by decide)]; rfl

/-- What is in the unscoped buffers when the region ends, of those that the transfers write. -/
def GR (b : Ref sig .tc) : Buf (Elt F) ((c.tc : Thread nD τ).loc b) :=
  if h : b = main_v6_0 then h ▸ (GD m c : Buf (Elt F) ((c.tc : Thread nD τ).loc main_v6_0)) else V m c b

theorem GR_eq : GR m c main_v6_0 = GD m c := dif_pos rfl

theorem Phi_in : (Pipeline.ΦDRG osem spec0 ∅ R0 (V m) (V m) c : sProp 𝕄) ⊢ (dats m 0 c).Φ 0 := by
  rw [show (dats m 0 c).Φ 0 = Phi m c 0 from rfl, Pipeline.ΦDRG_eq, scopedRest0_eq, osem_eq, routed_eq]
  unfold Phi
  simp only [owns_whole]
  iintro ⟨⟨⟨%K0, H0⟩, ⟨%S0, H1⟩, ⟨%Y, H2⟩, ⟨%S, H3⟩, ⟨%C, H4⟩, ⟨%H, H5⟩⟩, Hg, Hv, -, HD⟩
  iexists K0, S0, Y, S, C, H, (V m c main_v6_0)
  isplitl [H0]; · iexact H0
  isplitl [H1]; · iexact H1
  isplitl [H2]; · iexact H2
  isplitl [H3]; · iexact H3
  isplitl [H4]; · iexact H4
  isplitl [H5]; · iexact H5
  isplitl [HD]; · iexact HD
  isplitl [Hg]; · iexact Hg
  isplitl [Hv]; · iexact Hv
  ipureintro
  exact ⟨fun h => absurd h (by omega), fun h => absurd h (by omega), fun h => absurd h (by omega), fun y h => absurd h (by omega)⟩

theorem Phi_out : (dats m 0 c).Φ (Fin.last cfg0.N) ⊢ (Pipeline.ΦDRG osem spec0 ∅ R0 (V m) (GR m) c : sProp 𝕄) := by
  rw [show (dats m 0 c).Φ (Fin.last cfg0.N) = Phi m c grid0.N from rfl, Pipeline.ΦDRG_eq, scopedRest0_eq, osem_eq, routed_eq, GR_eq]
  unfold Phi
  simp only [owns_whole]
  iintro ⟨%K0, %S0, %Y, %S, %C, %H, %D, H0, H1, H2, H3, H4, H5, HD, Hg, Hv, %hI⟩
  have e : D = GD m c := by
    funext y
    have h0 : (y 0).val < 3072 := (y 0).isLt
    exact hI.rows y (by rw [N_0]; omega)
  subst e
  isplitl [H0 H1 H2 H3 H4 H5]
  · isplitl [H0]; · iexists _; iexact H0
    isplitl [H1]; · iexists _; iexact H1
    isplitl [H2]; · iexists _; iexact H2
    isplitl [H3]; · iexists _; iexact H3
    isplitl [H4]; · iexists _; iexact H4
    iexists _; iexact H5
  isplitl [Hg]; · iexact Hg
  isplitl [Hv]; · iexact Hv
  isplitr
  · rw [BI.bigSep_empty]
    iempintro
  iexact HD

/-! ## The run -/

/-- The data, the outputs known from the second point on. -/
abbrev rdats (c : Dev nD) : RDat τ (Elt F) Unit ℕ (Pipeline.UD sig nD τ) ℕ cfg0 c := (dats m 0 c).toRRel outs (left m c)

set_option backward.isDefEq.respectTransparency.types false in
theorem run_main : θ_run defs (onTc (τ := τ) (main (F := F))) (s₀ m ρ)
    (fun r => RDat.FramePostRG cfg0 (rdats m) R0 (V m) (GR m) r ∧ r.2.sem = fun _ => 0) :=
  RDat.θ_run_frame_dmaRG (Q' := _) cfgs (0 : Fin 1) launch0 osem defs₀ Variants.none (rdats m) osem_facts ∅ R0 (by decide) R0_sub m ρ main
    (hbody := fun c => (body_rel m c).toRRel) (hshare := fun c => (dats m 0 c).share_full fun _ => rfl)
    (howed := fun _ _ => rfl) (V := V m) (hmain := main_prefix m Variants.none) (hA := A_eq m) (G := GR m)
    (hin := Phi_in m) (hout := Phi_out m) (hQ' := fun _ h => h)

/-- The arguments are as they were. -/
theorem kept {r : PUnit × MemSt nD τ sig (Elt F)} (hR : RDat.FramePostR cfg0 (rdats m) R0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) := by
  have rest : ∀ (b : Ref sig .tc) (hb : b ∈ Pipeline.restRefs sig spec0 \ R0), r.2.mem ((c.tc : Thread nD τ).loc b) = V m c b :=
    fun b hb => (hR c).2 b hb
  have inp : ∀ (w : Fin cfg0.W) (hw : (cfg0.win w).isOut = false),
      r.2.mem ((cfg0.spec w).arr.view.loc (c.tc : Thread nD τ)) = V m c (Pipeline.arrRef spec0 w) := fun w hw => by
    have h := (hR c).1 w
    rw [RDat.ArrAt_in _ w hw] at h
    exact h.trans (A_eq m c w)
  exact ⟨(rest main_arg0 (by decide)).trans (V_main_arg0 m c), (rest main_arg1 (by decide)).trans (V_main_arg1 m c),
    (inp 2 rfl).trans (V_main_arg2 m c), (rest main_arg3 (by decide)).trans (V_main_arg3 m c), (inp 4 rfl).trans (V_main_arg4 m c),
    (rest main_arg5 (by decide)).trans (V_main_arg5 m c), (rest main_arg6 (by decide)).trans (V_main_arg6 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun r h => ⟨fun c => kept m h.1.toR c, h.2⟩) (run_main m ρ)

end Cert.KernelIdeal.Own

end
-- ==== Proof.Value.Arrays.lean ====
/- The result arrays after the kernel's run, entry by entry, in the blocks its points leave. -/
module

public import proofs.«01_k».proof.Proof.KernelIdeal.Run
public import Idealize.ShloMosaic.Lib.Pipeline.Value

@[expose] public section

noncomputable section

namespace Cert.Own

open Idealize.ShloMosaic Idealize.ShloMosaic.TcCoe Idealize.ShloMosaic.ValueIdx Idealize.SL.Sem
open Cert.KernelIdeal Cert.KernelIdeal.Own Cert.KernelIdeal.Gen
open Idealize.ShloMosaic.Pipeline (Dat RDat Cfg Window)

variable {F : FTy → Type} [FloatOps F] [∀ e, Nonempty (Elt F e)]
variable (m : (ℓ : Loc nD τ sig) → Buf (Elt F) ℓ) (c : Dev nD)

/-- An entry of an output's array is what the point that writes its block back left. -/
theorem arr_at {r : PUnit × MemSt nD τ sig (Elt F)} (h : RDat.FramePostR cfg0 (rdats m) R0 (V m) r) (w : Fin cfg0.W) (ho : outs w = true) (hk : (cfg0.win w).kind = Pipeline.WinKind.blocked)
    (hd : ∀ t t' : Fin cfg0.N, (cfg0.win w).flush t = true → (cfg0.win w).flush t' = true → (cfg0.win w).index t = (cfg0.win w).index t' → t = t')
    (t : Fin cfg0.N) (hf : (cfg0.win w).flush t = true) (h1 : 1 ≤ t.val) (y : ((cfg0.win w).xblock (cfg0.grid.coords t)).Idx) :
    r.2.mem ((cfg0.spec w).arr.view.loc (c.tc : Thread nD τ)) (((cfg0.win w).blk t).view.emb y)
      = _root_.cast (congrArg (Elt F) ((cfg0.win w).blk t).view.elt_eq.symm) ((dats m 0 c).flushed w t y) := by
  obtain ⟨after, hL, hA⟩ := RDat.FramePostR.exists_exact h c
  have hl : left m c w t (after w t) := (dats m 0 c).toRRel_leaves ho (hL w t hf)
  have e : after w t = (dats m 0 c).after w t := hl h1
  rw [hA w]
  refine (Dat.arrAt_emb_eq_flushed _ w (fun t t' hf hf' hne => (cfg0.win w).disjoint_blk (fun hi => hne (hd t t' hf hf' hi)) hk) t hf y).trans ?_
  refine congrArg (_root_.cast _) ?_
  show (cfg0.win w).cut (cfg0.grid.coords t) (after w t) y = (cfg0.win w).cut (cfg0.grid.coords t) ((dats m 0 c).after w t) y
  rw [e]

/-! ## The four arrays -/

/-- The point that writes block `n` back. -/
def wpt (n : ℕ) (hn : n < 12) : Fin cfg0.N := ⟨n + 1, by show n + 1 < grid0.N; rw [N_0]; omega⟩

theorem inj7 : ∀ t t' : Fin cfg0.N, (cfg0.win 7).flush t = true → (cfg0.win 7).flush t' = true → (cfg0.win 7).index t = (cfg0.win 7).index t' → t = t' :=
  (by decide +kernel : ∀ t t' : Fin grid0.N, win0_7.flush t = true → win0_7.flush t' = true → win0_7.index t = win0_7.index t' → t = t')
theorem inj8 : ∀ t t' : Fin cfg0.N, (cfg0.win 8).flush t = true → (cfg0.win 8).flush t' = true → (cfg0.win 8).index t = (cfg0.win 8).index t' → t = t' :=
  (by decide +kernel : ∀ t t' : Fin grid0.N, win0_8.flush t = true → win0_8.flush t' = true → win0_8.index t = win0_8.index t' → t = t')
theorem inj9 : ∀ t t' : Fin cfg0.N, (cfg0.win 9).flush t = true → (cfg0.win 9).flush t' = true → (cfg0.win 9).index t = (cfg0.win 9).index t' → t = t' :=
  (by decide +kernel : ∀ t t' : Fin grid0.N, win0_9.flush t = true → win0_9.flush t' = true → win0_9.index t = win0_9.index t' → t = t')
theorem inj10 : ∀ t t' : Fin cfg0.N, (cfg0.win 10).flush t = true → (cfg0.win 10).flush t' = true → (cfg0.win 10).index t = (cfg0.win 10).index t' → t = t' :=
  (by decide +kernel : ∀ t t' : Fin grid0.N, win0_10.flush t = true → win0_10.flush t' = true → win0_10.index t = win0_10.index t' → t = t')

/-- From the second point on the outputs are written back, block `t - 1` at point `t`. -/
theorem at7 : ∀ t : Fin cfg0.N, 1 ≤ t.val → (cfg0.win 7).flush t = true ∧ win0_7.index t (0 : Fin 2) = t.val - 1 ∧ win0_7.index t (1 : Fin 2) = 0 :=
  (by decide +kernel : ∀ t : Fin grid0.N, 1 ≤ t.val → win0_7.flush t = true ∧ win0_7.index t (0 : Fin 2) = t.val - 1 ∧ win0_7.index t (1 : Fin 2) = 0)
theorem at8 : ∀ t : Fin cfg0.N, 1 ≤ t.val → (cfg0.win 8).flush t = true ∧ win0_8.index t (0 : Fin 2) = t.val - 1 ∧ win0_8.index t (1 : Fin 2) = 0 :=
  (by decide +kernel : ∀ t : Fin grid0.N, 1 ≤ t.val → win0_8.flush t = true ∧ win0_8.index t (0 : Fin 2) = t.val - 1 ∧ win0_8.index t (1 : Fin 2) = 0)
theorem at9 : ∀ t : Fin cfg0.N, 1 ≤ t.val → (cfg0.win 9).flush t = true ∧ win0_9.index t (0 : Fin 2) = t.val - 1 ∧ win0_9.index t (1 : Fin 2) = 0 :=
  (by decide +kernel : ∀ t : Fin grid0.N, 1 ≤ t.val → win0_9.flush t = true ∧ win0_9.index t (0 : Fin 2) = t.val - 1 ∧ win0_9.index t (1 : Fin 2) = 0)
theorem at10 : ∀ t : Fin cfg0.N, 1 ≤ t.val → (cfg0.win 10).flush t = true ∧ win0_10.index t (0 : Fin 2) = t.val - 1 ∧ win0_10.index t (1 : Fin 2) = 0 :=
  (by decide +kernel : ∀ t : Fin grid0.N, 1 ≤ t.val → win0_10.flush t = true ∧ win0_10.index t (0 : Fin 2) = t.val - 1 ∧ win0_10.index t (1 : Fin 2) = 0)

section
variable {r : PUnit × MemSt nD τ sig (Elt F)} (h : RDat.FramePostR cfg0 (rdats m) R0 (V m) r) (n : ℕ) (hn : n < 12) (i : Fin 256) (R : Fin 3072)
  (hR : R.val = 256 * n + i.val)
include h hn hR

theorem arr7 (j : Fin 1) : r.2.mem ((c.tc : Thread nD τ).loc main_v6_1) (ix2 R j) = SS m c n (ix2 i j) := by
  have ht : 1 ≤ (wpt n hn).val := by show 1 ≤ n + 1; omega
  obtain ⟨hf, e0, e1⟩ := at7 (wpt n hn) ht
  have ev : (wpt n hn).val - 1 = n := by show n + 1 - 1 = n; omega
  have hy : ((cfg0.win 7).blk (wpt n hn)).view.emb (ix2 i j) = (ix2 R j : S3072x1.Idx) := by
    funext a; apply Fin.ext
    match a with
    | ⟨0, _⟩ => show win0_7.index (wpt n hn) (0 : Fin 2) * 256 + 1 * i.val = R.val; omega
    | ⟨1, _⟩ => show win0_7.index (wpt n hn) (1 : Fin 2) * 1 + 1 * j.val = j.val; omega
  have e := arr_at m c h 7 rfl rfl inj7 (wpt n hn) hf ht (ix2 i j)
  rw [hy] at e
  refine e.trans ?_
  show SS m c ((wpt n hn).val - 1) (ix2 i j) = _
  rw [ev]

theorem arr8 (j : Fin 2048) : r.2.mem ((c.tc : Thread nD τ).loc main_v6_2) (ix2 R j) = ZB m c n (ix2 i j) := by
  have ht : 1 ≤ (wpt n hn).val := by show 1 ≤ n + 1; omega
  obtain ⟨hf, e0, e1⟩ := at8 (wpt n hn) ht
  have ev : (wpt n hn).val - 1 = n := by show n + 1 - 1 = n; omega
  have hy : ((cfg0.win 8).blk (wpt n hn)).view.emb (ix2 i j) = (ix2 R j : S3072x2048.Idx) := by
    funext a; apply Fin.ext
    match a with
    | ⟨0, _⟩ => show win0_8.index (wpt n hn) (0 : Fin 2) * 256 + 1 * i.val = R.val; omega
    | ⟨1, _⟩ => show win0_8.index (wpt n hn) (1 : Fin 2) * 2048 + 1 * j.val = j.val; omega
  have e := arr_at m c h 8 rfl rfl inj8 (wpt n hn) hf ht (ix2 i j)
  rw [hy] at e
  refine e.trans ?_
  show ZB m c ((wpt n hn).val - 1) (ix2 i j) = _
  rw [ev]

theorem arr9 (j : Fin 2560) : r.2.mem ((c.tc : Thread nD τ).loc main_v6_3) (ix2 R j) = BB m c n (ix2 i j) := by
  have ht : 1 ≤ (wpt n hn).val := by show 1 ≤ n + 1; omega
  obtain ⟨hf, e0, e1⟩ := at9 (wpt n hn) ht
  have ev : (wpt n hn).val - 1 = n := by show n + 1 - 1 = n; omega
  have hy : ((cfg0.win 9).blk (wpt n hn)).view.emb (ix2 i j) = (ix2 R j : S3072x2560.Idx) := by
    funext a; apply Fin.ext
    match a with
    | ⟨0, _⟩ => show win0_9.index (wpt n hn) (0 : Fin 2) * 256 + 1 * i.val = R.val; omega
    | ⟨1, _⟩ => show win0_9.index (wpt n hn) (1 : Fin 2) * 2560 + 1 * j.val = j.val; omega
  have e := arr_at m c h 9 rfl rfl inj9 (wpt n hn) hf ht (ix2 i j)
  rw [hy] at e
  refine e.trans ?_
  show BB m c ((wpt n hn).val - 1) (ix2 i j) = _
  rw [ev]

theorem arr10 (j : Fin 16) : r.2.mem ((c.tc : Thread nD τ).loc main_v6_4) (ix2 R j) = TB m c n (ix2 i j) := by
  have ht : 1 ≤ (wpt n hn).val := by show 1 ≤ n + 1; omega
  obtain ⟨hf, e0, e1⟩ := at10 (wpt n hn) ht
  have ev : (wpt n hn).val - 1 = n := by show n + 1 - 1 = n; omega
  have hy : ((cfg0.win 10).blk (wpt n hn)).view.emb (ix2 i j) = (ix2 R j : S3072x16.Idx) := by
    funext a; apply Fin.ext
    match a with
    | ⟨0, _⟩ => show win0_10.index (wpt n hn) (0 : Fin 2) * 256 + 1 * i.val = R.val; omega
    | ⟨1, _⟩ => show win0_10.index (wpt n hn) (1 : Fin 2) * 16 + 1 * j.val = j.val; omega
  have e := arr_at m c h 10 rfl rfl inj10 (wpt n hn) hf ht (ix2 i j)
  rw [hy] at e
  refine e.trans ?_
  show TB m c ((wpt n hn).val - 1) (ix2 i j) = _
  rw [ev]

end

end Cert.Own

end
-- ==== Proof.Value.Layout.lean ====
/- Vectors read at an index, at any extents: a column or a row broadcast over a matrix, a row's sum and its largest value, and the
   reshapes between a matrix, its rows and a stack of matrices. -/
module

public import Idealize.ShloMosaic.Lib.ValueIdx
public import Idealize.ShloMosaic.Lib.Pipeline.Value
public import Idealize.ShloMosaic.PureOps.Ideal.Laws
public import Idealize.ShloMosaic.Lib.MatmulPlain

@[expose] public section

noncomputable section

namespace Cert.Own

open Idealize.ShloMosaic Idealize.ShloMosaic.ValueIdx

variable {α : Type}

/-! ## The pointwise operations at the extended reals -/

section Pointwise
variable {s : Shape}
theorem bits_apply (b : BitVec 32) (i : s.Idx) : (broadcast s (Scalar.ofBits (F := Ideal) .f32 b) : FVec Ideal s .f32) i = Ideal.ofBits .f32 b := rfl
theorem cmp_apply (p : CmpFPredicate) (a b : FVec Ideal s .f32) (i : s.Idx) : cmpf p a b i = Ideal.cmp p (a i) (b i) := rfl
theorem absf_apply (a : FVec Ideal s .f32) (i : s.Idx) : absf a i = max (a i) (-(a i)) := rfl
theorem exp2_apply (a : FVec Ideal s .f32) (i : s.Idx) : exp2 a i = Ideal.exp2 (a i) := rfl
theorem exp_apply (a : FVec Ideal s .f32) (i : s.Idx) : exp a i = Ideal.exp (a i) := rfl
theorem log1p_apply (a : FVec Ideal s .f32) (i : s.Idx) : log1p a i = Ideal.log1p (a i) := rfl
theorem rsqrt_apply (a : FVec Ideal s .f32) (i : s.Idx) : rsqrt a i = Ideal.rsqrt (a i) := rfl
theorem logistic_apply (a : FVec Ideal s .f32) (i : s.Idx) : logistic a i = Ideal.logistic (a i) := rfl
theorem andi_apply (a b : IVec s 1) (i : s.Idx) : andi a b i = IntOp.andi (a i) (b i) := rfl
theorem sitofp_apply' (a : IVec s 32) (i : s.Idx) : (sitofp .f32 a : FVec Ideal s .f32) i = (((a i).toInt : ℝ) : EReal) := rfl
end Pointwise

/-! ## Layouts -/

/-- A column over a matrix. -/
theorem bcol_apply {R C : ℕ} (v : (⟨2, ![R, 1]⟩ : Shape).Idx → α) (h : (⟨2, ![R, 1]⟩ : Shape).Broadcasts ⟨2, ![R, C]⟩) (i : Fin R) (k : Fin C) :
    broadcastTo ⟨2, ![R, C]⟩ v h (ix2 i k) = v (ix2 i 0) := by
  apply broadcastTo_apply
  intro a
  match a with
  | ⟨0, _⟩ =>
    show i.val = if R = 1 then 0 else i.val
    split <;> omega
  | ⟨1, _⟩ => rfl

/-- A row over a matrix. -/
theorem brow_apply {R C : ℕ} (v : (⟨2, ![1, C]⟩ : Shape).Idx → α) (h : (⟨2, ![1, C]⟩ : Shape).Broadcasts ⟨2, ![R, C]⟩) (i : Fin R) (k : Fin C) :
    broadcastTo ⟨2, ![R, C]⟩ v h (ix2 i k) = v (ix2 0 k) := by
  apply broadcastTo_apply
  intro a
  match a with
  | ⟨0, _⟩ => rfl
  | ⟨1, _⟩ =>
    show k.val = if C = 1 then 0 else k.val
    split <;> omega

/-- A vector as a column. -/
theorem col_apply {R : ℕ} (v : (⟨1, ![R]⟩ : Shape).Idx → α) (h : (⟨1, ![R]⟩ : Shape).ShapeCasts ⟨2, ![R, 1]⟩) (i : Fin R) :
    shapeCast ⟨2, ![R, 1]⟩ v h (ix2 i 0) = v (ix1 i) := by
  apply shapeCast_apply
  rw [Shape.rowMajor_val_one, Shape.rowMajor_val_two]
  show i.val = i.val * 1 + 0
  omega

/-- A vector as a row. -/
theorem row_apply {C : ℕ} (v : (⟨1, ![C]⟩ : Shape).Idx → α) (h : (⟨1, ![C]⟩ : Shape).ShapeCasts ⟨2, ![1, C]⟩) (k : Fin C) :
    shapeCast ⟨2, ![1, C]⟩ v h (ix2 0 k) = v (ix1 k) := by
  apply shapeCast_apply
  rw [Shape.rowMajor_val_one, Shape.rowMajor_val_two]
  show k.val = 0 * C + k.val
  omega

theorem lift_row {R C : ℕ} (h : (⟨2, ![R, C]⟩ : Shape).Reduces [1] ⟨1, ![R]⟩) (i : Fin R) (k : Fin C) : h.lift (ix1 i) k = ix2 i k := by
  funext a
  match a with
  | ⟨0, _⟩ => rfl
  | ⟨1, _⟩ => rfl

/-- A row's sum, in a column. -/
theorem colSum_apply {R C : ℕ} (v : FVec Ideal ⟨2, ![R, C]⟩ .f32) (acc : BitVec 32) (h : (⟨2, ![R, C]⟩ : Shape).Reduces [1] ⟨1, ![R]⟩)
    (hφ : FKind.Formats .f32) (hacc : acc = FKind.add.neutral .f32 hφ) (hc : (⟨1, ![R]⟩ : Shape).ShapeCasts ⟨2, ![R, 1]⟩) (i : Fin R) :
    shapeCast ⟨2, ![R, 1]⟩ (multiReduction .add [1] ⟨1, ![R]⟩ v acc h hφ hacc) hc (ix2 i 0) = ∑ k : Fin C, v (ix2 i k) := by
  rw [col_apply, Ideal.multiReduction_add_single]
  exact Finset.sum_congr rfl fun k _ => congrArg v (lift_row h i k)

/-- A row's largest value, in a column. -/
theorem colMax_le {R C : ℕ} (v : FVec Ideal ⟨2, ![R, C]⟩ .f32) (h : (⟨2, ![R, C]⟩ : Shape).Reduces [1] ⟨1, ![R]⟩)
    (hφ : FKind.Formats .f32) (hacc : (0xFF800000#32 : BitVec 32) = FKind.maximumf.neutral .f32 hφ) (hc : (⟨1, ![R]⟩ : Shape).ShapeCasts ⟨2, ![R, 1]⟩)
    (i : Fin R) (z : EReal) :
    shapeCast ⟨2, ![R, 1]⟩ (multiReduction .maximumf [1] ⟨1, ![R]⟩ v 0xFF800000#32 h hφ hacc) hc (ix2 i 0) ≤ z ↔ ∀ k : Fin C, v (ix2 i k) ≤ z := by
  rw [col_apply, Ideal.multiReduction_maximumf_single]
  have hb : FloatOps.ofBits (F := Ideal) .f32 (0xFF800000#32 : BitVec 32) = (⊥ : EReal) := by
    show Ideal.ofBits .f32 0xFF800000#32 = ⊥
    simp [Ideal.ofBits, Ideal.ieee]
  rw [hb]
  refine (Finset.fold_max_le z).trans ?_
  constructor
  · rintro ⟨_, hk⟩ k
    exact (congrArg v (lift_row h i k)).symm.le.trans (hk k (Finset.mem_univ _))
  · intro hk
    refine ⟨bot_le, fun k _ => ?_⟩
    exact (congrArg v (lift_row h i k)).le.trans (hk k)

/-- A stack of matrices, its rows in one matrix. -/
theorem flat_apply {B L D : ℕ} {R : ℕ} (v : (⟨3, ![B, L, D]⟩ : Shape).Idx → α) (h : (⟨3, ![B, L, D]⟩ : Shape).ShapeCasts ⟨2, ![R, D]⟩)
    (i : Fin R) (k : Fin D) (b : Fin B) (l : Fin L) (e : i.val = b.val * L + l.val) :
    shapeCast ⟨2, ![R, D]⟩ v h (ix2 i k) = v (ix3 b l k) := by
  apply shapeCast_apply
  rw [Shape.rowMajor_val_three, Shape.rowMajor_val_two]
  show (b.val * L + l.val) * D + k.val = i.val * D + k.val
  rw [e]

/-- A matrix's rows, in a stack of matrices. -/
theorem stack_apply {B L D : ℕ} {R : ℕ} (v : (⟨2, ![R, D]⟩ : Shape).Idx → α) (h : (⟨2, ![R, D]⟩ : Shape).ShapeCasts ⟨3, ![B, L, D]⟩)
    (i : Fin R) (k : Fin D) (b : Fin B) (l : Fin L) (e : i.val = b.val * L + l.val) :
    shapeCast ⟨3, ![B, L, D]⟩ v h (ix3 b l k) = v (ix2 i k) := by
  apply shapeCast_apply
  rw [Shape.rowMajor_val_three, Shape.rowMajor_val_two]
  show i.val * D + k.val = (b.val * L + l.val) * D + k.val
  rw [e]

/-- A matrix product on a zero accumulator. -/
theorem mm_apply {M K N : ℕ} {φ₁ φ₂ : FTy} (d : DotDims ⟨2, ![M, K]⟩ ⟨2, ![K, N]⟩ ⟨2, ![M, N]⟩) (hd : d = DotDims.plain M K N)
    (a : FVec Ideal ⟨2, ![M, K]⟩ φ₁) (b : FVec Ideal ⟨2, ![K, N]⟩ φ₂) (r : Fin M) (c : Fin N) :
    matmul d none a b (constant ⟨2, ![M, N]⟩ .f32 0x00000000#32) (ix2 r c) = ∑ k : Fin K, a (ix2 r k) * b (ix2 k c) := by
  subst hd
  refine (Ideal.matmul_plain_apply none a b _ r c).trans ?_
  rw [constant_apply]
  show Ideal.ofBits .f32 0x00000000#32 + _ = _
  rw [Ideal.ofBits_zero_f32, zero_add]

/-! ## Sums and largest values taken block by block -/

/-- A vector, zero beyond its end. -/
def ext {C : ℕ} (x : Fin C → EReal) (k : ℕ) : EReal := if h : k < C then x ⟨k, h⟩ else 0

theorem ext_eq {C : ℕ} (x : Fin C → EReal) (k : ℕ) (h : k < C) : ext x k = x ⟨k, h⟩ := dif_pos h

theorem sum_blocks (f : ℕ → EReal) (m n : ℕ) : ∑ k ∈ Finset.range (n * m), f k = ∑ c ∈ Finset.range n, ∑ l ∈ Finset.range m, f (m * c + l) := by
  induction n with
  | zero => simp
  | succ n ih =>
    rw [Nat.succ_mul, Finset.sum_range_add, ih, Finset.sum_range_succ, Nat.mul_comm n m]

/-- Two partial sums for each of 128 lanes. -/
theorem sum_lanes (x : Fin 8192 → EReal) :
    ∑ l : Fin 128, (∑ c ∈ Finset.range 32, ext x (256 * c + l.val) + ∑ c ∈ Finset.range 32, ext x (256 * c + 128 + l.val)) = ∑ k : Fin 8192, x k := by
  have e : ∑ k : Fin 8192, x k = ∑ k ∈ Finset.range (32 * 256), ext x k := by
    rw [← Fin.sum_univ_eq_sum_range]
    exact Finset.sum_congr rfl fun k _ => (ext_eq x k.val k.isLt).symm
  rw [e, sum_blocks, Finset.sum_congr rfl fun c _ => Finset.sum_range_add (fun l => ext x (256 * c + l)) 128 128,
    Finset.sum_add_distrib, Finset.sum_add_distrib]
  refine congrArg₂ (· + ·) ?_ ?_
  · rw [Finset.sum_comm (s := Finset.range 32)]
    exact Fin.sum_univ_eq_sum_range (fun l => ∑ c ∈ Finset.range 32, ext x (256 * c + l)) 128
  · rw [Finset.sum_comm (s := Finset.range 32), ← Fin.sum_univ_eq_sum_range (fun l => ∑ c ∈ Finset.range 32, ext x (256 * c + (128 + l)))]
    exact Finset.sum_congr rfl fun l _ => Finset.sum_congr rfl fun c _ => by rw [Nat.add_assoc]

/-- A bound of all is a bound lane by lane. -/
theorem le_lanes (x : Fin 8192 → EReal) (z : EReal) :
    (∀ l : Fin 128, (∀ c < 32, ext x (256 * c + l.val) ≤ z) ∧ (∀ c < 32, ext x (256 * c + 128 + l.val) ≤ z)) ↔ ∀ k, x k ≤ z := by
  constructor
  · intro h k
    have hk : k.val < 8192 := k.isLt
    by_cases c : k.val % 256 < 128
    · have := (h ⟨k.val % 256, c⟩).1 (k.val / 256) (by omega)
      rwa [show 256 * (k.val / 256) + k.val % 256 = k.val by omega, ext_eq x k.val hk] at this
    · have := (h ⟨k.val % 256 - 128, by omega⟩).2 (k.val / 256) (by omega)
      rwa [show 256 * (k.val / 256) + 128 + (k.val % 256 - 128) = k.val by omega, ext_eq x k.val hk] at this
  · intro h l
    exact ⟨fun c hc => by rw [ext_eq x _ (by omega)]; exact h _, fun c hc => by rw [ext_eq x _ (by omega)]; exact h _⟩

/-- A magnitude is not negative. -/
theorem abs_nonneg' (a : EReal) : 0 ≤ max a (-a) := by
  rcases le_total 0 a with h | h
  · exact h.trans (le_max_left _ _)
  · exact (EReal.neg_nonneg.2 h).trans (le_max_right _ _)

end Cert.Own

end
-- ==== Proof.Value.Args.lean ====
/- The blocks that the kernel's points read, entry by entry, in the argument arrays. -/
module

public import proofs.«01_k».proof.Proof.KernelIdeal.Data
public import proofs.«01_k».proof.Proof.Value.Layout

@[expose] public section

noncomputable section

namespace Cert.Own

open Idealize.ShloMosaic Idealize.ShloMosaic.TcCoe Idealize.ShloMosaic.ValueIdx
open Cert.KernelIdeal Cert.KernelIdeal.Own Cert.KernelIdeal.Gen

variable (m : (ℓ : Loc nD τ sig) → Buf (Elt Ideal) ℓ) (c : Dev nD)

/-! ## The arrays the windows take -/

theorem V_v0 : V m c main_v0 = shapeCast S3072x8192 (m ((c.tc : Thread nD τ).loc main_arg0)) shapeCasts_S3x1024x8192_S3072x8192 := by
  simp (disch := decide) only [V, hostOps0, StableHlo.after_cons, StableHlo.after_nil, StableHlo.reshape_result', StableHlo.reshape_result_ne',
    StableHlo.unary_result', StableHlo.unary_result_ne']
  rfl

theorem V_v2 : V m c main_v2 = shapeCast S1x8192 (m ((c.tc : Thread nD τ).loc main_arg1)) shapeCasts_S8192_S1x8192 := by
  simp (disch := decide) only [V, hostOps0, StableHlo.after_cons, StableHlo.after_nil, StableHlo.reshape_result', StableHlo.reshape_result_ne',
    StableHlo.unary_result', StableHlo.unary_result_ne']
  rfl

theorem V_v3 : V m c main_v3 = shapeCast S1x4624 (m ((c.tc : Thread nD τ).loc main_arg3)) shapeCasts_S4624_S1x4624 := by
  simp (disch := decide) only [V, hostOps0, StableHlo.after_cons, StableHlo.after_nil, StableHlo.reshape_result', StableHlo.reshape_result_ne',
    StableHlo.unary_result', StableHlo.unary_result_ne']
  rfl

theorem V_v4 : V m c main_v4 = shapeCast S1x2560 (m ((c.tc : Thread nD τ).loc main_arg5)) shapeCasts_S2560_S1x2560 := by
  simp (disch := decide) only [V, hostOps0, StableHlo.after_cons, StableHlo.after_nil, StableHlo.reshape_result', StableHlo.reshape_result_ne',
    StableHlo.unary_result', StableHlo.unary_result_ne']
  rfl

theorem V_v5 : V m c main_v5 = shapeCast S1x16 (m ((c.tc : Thread nD τ).loc main_arg6)) shapeCasts_S16_S1x16 := by
  simp (disch := decide) only [V, hostOps0, StableHlo.after_cons, StableHlo.after_nil, StableHlo.reshape_result', StableHlo.reshape_result_ne',
    StableHlo.unary_result', StableHlo.unary_result_ne']
  rfl

/-! ## The windows' places -/

theorem ix_0 : ∀ t : Fin cfg0.N, win0_0.index t (0 : Fin 2) = min t.val 11 ∧ win0_0.index t (1 : Fin 2) = 0 :=
  (by decide +kernel : ∀ t : Fin grid0.N, _)
theorem ix_1 : win0_1.index (pt 0) (0 : Fin 2) = 0 ∧ win0_1.index (pt 0) (1 : Fin 2) = 0 := by decide +kernel
theorem ix_2 : win0_2.index (pt 0) (0 : Fin 2) = 0 ∧ win0_2.index (pt 0) (1 : Fin 2) = 0 := by decide +kernel
theorem ix_3 : win0_3.index (pt 0) (0 : Fin 2) = 0 ∧ win0_3.index (pt 0) (1 : Fin 2) = 0 := by decide +kernel
theorem ix_4 : win0_4.index (pt 0) (0 : Fin 2) = 0 ∧ win0_4.index (pt 0) (1 : Fin 2) = 0 := by decide +kernel
theorem ix_5 : win0_5.index (pt 0) (0 : Fin 2) = 0 ∧ win0_5.index (pt 0) (1 : Fin 2) = 0 := by decide +kernel
theorem ix_6 : win0_6.index (pt 0) (0 : Fin 2) = 0 ∧ win0_6.index (pt 0) (1 : Fin 2) = 0 := by decide +kernel

/-! ## The blocks -/

/-- A block of activations. -/
theorem Xb_apply (n : ℕ) (hn : n < 12) (r : Fin 256) (k : Fin 8192) :
    Xb m c n (ix2 r k) = m ((c.tc : Thread nD τ).loc main_arg0) (ix3 ⟨(256 * n + r.val) / 1024, by omega⟩ ⟨(256 * n + r.val) % 1024, by omega⟩ k) := by
  have hi := ix_0 (pt n)
  have hp : (pt n).val = n := by show min n 12 = n; omega
  show V m c main_v0 (((cfg0.win 0).blk (pt n)).view.emb (ix2 r k)) = _
  rw [show ((cfg0.win 0).blk (pt n)).view.emb (ix2 r k) = (ix2 ⟨256 * n + r.val, by omega⟩ k : S3072x8192.Idx) from by
    funext a; apply Fin.ext
    match a with
    | ⟨0, _⟩ => show win0_0.index (pt n) (0 : Fin 2) * 256 + 1 * r.val = 256 * n + r.val; omega
    | ⟨1, _⟩ => show win0_0.index (pt n) (1 : Fin 2) * 8192 + 1 * k.val = k.val; omega]
  rw [V_v0]
  exact flat_apply _ _ _ k _ _ (by show 256 * n + r.val = (256 * n + r.val) / 1024 * 1024 + (256 * n + r.val) % 1024; omega)

theorem Wb_apply (k : Fin 8192) : Wb m c (ix2 0 k) = m ((c.tc : Thread nD τ).loc main_arg1) (ix1 k) := by
  have hi := ix_1
  show V m c main_v2 (((cfg0.win 1).blk (pt 0)).view.emb (ix2 0 k)) = _
  rw [show ((cfg0.win 1).blk (pt 0)).view.emb (ix2 0 k) = (ix2 0 k : S1x8192.Idx) from by
    funext a; apply Fin.ext
    match a with
    | ⟨0, _⟩ => show win0_1.index (pt 0) (0 : Fin 2) * 1 + 1 * 0 = 0; omega
    | ⟨1, _⟩ => show win0_1.index (pt 0) (1 : Fin 2) * 8192 + 1 * k.val = k.val; omega]
  rw [V_v2]
  exact row_apply _ _ k

theorem Ab_apply (k : Fin 8192) (n : Fin 4624) : Ab m c (ix2 k n) = m ((c.tc : Thread nD τ).loc main_arg2) (ix2 k n) := by
  have hi := ix_2
  show V m c main_arg2 (((cfg0.win 2).blk (pt 0)).view.emb (ix2 k n)) = _
  rw [show ((cfg0.win 2).blk (pt 0)).view.emb (ix2 k n) = (ix2 k n : S8192x4624.Idx) from by
    funext a; apply Fin.ext
    match a with
    | ⟨0, _⟩ => show win0_2.index (pt 0) (0 : Fin 2) * 8192 + 1 * k.val = k.val; omega
    | ⟨1, _⟩ => show win0_2.index (pt 0) (1 : Fin 2) * 4624 + 1 * n.val = n.val; omega]
  rw [V_main_arg2]

theorem Sb_apply (n : Fin 4624) : Sb m c (ix2 0 n) = m ((c.tc : Thread nD τ).loc main_arg3) (ix1 n) := by
  have hi := ix_3
  show V m c main_v3 (((cfg0.win 3).blk (pt 0)).view.emb (ix2 0 n)) = _
  rw [show ((cfg0.win 3).blk (pt 0)).view.emb (ix2 0 n) = (ix2 0 n : S1x4624.Idx) from by
    funext a; apply Fin.ext
    match a with
    | ⟨0, _⟩ => show win0_3.index (pt 0) (0 : Fin 2) * 1 + 1 * 0 = 0; omega
    | ⟨1, _⟩ => show win0_3.index (pt 0) (1 : Fin 2) * 4624 + 1 * n.val = n.val; omega]
  rw [V_v3]
  exact row_apply _ _ n

theorem cwb_apply (j : Fin 4) (n : Fin 2560) : cwb m c (ix2 j n) = m ((c.tc : Thread nD τ).loc main_arg4) (ix2 j n) := by
  have hi := ix_4
  show V m c main_arg4 (((cfg0.win 4).blk (pt 0)).view.emb (ix2 j n)) = _
  rw [show ((cfg0.win 4).blk (pt 0)).view.emb (ix2 j n) = (ix2 j n : S4x2560.Idx) from by
    funext a; apply Fin.ext
    match a with
    | ⟨0, _⟩ => show win0_4.index (pt 0) (0 : Fin 2) * 4 + 1 * j.val = j.val; omega
    | ⟨1, _⟩ => show win0_4.index (pt 0) (1 : Fin 2) * 2560 + 1 * n.val = n.val; omega]
  rw [V_main_arg4]

theorem cbb_apply (n : Fin 2560) : cbb m c (ix2 0 n) = m ((c.tc : Thread nD τ).loc main_arg5) (ix1 n) := by
  have hi := ix_5
  show V m c main_v4 (((cfg0.win 5).blk (pt 0)).view.emb (ix2 0 n)) = _
  rw [show ((cfg0.win 5).blk (pt 0)).view.emb (ix2 0 n) = (ix2 0 n : S1x2560.Idx) from by
    funext a; apply Fin.ext
    match a with
    | ⟨0, _⟩ => show win0_5.index (pt 0) (0 : Fin 2) * 1 + 1 * 0 = 0; omega
    | ⟨1, _⟩ => show win0_5.index (pt 0) (1 : Fin 2) * 2560 + 1 * n.val = n.val; omega]
  rw [V_v4]
  exact row_apply _ _ n

theorem dbb_apply (h : Fin 16) : dbb m c (ix2 0 h) = m ((c.tc : Thread nD τ).loc main_arg6) (ix1 h) := by
  have hi := ix_6
  show V m c main_v5 (((cfg0.win 6).blk (pt 0)).view.emb (ix2 0 h)) = _
  rw [show ((cfg0.win 6).blk (pt 0)).view.emb (ix2 0 h) = (ix2 0 h : S1x16.Idx) from by
    funext a; apply Fin.ext
    match a with
    | ⟨0, _⟩ => show win0_6.index (pt 0) (0 : Fin 2) * 1 + 1 * 0 = 0; omega
    | ⟨1, _⟩ => show win0_6.index (pt 0) (1 : Fin 2) * 16 + 1 * h.val = h.val; omega]
  rw [V_v5]
  exact row_apply _ _ h

end Cert.Own

end
-- ==== Proof.Value.Exponent.lean ====
/- The exponent of a row's scale, found in two ways at the extended reals: the kernel searches the biased exponent by
   eight comparisons, the reference counts the powers of two that are not above the value. -/
module

public import proofs.«01_k».proof.Proof.KernelIdeal.Strip
public import Idealize.ShloMosaic.PureOps.Ideal
public import Idealize.ShloMosaic.Lib.ValueIdx
public import Idealize.ShloMosaic.PureOps.Ideal.Laws

@[expose] public section

noncomputable section

namespace Cert.Own

open Idealize.ShloMosaic Idealize.ShloMosaic.ValueIdx

/-! ## Powers of two by their biased exponents -/

/-- The value of the pattern with biased exponent `n` and fraction zero. -/
def pw (n : ℕ) : EReal := Ideal.ofBits .f32 (BitVec.ofNat 32 (n * 2 ^ 23))

theorem pw_fields : ∀ n : Fin 256, ((BitVec.ofNat 32 (n.val * 2 ^ 23)).extractLsb' 31 1 == 1#1) = false
    ∧ ((BitVec.ofNat 32 (n.val * 2 ^ 23)).extractLsb' 23 8).toNat = n.val ∧ ((BitVec.ofNat 32 (n.val * 2 ^ 23)).extractLsb' 0 23).toNat = 0 := by
  decide +kernel

theorem pw_zero : pw 0 = 0 := by
  simp [pw, Ideal.ofBits, Ideal.ieee]

theorem pw_top : pw 255 = ⊤ := by
  simp [pw, Ideal.ofBits, Ideal.ieee]

theorem pw_mid (n : ℕ) (h0 : 1 ≤ n) (h : n ≤ 254) : pw n = (((2 : ℝ) ^ ((n : ℤ) - 127) : ℝ) : EReal) := by
  obtain ⟨h1, h2, h3⟩ := pw_fields ⟨n, by omega⟩
  dsimp only at h1 h2 h3
  unfold pw Ideal.ofBits Ideal.ieee
  simp only [show (8 + 23 : ℕ) = 31 from rfl, h1, h2, h3]
  rw [if_neg (by omega), if_neg (by omega)]
  congr 1
  have e : ((n : ℤ) - 127) = 23 + ((n : ℤ) - (2 ^ (8 - 1) - 1) - 23) := by norm_num
  rw [e, zpow_add₀ (by norm_num)]
  norm_num

theorem pw_mono {a b : ℕ} (h0 : 1 ≤ a) (h : a ≤ b) (hb : b ≤ 255) : pw a ≤ pw b := by
  by_cases e : b = 255
  · subst e; rw [pw_top]; exact le_top
  · rw [pw_mid a h0 (by omega), pw_mid b (by omega) (by omega)]
    exact EReal.coe_le_coe_iff.2 (zpow_le_zpow_right₀ (by norm_num) (by omega))

/-- The threshold: the largest biased exponent whose power of two is not above the value. -/
theorem exists_thr (v : EReal) : ∃ T : ℕ, T ≤ 255 ∧ ∀ k, 1 ≤ k → k ≤ 255 → (pw k ≤ v ↔ k ≤ T) := by
  classical
  refine ⟨Nat.findGreatest (fun k => pw k ≤ v) 255, Nat.findGreatest_le 255, fun k h0 h => ⟨fun hk => Nat.le_findGreatest h hk, fun hk => ?_⟩⟩
  have hne : Nat.findGreatest (fun k => pw k ≤ v) 255 ≠ 0 := by omega
  exact (pw_mono h0 hk (Nat.findGreatest_le 255)).trans (Nat.findGreatest_of_ne_zero rfl hne)

/-- The threshold of a value. -/
def thr (v : EReal) : ℕ := (exists_thr v).choose
theorem thr_le (v : EReal) : thr v ≤ 255 := (exists_thr v).choose_spec.1
theorem thr_iff (v : EReal) (k : ℕ) (h0 : 1 ≤ k) (h : k ≤ 255) : pw k ≤ v ↔ k ≤ thr v := (exists_thr v).choose_spec.2 k h0 h

/-- The biased exponents of the scale and of its reciprocal, from the threshold. -/
def sN (T : ℕ) : ℕ := if T = 0 ∨ T = 255 then 127 else T + 1
def iN (T : ℕ) : ℕ := if T = 0 ∨ T = 255 then 127 else 253 - T

/-- The scale of a row from its ratio, and the scale's reciprocal. -/
def sclE (v : EReal) : EReal := pw (sN (thr v))
def invE (v : EReal) : EReal := pw (iN (thr v))

/-! ## The kernel's search -/

/-- One rung, on numbers. -/
def stN (T b k : ℕ) : ℕ := if b + k ≤ T then b + k else b

theorem stN_le (T b k : ℕ) : stN T b k ≤ b + k := by unfold stN; split <;> omega

theorem ladder_eq : ∀ T : Fin 256, stN T.val (stN T.val (stN T.val (stN T.val (stN T.val (stN T.val (stN T.val (stN T.val 0 128) 64) 32) 16) 8) 4) 2) 1 = T.val := by
  decide +kernel

theorem shl_word : ∀ n : Fin 256, IntOp.shli .vector (BitVec.ofNat 32 n.val) 23#32 = BitVec.ofNat 32 (n.val * 2 ^ 23) := by
  decide +kernel

section Search
open Cert.KernelIdeal Cert.KernelIdeal.Own Cert.KernelIdeal.Gen

theorem rung_apply (y : FVec Ideal S32x1 .f32) (b : IVec S32x1 32) (k n : ℕ) (j : S32x1.Idx) (hb : b j = BitVec.ofNat 32 n)
    (hk : 1 ≤ k) (h : n + k ≤ 255) : rungF y b (BitVec.ofNat 32 k) j = BitVec.ofNat 32 (stN (thr (y j)) n k) := by
  have e : b j + BitVec.ofNat 32 k = BitVec.ofNat 32 (n + k) := by rw [hb, BitVec.ofNat_add]
  have e2 : rungF y b (BitVec.ofNat 32 k) j = Scalar.select (Ideal.cmp .oge (y j) (Ideal.ofBits .f32 (IntOp.shli .vector (b j + BitVec.ofNat 32 k) 23#32)))
      (b j + BitVec.ofNat 32 k) (b j) := rfl
  rw [e2, e, shl_word ⟨n + k, by omega⟩, hb]
  have e3 : Ideal.cmp .oge (y j) (Ideal.ofBits .f32 (BitVec.ofNat 32 ((n + k) * 2 ^ 23))) = BitVec.ofBool (decide (pw (n + k) ≤ y j)) := rfl
  rw [e3]
  unfold stN
  by_cases c : n + k ≤ thr (y j)
  · rw [if_pos c, decide_eq_true ((thr_iff _ _ (by omega) h).2 c)]; rfl
  · rw [if_neg c, decide_eq_false (fun g => c ((thr_iff _ _ (by omega) h).1 g))]; rfl

theorem biased_apply (y : FVec Ideal S32x1 .f32) (j : S32x1.Idx) : biasedF y j = BitVec.ofNat 32 (thr (y j)) := by
  have l := stN_le (thr (y j))
  have hT := thr_le (y j)
  have lad := ladder_eq ⟨thr (y j), by omega⟩
  dsimp only at lad
  unfold biasedF
  have a1 := l 0 128
  have a2 := l (stN (thr (y j)) 0 128) 64
  have a3 := l (stN (thr (y j)) (stN (thr (y j)) 0 128) 64) 32
  have r1 := rung_apply y (broadcast S32x1 0#32) 128 0 j rfl (by omega) (by omega)
  have r2 := rung_apply y _ 64 _ j r1 (by omega) (by omega)
  have r3 := rung_apply y _ 32 _ j r2 (by omega) (by omega)
  have a4 := l (stN (thr (y j)) (stN (thr (y j)) (stN (thr (y j)) 0 128) 64) 32) 16
  have r4 := rung_apply y _ 16 _ j r3 (by omega) (by omega)
  have a5 := l (stN (thr (y j)) (stN (thr (y j)) (stN (thr (y j)) (stN (thr (y j)) 0 128) 64) 32) 16) 8
  have r5 := rung_apply y _ 8 _ j r4 (by omega) (by omega)
  have a6 := l (stN (thr (y j)) (stN (thr (y j)) (stN (thr (y j)) (stN (thr (y j)) (stN (thr (y j)) 0 128) 64) 32) 16) 8) 4
  have r6 := rung_apply y _ 4 _ j r5 (by omega) (by omega)
  have a7 := l (stN (thr (y j)) (stN (thr (y j)) (stN (thr (y j)) (stN (thr (y j)) (stN (thr (y j)) (stN (thr (y j)) 0 128) 64) 32) 16) 8) 4) 2
  have r7 := rung_apply y _ 2 _ j r6 (by omega) (by omega)
  have r8 := rung_apply y _ 1 _ j r7 (by omega) (by omega)
  rw [lad] at r8
  exact r8

/-- The integer part of the search's end, on numbers. -/
def exW (T : BitVec 32) : BitVec 32 := Scalar.select (IntOp.ori (IntOp.cmpi .eq T 0#32) (IntOp.cmpi .eq T 255#32)) 0#32 (T - 126#32)

theorem scl_word : ∀ T : Fin 256, IntOp.shli .vector (exW (BitVec.ofNat 32 T.val) + 127#32) 23#32 = BitVec.ofNat 32 (sN T.val * 2 ^ 23) := by
  decide +kernel
theorem inv_word : ∀ T : Fin 256, IntOp.shli .vector (IntOp.maxsi (127#32 - exW (BitVec.ofNat 32 T.val)) 0#32) 23#32 = BitVec.ofNat 32 (iN T.val * 2 ^ 23) := by
  decide +kernel

theorem exW_apply (y : FVec Ideal S32x1 .f32) (j : S32x1.Idx) : expF y j = exW (BitVec.ofNat 32 (thr (y j))) := by
  rw [← biased_apply]; rfl

/-- The kernel's scale and its reciprocal. -/
theorem scale_apply (y : FVec Ideal S32x1 .f32) (j : S32x1.Idx) : scaleF y j = sclE (y j) := by
  have e : scaleF y j = Ideal.ofBits .f32 (IntOp.shli .vector (expF y j + 127#32) 23#32) := rfl
  rw [e, exW_apply, scl_word ⟨thr (y j), by have := thr_le (y j); omega⟩]; rfl
theorem inv_apply (y : FVec Ideal S32x1 .f32) (j : S32x1.Idx) : invF y j = invE (y j) := by
  have e : invF y j = Ideal.ofBits .f32 (IntOp.shli .vector (IntOp.maxsi (127#32 - expF y j) 0#32) 23#32) := rfl
  rw [e, exW_apply, inv_word ⟨thr (y j), by have := thr_le (y j); omega⟩]; rfl

end Search

end Cert.Own

end
-- ==== Proof.Value.Strip.lean ====
/- A strip of 32 rows at the extended reals: each row's mean square, largest magnitude, scale and codes, from that row and
   the norm's weights alone. The kernel's sums and largest values by lanes and parities are the row's. -/
module

public import proofs.«01_k».proof.Proof.KernelIdeal.Closed
public import proofs.«01_k».proof.Proof.Value.Layout
public import proofs.«01_k».proof.Proof.Value.Exponent

@[expose] public section

noncomputable section

namespace Cert.Own

open Idealize.ShloMosaic Idealize.ShloMosaic.ValueIdx

/-! ## A row -/

section Row
variable (x w : Fin 8192 → EReal)

/-- The reciprocal root mean square. -/
def rowR : EReal := Ideal.rsqrt ((∑ k, x k * x k) * Ideal.ofBits .f32 0x39000000#32 + Ideal.ofBits .f32 0x3727C5AC#32)
/-- The normalised row. -/
def rowH (k : Fin 8192) : EReal := x k * rowR x * w k
/-- The largest magnitude. -/
def rowA : EReal := Finset.univ.sup fun k => max (rowH x w k) (-(rowH x w k))
/-- … as a multiple of the largest code. -/
def rowV : EReal := rowA x w * Ideal.ofBits .f32 0x3B124925#32
/-- The codes. -/
def rowQ (k : Fin 8192) : EReal :=
  min (Ideal.ofBits .f32 0x43E00000#32) (max (Ideal.ofBits .f32 0xC3E00000#32) (rowH x w k * invE (rowV x w)))
/-- The scale. -/
def rowS : EReal := sclE (rowV x w)

theorem rowA_le (z : EReal) : rowA x w ≤ z ↔ ∀ k, max (rowH x w k) (-(rowH x w k)) ≤ z := by
  unfold rowA
  rw [Finset.sup_le_iff]
  exact ⟨fun h k => h k (Finset.mem_univ k), fun h k _ => h k⟩

end Row

/-! ## The kernel's strip -/

open Cert.KernelIdeal Cert.KernelIdeal.Own Cert.KernelIdeal.Gen

section Strip
variable (X : Vec Ideal S256x8192 .bf16) (W : Vec Ideal S1x8192 .f32) (n : ℕ) (hn : n + 32 ≤ 256)

/-- A row of the block; the norm's weights. -/
def xRow (r : Fin 256) (k : Fin 8192) : EReal := X (ix2 r k)
def wRow (k : Fin 8192) : EReal := W (ix2 0 k)

theorem xF_eq (v : Vec Ideal S32x128 .bf16) (j : S32x128.Idx) : xF v j = v j := by
  unfold xF; rw [shapeCast_self]; rfl

theorem blkX_apply (c : ℕ) (hc : c < 64) (i : Fin 32) (l : Fin 128) :
    blkX X n hn c hc (ix2 i l) = xRow X ⟨n + i.val, by omega⟩ ⟨128 * c + l.val, by omega⟩ := by
  unfold blkX xRow
  apply congrArg X
  apply emb_eq
  intro a
  match a with
  | ⟨0, _⟩ => show n + i.val = n + 1 * i.val; omega
  | ⟨1, _⟩ => show 128 * c + l.val = 128 * c + 1 * l.val; omega

theorem blkW_apply (c : ℕ) (hc : c < 64) (l : Fin 128) : blkW W c hc (ix2 0 l) = wRow W ⟨128 * c + l.val, by omega⟩ := by
  unfold blkW wRow
  apply congrArg W
  apply emb_eq
  intro a
  match a with
  | ⟨0, _⟩ => rfl
  | ⟨1, _⟩ => show 128 * c + l.val = 128 * c + 1 * l.val; omega

theorem sqF_apply (s : FVec Ideal S32x128 .f32) (c : ℕ) (hc : c < 64) (i : Fin 32) (l : Fin 128) :
    sqF s (blkX X n hn c hc) (ix2 i l)
      = s (ix2 i l) + ext (fun k => xRow X ⟨n + i.val, by omega⟩ k * xRow X ⟨n + i.val, by omega⟩ k) (128 * c + l.val) := by
  unfold sqF
  rw [addf_apply, mulf_apply, xF_eq, blkX_apply, ext_eq _ _ (show 128 * c + l.val < 8192 by omega)]

theorem sumV_apply (i : Fin 32) (l : Fin 128) (f : ℕ) : ∀ (c : ℕ) (h : c + f = 32) (s : FVec Ideal S32x128 .f32 × FVec Ideal S32x128 .f32),
    (sumV X n hn f c h s).1 (ix2 i l) = s.1 (ix2 i l) + ∑ j ∈ Finset.range f, ext (fun k => xRow X ⟨n + i.val, by omega⟩ k * xRow X ⟨n + i.val, by omega⟩ k) (256 * (c + j) + l.val)
    ∧ (sumV X n hn f c h s).2 (ix2 i l) = s.2 (ix2 i l) + ∑ j ∈ Finset.range f, ext (fun k => xRow X ⟨n + i.val, by omega⟩ k * xRow X ⟨n + i.val, by omega⟩ k) (256 * (c + j) + 128 + l.val) := by
  induction f with
  | zero => intro c h s; unfold sumV; simp
  | succ f ih =>
    intro c h s
    unfold sumV
    obtain ⟨h1, h2⟩ := ih (c + 1) (by omega) (sqF s.1 (blkX X n hn (2 * c) (by omega)), sqF s.2 (blkX X n hn (2 * c + 1) (by omega)))
    rw [h1, h2]
    dsimp only
    rw [sqF_apply, sqF_apply, Finset.sum_range_succ', Finset.sum_range_succ']
    refine ⟨?_, ?_⟩
    · rw [add_assoc, add_comm (ext _ _)]
      congr 2
      · exact Finset.sum_congr rfl fun j _ => by rw [show c + 1 + j = c + (j + 1) by omega]
      · congr 1; omega
    · rw [add_assoc, add_comm (ext _ _)]
      congr 2
      · exact Finset.sum_congr rfl fun j _ => by rw [show c + 1 + j = c + (j + 1) by omega]
      · congr 1; omega

theorem zeroF_apply (j : S32x128.Idx) : (zeroF : FVec Ideal S32x128 .f32) j = 0 := by
  show Ideal.ofBits .f32 0x00000000#32 = 0
  exact Ideal.ofBits_zero_f32

/-- The reciprocal root mean square of a row of the strip. -/
theorem rmsV_apply (i : Fin 32) : rmsV X n hn (ix2 i 0) = rowR (xRow X ⟨n + i.val, by omega⟩) := by
  have hs := colSum_apply (addf (sumV X n hn 32 0 rfl (zeroF, zeroF)).1 (sumV X n hn 32 0 rfl (zeroF, zeroF)).2) 0x00000000#32
    reduces_S32x128_S32 (.inl rfl) rfl shapeCasts_S32_S32x1 i
  unfold rmsV rmsF rowR
  refine congrArg (fun t => Ideal.rsqrt (t * Ideal.ofBits .f32 0x39000000#32 + Ideal.ofBits .f32 0x3727C5AC#32)) (hs.trans ?_)
  rw [← sum_lanes]
  refine Finset.sum_congr rfl fun l _ => ?_
  obtain ⟨h1, h2⟩ := sumV_apply X n hn i l 32 0 rfl (zeroF, zeroF)
  dsimp only at h1 h2
  rw [addf_apply, h1, h2, zeroF_apply, zero_add, zero_add]
  simp only [Nat.zero_add]

theorem hnF_apply (r : FVec Ideal S32x1 .f32) (c : ℕ) (hc : c < 64) (i : Fin 32) (l : Fin 128)
    (hr : r (ix2 i 0) = rowR (xRow X ⟨n + i.val, by omega⟩)) :
    hnF r (blkX X n hn c hc) (blkW W c hc) (ix2 i l) = rowH (xRow X ⟨n + i.val, by omega⟩) (wRow W) ⟨128 * c + l.val, by omega⟩ := by
  unfold hnF rowH
  rw [mulf_apply, mulf_apply, xF_eq, blkX_apply X n hn c hc i l, bcol_apply, brow_apply, shapeCast_self, blkW_apply W n c hc l, hr]

theorem amF_apply (r : FVec Ideal S32x1 .f32) (a : FVec Ideal S32x128 .f32) (c : ℕ) (hc : c < 64) (i : Fin 32) (l : Fin 128)
    (hr : r (ix2 i 0) = rowR (xRow X ⟨n + i.val, by omega⟩)) :
    amF r a (blkX X n hn c hc) (blkW W c hc) (ix2 i l)
      = max (a (ix2 i l)) (ext (fun k => max (rowH (xRow X ⟨n + i.val, by omega⟩) (wRow W) k) (-(rowH (xRow X ⟨n + i.val, by omega⟩) (wRow W) k))) (128 * c + l.val)) := by
  unfold amF
  have e : ∀ v : FVec Ideal S32x128 .f32, maximumf a (absf v) (ix2 i l) = max (a (ix2 i l)) (max (v (ix2 i l)) (-(v (ix2 i l)))) := fun _ => rfl
  rw [e, hnF_apply X W n hn r c hc i l hr, ext_eq _ _ (show 128 * c + l.val < 8192 by omega)]

theorem maxV_apply (r : FVec Ideal S32x1 .f32) (i : Fin 32) (l : Fin 128) (hr : r (ix2 i 0) = rowR (xRow X ⟨n + i.val, by omega⟩)) (z : EReal) (f : ℕ) :
    ∀ (c : ℕ) (h : c + f = 32) (s : FVec Ideal S32x128 .f32 × FVec Ideal S32x128 .f32),
    ((maxV X W n hn r f c h s).1 (ix2 i l) ≤ z ↔ s.1 (ix2 i l) ≤ z ∧ ∀ j < f, ext (fun k => max (rowH (xRow X ⟨n + i.val, by omega⟩) (wRow W) k) (-(rowH (xRow X ⟨n + i.val, by omega⟩) (wRow W) k))) (256 * (c + j) + l.val) ≤ z)
    ∧ ((maxV X W n hn r f c h s).2 (ix2 i l) ≤ z ↔ s.2 (ix2 i l) ≤ z ∧ ∀ j < f, ext (fun k => max (rowH (xRow X ⟨n + i.val, by omega⟩) (wRow W) k) (-(rowH (xRow X ⟨n + i.val, by omega⟩) (wRow W) k))) (256 * (c + j) + 128 + l.val) ≤ z) := by
  induction f with
  | zero => intro c h s; unfold maxV; simp
  | succ f ih =>
    intro c h s
    unfold maxV
    obtain ⟨h1, h2⟩ := ih (c + 1) (by omega) (amF r s.1 (blkX X n hn (2 * c) (by omega)) (blkW W (2 * c) (by omega)),
      amF r s.2 (blkX X n hn (2 * c + 1) (by omega)) (blkW W (2 * c + 1) (by omega)))
    rw [h1, h2]
    dsimp only
    rw [amF_apply X W n hn r _ _ _ i l hr, amF_apply X W n hn r _ _ _ i l hr, max_le_iff, max_le_iff, and_assoc, and_assoc]
    constructor
    · rw [Nat.forall_lt_succ_left]
      rw [show 128 * (2 * c) + l.val = 256 * (c + 0) + l.val by omega]
      simp only [show ∀ j, c + 1 + j = c + (j + 1) by intro j; omega]
    · rw [Nat.forall_lt_succ_left]
      rw [show 128 * (2 * c + 1) + l.val = 256 * (c + 0) + 128 + l.val by omega]
      simp only [show ∀ j, c + 1 + j = c + (j + 1) by intro j; omega]

/-- The ratio of a row of the strip. -/
theorem ratioV_apply (i : Fin 32) : ratioV X W n hn (ix2 i 0) = rowV (xRow X ⟨n + i.val, by omega⟩) (wRow W) := by
  unfold ratioV ratioF rowV
  refine congrArg (fun t => t * Ideal.ofBits .f32 0x3B124925#32) (eq_of_forall_ge_iff fun z => ?_)
  refine (colMax_le _ reduces_S32x128_S32 (.inl rfl) rfl shapeCasts_S32_S32x1 i z).trans ?_
  rw [rowA_le, ← le_lanes]
  have hr := rmsV_apply X n hn i
  constructor
  · intro h l
    have hl := h l
    rw [maximumf_apply, max_le_iff] at hl
    obtain ⟨h1, h2⟩ := maxV_apply X W n hn _ i l hr z 32 0 rfl (zeroF, zeroF)
    rw [h1, h2] at hl
    simp only [Nat.zero_add] at hl
    exact ⟨hl.1.2, hl.2.2⟩
  · intro h l
    have h0 : (0 : EReal) ≤ z := by
      have := (h 0).1 0 (by omega)
      rw [ext_eq _ _ (by show 256 * 0 + 0 < 8192; omega)] at this
      exact (abs_nonneg' _).trans this
    obtain ⟨h1, h2⟩ := maxV_apply X W n hn _ i l hr z 32 0 rfl (zeroF, zeroF)
    rw [maximumf_apply, max_le_iff, h1, h2]
    simp only [Nat.zero_add, zeroF_apply]
    exact ⟨⟨h0, (h l).1⟩, ⟨h0, (h l).2⟩⟩

end Strip

section Block
variable (X : Vec Ideal S256x8192 .bf16) (W : Vec Ideal S1x8192 .f32)

theorem qBlk_apply (s : Fin 8) (c : Fin 64) (i : Fin 32) (l : Fin 128) :
    qBlk X W s c (ix2 i l) = rowQ (xRow X ⟨32 * s.val + i.val, by omega⟩) (wRow W) ⟨128 * c.val + l.val, by omega⟩ := by
  have hr := rmsV_apply X (32 * s.val) (by omega) i
  have hv := ratioV_apply X W (32 * s.val) (by omega) i
  have hh := hnF_apply X W (32 * s.val) (by omega) _ c.val c.isLt i l hr
  unfold qBlk codeF rowQ
  rw [shapeCast_self]
  rw [truncf_apply, minimumf_apply, maximumf_apply, mulf_apply, bcol_apply, inv_apply, hh, hv]
  rfl

theorem sBlk_apply (s : Fin 8) (i : Fin 32) : sBlk X W s (ix2 i 0) = rowS (xRow X ⟨32 * s.val + i.val, by omega⟩) (wRow W) := by
  have hv := ratioV_apply X W (32 * s.val) (by omega) i
  unfold sBlk rowS
  rw [shapeCast_self, scale_apply, hv]

/-- The codes of a block, row by row. -/
theorem QV_apply (r : Fin 256) (k : Fin 8192) : QV X W (ix2 r k) = rowQ (xRow X r) (wRow W) k := by
  have h := qBlk_apply X W ⟨r.val / 32, by omega⟩ ⟨k.val / 128, by omega⟩ ⟨r.val % 32, by omega⟩ ⟨k.val % 128, by omega⟩
  refine Eq.trans (show QV X W (ix2 r k) = qBlk X W ⟨r.val / 32, by omega⟩ ⟨k.val / 128, by omega⟩ (ix2 ⟨r.val % 32, by omega⟩ ⟨k.val % 128, by omega⟩) from rfl)
    (h.trans ?_)
  have e0 : (⟨32 * (r.val / 32) + r.val % 32, by omega⟩ : Fin 256) = r := Fin.ext (by show 32 * (r.val / 32) + r.val % 32 = r.val; omega)
  have e1 : (⟨128 * (k.val / 128) + k.val % 128, by omega⟩ : Fin 8192) = k := Fin.ext (by show 128 * (k.val / 128) + k.val % 128 = k.val; omega)
  exact congrArg₂ (fun a b => rowQ (xRow X a) (wRow W) b) e0 e1

/-- The scales of a block, row by row. -/
theorem SV_apply (r : Fin 256) : SV X W (ix2 r 0) = rowS (xRow X r) (wRow W) := by
  have h := sBlk_apply X W ⟨r.val / 32, by omega⟩ ⟨r.val % 32, by omega⟩
  refine Eq.trans (show SV X W (ix2 r 0) = sBlk X W ⟨r.val / 32, by omega⟩ (ix2 ⟨r.val % 32, by omega⟩ 0) from rfl) (h.trans ?_)
  have e0 : (⟨32 * (r.val / 32) + r.val % 32, by omega⟩ : Fin 256) = r := Fin.ext (by show 32 * (r.val / 32) + r.val % 32 = r.val; omega)
  exact congrArg (fun a => rowS (xRow X a) (wRow W)) e0

end Block

end Cert.Own

end
-- ==== Proof.Value.Tile.lean ====
/- A block of 256 rows after its quantisation, at the extended reals: the projection's entries, z, the convolution, dt. -/
module

public import proofs.«01_k».proof.Proof.KernelIdeal.ClosedConv
public import proofs.«01_k».proof.Proof.Value.Layout

@[expose] public section

noncomputable section

namespace Cert.Own

open Idealize.ShloMosaic Idealize.ShloMosaic.ValueIdx

/-! ## The activations -/

def siluE (t : EReal) : EReal := t * Ideal.logistic t

def softE (t : EReal) : EReal :=
  Scalar.select (Ideal.cmp .one (t - Ideal.ofBits .f32 0x00000000#32) (t - Ideal.ofBits .f32 0x00000000#32)) (t + Ideal.ofBits .f32 0x00000000#32)
    (max t (Ideal.ofBits .f32 0x00000000#32) + Ideal.log1p (Ideal.exp (Ideal.ofBits .f32 0x00000000#32 -
      max (t - Ideal.ofBits .f32 0x00000000#32) (-(t - Ideal.ofBits .f32 0x00000000#32)))))

/-- Four taps, the bias, the activation. -/
def convE (p w : Fin 4 → EReal) (b : EReal) : EReal := siluE (p 0 * w 0 + p 1 * w 1 + p 2 * w 2 + p 3 * w 3 + b)

/-! ## The kernel's block -/

open Cert.KernelIdeal Cert.KernelIdeal.Own Cert.KernelIdeal.Gen

section Tile
variable (K : Vec Ideal S256x8192 .fp8e4m3) (A : Vec Ideal S8192x4624 .fp8e4m3) (As : Vec Ideal S1x4624 .f32) (v29 : Vec Ideal S256x1 .f32)

/-- The projection's entry. -/
def PK (r : Fin 256) (n : Fin 4624) : EReal := (∑ k : Fin 8192, K (ix2 r k) * A (ix2 k n)) * v29 (ix2 r 0) * As (ix2 0 n)

theorem accF_apply (B : Vec Ideal S8192x512 .fp8e4m3) (b : Vec Ideal S1x512 .f32) (r : Fin 256) (j : Fin 512) :
    accF v29 K B b (ix2 r j) = (∑ k : Fin 8192, K (ix2 r k) * B (ix2 k j)) * v29 (ix2 r 0) * b (ix2 0 j) := by
  unfold accF
  rw [shapeCast_self, mulf_apply, mulf_apply, bcol_apply, brow_apply]
  exact congrArg (fun t => t * v29 (ix2 r 0) * b (ix2 0 j)) (mm_apply _ rfl K B r j)

theorem rd_rQ : rd rQ K = K := rd_whole _ K

theorem rdA_apply (o : ℕ) (off : Fin 2 → ℕ) (inb) (e0 : off 0 = 0) (e1 : off 1 = o) (k : Fin 8192) (j : Fin 512) (ho : o + j.val < 4624) :
    rd (Rect.unit (s := S8192x4624) off S8192x512.size inb) A (ix2 k j) = A (ix2 k ⟨o + j.val, ho⟩) := by
  apply congrArg A
  apply emb_eq
  intro a
  match a with
  | ⟨0, _⟩ => show k.val = off 0 + 1 * k.val; omega
  | ⟨1, _⟩ => show o + j.val = off 1 + 1 * j.val; omega

theorem rdS_apply (o : ℕ) (off : Fin 2 → ℕ) (inb) (e0 : off 0 = 0) (e1 : off 1 = o) (j : Fin 512) (ho : o + j.val < 4624) :
    rd (Rect.unit (s := S1x4624) off S1x512.size inb) As (ix2 0 j) = As (ix2 0 ⟨o + j.val, ho⟩) := by
  apply congrArg As
  apply emb_eq
  intro a
  match a with
  | ⟨0, _⟩ => show 0 = off 0 + 1 * 0; omega
  | ⟨1, _⟩ => show o + j.val = off 1 + 1 * j.val; omega

theorem offz_eq : ∀ k : Fin k0_t1_loop.trips, k0_off2 k 0 = 0 ∧ k0_off2 k 1 = 512 * k.val ∧ k0_off3 k 0 = 0 ∧ k0_off3 k 1 = 512 * k.val := by decide +kernel
theorem offx_eq : ∀ k : Fin k0_t2_loop.trips, k0_off70 k 0 = 0 ∧ k0_off70 k 1 = 512 * (k.val + 4) ∧ k0_off71 k 0 = 0 ∧ k0_off71 k 1 = 512 * (k.val + 4) := by decide +kernel

theorem PK_congr (r : Fin 256) (n n' : Fin 4624) (h : n.val = n'.val) : PK K A As v29 r n = PK K A As v29 r n' := by
  rw [Fin.ext h]

/-- A tile of the projection that z takes. -/
theorem pay1_apply (B : Vec Ideal S8192x512 .fp8e4m3) (b : Vec Ideal S1x512 .f32) (i : S256x512.Idx) :
    k0_pay1 v29 K B b i = siluE (accF v29 K B b i) := by
  unfold k0_pay1
  rw [mulf_apply, logistic_apply]
  unfold siluE accF
  rfl

/-- z. -/
theorem zC_apply (r : Fin 256) (j : Fin 2048) : zC K A As v29 (ix2 r j) = siluE (PK K A As v29 r ⟨j.val, by omega⟩) := by
  have ht := trips1
  have h := offz_eq ⟨j.val / 512, by omega⟩
  show zBlk K A As v29 ⟨j.val / 512, by omega⟩ (ix2 r ⟨j.val % 512, by omega⟩) = _
  unfold zBlk
  rw [pay1_apply, accF_apply, rd_rQ, rdS_apply As (512 * (j.val / 512)) _ _ h.2.2.1 h.2.2.2 _ (by dsimp only; omega)]
  rw [Finset.sum_congr rfl fun k _ => congrArg (K (ix2 r k) * ·)
    (rdA_apply A (512 * (j.val / 512)) _ _ h.1 h.2.1 k ⟨j.val % 512, by omega⟩ (by dsimp only; omega))]
  exact congrArg siluE (PK_congr K A As v29 r _ _ (by show 512 * (j.val / 512) + j.val % 512 = j.val; omega))

/-- A tile of the projection that the convolution takes. -/
theorem accV_apply (k : Fin k0_t2_loop.trips) (r : Fin 256) (j : Fin 512) (n : Fin 4624) (hn : n.val = 512 * (k.val + 4) + j.val) :
    accV K A As v29 k (ix2 r j) = PK K A As v29 r n := by
  have ht := trips2
  have h := offx_eq k
  unfold accV
  rw [accF_apply, rd_rQ, rdS_apply As (512 * (k.val + 4)) _ _ h.2.2.1 h.2.2.2 _ (by omega)]
  rw [Finset.sum_congr rfl fun l _ => congrArg (K (ix2 r l) * ·)
    (rdA_apply A (512 * (k.val + 4)) _ _ h.1 h.2.1 l j (by omega))]
  exact PK_congr K A As v29 r _ _ hn.symm

theorem chunkF_apply (c : Fin 4) (a : FVec Ideal S256x512 .f32) (r : Fin 256) (l : Fin 128) :
    chunkF c a (ix2 r l) = a (ix2 r ⟨128 * c.val + l.val, by omega⟩) := by
  unfold chunkF
  apply extractStridedSlice_apply
  intro d
  match d with
  | ⟨0, _⟩ => show r.val = 0 + r.val; omega
  | ⟨1, _⟩ => rfl

/-- The rows handed to the next block. -/
theorem haloC_apply (q : Fin 20) (i : Fin 8) (l : Fin 128) :
    haloC K A As v29 (ix3 q i l) = PK K A As v29 ⟨248 + i.val, by omega⟩ ⟨2048 + 128 * q.val + l.val, by omega⟩ := by
  have ht := trips2
  show chunkF (ckC q.val) (accV K A As v29 (ckK q.val q.isLt)) (ix2 ⟨248 + i.val, by omega⟩ l) = _
  rw [chunkF_apply, accV_apply K A As v29 (ckK q.val q.isLt) _ _ ⟨2048 + 128 * q.val + l.val, by omega⟩]
  show 2048 + 128 * q.val + l.val = 512 * (q.val / 4 + 4) + (128 * (q.val % 4) + l.val)
  omega

/-- dt. -/
theorem dtV_apply (db : Vec Ideal S1x16 .f32) (r : Fin 256) (h : Fin 16) :
    dtV K A As v29 db (ix2 r h) = softE (PK K A As v29 r ⟨4608 + h.val, by omega⟩ + db (ix2 0 h)) := by
  have e : ∀ (B : FVec Ideal S8192x144 .fp8e4m3) (b : FVec Ideal S1x16 .f32), k0_pay371 v29 K B b db (ix2 r h)
      = softE ((∑ k : Fin 8192, K (ix2 r k) * B (ix2 k ⟨128 + h.val, by omega⟩)) * v29 (ix2 r 0) * b (ix2 0 h) + db (ix2 0 h)) := by
    intro B b
    have e0 : extractStridedSlice S256x16 ![0, 128] (matmul (F := Ideal) (φ₁ := .fp8e4m3) (φ₂ := .fp8e4m3) dot_S256x8192_S8192x144_S256x144_1_0_0_1_n_n none K B (constant S256x144 .f32 0x00000000#32))
        slices_S256x144_o0_128_S256x16 (ix2 r h) = ∑ k : Fin 8192, K (ix2 r k) * B (ix2 k ⟨128 + h.val, by omega⟩) := by
      refine (extractStridedSlice_apply _ _ _ (ix2 r h) (ix2 r ⟨128 + h.val, by omega⟩) ?_).trans (mm_apply _ rfl K B r ⟨128 + h.val, by omega⟩)
      intro d
      match d with
      | ⟨0, _⟩ => show r.val = 0 + r.val; omega
      | ⟨1, _⟩ => rfl
    unfold k0_pay371 softE
    simp only [shapeCast_self, select_apply, cmp_apply, addf_apply, subf_apply, mulf_apply, maximumf_apply, log1p_apply, exp_apply, absf_apply,
      bits_apply, bcol_apply, brow_apply, e0]
  unfold dtV
  rw [e]
  refine congrArg (fun t => softE (t + db (ix2 0 h))) (congrArg₂ (fun s b => s * v29 (ix2 r 0) * b) (Finset.sum_congr rfl fun k _ => congrArg (K (ix2 r k) * ·) ?_) ?_)
  · apply congrArg A
    apply emb_eq
    intro a
    match a with
    | ⟨0, _⟩ => show k.val = 0 + 1 * k.val; omega
    | ⟨1, _⟩ => show 4608 + h.val = 4480 + 1 * (128 + h.val); omega
  · apply congrArg As
    apply emb_eq
    intro a
    match a with
    | ⟨0, _⟩ => rfl
    | ⟨1, _⟩ => show 4608 + h.val = 4608 + 1 * h.val; omega

end Tile

end Cert.Own

end
-- ==== Proof.Value.TileConv.lean ====
/- The convolution of a block of 256 rows, at the extended reals. -/
module

public import proofs.«01_k».proof.Proof.Value.Tile

@[expose] public section

noncomputable section

namespace Cert.Own

open Idealize.ShloMosaic Idealize.ShloMosaic.ValueIdx
open Cert.KernelIdeal Cert.KernelIdeal.Own Cert.KernelIdeal.Gen

theorem tapF_apply (v : Vec Ideal S1x256x128 .f32) (w : Vec Ideal S1x128 .f32) (r : Fin 256) (l : Fin 128) :
    tapF v w (ix2 r l) = v (ix3 0 r l) * w (ix2 0 l) := by
  unfold tapF
  rw [mulf_apply, brow_apply]
  exact congrArg (· * w (ix2 0 l)) (flat_apply v _ r l 0 r (by show r.val = 0 * 256 + r.val; omega))

theorem convF_apply (v0 v1 v2 v3 : Vec Ideal S1x256x128 .f32) (w0 w1 w2 w3 b : Vec Ideal S1x128 .f32) (r : Fin 256) (l : Fin 128) :
    convF v0 v1 v2 v3 w0 w1 w2 w3 b (ix2 r l) = siluE (v0 (ix3 0 r l) * w0 (ix2 0 l) + v1 (ix3 0 r l) * w1 (ix2 0 l)
      + v2 (ix3 0 r l) * w2 (ix2 0 l) + v3 (ix3 0 r l) * w3 (ix2 0 l) + b (ix2 0 l)) := by
  unfold convF siluE
  rw [shapeCast_self, mulf_apply, logistic_apply, addf_apply, addf_apply, addf_apply, addf_apply, brow_apply, tapF_apply, tapF_apply, tapF_apply, tapF_apply]

/-- An entry of the rows a tap reads: of the eight rows before the block, or of the block. -/
def tapE (h : Fin 8 → EReal) (a : Fin 256 → EReal) (r : Fin 256) (j : Fin 4) : EReal :=
  if e : r.val + (5 + j.val) < 8 then h ⟨r.val + (5 + j.val), e⟩ else a ⟨r.val + (5 + j.val) - 8, by omega⟩

theorem tapRows_apply (a : FVec Ideal S256x128 .f32) (h : Vec Ideal S1x8x128 .f32) (j : Fin 4) (q : Fin 9) (hq : q.val = 5 + j.val) (r : Fin 256) (l : Fin 128) :
    tapRows a h q (ix3 0 r l) = tapE (fun i => h (ix3 0 i l)) (fun i => a (ix2 i l)) r j := by
  obtain ⟨q, h9⟩ := q
  dsimp only at hq
  subst hq
  rfl

section Conv
variable (cw : Vec Ideal S4x2560 .f32) (cb : Vec Ideal S1x2560 .f32)

theorem rdw_apply (j : Fin 4) (o : ℕ) (off : Fin 2 → ℕ) (inb) (e0 : off 0 = j.val) (e1 : off 1 = o) (l : Fin 128) (ho : o + l.val < 2560) :
    rd (Rect.unit (s := S4x2560) off S1x128.size inb) cw (ix2 0 l) = cw (ix2 j ⟨o + l.val, ho⟩) := by
  apply congrArg cw
  apply emb_eq
  intro a
  match a with
  | ⟨0, _⟩ => show j.val = off 0 + 1 * 0; omega
  | ⟨1, _⟩ => show o + l.val = off 1 + 1 * l.val; omega

theorem rdb_apply (o : ℕ) (off : Fin 2 → ℕ) (inb) (e0 : off 0 = 0) (e1 : off 1 = o) (l : Fin 128) (ho : o + l.val < 2560) :
    rd (Rect.unit (s := S1x2560) off S1x128.size inb) cb (ix2 0 l) = cb (ix2 0 ⟨o + l.val, ho⟩) := by
  apply congrArg cb
  apply emb_eq
  intro a
  match a with
  | ⟨0, _⟩ => show 0 = off 0 + 1 * 0; omega
  | ⟨1, _⟩ => show o + l.val = off 1 + 1 * l.val; omega

theorem off73_eq : ∀ (k : Fin k0_t2_loop.trips) (c : Fin 4), k0_off73 k (BitVec.ofNat 32 c.val) 0 = 0 ∧ k0_off73 k (BitVec.ofNat 32 c.val) 1 = 512 * k.val + 128 * c.val := by decide +kernel
theorem off74_eq : ∀ (k : Fin k0_t2_loop.trips) (c : Fin 4), k0_off74 k (BitVec.ofNat 32 c.val) 0 = 1 ∧ k0_off74 k (BitVec.ofNat 32 c.val) 1 = 512 * k.val + 128 * c.val := by decide +kernel
theorem off75_eq : ∀ (k : Fin k0_t2_loop.trips) (c : Fin 4), k0_off75 k (BitVec.ofNat 32 c.val) 0 = 2 ∧ k0_off75 k (BitVec.ofNat 32 c.val) 1 = 512 * k.val + 128 * c.val := by decide +kernel
theorem off76_eq : ∀ (k : Fin k0_t2_loop.trips) (c : Fin 4), k0_off76 k (BitVec.ofNat 32 c.val) 0 = 3 ∧ k0_off76 k (BitVec.ofNat 32 c.val) 1 = 512 * k.val + 128 * c.val := by decide +kernel
theorem off77_eq : ∀ (k : Fin k0_t2_loop.trips) (c : Fin 4), k0_off77 k (BitVec.ofNat 32 c.val) 0 = 0 ∧ k0_off77 k (BitVec.ofNat 32 c.val) 1 = 512 * k.val + 128 * c.val := by decide +kernel

theorem xBlk_apply (k : Fin k0_t2_loop.trips) (c : Fin 4) (a : FVec Ideal S256x512 .f32) (h : Vec Ideal S1x8x128 .f32) (r : Fin 256) (l : Fin 128)
    (ho : 512 * k.val + 128 * c.val + l.val < 2560) :
    xBlk cw cb k c a h (ix2 r l)
      = convE (tapE (fun i => h (ix3 0 i l)) (fun i => a (ix2 i ⟨128 * c.val + l.val, by omega⟩)) r) (fun j => cw (ix2 j ⟨512 * k.val + 128 * c.val + l.val, ho⟩))
          (cb (ix2 0 ⟨512 * k.val + 128 * c.val + l.val, ho⟩)) := by
  unfold xBlk convE
  rw [convF_apply, tapRows_apply _ _ 0 5 rfl, tapRows_apply _ _ 1 6 rfl, tapRows_apply _ _ 2 7 rfl, tapRows_apply _ _ 3 8 rfl,
    rdw_apply cw 0 _ _ _ (off73_eq k c).1 (off73_eq k c).2 l ho, rdw_apply cw 1 _ _ _ (off74_eq k c).1 (off74_eq k c).2 l ho,
    rdw_apply cw 2 _ _ _ (off75_eq k c).1 (off75_eq k c).2 l ho, rdw_apply cw 3 _ _ _ (off76_eq k c).1 (off76_eq k c).2 l ho,
    rdb_apply cb _ _ _ (off77_eq k c).1 (off77_eq k c).2 l ho]
  simp only [chunkF_apply]

variable (K : Vec Ideal S256x8192 .fp8e4m3) (A : Vec Ideal S8192x4624 .fp8e4m3) (As : Vec Ideal S1x4624 .f32) (v29 : Vec Ideal S256x1 .f32)

theorem convE_congr (h h' : Fin 8 → EReal) (a a' : Fin 256 → EReal) (r : Fin 256) (n n' : Fin 2560) (hh : h = h') (ha : a = a') (hn : n = n') :
    convE (tapE h a r) (fun j => cw (ix2 j n)) (cb (ix2 0 n)) = convE (tapE h' a' r) (fun j => cw (ix2 j n')) (cb (ix2 0 n')) := by
  subst hh ha hn; rfl

/-- The convolution. -/
theorem xbcV_apply (H : Vec Ideal S20x8x128 .f32) (r : Fin 256) (n : Fin 2560) :
    xbcV cw cb K A As v29 H (ix2 r n)
      = convE (tapE (fun i => H (ix3 ⟨n.val / 128, by omega⟩ i ⟨n.val % 128, by omega⟩)) (fun i => PK K A As v29 i ⟨2048 + n.val, by omega⟩) r)
          (fun j => cw (ix2 j n)) (cb (ix2 0 n)) := by
  have ht := trips2
  show xBlk cw cb (ckK (n.val / 128) (by omega)) (ckC (n.val / 128)) (accV K A As v29 (ckK (n.val / 128) (by omega)))
    (rd (rH (ckK (n.val / 128) (by omega)) (ckC (n.val / 128))) H) (ix2 r ⟨n.val % 128, by omega⟩) = _
  have ho : 512 * (n.val / 128 / 4) + 128 * (n.val / 128 % 4) + n.val % 128 = n.val := by omega
  have hb : 512 * (n.val / 128 / 4) + 128 * (n.val / 128 % 4) + n.val % 128 < 2560 := by omega
  rw [xBlk_apply cw cb _ _ _ _ _ _ hb]
  refine convE_congr cw cb _ _ _ _ r _ n ?_ ?_ (Fin.ext ho)
  · funext i
    apply congrArg H
    have h := off72_eq (ckK (n.val / 128) (by omega)) (ckC (n.val / 128))
    apply emb_eq
    intro a
    match a with
    | ⟨0, _⟩ =>
      show n.val / 128 = k0_off72 (ckK (n.val / 128) (by omega)) (BitVec.ofNat 32 (ckC (n.val / 128)).val) 0 + 1 * 0
      rw [h.1]
      show n.val / 128 = 4 * (n.val / 128 / 4) + n.val / 128 % 4 + 1 * 0
      omega
    | ⟨1, _⟩ =>
      show i.val = k0_off72 (ckK (n.val / 128) (by omega)) (BitVec.ofNat 32 (ckC (n.val / 128)).val) 1 + 1 * i.val
      rw [h.2.1]; omega
    | ⟨2, _⟩ =>
      show n.val % 128 = k0_off72 (ckK (n.val / 128) (by omega)) (BitVec.ofNat 32 (ckC (n.val / 128)).val) 2 + 1 * (n.val % 128)
      rw [h.2.2]; omega
  · funext i
    apply accV_apply
    show 2048 + n.val = 512 * (n.val / 128 / 4 + 4) + (128 * (n.val / 128 % 4) + n.val % 128)
    omega

theorem pay365_apply (y : S20x8x128.Idx) : k0_pay365 (F := Ideal) y = Ideal.ofBits .f32 0x00000000#32 := by
  unfold k0_pay365
  rw [shapeCast_self, bits_apply]

end Conv

end Cert.Own

end
-- ==== Proof.Value.Count.lean ====
/- The reference's exponent: the number of powers of two that are not above the value, and what follows from it. -/
module

public import proofs.«01_k».proof.Proof.Value.Exponent

@[expose] public section

noncomputable section

namespace Cert.Own

open Idealize.ShloMosaic Idealize.ShloMosaic.ValueIdx

/-! ## The constants -/

theorem c126 : Ideal.ofBits .f32 0x42FC0000#32 = ((126 : ℝ) : EReal) := by
  simp [Ideal.ofBits, Ideal.ieee, -EReal.coe_mul]; norm_num
theorem c127 : Ideal.ofBits .f32 0x42FE0000#32 = ((127 : ℝ) : EReal) := by
  simp [Ideal.ofBits, Ideal.ieee, -EReal.coe_mul]; norm_num
theorem c128 : Ideal.ofBits .f32 0x43000000#32 = ((128 : ℝ) : EReal) := by
  simp [Ideal.ofBits, Ideal.ieee, -EReal.coe_mul]; norm_num
theorem c1 : Ideal.ofBits .f32 0x3F800000#32 = ((1 : ℝ) : EReal) := by
  simp [Ideal.ofBits, Ideal.ieee, -EReal.coe_mul]; norm_num
theorem cTop : Ideal.ofBits .f32 0x7F800000#32 = ⊤ := by simp [Ideal.ofBits, Ideal.ieee]
theorem cBot : Ideal.ofBits .f32 0xFF800000#32 = ⊥ := by simp [Ideal.ofBits, Ideal.ieee]
theorem c0 : Ideal.ofBits .f32 0x00000000#32 = ((0 : ℝ) : EReal) := by simp [Ideal.ofBits, Ideal.ieee]

/-! ## The reference's terms -/

/-- How many of the 254 powers of two are not above the value. -/
def refCount (v : EReal) : EReal :=
  ∑ k : Fin 254, Scalar.select (Ideal.cmp .oge v (Ideal.exp2 ((((BitVec.ofNat 32 k.val).toInt : ℝ) : EReal) - Ideal.ofBits .f32 0x42FC0000#32)))
    (Ideal.ofBits .f32 0x3F800000#32) (Ideal.ofBits .f32 0x00000000#32)
/-- The exponent. -/
def refExp (v : EReal) : EReal :=
  Scalar.select (IntOp.andi (Ideal.cmp .ogt (refCount v) (Ideal.ofBits .f32 0x00000000#32)) (Ideal.cmp .olt v (Ideal.ofBits .f32 0x7F800000#32)))
    (refCount v - Ideal.ofBits .f32 0x42FC0000#32) (Ideal.ofBits .f32 0x00000000#32)
/-- The scale and its reciprocal. -/
def refScl (v : EReal) : EReal :=
  Scalar.select (Ideal.cmp .olt (refExp v) (Ideal.ofBits .f32 0x43000000#32)) (Ideal.exp2 (refExp v)) (Ideal.ofBits .f32 0x7F800000#32)
def refInv (v : EReal) : EReal :=
  Scalar.select (Ideal.cmp .olt (refExp v) (Ideal.ofBits .f32 0x42FE0000#32)) (Ideal.exp2 (Ideal.ofBits .f32 0x00000000#32 - refExp v))
    (Ideal.ofBits .f32 0x00000000#32)

/-! ## They are the kernel's -/

theorem exp2_int (z : ℤ) : Ideal.exp2 (((z : ℝ)) : EReal) = (((2 : ℝ) ^ z : ℝ) : EReal) := by
  show ((Real.rpow 2 (z : ℝ) : ℝ) : EReal) = _
  congr 1
  exact Real.rpow_intCast 2 z

theorem exp2_pw (z : ℤ) (n : ℕ) (e : z = (n : ℤ) - 127) (h0 : 1 ≤ n) (h : n ≤ 254) : Ideal.exp2 (((z : ℝ)) : EReal) = pw n := by
  rw [exp2_int, pw_mid n h0 h, e]

theorem word_toInt : ∀ k : Fin 254, (BitVec.ofNat 32 k.val).toInt = (k.val : ℤ) := by decide +kernel

theorem count_term (v : EReal) (k : Fin 254) :
    Scalar.select (Ideal.cmp .oge v (Ideal.exp2 ((((BitVec.ofNat 32 k.val).toInt : ℝ) : EReal) - Ideal.ofBits .f32 0x42FC0000#32)))
    (Ideal.ofBits .f32 0x3F800000#32) (Ideal.ofBits .f32 0x00000000#32) = if k.val + 1 ≤ thr v then (1 : EReal) else 0 := by
  have e : ((((BitVec.ofNat 32 k.val).toInt : ℝ) : EReal) - Ideal.ofBits .f32 0x42FC0000#32) = ((((k.val : ℤ) - 126 : ℤ) : ℝ) : EReal) := by
    rw [c126, word_toInt, ← EReal.coe_sub]
    congr 1
    push_cast; ring
  rw [e, exp2_pw _ (k.val + 1) (by push_cast; ring) (by omega) (by omega)]
  have e3 : Ideal.cmp .oge v (pw (k.val + 1)) = BitVec.ofBool (decide (pw (k.val + 1) ≤ v)) := rfl
  rw [e3, c1, c0]
  by_cases c : k.val + 1 ≤ thr v
  · rw [if_pos c, decide_eq_true ((thr_iff _ _ (by omega) (by omega)).2 c)]; rfl
  · rw [if_neg c, decide_eq_false (fun g => c ((thr_iff _ _ (by omega) (by omega)).1 g))]; rfl

theorem refCount_eq (v : EReal) : refCount v = (((min (thr v) 254 : ℕ) : ℝ) : EReal) := by
  unfold refCount
  rw [Finset.sum_congr rfl fun k _ => count_term v k]
  rw [Fin.sum_univ_eq_sum_range (fun k => if k + 1 ≤ thr v then (1 : EReal) else 0) 254, Finset.sum_boole]
  have e : (Finset.range 254).filter (fun k => k + 1 ≤ thr v) = Finset.range (min (thr v) 254) := by
    ext k; simp only [Finset.mem_filter, Finset.mem_range]; omega
  rw [e, Finset.card_range]
  norm_cast

theorem thr_top (v : EReal) : v < ⊤ ↔ thr v < 255 := by
  have h := thr_iff v 255 (by omega) (by omega)
  have := thr_le v
  rw [pw_top, top_le_iff] at h
  rw [lt_top_iff_ne_top, Ne, h]; omega

/-- The exponent, as a number. -/
def exZ (T : ℕ) : ℤ := if T = 0 ∨ T = 255 then 0 else (T : ℤ) - 126

theorem refExp_eq (v : EReal) : refExp v = (((exZ (thr v) : ℤ) : ℝ) : EReal) := by
  have ht := thr_le v
  have tt := thr_top v
  unfold refExp
  rw [refCount_eq, cTop, c126, c0]
  have e1 : Ideal.cmp .ogt (((min (thr v) 254 : ℕ) : ℝ) : EReal) ((0 : ℝ) : EReal) = BitVec.ofBool (decide (((0 : ℝ) : EReal) < (((min (thr v) 254 : ℕ) : ℝ) : EReal))) := rfl
  have e2 : Ideal.cmp .olt v ⊤ = BitVec.ofBool (decide (v < ⊤)) := rfl
  rw [e1, e2]
  have p1 : ((0 : ℝ) : EReal) < (((min (thr v) 254 : ℕ) : ℝ) : EReal) ↔ thr v ≠ 0 := by
    rw [EReal.coe_lt_coe_iff, Nat.cast_pos]; omega
  unfold exZ
  by_cases c0 : thr v = 0
  · rw [if_pos (Or.inl c0), decide_eq_false (fun g => (p1.1 g) c0)]
    cases decide (v < ⊤) <;> simp [Scalar.select, IntOp.andi]
  · by_cases c1 : thr v = 255
    · rw [if_pos (Or.inr c1), decide_eq_true (p1.2 c0), decide_eq_false (fun g => by have := tt.1 g; omega)]
      simp [Scalar.select, IntOp.andi]
    · rw [if_neg (by omega), decide_eq_true (p1.2 c0), decide_eq_true (tt.2 (by omega)), ← EReal.coe_sub]
      show (((((min (thr v) 254 : ℕ) : ℝ) - 126 : ℝ)) : EReal) = _
      congr 1
      rw [Nat.min_eq_left (by omega)]; push_cast; ring

theorem refScl_eq (v : EReal) : refScl v = sclE v := by
  have ht := thr_le v
  unfold refScl sclE
  rw [refExp_eq, c128, cTop]
  have e1 : Ideal.cmp .olt (((exZ (thr v) : ℤ) : ℝ) : EReal) ((128 : ℝ) : EReal) = BitVec.ofBool (decide ((((exZ (thr v) : ℤ) : ℝ) : EReal) < ((128 : ℝ) : EReal))) := rfl
  have p1 : (((exZ (thr v) : ℤ) : ℝ) : EReal) < ((128 : ℝ) : EReal) ↔ exZ (thr v) < 128 := by
    rw [EReal.coe_lt_coe_iff]; norm_cast
  rw [e1]
  by_cases c : exZ (thr v) < 128
  · rw [decide_eq_true (p1.2 c)]
    show Ideal.exp2 (((exZ (thr v) : ℤ) : ℝ) : EReal) = _
    have hs : exZ (thr v) = (sN (thr v) : ℤ) - 127 ∧ 1 ≤ sN (thr v) ∧ sN (thr v) ≤ 254 := by
      unfold exZ sN at *; split at c <;> rename_i q <;> simp only [q, if_true, if_false] <;> omega
    exact exp2_pw _ _ hs.1 hs.2.1 hs.2.2
  · rw [decide_eq_false (fun g => c (p1.1 g))]
    have hs : sN (thr v) = 255 := by
      unfold exZ sN at *; split at c <;> rename_i q <;> simp only [q, if_true, if_false] <;> omega
    rw [hs, pw_top]; rfl

theorem refInv_eq (v : EReal) : refInv v = invE v := by
  have ht := thr_le v
  unfold refInv invE
  rw [refExp_eq, c127, c0]
  have e1 : Ideal.cmp .olt (((exZ (thr v) : ℤ) : ℝ) : EReal) ((127 : ℝ) : EReal) = BitVec.ofBool (decide ((((exZ (thr v) : ℤ) : ℝ) : EReal) < ((127 : ℝ) : EReal))) := rfl
  have p1 : (((exZ (thr v) : ℤ) : ℝ) : EReal) < ((127 : ℝ) : EReal) ↔ exZ (thr v) < 127 := by
    rw [EReal.coe_lt_coe_iff]; norm_cast
  rw [e1]
  by_cases c : exZ (thr v) < 127
  · rw [decide_eq_true (p1.2 c)]
    show Ideal.exp2 (((0 : ℝ) : EReal) - (((exZ (thr v) : ℤ) : ℝ) : EReal)) = _
    have hs : -exZ (thr v) = (iN (thr v) : ℤ) - 127 ∧ 1 ≤ iN (thr v) ∧ iN (thr v) ≤ 254 := by
      unfold exZ iN at *; split at c <;> rename_i q <;> simp only [q, if_true, if_false] <;> omega
    rw [← EReal.coe_sub, show ((0 : ℝ) - ((exZ (thr v) : ℤ) : ℝ)) = ((-exZ (thr v) : ℤ) : ℝ) by push_cast; ring]
    exact exp2_pw _ _ hs.1 hs.2.1 hs.2.2
  · rw [decide_eq_false (fun g => c (p1.1 g))]
    have hs : iN (thr v) = 0 := by
      unfold exZ iN at *; split at c <;> rename_i q <;> simp only [q, if_true, if_false] <;> omega
    rw [hs, pw_zero]; rfl

end Cert.Own

end
-- ==== Proof.Value.RefRow.lean ====
/- The reference's normalisation and quantisation, read row by row: the same row functions as the kernel's. -/
module

public import proofs.«01_k».proof.Proof.Gen.ReferenceIdeal.Value
public import proofs.«01_k».proof.Proof.Value.Strip
public import proofs.«01_k».proof.Proof.Value.Count

@[expose] public section

noncomputable section

namespace Cert.Own

open Idealize.ShloMosaic Idealize.ShloMosaic.ValueIdx
open Cert.ReferenceIdeal Cert.ReferenceIdeal.Gen

variable (x0 : Vec Ideal S3x1024x8192 .bf16) (x1 : Vec Ideal S8192 .bf16)

/-- A row of the activations; the norm's weights. -/
def aRow (r : Fin 3072) (k : Fin 8192) : EReal := x0 (ix3 (⟨r.val / 1024, by omega⟩ : Fin 3) (⟨r.val % 1024, by omega⟩ : Fin 1024) k)
def nRow (k : Fin 8192) : EReal := x1 (ix1 k)

theorem div_8192 (a : EReal) : Ideal.div a (Ideal.ofBits .f32 0x46000000#32) = a * Ideal.ofBits .f32 0x39000000#32 := by
  have e : Ideal.ofBits .f32 0x46000000#32 = ((8192 : ℝ) : EReal) := by
    simp [Ideal.ofBits, Ideal.ieee, -EReal.coe_mul]; norm_num
  have e' : Ideal.ofBits .f32 0x39000000#32 = (((8192 : ℝ)⁻¹ : ℝ) : EReal) := by
    simp [Ideal.ofBits, Ideal.ieee, -EReal.coe_mul]; norm_num
  rw [e, e']
  unfold Ideal.div
  rw [if_neg (by rw [EReal.coe_eq_zero]; norm_num), EReal.coe_inv]

theorem x_apply (r : Fin 3072) (k : Fin 8192) :
    shapeCast S3072x8192 (extf .f32 x0 bitsLt_bf16_f32 : FVec Ideal S3x1024x8192 .f32) shapeCasts_S3x1024x8192_S3072x8192 (ix2 r k) = aRow x0 r k :=
  flat_apply (extf .f32 x0 bitsLt_bf16_f32 : FVec Ideal S3x1024x8192 .f32) shapeCasts_S3x1024x8192_S3072x8192 r k ⟨r.val / 1024, by omega⟩ ⟨r.val % 1024, by omega⟩ (by show r.val = r.val / 1024 * 1024 + r.val % 1024; omega)

theorem hn_apply (r : Fin 3072) (k : Fin 8192) : k0_pay2 x0 x1 (ix2 r k) = rowH (aRow x0 r) (nRow x1) k := by
  have hs := colSum_apply (mulf (shapeCast S3072x8192 (extf .f32 x0 bitsLt_bf16_f32 : FVec Ideal S3x1024x8192 .f32) shapeCasts_S3x1024x8192_S3072x8192)
    (shapeCast S3072x8192 (extf .f32 x0 bitsLt_bf16_f32 : FVec Ideal S3x1024x8192 .f32) shapeCasts_S3x1024x8192_S3072x8192))
    0x00000000#32 reduces_S3072x8192_S3072 (.inl rfl) rfl shapeCasts_S3072_S3072x1 r
  unfold k0_pay2 rowH rowR
  dsimp only
  rw [mulf_apply, mulf_apply, x_apply, bcol_apply, brow_apply, row_apply, extf_apply]
  refine congrArg (fun t => aRow x0 r k * t * nRow x1 k) ?_
  refine (congrArg (fun t => Ideal.rsqrt (Ideal.div t (Ideal.ofBits .f32 0x46000000#32) + Ideal.ofBits .f32 0x3727C5AC#32)) hs).trans ?_
  rw [div_8192]
  refine congrArg (fun t => Ideal.rsqrt (t * Ideal.ofBits .f32 0x39000000#32 + Ideal.ofBits .f32 0x3727C5AC#32)) (Finset.sum_congr rfl fun l _ => ?_)
  rw [mulf_apply, x_apply]

theorem ratio_apply (r : Fin 3072) : k0_pay3 x0 x1 (ix2 r 0) = rowV (aRow x0 r) (nRow x1) := by
  unfold k0_pay3 rowV
  dsimp only
  rw [mulf_apply, bits_apply]
  have h : ∀ z, shapeCast S3072x1 (multiReduction .maximumf [1] S3072 (absf (k0_pay2 x0 x1)) 0xFF800000#32 reduces_S3072x8192_S3072 (.inl rfl) rfl)
      shapeCasts_S3072_S3072x1 (ix2 r 0) ≤ z ↔ rowA (aRow x0 r) (nRow x1) ≤ z := by
    intro z
    refine (colMax_le (absf (k0_pay2 x0 x1)) reduces_S3072x8192_S3072 (.inl rfl) rfl shapeCasts_S3072_S3072x1 r z).trans ?_
    rw [rowA_le]
    refine forall_congr' fun k => ?_
    rw [absf_apply, hn_apply]
  rw [eq_of_forall_ge_iff h]

theorem count_apply (r : Fin 3072) : k0_pay4 x0 x1 (ix2 r 0) = refCount (rowV (aRow x0 r) (nRow x1)) := by
  unfold k0_pay4 refCount
  dsimp only
  refine (colSum_apply _ 0x00000000#32 reduces_S3072x254_S3072 (.inl rfl) rfl shapeCasts_S3072_S3072x1 r).trans ?_
  refine Finset.sum_congr rfl fun k _ => ?_
  have ei : iota .tc S1x254 32 [1] iota_S1x254_d1_w32 (ix2 0 k) = BitVec.ofNat 32 k.val := iota_single_apply _ _ _ _ _ _
  rw [select_apply, cmp_apply, bcol_apply, brow_apply, ratio_apply, bits_apply, bits_apply, exp2_apply, subf_apply, sitofp_apply', bits_apply, ei]

/-- The reference's exponent. -/
theorem exp_apply' (r : Fin 3072) : k0_pay7 (k0_pay5 x0 x1) (k0_pay6 x0 x1) (Scalar.ofBits .f32 0x00000000#32) (ix2 r 0) = refExp (rowV (aRow x0 r) (nRow x1)) := by
  unfold k0_pay7 k0_pay5 k0_pay6 refExp
  dsimp only
  rw [select_apply, andi_apply, cmp_apply, cmp_apply, subf_apply, bits_apply, bits_apply, bits_apply, count_apply, ratio_apply]

/-- The reference's scales. -/
theorem refS_apply (r : Fin 3072) : k0_pay8 (k0_pay5 x0 x1) (k0_pay6 x0 x1) (Scalar.ofBits .f32 0x00000000#32) (ix2 r 0) = rowS (aRow x0 r) (nRow x1) := by
  unfold rowS k0_pay8
  rw [← refScl_eq]
  unfold refScl
  rw [select_apply, cmp_apply, exp2_apply, bits_apply, bits_apply, exp_apply']

/-- The reference's codes. -/
theorem refQ_apply (r : Fin 3072) (k : Fin 8192) :
    k0_pay9 (k0_pay2 x0 x1) (k0_pay5 x0 x1) (k0_pay6 x0 x1) (Scalar.ofBits .f32 0x00000000#32) (ix2 r k) = rowQ (aRow x0 r) (nRow x1) k := by
  unfold k0_pay9
  rw [truncf_apply, minimumf_apply, maximumf_apply, mulf_apply, bcol_apply, hn_apply, select_apply, cmp_apply, exp2_apply, subf_apply, bits_apply,
    bits_apply, bits_apply, bits_apply, exp_apply']
  unfold rowQ
  rw [← refInv_eq]
  unfold refInv
  rfl

end Cert.Own

end
-- ==== Proof.Value.RefProj.lean ====
/- The reference's projection and what it makes of it, at the extended reals. -/
module

public import proofs.«01_k».proof.Proof.Value.RefRow
public import proofs.«01_k».proof.Proof.Value.Tile

@[expose] public section

noncomputable section

namespace Cert.Own

open Idealize.ShloMosaic Idealize.ShloMosaic.ValueIdx
open Cert.ReferenceIdeal Cert.ReferenceIdeal.Gen

section Proj
variable (x0 : Vec Ideal S3x1024x8192 .bf16) (x1 : Vec Ideal S8192 .bf16) (x2 : Vec Ideal S8192x4624 .fp8e4m3) (x3 : Vec Ideal S4624 .f32)

/-- The projection's entry. -/
def PR (r : Fin 3072) (n : Fin 4624) : EReal :=
  (∑ k : Fin 8192, rowQ (aRow x0 r) (nRow x1) k * x2 (ix2 k n)) * rowS (aRow x0 r) (nRow x1) * x3 (ix1 n)

/-- The reference's projection, whole. -/
def refP : FVec Ideal S3072x4624 .f32 := k0_pay10 (k0_pay2 x0 x1) (k0_pay5 x0 x1) (k0_pay6 x0 x1) (Scalar.ofBits .f32 0x00000000#32) x2 x3

theorem refP_apply (r : Fin 3072) (n : Fin 4624) : refP x0 x1 x2 x3 (ix2 r n) = PR x0 x1 x2 x3 r n := by
  unfold refP k0_pay10 PR
  rw [mulf_apply, mulf_apply, bcol_apply, brow_apply, row_apply, refS_apply]
  refine congrArg (fun t => t * rowS (aRow x0 r) (nRow x1) * x3 (ix1 n)) ?_
  have hQ := refQ_apply x0 x1 r
  generalize k0_pay9 (k0_pay2 x0 x1) (k0_pay5 x0 x1) (k0_pay6 x0 x1) (Scalar.ofBits .f32 0x00000000#32) = Q at hQ ⊢
  refine (mm_apply _ rfl Q x2 r n).trans ?_
  exact Finset.sum_congr rfl fun k _ => by rw [hQ]

/-- z. -/
theorem refZ_apply (r : Fin 3072) (j : Fin 2048) :
    k0_pay12 (k0_pay2 x0 x1) (k0_pay5 x0 x1) (k0_pay6 x0 x1) (Scalar.ofBits .f32 0x00000000#32) x2 x3 (ix2 r j) = siluE (PR x0 x1 x2 x3 r ⟨j.val, by omega⟩) := by
  have e := refP_apply x0 x1 x2 x3 r ⟨j.val, by omega⟩
  unfold refP at e
  unfold k0_pay12 siluE
  generalize k0_pay10 (k0_pay2 x0 x1) (k0_pay5 x0 x1) (k0_pay6 x0 x1) (Scalar.ofBits .f32 0x00000000#32) x2 x3 = P at e ⊢
  have es : extractStridedSlice S3072x2048 ![0, 0] P slices_S3072x4624_o0_0_S3072x2048 (ix2 r j) = P (ix2 r ⟨j.val, by omega⟩) := by
    apply extractStridedSlice_apply
    intro d
    match d with
    | ⟨0, _⟩ => show r.val = 0 + r.val; omega
    | ⟨1, _⟩ => show j.val = 0 + j.val; omega
  rw [mulf_apply, logistic_apply, es, e]

/-- dt. -/
theorem refT_apply (x6 : Vec Ideal S16 .f32) (r : Fin 3072) (h : Fin 16) :
    k0_pay1 (k0_pay17 (k0_pay11 (k0_pay2 x0 x1) (k0_pay5 x0 x1) (k0_pay6 x0 x1) (Scalar.ofBits .f32 0x00000000#32) x2 x3) x6)
      (k0_pay19 (k0_pay11 (k0_pay2 x0 x1) (k0_pay5 x0 x1) (k0_pay6 x0 x1) (Scalar.ofBits .f32 0x00000000#32) x2 x3) x6)
      (k0_pay20 (k0_pay11 (k0_pay2 x0 x1) (k0_pay5 x0 x1) (k0_pay6 x0 x1) (Scalar.ofBits .f32 0x00000000#32) x2 x3) x6)
      (k0_pay21 (k0_pay11 (k0_pay2 x0 x1) (k0_pay5 x0 x1) (k0_pay6 x0 x1) (Scalar.ofBits .f32 0x00000000#32) x2 x3) x6)
      (Scalar.ofBits .f32 0x00000000#32) (ix2 r h) = softE (PR x0 x1 x2 x3 r ⟨4608 + h.val, by omega⟩ + x6 (ix1 h)) := by
  have e : k0_pay11 (k0_pay2 x0 x1) (k0_pay5 x0 x1) (k0_pay6 x0 x1) (Scalar.ofBits .f32 0x00000000#32) x2 x3 (ix2 r h)
      = PR x0 x1 x2 x3 r ⟨4608 + h.val, by omega⟩ := by
    have e := refP_apply x0 x1 x2 x3 r ⟨4608 + h.val, by omega⟩
    unfold refP at e
    unfold k0_pay11
    generalize k0_pay10 (k0_pay2 x0 x1) (k0_pay5 x0 x1) (k0_pay6 x0 x1) (Scalar.ofBits .f32 0x00000000#32) x2 x3 = P at e ⊢
    rw [← e]
    apply extractStridedSlice_apply
    intro d
    match d with
    | ⟨0, _⟩ => show r.val = 0 + r.val; omega
    | ⟨1, _⟩ => rfl
  generalize k0_pay11 (k0_pay2 x0 x1) (k0_pay5 x0 x1) (k0_pay6 x0 x1) (Scalar.ofBits .f32 0x00000000#32) x2 x3 = D at e ⊢
  have e16 : k0_pay16 D x6 (ix2 r h) = PR x0 x1 x2 x3 r ⟨4608 + h.val, by omega⟩ + x6 (ix1 h) := by
    unfold k0_pay16
    rw [addf_apply, brow_apply, row_apply, e]
  unfold k0_pay1 k0_pay17 k0_pay19 k0_pay20 k0_pay21 k0_pay18 softE
  simp only [select_apply, cmp_apply, addf_apply, subf_apply, maximumf_apply, log1p_apply, exp_apply, absf_apply, bits_apply, e16]

/-- The rows that a tap of the convolution reads: zero before the sequence's first. -/
def tapR (p : Fin 3072 → EReal) (r : Fin 3072) (j : Fin 4) : EReal :=
  if r.val % 1024 + j.val < 3 then Ideal.ofBits .f32 0x00000000#32 else p ⟨r.val + j.val - 3, by omega⟩

/-- The convolution, of a projection given entry by entry. -/
theorem refC_apply (P : FVec Ideal S3x1024x2560 .f32) (p : Fin 3072 → EReal) (w0 w1 w2 w3 : Vec Ideal S1x2560 .f32) (b : Vec Ideal S2560 .f32)
    (r : Fin 3072) (n : Fin 2560) (hP : ∀ (q : Fin 3) (l : Fin 1024), P (ix3 q l n) = p ⟨q.val * 1024 + l.val, by omega⟩) :
    k0_pay15 k0_pay13 P w0 w1 w2 w3 b (ix2 r n) = siluE (tapR p r 0 * w0 (ix2 0 n) + tapR p r 1 * w1 (ix2 0 n) + tapR p r 2 * w2 (ix2 0 n)
      + tapR p r 3 * w3 (ix2 0 n) + b (ix1 n)) := by
  have hcat : ∀ (j : Fin 4) (hs : S3x1027x2560.Slices ![0, j.val, 0] S3x1024x2560),
      extractStridedSlice S3x1024x2560 ![0, j.val, 0] (concatenate S3x1027x2560 1 [⟨S3x3x2560, k0_pay13⟩, ⟨S3x1024x2560, P⟩]
        concatenates_S3x3x2560_S3x1024x2560_S3x1027x2560_d1) hs (ix3 ⟨r.val / 1024, by omega⟩ ⟨r.val % 1024, by omega⟩ n) = tapR p r j := by
    intro j hs
    refine (extractStridedSlice_apply _ _ _ _ (ix3 ⟨r.val / 1024, by omega⟩ ⟨j.val + r.val % 1024, by omega⟩ n) ?_).trans ?_
    · intro d
      match d with
      | ⟨0, _⟩ => show r.val / 1024 = 0 + r.val / 1024; omega
      | ⟨1, _⟩ => rfl
      | ⟨2, _⟩ => show n.val = 0 + n.val; omega
    · unfold tapR
      by_cases h : r.val % 1024 + j.val < 3
      · rw [if_pos h]
        refine (concatenate_pair_apply_left (t := S3x1027x2560) 1 k0_pay13 P concatenates_S3x3x2560_S3x1024x2560_S3x1027x2560_d1
          (ix3 ⟨r.val / 1024, by omega⟩ ⟨j.val + r.val % 1024, by omega⟩ n) rfl (ix3 ⟨r.val / 1024, by omega⟩ ⟨j.val + r.val % 1024, by omega⟩ n) ?_).trans rfl
        intro d
        match d with
        | ⟨0, _⟩ => rfl
        | ⟨1, _⟩ => rfl
        | ⟨2, _⟩ => rfl
      · rw [if_neg h]
        refine (concatenate_pair_apply_right (t := S3x1027x2560) 1 k0_pay13 P concatenates_S3x3x2560_S3x1024x2560_S3x1027x2560_d1
          (ix3 ⟨r.val / 1024, by omega⟩ ⟨j.val + r.val % 1024, by omega⟩ n) rfl rfl (ix3 ⟨r.val / 1024, by omega⟩ ⟨j.val + r.val % 1024 - 3, by omega⟩ n) ?_ ?_).trans ?_
        · intro d hd
          match d, hd with
          | ⟨0, _⟩, _ => rfl
          | ⟨1, _⟩, hd => exact absurd rfl hd
          | ⟨2, _⟩, _ => rfl
        · show j.val + r.val % 1024 - 3 + 3 = j.val + r.val % 1024; omega
        · rw [hP]
          exact congrArg p (Fin.ext (by show r.val / 1024 * 1024 + (j.val + r.val % 1024 - 3) = r.val + j.val - 3; omega))
  have hw : ∀ (w : Vec Ideal S1x2560 .f32), broadcastTo S3x1024x2560 (shapeCast S1x1x2560 w shapeCasts_S1x2560_S1x1x2560) broadcasts_S1x1x2560_S3x1024x2560
      (ix3 ⟨r.val / 1024, by omega⟩ ⟨r.val % 1024, by omega⟩ n) = w (ix2 0 n) := by
    intro w
    refine (broadcastTo_apply _ _ _ (ix3 0 0 n) ?_).trans (stack_apply w _ 0 n 0 0 rfl)
    intro a
    match a with
    | ⟨0, _⟩ => rfl
    | ⟨1, _⟩ => rfl
    | ⟨2, _⟩ => rfl
  unfold k0_pay15
  refine (flat_apply _ _ r n ⟨r.val / 1024, by omega⟩ ⟨r.val % 1024, by omega⟩ (by show r.val = r.val / 1024 * 1024 + r.val % 1024; omega)).trans ?_
  have h0 := hcat 0 slices_S3x1027x2560_o0_0_0_S3x1024x2560
  have h1 := hcat 1 slices_S3x1027x2560_o0_1_0_S3x1024x2560
  have h2 := hcat 2 slices_S3x1027x2560_o0_2_0_S3x1024x2560
  have h3 := hcat 3 slices_S3x1027x2560_o0_3_0_S3x1024x2560
  have hb := (hw (shapeCast S1x2560 b shapeCasts_S2560_S1x2560)).trans (row_apply b _ n)
  unfold siluE
  rw [mulf_apply, logistic_apply, addf_apply, addf_apply, addf_apply, addf_apply, mulf_apply, mulf_apply, mulf_apply, mulf_apply, hw, hw, hw, hw, hb]
  rw [← h0, ← h1, ← h2, ← h3]
  rfl

/-- The stack of the projection's columns that the convolution takes. -/
theorem refB_apply (q : Fin 3) (l : Fin 1024) (n : Fin 2560) :
    k0_pay14 (k0_pay2 x0 x1) (k0_pay5 x0 x1) (k0_pay6 x0 x1) (Scalar.ofBits .f32 0x00000000#32) x2 x3 (ix3 q l n)
      = PR x0 x1 x2 x3 ⟨q.val * 1024 + l.val, by omega⟩ ⟨2048 + n.val, by omega⟩ := by
  have e := refP_apply x0 x1 x2 x3 ⟨q.val * 1024 + l.val, by omega⟩ ⟨2048 + n.val, by omega⟩
  unfold refP at e
  unfold k0_pay14
  generalize k0_pay10 (k0_pay2 x0 x1) (k0_pay5 x0 x1) (k0_pay6 x0 x1) (Scalar.ofBits .f32 0x00000000#32) x2 x3 = P at e ⊢
  rw [← e]
  refine (stack_apply _ _ ⟨q.val * 1024 + l.val, by omega⟩ n q l rfl).trans ?_
  apply extractStridedSlice_apply
  intro d
  match d with
  | ⟨0, _⟩ => show q.val * 1024 + l.val = 0 + (q.val * 1024 + l.val); omega
  | ⟨1, _⟩ => rfl

end Proj

end Cert.Own

end
-- ==== Proof.Value.Blocks.lean ====
/- Each block of 256 rows that the kernel makes, entry by entry, is the same rows of the whole matrices: of the codes, the scales,
   z, the convolution and dt. -/
module

public import proofs.«01_k».proof.Proof.Value.Args
public import proofs.«01_k».proof.Proof.Value.Strip
public import proofs.«01_k».proof.Proof.Value.TileConv
public import proofs.«01_k».proof.Proof.Value.RefProj

@[expose] public section

noncomputable section

namespace Cert.Own

open Idealize.ShloMosaic Idealize.ShloMosaic.TcCoe Idealize.ShloMosaic.ValueIdx
open Cert.KernelIdeal Cert.KernelIdeal.Own Cert.KernelIdeal.Gen

variable (m : (ℓ : Loc nD τ sig) → Buf (Elt Ideal) ℓ) (c : Dev nD)

/-- The argument arrays. -/
def a0 : Vec Ideal S3x1024x8192 .bf16 := m ((c.tc : Thread nD τ).loc main_arg0)
def a1 : Vec Ideal S8192 .bf16 := m ((c.tc : Thread nD τ).loc main_arg1)
def a2 : Vec Ideal S8192x4624 .fp8e4m3 := m ((c.tc : Thread nD τ).loc main_arg2)
def a3 : Vec Ideal S4624 .f32 := m ((c.tc : Thread nD τ).loc main_arg3)
def a4 : Vec Ideal S4x2560 .f32 := m ((c.tc : Thread nD τ).loc main_arg4)
def a5 : Vec Ideal S2560 .f32 := m ((c.tc : Thread nD τ).loc main_arg5)
def a6 : Vec Ideal S16 .f32 := m ((c.tc : Thread nD τ).loc main_arg6)

theorem xRow_eq (n : ℕ) (hn : n < 12) (r : Fin 256) (R : Fin 3072) (hR : R.val = 256 * n + r.val) : xRow (Xb m c n) r = aRow (a0 m c) R := by
  funext k
  refine (Xb_apply m c n hn r k).trans ?_
  obtain ⟨R, h⟩ := R
  dsimp only at hR
  subst hR
  rfl

theorem wRow_eq : wRow (Wb m c) = nRow (a1 m c) := funext fun k => Wb_apply m c k

theorem KQ_apply (n : ℕ) (hn : n < 12) (r : Fin 256) (R : Fin 3072) (hR : R.val = 256 * n + r.val) (k : Fin 8192) :
    KQ m c n (ix2 r k) = rowQ (aRow (a0 m c) R) (nRow (a1 m c)) k := by
  unfold KQ
  rw [QV_apply, xRow_eq m c n hn r R hR, wRow_eq]

theorem SS_apply (n : ℕ) (hn : n < 12) (r : Fin 256) (R : Fin 3072) (hR : R.val = 256 * n + r.val) :
    SS m c n (ix2 r 0) = rowS (aRow (a0 m c) R) (nRow (a1 m c)) := by
  unfold SS
  rw [SV_apply, xRow_eq m c n hn r R hR, wRow_eq]

theorem PK_apply (n : ℕ) (hn : n < 12) (r : Fin 256) (R : Fin 3072) (hR : R.val = 256 * n + r.val) (j : Fin 4624) :
    PK (KQ m c n) (Ab m c) (Sb m c) (SS m c n) r j = PR (a0 m c) (a1 m c) (a2 m c) (a3 m c) R j := by
  unfold PK PR
  rw [SS_apply m c n hn r R hR, Sb_apply, Finset.sum_congr rfl fun k _ => by rw [KQ_apply m c n hn r R hR, Ab_apply]]
  rfl

theorem ZB_apply (n : ℕ) (hn : n < 12) (r : Fin 256) (R : Fin 3072) (hR : R.val = 256 * n + r.val) (j : Fin 2048) :
    ZB m c n (ix2 r j) = siluE (PR (a0 m c) (a1 m c) (a2 m c) (a3 m c) R ⟨j.val, by omega⟩) := by
  unfold ZB
  rw [zC_apply, PK_apply m c n hn r R hR]

theorem TB_apply (n : ℕ) (hn : n < 12) (r : Fin 256) (R : Fin 3072) (hR : R.val = 256 * n + r.val) (h : Fin 16) :
    TB m c n (ix2 r h) = softE (PR (a0 m c) (a1 m c) (a2 m c) (a3 m c) R ⟨4608 + h.val, by omega⟩ + a6 m c (ix1 h)) := by
  unfold TB
  rw [dtV_apply, PK_apply m c n hn r R hR, dbb_apply]
  rfl

/-- The rows a tap reads, by the halo from the block before: the sequence's rows, zero before its first. -/
theorem tap_eq (n : ℕ) (hn : n < 12) (r : Fin 256) (R : Fin 3072) (hR : R.val = 256 * n + r.val) (j : Fin 2560) (t : Fin 4) :
    tapE (fun i => HI m c n (ix3 ⟨j.val / 128, by omega⟩ i ⟨j.val % 128, by omega⟩))
        (fun i => PK (KQ m c n) (Ab m c) (Sb m c) (SS m c n) i ⟨2048 + j.val, by omega⟩) r t
      = tapR (fun q => PR (a0 m c) (a1 m c) (a2 m c) (a3 m c) q ⟨2048 + j.val, by omega⟩) R t := by
  unfold tapE tapR HI
  by_cases h : r.val + (5 + t.val) < 8
  · rw [dif_pos h]
    by_cases h4 : n % 4 = 0
    · rw [if_pos h4, if_pos (by omega)]
      dsimp only
      rw [pay365_apply]
    · rw [if_neg h4, if_neg (by omega)]
      unfold HC
      dsimp only
      rw [haloC_apply, PK_apply m c (n - 1) (by omega) _ ⟨R.val + t.val - 3, by omega⟩ (by
        show R.val + t.val - 3 = 256 * (n - 1) + (248 + (r.val + (5 + t.val))); omega)]
      exact congrArg _ (Fin.ext (by show 2048 + 128 * (j.val / 128) + j.val % 128 = 2048 + j.val; omega))
  · rw [dif_neg h, if_neg (by omega)]
    dsimp only
    rw [PK_apply m c n hn _ ⟨R.val + t.val - 3, by omega⟩ (by
      show R.val + t.val - 3 = 256 * n + (r.val + (5 + t.val) - 8); omega)]

theorem BB_apply (n : ℕ) (hn : n < 12) (r : Fin 256) (R : Fin 3072) (hR : R.val = 256 * n + r.val) (j : Fin 2560) :
    BB m c n (ix2 r j) = convE (tapR (fun q => PR (a0 m c) (a1 m c) (a2 m c) (a3 m c) q ⟨2048 + j.val, by omega⟩) R)
      (fun t => a4 m c (ix2 t j)) (a5 m c (ix1 j)) := by
  unfold BB
  rw [xbcV_apply]
  rw [funext (tap_eq m c n hn r R hR j), cbb_apply, funext fun t => cwb_apply m c t j]
  rfl

end Cert.Own

end
-- ==== Proof.Value.RefArrays.lean ====
/- The reference's five results, entry by entry. -/
module

public import proofs.«01_k».proof.Proof.Value.RefProj
public import proofs.«01_k».proof.Proof.Value.Tile
public import proofs.«01_k».proof.Proof.Gen.ReferenceIdeal.Value

@[expose] public section

noncomputable section

namespace Cert.Own

open Idealize.ShloMosaic Idealize.ShloMosaic.TcCoe Idealize.ShloMosaic.ValueIdx
open Cert.ReferenceIdeal Cert.ReferenceIdeal.Gen

variable (x0 : Vec Ideal S3x1024x8192 .bf16) (x1 : Vec Ideal S8192 .bf16) (x2 : Vec Ideal S8192x4624 .fp8e4m3) (x3 : Vec Ideal S4624 .f32)
  (x4 : Vec Ideal S4x2560 .f32) (x5 : Vec Ideal S2560 .f32) (x6 : Vec Ideal S16 .f32)

/-! ## The values of the five results -/

/-- The codes. -/
def E0 : Vec Ideal S3072x8192 .fp8e4m3 := fun y => rowQ (aRow x0 (y 0)) (nRow x1) (y 1)
/-- The scales. -/
def E1 : Vec Ideal S3072x1 .f32 := fun y => rowS (aRow x0 (y 0)) (nRow x1)
/-- The gate. -/
def E2 : Vec Ideal S3072x2048 .f32 := fun y => siluE (PR x0 x1 x2 x3 (y 0) ⟨(y 1).val, Nat.lt_trans (y 1).isLt (by decide)⟩)
/-- The convolution. -/
def E3 : Vec Ideal S3072x2560 .f32 := fun y =>
  convE (tapR (fun q => PR x0 x1 x2 x3 q ⟨2048 + (y 1).val, by have := (y 1).isLt; change _ < 2560 at this; omega⟩) (y 0)) (fun t => x4 (ix2 t (y 1))) (x5 (ix1 (y 1)))
/-- The steps. -/
def E4 : Vec Ideal S3072x16 .f32 := fun y =>
  softE (PR x0 x1 x2 x3 (y 0) ⟨4608 + (y 1).val, by have := (y 1).isLt; change _ < 16 at this; omega⟩ + x6 (ix1 (y 1)))

/-! ## The reference leaves them -/

theorem hz1 : (![0] : Fin 1 → ℕ) = fun _ => 0 := by decide
theorem hz2 : (![0, 0] : Fin 2 → ℕ) = fun _ => 0 := by decide
theorem hz3 : (![0, 0, 0] : Fin 3 → ℕ) = fun _ => 0 := by decide

theorem ld0 : View.ld x0 r0_0 = x0 := View.ld_unit_zero hz3 _ _
theorem ld1 : View.ld x1 r0_1 = x1 := View.ld_unit_zero hz1 _ _
theorem ld4 : View.ld x2 r0_4 = x2 := View.ld_unit_zero hz2 _ _
theorem ld5 : View.ld x3 r0_5 = x3 := View.ld_unit_zero hz1 _ _
theorem ld11 : View.ld x5 r0_11 = x5 := View.ld_unit_zero hz1 _ _
theorem ld13 : View.ld x6 r0_13 = x6 := View.ld_unit_zero hz1 _ _

theorem ld7 (n : Fin 2560) : View.ld x4 r0_7 (ix2 0 n) = x4 (ix2 0 n) :=
  congrArg x4 (by funext a; match a with | ⟨0, _⟩ => rfl | ⟨1, _⟩ => exact Fin.ext (by show 0 + 1 * n.val = n.val; omega))
theorem ld8 (n : Fin 2560) : View.ld x4 r0_8 (ix2 0 n) = x4 (ix2 1 n) :=
  congrArg x4 (by funext a; match a with | ⟨0, _⟩ => rfl | ⟨1, _⟩ => exact Fin.ext (by show 0 + 1 * n.val = n.val; omega))
theorem ld9 (n : Fin 2560) : View.ld x4 r0_9 (ix2 0 n) = x4 (ix2 2 n) :=
  congrArg x4 (by funext a; match a with | ⟨0, _⟩ => rfl | ⟨1, _⟩ => exact Fin.ext (by show 0 + 1 * n.val = n.val; omega))
theorem ld10 (n : Fin 2560) : View.ld x4 r0_10 (ix2 0 n) = x4 (ix2 3 n) :=
  congrArg x4 (by funext a; match a with | ⟨0, _⟩ => rfl | ⟨1, _⟩ => exact Fin.ext (by show 0 + 1 * n.val = n.val; omega))

theorem ref0 : out0_7 x0 x1 x2 x3 x4 x5 x6 = E0 x0 x1 := by
  unfold_out out0_7
  rw [View.canon_unit_zero hz2, ld0, ld1]
  funext y
  obtain ⟨r, k, rfl⟩ : ∃ (r : Fin 3072) (k : Fin 8192), y = ix2 r k := ⟨y 0, y 1, eq_ix2 y⟩
  exact refQ_apply x0 x1 r k

theorem ref1 : out0_8 x0 x1 x2 x3 x4 x5 x6 = E1 x0 x1 := by
  unfold_out out0_8
  rw [View.canon_unit_zero hz2, ld0, ld1]
  funext y
  obtain ⟨r, k, rfl⟩ : ∃ (r : Fin 3072) (k : Fin 1), y = ix2 r k := ⟨y 0, y 1, eq_ix2 y⟩
  obtain rfl : k = 0 := Subsingleton.elim _ _
  exact refS_apply x0 x1 r

theorem ref2 : out0_9 x0 x1 x2 x3 x4 x5 x6 = E2 x0 x1 x2 x3 := by
  unfold_out out0_9
  rw [View.canon_unit_zero hz2, ld0, ld1, ld4, ld5]
  funext y
  obtain ⟨r, k, rfl⟩ : ∃ (r : Fin 3072) (k : Fin 2048), y = ix2 r k := ⟨y 0, y 1, eq_ix2 y⟩
  exact refZ_apply x0 x1 x2 x3 r k

theorem ref3 : out0_10 x0 x1 x2 x3 x4 x5 x6 = E3 x0 x1 x2 x3 x4 x5 := by
  unfold_out out0_10
  rw [View.canon_unit_zero hz2, ld0, ld1, ld4, ld5, ld11]
  funext y
  obtain ⟨r, n, rfl⟩ : ∃ (r : Fin 3072) (k : Fin 2560), y = ix2 r k := ⟨y 0, y 1, eq_ix2 y⟩
  refine (refC_apply _ (fun q => PR x0 x1 x2 x3 q ⟨2048 + n.val, by omega⟩) _ _ _ _ x5 r n (fun q l => refB_apply x0 x1 x2 x3 q l n)).trans ?_
  rw [ld7, ld8, ld9, ld10]
  rfl

theorem ref4 : out0_11 x0 x1 x2 x3 x4 x5 x6 = E4 x0 x1 x2 x3 x6 := by
  unfold_out out0_11
  rw [View.canon_unit_zero hz2, ld0, ld1, ld4, ld5, ld13]
  funext y
  obtain ⟨r, k, rfl⟩ : ∃ (r : Fin 3072) (k : Fin 16), y = ix2 r k := ⟨y 0, y 1, eq_ix2 y⟩
  exact refT_apply x0 x1 x2 x3 x6 r k

/-! ## The arrays after its run -/

theorem end0 : Value.G7 (F := Ideal) x0 x1 x2 x3 x4 x5 x6 = E0 x0 x1 := (Value.out7_eq x0 x1 x2 x3 x4 x5 x6).symm.trans (ref0 x0 x1 x2 x3 x4 x5 x6)
theorem end1 : Value.G8 (F := Ideal) x0 x1 x2 x3 x4 x5 x6 = E1 x0 x1 := (Value.out8_eq x0 x1 x2 x3 x4 x5 x6).symm.trans (ref1 x0 x1 x2 x3 x4 x5 x6)
theorem end2 : Value.G9 (F := Ideal) x0 x1 x2 x3 x4 x5 x6 = E2 x0 x1 x2 x3 := (Value.out9_eq x0 x1 x2 x3 x4 x5 x6).symm.trans (ref2 x0 x1 x2 x3 x4 x5 x6)
theorem end3 : Value.G10 (F := Ideal) x0 x1 x2 x3 x4 x5 x6 = E3 x0 x1 x2 x3 x4 x5 := (Value.out10_eq x0 x1 x2 x3 x4 x5 x6).symm.trans (ref3 x0 x1 x2 x3 x4 x5 x6)
theorem end4 : Value.G11 (F := Ideal) x0 x1 x2 x3 x4 x5 x6 = E4 x0 x1 x2 x3 x6 := (Value.out11_eq x0 x1 x2 x3 x4 x5 x6).symm.trans (ref4 x0 x1 x2 x3 x4 x5 x6)

end Cert.Own

end
-- ==== Proof.Value.Main.lean ====
/- The value claim: the kernel and the reference end at the same five arrays. -/
module

public import proofs.«01_k».proof.Proof.Value.Arrays
public import proofs.«01_k».proof.Proof.Value.Blocks
public import proofs.«01_k».proof.Proof.Value.RefArrays

@[expose] public section

noncomputable section

namespace Cert.Own

open Idealize.ShloMosaic Idealize.ShloMosaic.TcCoe Idealize.ShloMosaic.ValueIdx Idealize.SL.Sem
open Cert.KernelIdeal Cert.KernelIdeal.Own Cert.KernelIdeal.Gen
open Idealize.ShloMosaic.Pipeline (Dat RDat Cfg Window)

variable (m : (ℓ : Loc nD τ sig) → Buf (Elt Ideal) ℓ) (c : Dev nD)

/-- The codes' array is the codes of every row. -/
theorem GD_eq : (GD m c : Vec Ideal S3072x8192 .fp8e4m3) = E0 (a0 m c) (a1 m c) := by
  funext y
  obtain ⟨R, k, rfl⟩ : ∃ (r : Fin 3072) (k : Fin 8192), y = ix2 r k := ⟨y 0, y 1, eq_ix2 y⟩
  exact KQ_apply m c (R.val / 256) (by omega) ⟨R.val % 256, by omega⟩ R (by dsimp only; omega) k

section
variable {r : PUnit × MemSt nD τ sig (Elt Ideal)} (h : RDat.FramePostR cfg0 (rdats m) R0 (V m) r)
include h

theorem mem1 : r.2.mem ((c.tc : Thread nD τ).loc main_v6_1) = E1 (a0 m c) (a1 m c) := by
  funext y
  obtain ⟨R, k, rfl⟩ : ∃ (r : Fin 3072) (k : Fin 1), y = ix2 r k := ⟨y 0, y 1, eq_ix2 y⟩
  obtain rfl : k = 0 := Subsingleton.elim _ _
  have hR : R.val = 256 * (R.val / 256) + (⟨R.val % 256, by omega⟩ : Fin 256).val := by dsimp only; omega
  exact (arr7 m c h (R.val / 256) (by omega) ⟨R.val % 256, by omega⟩ R hR 0).trans (SS_apply m c (R.val / 256) (by omega) ⟨R.val % 256, by omega⟩ R hR)

theorem mem2 : r.2.mem ((c.tc : Thread nD τ).loc main_v6_2) = E2 (a0 m c) (a1 m c) (a2 m c) (a3 m c) := by
  funext y
  obtain ⟨R, k, rfl⟩ : ∃ (r : Fin 3072) (k : Fin 2048), y = ix2 r k := ⟨y 0, y 1, eq_ix2 y⟩
  have hR : R.val = 256 * (R.val / 256) + (⟨R.val % 256, by omega⟩ : Fin 256).val := by dsimp only; omega
  exact (arr8 m c h (R.val / 256) (by omega) ⟨R.val % 256, by omega⟩ R hR k).trans (ZB_apply m c (R.val / 256) (by omega) ⟨R.val % 256, by omega⟩ R hR k)

theorem mem3 : r.2.mem ((c.tc : Thread nD τ).loc main_v6_3) = E3 (a0 m c) (a1 m c) (a2 m c) (a3 m c) (a4 m c) (a5 m c) := by
  funext y
  obtain ⟨R, k, rfl⟩ : ∃ (r : Fin 3072) (k : Fin 2560), y = ix2 r k := ⟨y 0, y 1, eq_ix2 y⟩
  have hR : R.val = 256 * (R.val / 256) + (⟨R.val % 256, by omega⟩ : Fin 256).val := by dsimp only; omega
  exact (arr9 m c h (R.val / 256) (by omega) ⟨R.val % 256, by omega⟩ R hR k).trans (BB_apply m c (R.val / 256) (by omega) ⟨R.val % 256, by omega⟩ R hR k)

theorem mem4 : r.2.mem ((c.tc : Thread nD τ).loc main_v6_4) = E4 (a0 m c) (a1 m c) (a2 m c) (a3 m c) (a6 m c) := by
  funext y
  obtain ⟨R, k, rfl⟩ : ∃ (r : Fin 3072) (k : Fin 16), y = ix2 r k := ⟨y 0, y 1, eq_ix2 y⟩
  have hR : R.val = 256 * (R.val / 256) + (⟨R.val % 256, by omega⟩ : Fin 256).val := by dsimp only; omega
  exact (arr10 m c h (R.val / 256) (by omega) ⟨R.val % 256, by omega⟩ R hR k).trans (TB_apply m c (R.val / 256) (by omega) ⟨R.val % 256, by omega⟩ R hR k)

end

variable (ρ : Dev nD → PrngReg)

/-- The kernel's run: its five results, and its arguments as they were. -/
theorem kernel_run : θ_run defs (onTc (τ := τ) (main (F := Ideal))) ⟨m, fun _ => 0, ρ⟩ (fun r => ∀ c : Dev nD,
      r.2.mem ((c.tc : Thread nD τ).loc main_v6_0) = E0 (a0 m c) (a1 m c)
      ∧ r.2.mem ((c.tc : Thread nD τ).loc main_v6_1) = E1 (a0 m c) (a1 m c)
      ∧ r.2.mem ((c.tc : Thread nD τ).loc main_v6_2) = E2 (a0 m c) (a1 m c) (a2 m c) (a3 m c)
      ∧ r.2.mem ((c.tc : Thread nD τ).loc main_v6_3) = E3 (a0 m c) (a1 m c) (a2 m c) (a3 m c) (a4 m c) (a5 m c)
      ∧ r.2.mem ((c.tc : Thread nD τ).loc main_v6_4) = E4 (a0 m c) (a1 m c) (a2 m c) (a3 m c) (a6 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => by
    have h0 : r.2.mem ((c.tc : Thread nD τ).loc main_v6_0) = E0 (a0 m c) (a1 m c) :=
      ((h.1.written c (by decide : main_v6_0 ∈ R0)).trans (GR_eq m c)).trans (GD_eq m c)
    exact ⟨h0, mem1 m c h.1.toR, mem2 m c h.1.toR, mem3 m c h.1.toR, mem4 m c h.1.toR, kept m h.1.toR c⟩) (run_main m ρ)

end Cert.Own

end
-- ==== Proof.Safe.lean ====
/- Programs that run with the buffers `R` and give them back, at whatever contents: a program is shown safe step by
   step, a load and a store only by whether `R` has the buffer. -/
module

public import proofs.«01_k».proof.Proof.Rules

@[expose] public section

noncomputable section

namespace Cert.Own

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix]
variable {Val : EltTy → Type} {Name : Type} [DecidableEq Name]
variable {U : Type} [URA U]
variable {Lvl : Type} {Λ : Labels}
variable [Preorder Lvl] (defs : Defs nD τ sig Val Λ) (𝒱 : Variants) (c : Thread nD τ) (bd : Option 𝒱.V) (E : Set Name)
variable (R : sProp (MT nD τ sig Ix Val Name U Lvl))

/-- The program runs with `R` and gives it back. -/
def Safe {α : Type} (p : Prog (TpuEff nD τ sig Val Λ c.2) α) : Prop :=
  ∀ Q : α → sProp (MT nD τ sig Ix Val Name U Lvl), R ⊢ iprop((∀ v, R -∗ Q v) -∗ wp frame (wpE defs 𝒱 c bd) E p Q)

/-- `R` has the buffer, to read. -/
def Ld {sp : Space} {s : Shape} {e : EltTy} (m : Memref sig c.2.kind sp s e) : Prop :=
  R ⊢ iprop(∃ (q : PosShare TreeShare) (X : s.Idx → Val e), owns c m q X ∗ (owns c m q X -∗ R))

/-- `R` has the buffer, to write. -/
def St {sp : Space} {s : Shape} {e : EltTy} (m : Memref sig c.2.kind sp s e) : Prop :=
  R ⊢ iprop(∃ X : s.Idx → Val e, owns c m fullShare X ∗ (∀ Y : s.Idx → Val e, owns c m fullShare Y -∗ R))

variable {defs 𝒱 c bd E R}

theorem St.ld {sp : Space} {s : Shape} {e : EltTy} {m : Memref sig c.2.kind sp s e} (h : St c R m) : Ld c R m := by
  unfold St at h
  unfold Ld
  iintro HR
  ihave H := h $$ HR
  icases H with ⟨%X, H, HK⟩
  iexists fullShare, X
  isplitl [H]; · iexact H
  iintro H
  iapply HK $$ %X
  iexact H

theorem safe_pure {α : Type} (v : α) : Safe defs 𝒱 c bd E R (pure v) := by
  intro Q
  iintro HR HQ
  iapply (le_wp_ret _ _ _ _ Q)
  iapply HQ $$ %v
  iexact HR

theorem safe_bind {α β : Type} {p : Prog (TpuEff nD τ sig Val Λ c.2) α} {k : α → Prog (TpuEff nD τ sig Val Λ c.2) β}
    (hp : Safe defs 𝒱 c bd E R p) (hk : ∀ v, Safe defs 𝒱 c bd E R (k v)) : Safe defs 𝒱 c bd E R (p >>= k) := by
  intro Q
  iintro HR HQ
  rw [wp_bind]
  iapply (hp _) $$ HR
  iintro %v HR
  iapply (hk v Q) $$ HR
  iexact HQ

theorem safe_dite {α : Type} {P : Prop} [Decidable P] {p : P → Prog (TpuEff nD τ sig Val Λ c.2) α} {q : ¬ P → Prog (TpuEff nD τ sig Val Λ c.2) α}
    (hp : ∀ h, Safe defs 𝒱 c bd E R (p h)) (hq : ∀ h, Safe defs 𝒱 c bd E R (q h)) : Safe defs 𝒱 c bd E R (dite P p q) := by
  by_cases h : P
  · rw [dif_pos h]; exact hp h
  · rw [dif_neg h]; exact hq h

theorem safe_ld {cs : CoreSpace} {s : Shape} {e : EltTy} {m : Memref sig c.2.kind cs s e} {r : Rect s} {hl : m.view.LoadsAt r.toLoadRect}
    (h : Ld c R m) : Safe defs 𝒱 c bd E R (Prog.lift (.load m r.toLoadRect hl)) := by
  intro Q
  unfold Ld at h
  iintro HR HQ
  ihave H := h $$ HR
  icases H with ⟨%q, %X, H, HK⟩
  iapply (wp_ld (defs := defs) 𝒱 c bd E (m := m)) $$ H
  iintro H
  ihave HR := HK $$ H
  iapply HQ $$ %(fun x => X (r.emb x))
  iexact HR

theorem safe_st {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1}
    (h : St c R m) : Safe defs 𝒱 c bd E R (Prog.lift (.store m r w Finset.univ hx hm)) := by
  intro Q
  unfold St at h
  iintro HR HQ
  ihave H := h $$ HR
  icases H with ⟨%X, H, HK⟩
  iapply (wp_st (defs := defs) 𝒱 c bd E (m := m)) $$ H
  iintro H
  ihave HR := HK $$ %(upd r w X) H
  iapply HQ $$ %PUnit.unit
  iexact HR

theorem ld_bind {β : Type} {cs : CoreSpace} {s : Shape} {e : EltTy} {m : Memref sig c.2.kind cs s e} {r : Rect s} {hl : m.view.LoadsAt r.toLoadRect}
    {k : (r.shape.Idx → Val e) → Prog (TpuEff nD τ sig Val Λ c.2) β}
    (h : Ld c R m) (hk : ∀ v, Safe defs 𝒱 c bd E R (k v)) : Safe defs 𝒱 c bd E R (Prog.lift (.load m r.toLoadRect hl) >>= k) :=
  safe_bind (safe_ld h) hk

theorem st_bind {β : Type} {cs : CoreSpace} {s : Shape} {e : EltTy} {m : Memref sig c.2.kind cs s e} {r : Rect s} {w : r.shape.Idx → Val e}
    {hx : (m.access r).Stores Finset.univ} {hm : Finset.univ = Finset.univ ∨ ∀ a, r.stride a = 1} {k : PUnit → Prog (TpuEff nD τ sig Val Λ c.2) β}
    (h : St c R m) (hk : ∀ v, Safe defs 𝒱 c bd E R (k v)) : Safe defs 𝒱 c bd E R (Prog.lift (.store m r w Finset.univ hx hm) >>= k) :=
  safe_bind (safe_st h) hk

/-! ## Buffers held side by side -/

section Sep
variable {sp : Space} {s : Shape} {e : EltTy} {m : Memref sig c.2.kind sp s e} {q : PosShare TreeShare} {X : s.Idx → Val e}
variable {P : sProp (MT nD τ sig Ix Val Name U Lvl)}

theorem ld_here : Ld c iprop(owns c m q X ∗ R) m := by
  unfold Ld
  iintro ⟨H, HR⟩
  iexists q, X
  isplitl [H]; · iexact H
  iintro H
  isplitl [H]; · iexact H
  iexact HR

theorem ld_there (h : Ld c R m) : Ld c iprop(P ∗ R) m := by
  unfold Ld at *
  iintro ⟨HP, HR⟩
  ihave H := h $$ HR
  icases H with ⟨%q, %X, H, HK⟩
  iexists q, X
  isplitl [H]; · iexact H
  iintro H
  isplitl [HP]; · iexact HP
  iapply HK $$ H

theorem st_here : St c iprop((∃ X : s.Idx → Val e, owns c m fullShare X) ∗ R) m := by
  unfold St
  iintro ⟨⟨%X, H⟩, HR⟩
  iexists X
  isplitl [H]; · iexact H
  iintro %Y H
  isplitl [H]; · iexists Y; iexact H
  iexact HR

theorem st_last : St (Ix := Ix) (Name := Name) (U := U) (Lvl := Lvl) c iprop(∃ X : s.Idx → Val e, owns c m fullShare X) m := by
  unfold St
  iintro ⟨%X, H⟩
  iexists X
  isplitl [H]; · iexact H
  iintro %Y H
  iexists Y; iexact H

theorem st_there (h : St c R m) : St c iprop(P ∗ R) m := by
  unfold St at *
  iintro ⟨HP, HR⟩
  ihave H := h $$ HR
  icases H with ⟨%X, H, HK⟩
  iexists X
  isplitl [H]; · iexact H
  iintro %Y H
  isplitl [HP]; · iexact HP
  iapply HK $$ %Y H

end Sep

end Cert.Own

end
-- ==== Proof.Scan.Holds.lean ====
/- The second kernel's body, its buffers. -/
module

public import proofs.«01_k».proof.Proof.Gen.Scan.Skeleton
public import Idealize.ShloMosaic.Lib.Pipeline.Frame
public import proofs.«01_k».proof.Proof.Safe

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers the body is called with are `R`'s: nine to read, nine to write. -/
structure Holds (c : Dev nD) (R : sProp 𝕄) (arg1 : Memref sig .tc .vmem S256x2048 .f32) (arg2 : Memref sig .tc .vmem S256x2560 .f32) (arg3 : Memref sig .tc .vmem S256x16 .f32) (arg4 : Memref sig .tc .vmem S1x128 .f32) (arg5 : Memref sig .tc .vmem S1x2048 .f32) (arg6 : Memref sig .tc .vmem S1x2048 .f32) (arg7 : Memref sig .tc .vmem S2048x8192 .fp8e4m3) (arg8 : Memref sig .tc .vmem S1x8192 .f32) (arg9 : Memref sig .tc .vmem S256x8192 .bf16) (arg10 : Memref sig .tc .vmem S256x8192 .bf16) (arg11 : Memref sig .tc .vmem S256x2048 .fp8e4m3) (arg12 : Memref sig .tc .vmem S256x1 .f32) (arg13 : Memref sig .tc .vmem S2x128x1024 .f32) (arg14 : Memref sig .tc .vmem S256x2048 .f32) (arg15 : Memref sig .tc .vmem S256x2048 .fp8e4m3) (arg16 : Memref sig .tc .vmem S256x1 .f32) (arg17 : Memref sig .tc .vmem S256x2048 .fp8e4m3) (arg18 : Memref sig .tc .vmem S256x1 .f32) : Prop where
  l1 : Ld (c : Thread nD τ) R arg1
  l2 : Ld (c : Thread nD τ) R arg2
  l3 : Ld (c : Thread nD τ) R arg3
  l4 : Ld (c : Thread nD τ) R arg4
  l5 : Ld (c : Thread nD τ) R arg5
  l6 : Ld (c : Thread nD τ) R arg6
  l7 : Ld (c : Thread nD τ) R arg7
  l8 : Ld (c : Thread nD τ) R arg8
  l9 : Ld (c : Thread nD τ) R arg9
  l10 : St (c : Thread nD τ) R arg10
  l11 : St (c : Thread nD τ) R arg11
  l12 : St (c : Thread nD τ) R arg12
  l13 : St (c : Thread nD τ) R arg13
  l14 : St (c : Thread nD τ) R arg14
  l15 : St (c : Thread nD τ) R arg15
  l16 : St (c : Thread nD τ) R arg16
  l17 : St (c : Thread nD τ) R arg17
  l18 : St (c : Thread nD τ) R arg18

end Cert.Scan.Own

end
-- ==== Proof.Scan.Bufs.lean ====
/- The second kernel's buffers: the inputs at given arrays, the others at any. -/
module

public import proofs.«01_k».proof.Proof.Scan.Holds

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

/-- The inputs' buffers at `X1`, …, `X9`, the outputs' and the scratch at any contents. -/
def Bufs (c : Dev nD) (arg1 : Memref sig .tc .vmem S256x2048 .f32) (arg2 : Memref sig .tc .vmem S256x2560 .f32) (arg3 : Memref sig .tc .vmem S256x16 .f32) (arg4 : Memref sig .tc .vmem S1x128 .f32) (arg5 : Memref sig .tc .vmem S1x2048 .f32) (arg6 : Memref sig .tc .vmem S1x2048 .f32) (arg7 : Memref sig .tc .vmem S2048x8192 .fp8e4m3) (arg8 : Memref sig .tc .vmem S1x8192 .f32) (arg9 : Memref sig .tc .vmem S256x8192 .bf16) (arg10 : Memref sig .tc .vmem S256x8192 .bf16) (arg11 : Memref sig .tc .vmem S256x2048 .fp8e4m3) (arg12 : Memref sig .tc .vmem S256x1 .f32) (arg13 : Memref sig .tc .vmem S2x128x1024 .f32) (arg14 : Memref sig .tc .vmem S256x2048 .f32) (arg15 : Memref sig .tc .vmem S256x2048 .fp8e4m3) (arg16 : Memref sig .tc .vmem S256x1 .f32) (arg17 : Memref sig .tc .vmem S256x2048 .fp8e4m3) (arg18 : Memref sig .tc .vmem S256x1 .f32) (X1 : Vec F S256x2048 .f32) (X2 : Vec F S256x2560 .f32) (X3 : Vec F S256x16 .f32) (X4 : Vec F S1x128 .f32) (X5 : Vec F S1x2048 .f32) (X6 : Vec F S1x2048 .f32) (X7 : Vec F S2048x8192 .fp8e4m3) (X8 : Vec F S1x8192 .f32) (X9 : Vec F S256x8192 .bf16) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ X : Vec F S256x8192 .bf16, owns (c : Thread nD τ) arg10 fullShare X) ∗ (∃ X : Vec F S256x2048 .fp8e4m3, owns (c : Thread nD τ) arg11 fullShare X) ∗ (∃ X : Vec F S256x1 .f32, owns (c : Thread nD τ) arg12 fullShare X) ∗ (∃ X : Vec F S2x128x1024 .f32, owns (c : Thread nD τ) arg13 fullShare X) ∗ (∃ X : Vec F S256x2048 .f32, owns (c : Thread nD τ) arg14 fullShare X) ∗ (∃ X : Vec F S256x2048 .fp8e4m3, owns (c : Thread nD τ) arg15 fullShare X) ∗ (∃ X : Vec F S256x1 .f32, owns (c : Thread nD τ) arg16 fullShare X) ∗ (∃ X : Vec F S256x2048 .fp8e4m3, owns (c : Thread nD τ) arg17 fullShare X) ∗ (∃ X : Vec F S256x1 .f32, owns (c : Thread nD τ) arg18 fullShare X))

variable {c : Dev nD} {arg1 : Memref sig .tc .vmem S256x2048 .f32} {arg2 : Memref sig .tc .vmem S256x2560 .f32} {arg3 : Memref sig .tc .vmem S256x16 .f32} {arg4 : Memref sig .tc .vmem S1x128 .f32} {arg5 : Memref sig .tc .vmem S1x2048 .f32} {arg6 : Memref sig .tc .vmem S1x2048 .f32} {arg7 : Memref sig .tc .vmem S2048x8192 .fp8e4m3} {arg8 : Memref sig .tc .vmem S1x8192 .f32} {arg9 : Memref sig .tc .vmem S256x8192 .bf16} {arg10 : Memref sig .tc .vmem S256x8192 .bf16} {arg11 : Memref sig .tc .vmem S256x2048 .fp8e4m3} {arg12 : Memref sig .tc .vmem S256x1 .f32} {arg13 : Memref sig .tc .vmem S2x128x1024 .f32} {arg14 : Memref sig .tc .vmem S256x2048 .f32} {arg15 : Memref sig .tc .vmem S256x2048 .fp8e4m3} {arg16 : Memref sig .tc .vmem S256x1 .f32} {arg17 : Memref sig .tc .vmem S256x2048 .fp8e4m3} {arg18 : Memref sig .tc .vmem S256x1 .f32} {X1 : Vec F S256x2048 .f32} {X2 : Vec F S256x2560 .f32} {X3 : Vec F S256x16 .f32} {X4 : Vec F S1x128 .f32} {X5 : Vec F S1x2048 .f32} {X6 : Vec F S1x2048 .f32} {X7 : Vec F S2048x8192 .fp8e4m3} {X8 : Vec F S1x8192 .f32} {X9 : Vec F S256x8192 .bf16}

theorem bufs_holds : Holds c (Bufs c arg1 arg2 arg3 arg4 arg5 arg6 arg7 arg8 arg9 arg10 arg11 arg12 arg13 arg14 arg15 arg16 arg17 arg18 X1 X2 X3 X4 X5 X6 X7 X8 X9) arg1 arg2 arg3 arg4 arg5 arg6 arg7 arg8 arg9 arg10 arg11 arg12 arg13 arg14 arg15 arg16 arg17 arg18 :=
  ⟨ld_here,
    ld_there ld_here,
    ld_there (ld_there ld_here),
    ld_there (ld_there (ld_there ld_here)),
    ld_there (ld_there (ld_there (ld_there ld_here))),
    ld_there (ld_there (ld_there (ld_there (ld_there ld_here)))),
    ld_there (ld_there (ld_there (ld_there (ld_there (ld_there ld_here))))),
    ld_there (ld_there (ld_there (ld_there (ld_there (ld_there (ld_there ld_here)))))),
    ld_there (ld_there (ld_there (ld_there (ld_there (ld_there (ld_there (ld_there ld_here))))))),
    st_there (st_there (st_there (st_there (st_there (st_there (st_there (st_there (st_there st_here)))))))),
    st_there (st_there (st_there (st_there (st_there (st_there (st_there (st_there (st_there (st_there st_here))))))))),
    st_there (st_there (st_there (st_there (st_there (st_there (st_there (st_there (st_there (st_there (st_there st_here)))))))))),
    st_there (st_there (st_there (st_there (st_there (st_there (st_there (st_there (st_there (st_there (st_there (st_there st_here))))))))))),
    st_there (st_there (st_there (st_there (st_there (st_there (st_there (st_there (st_there (st_there (st_there (st_there (st_there st_here)))))))))))),
    st_there (st_there (st_there (st_there (st_there (st_there (st_there (st_there (st_there (st_there (st_there (st_there (st_there (st_there st_here))))))))))))),
    st_there (st_there (st_there (st_there (st_there (st_there (st_there (st_there (st_there (st_there (st_there (st_there (st_there (st_there (st_there st_here)))))))))))))),
    st_there (st_there (st_there (st_there (st_there (st_there (st_there (st_there (st_there (st_there (st_there (st_there (st_there (st_there (st_there (st_there st_here))))))))))))))),
    st_there (st_there (st_there (st_there (st_there (st_there (st_there (st_there (st_there (st_there (st_there (st_there (st_there (st_there (st_there (st_there (st_there st_last))))))))))))))))⟩

end Cert.Scan.Own

end
-- ==== Proof.Scan.PartsA.lean ====
/- Parts of the second kernel's body: each runs with the body's buffers and gives them back. -/
module

public import proofs.«01_k».proof.Proof.Scan.Holds

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part1_safe :
    Safe (defs₀ (F := F)) 𝒱 (c : Thread nD τ) bd Set.univ R (k0_part1 i _ harg1 _ harg2 _ harg3 _ harg4 _ harg5 _ harg6 _ harg7 _ harg8 _ harg9 _ harg10 _ harg11 _ harg12 _ harg13 _ harg14 _ harg15 _ harg16 _ harg17 _ harg18) := by
  rw [k0_part1_eq_skeleton]
  unfold k0_part1_skel
  refine ld_bind h.l17.ld fun _ => ?_
  refine ld_bind h.l15.ld fun _ => ?_
  refine st_bind h.l15 fun _ => ?_
  refine ld_bind h.l18.ld fun _ => ?_
  refine ld_bind h.l16.ld fun _ => ?_
  refine st_bind h.l16 fun _ => ?_
  refine ld_bind h.l17.ld fun _ => ?_
  refine ld_bind h.l11.ld fun _ => ?_
  refine st_bind h.l11 fun _ => ?_
  refine ld_bind h.l18.ld fun _ => ?_
  refine ld_bind h.l12.ld fun _ => ?_
  refine st_bind h.l12 fun _ => ?_
  dsimp only
  refine safe_dite (fun _ => ?_) fun _ => ?_
  · refine ld_bind h.l13.ld fun _ => ?_
    refine st_bind h.l13 fun _ => ?_
    refine ld_bind h.l16.ld fun _ => ?_
    exact safe_pure _
  · refine ld_bind h.l16.ld fun _ => ?_
    exact safe_pure _

theorem k0_part2_safe (v25 : Vec F S256x1 .f32) :
    Safe (defs₀ (F := F)) 𝒱 (c : Thread nD τ) bd Set.univ R (k0_part2 i _ harg1 _ harg2 _ harg3 _ harg4 _ harg5 _ harg6 _ harg7 _ harg8 _ harg9 _ harg10 _ harg11 _ harg12 _ harg13 _ harg14 _ harg15 _ harg16 _ harg17 _ harg18 v25) := by
  rw [k0_part2_eq_skeleton]
  unfold k0_part2_skel
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  exact safe_pure _

theorem k0_part3_safe (v25 : Vec F S256x1 .f32) (v58 : FVec F S256x512 .f32) :
    Safe (defs₀ (F := F)) 𝒱 (c : Thread nD τ) bd Set.univ R (k0_part3 i _ harg1 _ harg2 _ harg3 _ harg4 _ harg5 _ harg6 _ harg7 _ harg8 _ harg9 _ harg10 _ harg11 _ harg12 _ harg13 _ harg14 _ harg15 _ harg16 _ harg17 _ harg18 v25 v58) := by
  rw [k0_part3_eq_skeleton]
  unfold k0_part3_skel
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  exact safe_pure _

theorem k0_part4_safe (v25 : Vec F S256x1 .f32) (v88 : FVec F S256x512 .f32) (v91 : FVec F S256x512 .f32) (v92 : FVec F S256x512 .f32) :
    Safe (defs₀ (F := F)) 𝒱 (c : Thread nD τ) bd Set.univ R (k0_part4 i _ harg1 _ harg2 _ harg3 _ harg4 _ harg5 _ harg6 _ harg7 _ harg8 _ harg9 _ harg10 _ harg11 _ harg12 _ harg13 _ harg14 _ harg15 _ harg16 _ harg17 _ harg18 v25 v88 v91 v92) := by
  rw [k0_part4_eq_skeleton]
  unfold k0_part4_skel
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  exact safe_pure _

theorem k0_part5_safe (v25 : Vec F S256x1 .f32) (v121 : FVec F S256x512 .f32) (v123 : FVec F S256x512 .f32) (v126 : FVec F S256x512 .f32) :
    Safe (defs₀ (F := F)) 𝒱 (c : Thread nD τ) bd Set.univ R (k0_part5 i _ harg1 _ harg2 _ harg3 _ harg4 _ harg5 _ harg6 _ harg7 _ harg8 _ harg9 _ harg10 _ harg11 _ harg12 _ harg13 _ harg14 _ harg15 _ harg16 _ harg17 _ harg18 v25 v121 v123 v126) := by
  rw [k0_part5_eq_skeleton]
  unfold k0_part5_skel
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  exact safe_pure _

theorem k0_part6_safe (v25 : Vec F S256x1 .f32) (v159 : FVec F S256x512 .bf16) :
    Safe (defs₀ (F := F)) 𝒱 (c : Thread nD τ) bd Set.univ R (k0_part6 i _ harg1 _ harg2 _ harg3 _ harg4 _ harg5 _ harg6 _ harg7 _ harg8 _ harg9 _ harg10 _ harg11 _ harg12 _ harg13 _ harg14 _ harg15 _ harg16 _ harg17 _ harg18 v25 v159) := by
  rw [k0_part6_eq_skeleton]
  unfold k0_part6_skel
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  exact safe_pure _

theorem k0_part7_safe (v25 : Vec F S256x1 .f32) (v191 : Vec F S256x2048 .fp8e4m3) :
    Safe (defs₀ (F := F)) 𝒱 (c : Thread nD τ) bd Set.univ R (k0_part7 i _ harg1 _ harg2 _ harg3 _ harg4 _ harg5 _ harg6 _ harg7 _ harg8 _ harg9 _ harg10 _ harg11 _ harg12 _ harg13 _ harg14 _ harg15 _ harg16 _ harg17 _ harg18 v25 v191) := by
  rw [k0_part7_eq_skeleton]
  unfold k0_part7_skel
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  exact safe_pure _

theorem k0_part8_safe (v25 : Vec F S256x1 .f32) (v223 : FVec F S256x512 .f32) (v224 : Vec F S256x512 .bf16) :
    Safe (defs₀ (F := F)) 𝒱 (c : Thread nD τ) bd Set.univ R (k0_part8 i _ harg1 _ harg2 _ harg3 _ harg4 _ harg5 _ harg6 _ harg7 _ harg8 _ harg9 _ harg10 _ harg11 _ harg12 _ harg13 _ harg14 _ harg15 _ harg16 _ harg17 _ harg18 v25 v223 v224) := by
  rw [k0_part8_eq_skeleton]
  unfold k0_part8_skel
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  exact safe_pure _

theorem k0_part9_safe (v256 : FVec F S256x512 .f32) (v258 : FVec F S256x512 .f32) :
    Safe (defs₀ (F := F)) 𝒱 (c : Thread nD τ) bd Set.univ R (k0_part9 i _ harg1 _ harg2 _ harg3 _ harg4 _ harg5 _ harg6 _ harg7 _ harg8 _ harg9 _ harg10 _ harg11 _ harg12 _ harg13 _ harg14 _ harg15 _ harg16 _ harg17 _ harg18 v256 v258) := by
  rw [k0_part9_eq_skeleton]
  unfold k0_part9_skel
  refine ld_bind h.l8 fun _ => ?_
  refine ld_bind h.l10.ld fun _ => ?_
  refine st_bind h.l10 fun _ => ?_
  refine ld_bind h.l4 fun _ => ?_
  refine ld_bind h.l3 fun _ => ?_
  exact safe_pure _

theorem k0_part10_safe (v273 : FVec F S128x128 .f32) (v276 : IVec S128x128 32) (v294 : FVec F S128x128 .f32) (v296 : IVec S128x128 1) (v297 : FVec F S128x128 .f32) (cst_197 : F .f32) :
    Safe (defs₀ (F := F)) 𝒱 (c : Thread nD τ) bd Set.univ R (k0_part10 i _ harg1 _ harg2 _ harg3 _ harg4 _ harg5 _ harg6 _ harg7 _ harg8 _ harg9 _ harg10 _ harg11 _ harg12 _ harg13 _ harg14 _ harg15 _ harg16 _ harg17 _ harg18 v273 v276 v294 v296 v297 cst_197) := by
  rw [k0_part10_eq_skeleton]
  unfold k0_part10_skel
  refine ld_bind h.l2 fun _ => ?_
  refine ld_bind h.l2 fun _ => ?_
  refine ld_bind h.l13.ld fun _ => ?_
  exact safe_pure _

theorem k0_part11_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v331 : FVec F S128x1 .f32) (v332 : FVec F S1x128 .f32) (v333 : FVec F S1x128 .f32) (v334 : FVec F S1x1 .f32) (v337 : FVec F S128x128 .f32) (v338 : FVec F S128x128 .f32) :
    Safe (defs₀ (F := F)) 𝒱 (c : Thread nD τ) bd Set.univ R (k0_part11 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v331 v332 v333 v334 v337 v338) := by
  rw [k0_part11_eq_skeleton]
  unfold k0_part11_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  exact safe_pure _

theorem k0_part12_safe (v323 : IVec S128x128 1) (v326 : FVec F S128x128 .f32) (v327 : FVec F S128x128 .f32) (v330 : FVec F S128x1024 .f32) (v377 : FVec F S128x1 .f32) (v378 : FVec F S1x128 .f32) (v379 : FVec F S1x128 .f32) (v380 : FVec F S1x1 .f32) :
    Safe (defs₀ (F := F)) 𝒱 (c : Thread nD τ) bd Set.univ R (k0_part12 i _ harg1 _ harg2 _ harg3 _ harg4 _ harg5 _ harg6 _ harg7 _ harg8 _ harg9 _ harg10 _ harg11 _ harg12 _ harg13 _ harg14 _ harg15 _ harg16 _ harg17 _ harg18 v323 v326 v327 v330 v377 v378 v379 v380) := by
  rw [k0_part12_eq_skeleton]
  unfold k0_part12_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  exact safe_pure _

theorem k0_part13_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v422 : FVec F S1x128x128 .f32) :
    Safe (defs₀ (F := F)) 𝒱 (c : Thread nD τ) bd Set.univ R (k0_part13 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v422) := by
  rw [k0_part13_eq_skeleton]
  unfold k0_part13_skel
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part14_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v465 : FVec F S128x128 .f32) :
    Safe (defs₀ (F := F)) 𝒱 (c : Thread nD τ) bd Set.univ R (k0_part14 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v465) := by
  rw [k0_part14_eq_skeleton]
  unfold k0_part14_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part15_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v482 : Vec F S128x128 .f32) (v504 : FVec F S128x128 .f32) (v506 : FVec F S128x128 .f32) (v508 : FVec F S128x128 .f32) :
    Safe (defs₀ (F := F)) 𝒱 (c : Thread nD τ) bd Set.univ R (k0_part15 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v482 v504 v506 v508) := by
  rw [k0_part15_eq_skeleton]
  unfold k0_part15_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part16_safe (v318 : FVec F S128x128 .f32) (v319 : FVec F S128x128 .f32) (v320 : FVec F S128x128 .f32) (v323 : IVec S128x128 1) (v327 : FVec F S128x128 .f32) (v330 : FVec F S128x1024 .f32) (v518 : FVec F S1x1 .f32) (v528 : Vec F S128x128 .f32) (v550 : FVec F S128x128 .f32) :
    Safe (defs₀ (F := F)) 𝒱 (c : Thread nD τ) bd Set.univ R (k0_part16 i _ harg1 _ harg2 _ harg3 _ harg4 _ harg5 _ harg6 _ harg7 _ harg8 _ harg9 _ harg10 _ harg11 _ harg12 _ harg13 _ harg14 _ harg15 _ harg16 _ harg17 _ harg18 v318 v319 v320 v323 v327 v330 v518 v528 v550) := by
  rw [k0_part16_eq_skeleton]
  unfold k0_part16_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part17_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v563 : FVec F S1x128 .f32) (v564 : FVec F S1x1 .f32) (v574 : Vec F S128x128 .f32) (v593 : FVec F S1x128 .f32) :
    Safe (defs₀ (F := F)) 𝒱 (c : Thread nD τ) bd Set.univ R (k0_part17 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v563 v564 v574 v593) := by
  rw [k0_part17_eq_skeleton]
  unfold k0_part17_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part18_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v608 : FVec F S1x128 .f32) (v609 : FVec F S1x128 .f32) (v610 : FVec F S1x1 .f32) (v620 : Vec F S128x128 .f32) (v633 : FVec F S128x128 .f32) :
    Safe (defs₀ (F := F)) 𝒱 (c : Thread nD τ) bd Set.univ R (k0_part18 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v608 v609 v610 v620 v633) := by
  rw [k0_part18_eq_skeleton]
  unfold k0_part18_skel
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  exact safe_pure _

theorem k0_part19_safe (v318 : FVec F S128x128 .f32) (v319 : FVec F S128x128 .f32) (v320 : FVec F S128x128 .f32) (v323 : IVec S128x128 1) (v326 : FVec F S128x128 .f32) (v654 : FVec F S1x128 .f32) (v655 : FVec F S1x128 .f32) (v656 : FVec F S1x1 .f32) (v666 : Vec F S128x128 .f32) (v677 : FVec F S128x128 .f32) (v678 : Vec F S128x128 .f32) :
    Safe (defs₀ (F := F)) 𝒱 (c : Thread nD τ) bd Set.univ R (k0_part19 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v654 v655 v656 v666 v677 v678) := by
  rw [k0_part19_eq_skeleton]
  unfold k0_part19_skel
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l2 fun _ => ?_
  refine ld_bind h.l13.ld fun _ => ?_
  exact safe_pure _

theorem k0_part20_safe (v318 : FVec F S128x128 .f32) (v319 : FVec F S128x128 .f32) (v320 : FVec F S128x128 .f32) (v701 : FVec F S128x128 .f32) (v705 : FVec F S128x1024 .f32) (v706 : FVec F S128x1 .f32) (v707 : FVec F S1x128 .f32) (v708 : FVec F S1x128 .f32) (v709 : FVec F S1x1 .f32) (v716 : FVec F S128x128 .f32) (v717 : FVec F S128x128 .f32) :
    Safe (defs₀ (F := F)) 𝒱 (c : Thread nD τ) bd Set.univ R (k0_part20 i _ harg1 _ harg2 _ harg3 _ harg4 _ harg5 _ harg6 _ harg7 _ harg8 _ harg9 _ harg10 _ harg11 _ harg12 _ harg13 _ harg14 _ harg15 _ harg16 _ harg17 _ harg18 v318 v319 v320 v701 v705 v706 v707 v708 v709 v716 v717) := by
  rw [k0_part20_eq_skeleton]
  unfold k0_part20_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  exact safe_pure _

end

end Cert.Scan.Own

end
-- ==== Proof.Scan.PartsB.lean ====
/- Parts of the second kernel's body: each runs with the body's buffers and gives them back. -/
module

public import proofs.«01_k».proof.Proof.Scan.Holds

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part21_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v752 : FVec F S128x1 .f32) (v753 : FVec F S1x128 .f32) (v754 : FVec F S1x128 .f32) (v755 : FVec F S1x1 .f32) (v758 : FVec F S128x128 .f32) (cst_365 : F .f32) :
    Safe (defs₀ (F := F)) 𝒱 (c : Thread nD τ) bd Set.univ R (k0_part21 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v752 v753 v754 v755 v758 cst_365) := by
  rw [k0_part21_eq_skeleton]
  unfold k0_part21_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  exact safe_pure _

theorem k0_part22_safe (v318 : FVec F S128x128 .f32) (v323 : IVec S128x128 1) (v701 : FVec F S128x128 .f32) (v702 : FVec F S128x128 .f32) (v705 : FVec F S128x1024 .f32) (v798 : FVec F S128x1 .f32) (v799 : FVec F S1x128 .f32) (v800 : FVec F S1x128 .f32) :
    Safe (defs₀ (F := F)) 𝒱 (c : Thread nD τ) bd Set.univ R (k0_part22 i _ harg1 _ harg2 _ harg3 _ harg4 _ harg5 _ harg6 _ harg7 _ harg8 _ harg9 _ harg10 _ harg11 _ harg12 _ harg13 _ harg14 _ harg15 _ harg16 _ harg17 _ harg18 v318 v323 v701 v702 v705 v798 v799 v800) := by
  rw [k0_part22_eq_skeleton]
  unfold k0_part22_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  exact safe_pure _

theorem k0_part23_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v840 : FVec F S128x128 .f32) :
    Safe (defs₀ (F := F)) 𝒱 (c : Thread nD τ) bd Set.univ R (k0_part23 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v840) := by
  rw [k0_part23_eq_skeleton]
  unfold k0_part23_skel
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part24_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v886 : FVec F S128x128 .f32) :
    Safe (defs₀ (F := F)) 𝒱 (c : Thread nD τ) bd Set.univ R (k0_part24 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v886) := by
  rw [k0_part24_eq_skeleton]
  unfold k0_part24_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part25_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v903 : Vec F S128x128 .f32) (v925 : FVec F S128x128 .f32) (v927 : FVec F S128x128 .f32) (v928 : FVec F S1x1 .f32) :
    Safe (defs₀ (F := F)) 𝒱 (c : Thread nD τ) bd Set.univ R (k0_part25 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v903 v925 v927 v928) := by
  rw [k0_part25_eq_skeleton]
  unfold k0_part25_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part26_safe (v318 : FVec F S128x128 .f32) (v319 : FVec F S128x128 .f32) (v320 : FVec F S128x128 .f32) (v323 : IVec S128x128 1) (v702 : FVec F S128x128 .f32) (v705 : FVec F S128x1024 .f32) (v939 : FVec F S1x1 .f32) (v949 : Vec F S128x128 .f32) (v971 : FVec F S128x128 .f32) :
    Safe (defs₀ (F := F)) 𝒱 (c : Thread nD τ) bd Set.univ R (k0_part26 i _ harg1 _ harg2 _ harg3 _ harg4 _ harg5 _ harg6 _ harg7 _ harg8 _ harg9 _ harg10 _ harg11 _ harg12 _ harg13 _ harg14 _ harg15 _ harg16 _ harg17 _ harg18 v318 v319 v320 v323 v702 v705 v939 v949 v971) := by
  rw [k0_part26_eq_skeleton]
  unfold k0_part26_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part27_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v984 : FVec F S1x128 .f32) (v985 : FVec F S1x1 .f32) (v995 : Vec F S128x128 .f32) (v1013 : FVec F S1x128 .f32) :
    Safe (defs₀ (F := F)) 𝒱 (c : Thread nD τ) bd Set.univ R (k0_part27 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v984 v985 v995 v1013) := by
  rw [k0_part27_eq_skeleton]
  unfold k0_part27_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part28_safe (v270 : FVec F S1x128 .f32) (v701 : FVec F S128x128 .f32) (v1029 : FVec F S1x128 .f32) (v1030 : FVec F S1x128 .f32) (v1031 : FVec F S1x1 .f32) (v1041 : Vec F S128x128 .f32) (v1054 : FVec F S128x128 .f32) (v1055 : Vec F S128x128 .f32) :
    Safe (defs₀ (F := F)) 𝒱 (c : Thread nD τ) bd Set.univ R (k0_part28 i _ harg1 _ harg2 _ harg3 _ harg4 _ harg5 _ harg6 _ harg7 _ harg8 _ harg9 _ harg10 _ harg11 _ harg12 _ harg13 _ harg14 _ harg15 _ harg16 _ harg17 _ harg18 v270 v701 v1029 v1030 v1031 v1041 v1054 v1055) := by
  rw [k0_part28_eq_skeleton]
  unfold k0_part28_skel
  refine st_bind h.l14 fun _ => ?_
  refine ld_bind h.l13.ld fun _ => ?_
  refine ld_bind h.l13.ld fun _ => ?_
  refine st_bind h.l13 fun _ => ?_
  refine ld_bind h.l3 fun _ => ?_
  exact safe_pure _

theorem k0_part29_safe (v1076 : FVec F S128x128 .f32) (v1079 : IVec S128x128 32) (v1091 : FVec F S128x128 .f32) (v1093 : IVec S128x128 1) (v1094 : FVec F S128x128 .f32) (cst_489 : F .f32) :
    Safe (defs₀ (F := F)) 𝒱 (c : Thread nD τ) bd Set.univ R (k0_part29 i _ harg1 _ harg2 _ harg3 _ harg4 _ harg5 _ harg6 _ harg7 _ harg8 _ harg9 _ harg10 _ harg11 _ harg12 _ harg13 _ harg14 _ harg15 _ harg16 _ harg17 _ harg18 v1076 v1079 v1091 v1093 v1094 cst_489) := by
  rw [k0_part29_eq_skeleton]
  unfold k0_part29_skel
  refine ld_bind h.l2 fun _ => ?_
  refine ld_bind h.l2 fun _ => ?_
  refine ld_bind h.l13.ld fun _ => ?_
  exact safe_pure _

theorem k0_part30_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) :
    Safe (defs₀ (F := F)) 𝒱 (c : Thread nD τ) bd Set.univ R (k0_part30 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133) := by
  rw [k0_part30_eq_skeleton]
  unfold k0_part30_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part31_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1176 : FVec F S128x128 .f32) :
    Safe (defs₀ (F := F)) 𝒱 (c : Thread nD τ) bd Set.univ R (k0_part31 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1176) := by
  rw [k0_part31_eq_skeleton]
  unfold k0_part31_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part32_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1193 : Vec F S128x128 .f32) (v1215 : FVec F S128x128 .f32) (v1220 : FVec F S128x128 .f32) :
    Safe (defs₀ (F := F)) 𝒱 (c : Thread nD τ) bd Set.univ R (k0_part32 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1193 v1215 v1220) := by
  rw [k0_part32_eq_skeleton]
  unfold k0_part32_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part33_safe (v1121 : FVec F S128x128 .f32) (v1122 : FVec F S128x128 .f32) (v1123 : FVec F S128x128 .f32) (v1126 : IVec S128x128 1) (v1130 : FVec F S128x128 .f32) (v1133 : FVec F S128x1024 .f32) (v1229 : FVec F S1x1 .f32) (v1239 : Vec F S128x128 .f32) (v1261 : FVec F S128x128 .f32) :
    Safe (defs₀ (F := F)) 𝒱 (c : Thread nD τ) bd Set.univ R (k0_part33 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1130 v1133 v1229 v1239 v1261) := by
  rw [k0_part33_eq_skeleton]
  unfold k0_part33_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part34_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1275 : FVec F S1x1 .f32) (v1285 : Vec F S128x128 .f32) (v1305 : FVec F S1x128 .f32) :
    Safe (defs₀ (F := F)) 𝒱 (c : Thread nD τ) bd Set.univ R (k0_part34 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1275 v1285 v1305) := by
  rw [k0_part34_eq_skeleton]
  unfold k0_part34_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part35_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1319 : FVec F S1x128 .f32) (v1320 : FVec F S1x128 .f32) (v1321 : FVec F S1x1 .f32) (v1331 : Vec F S128x128 .f32) (v1347 : FVec F S128x128 .f32) :
    Safe (defs₀ (F := F)) 𝒱 (c : Thread nD τ) bd Set.univ R (k0_part35 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1319 v1320 v1321 v1331 v1347) := by
  rw [k0_part35_eq_skeleton]
  unfold k0_part35_skel
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  exact safe_pure _

theorem k0_part36_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1365 : FVec F S1x128 .f32) (v1366 : FVec F S1x128 .f32) (v1367 : FVec F S1x1 .f32) (v1377 : Vec F S128x128 .f32) (v1390 : FVec F S128x128 .f32) :
    Safe (defs₀ (F := F)) 𝒱 (c : Thread nD τ) bd Set.univ R (k0_part36 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1365 v1366 v1367 v1377 v1390) := by
  rw [k0_part36_eq_skeleton]
  unfold k0_part36_skel
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  exact safe_pure _

theorem k0_part37_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1411 : FVec F S1x128 .f32) (v1412 : FVec F S1x128 .f32) (v1413 : FVec F S1x1 .f32) (v1423 : Vec F S128x128 .f32) (v1429 : FVec F S128x128 .f32) (v1433 : FVec F S128x128 .f32) :
    Safe (defs₀ (F := F)) 𝒱 (c : Thread nD τ) bd Set.univ R (k0_part37 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1411 v1412 v1413 v1423 v1429 v1433) := by
  rw [k0_part37_eq_skeleton]
  unfold k0_part37_skel
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  exact safe_pure _

theorem k0_part38_safe (v1121 : FVec F S128x128 .f32) (v1122 : FVec F S128x128 .f32) (v1123 : FVec F S128x128 .f32) (v1129 : FVec F S128x128 .f32) (v1457 : FVec F S1x128 .f32) (v1458 : FVec F S1x128 .f32) (v1459 : FVec F S1x1 .f32) (v1469 : Vec F S128x128 .f32) (v1475 : FVec F S128x128 .f32) :
    Safe (defs₀ (F := F)) 𝒱 (c : Thread nD τ) bd Set.univ R (k0_part38 i _ harg1 _ harg2 _ harg3 _ harg4 _ harg5 _ harg6 _ harg7 _ harg8 _ harg9 _ harg10 _ harg11 _ harg12 _ harg13 _ harg14 _ harg15 _ harg16 _ harg17 _ harg18 v1121 v1122 v1123 v1129 v1457 v1458 v1459 v1469 v1475) := by
  rw [k0_part38_eq_skeleton]
  unfold k0_part38_skel
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l2 fun _ => ?_
  refine ld_bind h.l13.ld fun _ => ?_
  exact safe_pure _

theorem k0_part39_safe (v1126 : IVec S128x128 1) (v1504 : FVec F S128x128 .f32) (v1505 : FVec F S128x128 .f32) (v1508 : FVec F S128x1024 .f32) (v1509 : FVec F S128x1 .f32) (v1510 : FVec F S1x128 .f32) (v1511 : FVec F S1x128 .f32) (v1512 : FVec F S1x1 .f32) :
    Safe (defs₀ (F := F)) 𝒱 (c : Thread nD τ) bd Set.univ R (k0_part39 i _ harg1 _ harg2 _ harg3 _ harg4 _ harg5 _ harg6 _ harg7 _ harg8 _ harg9 _ harg10 _ harg11 _ harg12 _ harg13 _ harg14 _ harg15 _ harg16 _ harg17 _ harg18 v1126 v1504 v1505 v1508 v1509 v1510 v1511 v1512) := by
  rw [k0_part39_eq_skeleton]
  unfold k0_part39_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  exact safe_pure _

theorem k0_part40_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1554 : FVec F S1x128x128 .f32) :
    Safe (defs₀ (F := F)) 𝒱 (c : Thread nD τ) bd Set.univ R (k0_part40 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1554) := by
  rw [k0_part40_eq_skeleton]
  unfold k0_part40_skel
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

end

end Cert.Scan.Own

end
-- ==== Proof.Scan.PartsC.lean ====
/- Parts of the second kernel's body: each runs with the body's buffers and gives them back. -/
module

public import proofs.«01_k».proof.Proof.Scan.Holds

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part41_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1597 : FVec F S128x128 .f32) :
    Safe (defs₀ (F := F)) 𝒱 (c : Thread nD τ) bd Set.univ R (k0_part41 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1597) := by
  rw [k0_part41_eq_skeleton]
  unfold k0_part41_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part42_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1614 : Vec F S128x128 .f32) (v1636 : FVec F S128x128 .f32) (v1638 : FVec F S128x128 .f32) (v1640 : FVec F S128x128 .f32) :
    Safe (defs₀ (F := F)) 𝒱 (c : Thread nD τ) bd Set.univ R (k0_part42 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1614 v1636 v1638 v1640) := by
  rw [k0_part42_eq_skeleton]
  unfold k0_part42_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part43_safe (v1121 : FVec F S128x128 .f32) (v1122 : FVec F S128x128 .f32) (v1123 : FVec F S128x128 .f32) (v1126 : IVec S128x128 1) (v1505 : FVec F S128x128 .f32) (v1508 : FVec F S128x1024 .f32) (v1650 : FVec F S1x1 .f32) (v1660 : Vec F S128x128 .f32) (v1682 : FVec F S128x128 .f32) :
    Safe (defs₀ (F := F)) 𝒱 (c : Thread nD τ) bd Set.univ R (k0_part43 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1505 v1508 v1650 v1660 v1682) := by
  rw [k0_part43_eq_skeleton]
  unfold k0_part43_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part44_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1695 : FVec F S1x128 .f32) (v1696 : FVec F S1x1 .f32) (v1706 : Vec F S128x128 .f32) (v1725 : FVec F S1x128 .f32) :
    Safe (defs₀ (F := F)) 𝒱 (c : Thread nD τ) bd Set.univ R (k0_part44 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1695 v1696 v1706 v1725) := by
  rw [k0_part44_eq_skeleton]
  unfold k0_part44_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part45_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1740 : FVec F S1x128 .f32) (v1741 : FVec F S1x128 .f32) (v1742 : FVec F S1x1 .f32) (v1752 : Vec F S128x128 .f32) (v1765 : FVec F S128x128 .f32) :
    Safe (defs₀ (F := F)) 𝒱 (c : Thread nD τ) bd Set.univ R (k0_part45 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1740 v1741 v1742 v1752 v1765) := by
  rw [k0_part45_eq_skeleton]
  unfold k0_part45_skel
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  exact safe_pure _

theorem k0_part46_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1786 : FVec F S1x128 .f32) (v1787 : FVec F S1x128 .f32) (v1788 : FVec F S1x1 .f32) (v1798 : Vec F S128x128 .f32) (v1809 : FVec F S128x128 .f32) (v1810 : Vec F S128x128 .f32) :
    Safe (defs₀ (F := F)) 𝒱 (c : Thread nD τ) bd Set.univ R (k0_part46 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1786 v1787 v1788 v1798 v1809 v1810) := by
  rw [k0_part46_eq_skeleton]
  unfold k0_part46_skel
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  exact safe_pure _

theorem k0_part47_safe (v1504 : FVec F S128x128 .f32) (v1832 : FVec F S1x128 .f32) (v1833 : FVec F S1x128 .f32) (v1834 : FVec F S1x1 .f32) (v1844 : Vec F S128x128 .f32) (v1850 : FVec F S128x128 .f32) (v1853 : FVec F S128x128 .f32) :
    Safe (defs₀ (F := F)) 𝒱 (c : Thread nD τ) bd Set.univ R (k0_part47 i _ harg1 _ harg2 _ harg3 _ harg4 _ harg5 _ harg6 _ harg7 _ harg8 _ harg9 _ harg10 _ harg11 _ harg12 _ harg13 _ harg14 _ harg15 _ harg16 _ harg17 _ harg18 v1504 v1832 v1833 v1834 v1844 v1850 v1853) := by
  rw [k0_part47_eq_skeleton]
  unfold k0_part47_skel
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l14.ld fun _ => ?_
  refine ld_bind h.l6 fun _ => ?_
  exact safe_pure _

theorem k0_part48_safe (v1877 : FVec F S32x1 .f32) (v1892 : FVec F S32x1024 .f32) :
    Safe (defs₀ (F := F)) 𝒱 (c : Thread nD τ) bd Set.univ R (k0_part48 i _ harg1 _ harg2 _ harg3 _ harg4 _ harg5 _ harg6 _ harg7 _ harg8 _ harg9 _ harg10 _ harg11 _ harg12 _ harg13 _ harg14 _ harg15 _ harg16 _ harg17 _ harg18 v1877 v1892) := by
  rw [k0_part48_eq_skeleton]
  unfold k0_part48_skel
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part49_safe (v1923 : FVec F S32x1 .f32) (v1924 : IVec S32x1 32) (v1930 : IVec S32x1 1) (v1932 : IVec S32x1 32) :
    Safe (defs₀ (F := F)) 𝒱 (c : Thread nD τ) bd Set.univ R (k0_part49 i _ harg1 _ harg2 _ harg3 _ harg4 _ harg5 _ harg6 _ harg7 _ harg8 _ harg9 _ harg10 _ harg11 _ harg12 _ harg13 _ harg14 _ harg15 _ harg16 _ harg17 _ harg18 v1923 v1924 v1930 v1932) := by
  rw [k0_part49_eq_skeleton]
  unfold k0_part49_skel
  exact safe_pure _

theorem k0_part50_safe (v1923 : FVec F S32x1 .f32) (v1969 : IVec S32x1 32) (v1975 : IVec S32x1 1) (v1977 : IVec S32x1 32) :
    Safe (defs₀ (F := F)) 𝒱 (c : Thread nD τ) bd Set.univ R (k0_part50 i _ harg1 _ harg2 _ harg3 _ harg4 _ harg5 _ harg6 _ harg7 _ harg8 _ harg9 _ harg10 _ harg11 _ harg12 _ harg13 _ harg14 _ harg15 _ harg16 _ harg17 _ harg18 v1923 v1969 v1975 v1977) := by
  rw [k0_part50_eq_skeleton]
  unfold k0_part50_skel
  refine ld_bind h.l14.ld fun _ => ?_
  exact safe_pure _

theorem k0_part51_safe (v2010 : FVec F S32x1 .f32) (v2020 : FVec F S32x2048 .f32) :
    Safe (defs₀ (F := F)) 𝒱 (c : Thread nD τ) bd Set.univ R (k0_part51 i _ harg1 _ harg2 _ harg3 _ harg4 _ harg5 _ harg6 _ harg7 _ harg8 _ harg9 _ harg10 _ harg11 _ harg12 _ harg13 _ harg14 _ harg15 _ harg16 _ harg17 _ harg18 v2010 v2020) := by
  rw [k0_part51_eq_skeleton]
  unfold k0_part51_skel
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  refine ld_bind h.l14.ld fun _ => ?_
  refine st_bind h.l14 fun _ => ?_
  refine ld_bind h.l14.ld fun _ => ?_
  exact safe_pure _

theorem k0_part52_safe (v2054 : FVec F S32x1 .f32) (v2055 : Vec F S32x1024 .f32) (v2057 : FVec F S32 .f32) :
    Safe (defs₀ (F := F)) 𝒱 (c : Thread nD τ) bd Set.univ R (k0_part52 i _ harg1 _ harg2 _ harg3 _ harg4 _ harg5 _ harg6 _ harg7 _ harg8 _ harg9 _ harg10 _ harg11 _ harg12 _ harg13 _ harg14 _ harg15 _ harg16 _ harg17 _ harg18 v2054 v2055 v2057) := by
  rw [k0_part52_eq_skeleton]
  unfold k0_part52_skel
  refine ld_bind h.l6 fun _ => ?_
  refine ld_bind h.l14.ld fun _ => ?_
  refine st_bind h.l14 fun _ => ?_
  exact safe_pure _

theorem k0_part53_safe (v2078 : FVec F S32x1 .f32) (v2097 : IVec S32x1 32) (v2099 : IVec S32x1 32) (c23_i32_880 : BitVec 32) :
    Safe (defs₀ (F := F)) 𝒱 (c : Thread nD τ) bd Set.univ R (k0_part53 i _ harg1 _ harg2 _ harg3 _ harg4 _ harg5 _ harg6 _ harg7 _ harg8 _ harg9 _ harg10 _ harg11 _ harg12 _ harg13 _ harg14 _ harg15 _ harg16 _ harg17 _ harg18 v2078 v2097 v2099 c23_i32_880) := by
  rw [k0_part53_eq_skeleton]
  unfold k0_part53_skel
  exact safe_pure _

theorem k0_part54_safe (v2078 : FVec F S32x1 .f32) (v2142 : IVec S32x1 32) (v2144 : IVec S32x1 32) (c23_i32_895 : BitVec 32) :
    Safe (defs₀ (F := F)) 𝒱 (c : Thread nD τ) bd Set.univ R (k0_part54 i _ harg1 _ harg2 _ harg3 _ harg4 _ harg5 _ harg6 _ harg7 _ harg8 _ harg9 _ harg10 _ harg11 _ harg12 _ harg13 _ harg14 _ harg15 _ harg16 _ harg17 _ harg18 v2078 v2142 v2144 c23_i32_895) := by
  rw [k0_part54_eq_skeleton]
  unfold k0_part54_skel
  refine ld_bind h.l14.ld fun _ => ?_
  refine ld_bind h.l17.ld fun _ => ?_
  refine st_bind h.l17 fun _ => ?_
  refine ld_bind h.l18.ld fun _ => ?_
  exact safe_pure _

theorem k0_part55_safe (v2165 : FVec F S32x1 .f32) :
    Safe (defs₀ (F := F)) 𝒱 (c : Thread nD τ) bd Set.univ R (k0_part55 i _ harg1 _ harg2 _ harg3 _ harg4 _ harg5 _ harg6 _ harg7 _ harg8 _ harg9 _ harg10 _ harg11 _ harg12 _ harg13 _ harg14 _ harg15 _ harg16 _ harg17 _ harg18 v2165) := by
  rw [k0_part55_eq_skeleton]
  unfold k0_part55_skel
  refine st_bind h.l18 fun _ => ?_
  refine ld_bind h.l14.ld fun _ => ?_
  refine ld_bind h.l6 fun _ => ?_
  refine ld_bind h.l14.ld fun _ => ?_
  refine st_bind h.l14 fun _ => ?_
  refine ld_bind h.l14.ld fun _ => ?_
  refine ld_bind h.l6 fun _ => ?_
  exact safe_pure _

theorem k0_part56_safe (v2209 : FVec F S32x1 .f32) (v2224 : FVec F S32x1024 .f32) :
    Safe (defs₀ (F := F)) 𝒱 (c : Thread nD τ) bd Set.univ R (k0_part56 i _ harg1 _ harg2 _ harg3 _ harg4 _ harg5 _ harg6 _ harg7 _ harg8 _ harg9 _ harg10 _ harg11 _ harg12 _ harg13 _ harg14 _ harg15 _ harg16 _ harg17 _ harg18 v2209 v2224) := by
  rw [k0_part56_eq_skeleton]
  unfold k0_part56_skel
  refine ld_bind h.l14.ld fun _ => ?_
  refine st_bind h.l14 fun _ => ?_
  exact safe_pure _

theorem k0_part57_safe (v2233 : FVec F S32x1 .f32) (v2261 : IVec S32x1 32) (v2267 : IVec S32x1 1) (c16_i32_947 : BitVec 32) :
    Safe (defs₀ (F := F)) 𝒱 (c : Thread nD τ) bd Set.univ R (k0_part57 i _ harg1 _ harg2 _ harg3 _ harg4 _ harg5 _ harg6 _ harg7 _ harg8 _ harg9 _ harg10 _ harg11 _ harg12 _ harg13 _ harg14 _ harg15 _ harg16 _ harg17 _ harg18 v2233 v2261 v2267 c16_i32_947) := by
  rw [k0_part57_eq_skeleton]
  unfold k0_part57_skel
  exact safe_pure _

theorem k0_part58_safe (v2306 : IVec S32x1 32) (v2311 : IVec S32x1 1) (v2312 : IVec S32x1 32) :
    Safe (defs₀ (F := F)) 𝒱 (c : Thread nD τ) bd Set.univ R (k0_part58 i _ harg1 _ harg2 _ harg3 _ harg4 _ harg5 _ harg6 _ harg7 _ harg8 _ harg9 _ harg10 _ harg11 _ harg12 _ harg13 _ harg14 _ harg15 _ harg16 _ harg17 _ harg18 v2306 v2311 v2312) := by
  rw [k0_part58_eq_skeleton]
  unfold k0_part58_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  exact safe_pure _

theorem k0_part59_safe (v2342 : FVec F S32x1 .f32) (v2343 : Vec F S32x1024 .f32) (v2350 : FVec F S32x1 .f32) :
    Safe (defs₀ (F := F)) 𝒱 (c : Thread nD τ) bd Set.univ R (k0_part59 i _ harg1 _ harg2 _ harg3 _ harg4 _ harg5 _ harg6 _ harg7 _ harg8 _ harg9 _ harg10 _ harg11 _ harg12 _ harg13 _ harg14 _ harg15 _ harg16 _ harg17 _ harg18 v2342 v2343 v2350) := by
  rw [k0_part59_eq_skeleton]
  unfold k0_part59_skel
  refine ld_bind h.l6 fun _ => ?_
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part60_safe (v2388 : FVec F S32x1 .f32) (v2389 : IVec S32x1 32) (v2390 : IVec S32x1 32) :
    Safe (defs₀ (F := F)) 𝒱 (c : Thread nD τ) bd Set.univ R (k0_part60 i _ harg1 _ harg2 _ harg3 _ harg4 _ harg5 _ harg6 _ harg7 _ harg8 _ harg9 _ harg10 _ harg11 _ harg12 _ harg13 _ harg14 _ harg15 _ harg16 _ harg17 _ harg18 v2388 v2389 v2390) := by
  rw [k0_part60_eq_skeleton]
  unfold k0_part60_skel
  exact safe_pure _

theorem k0_part61_safe (v2388 : FVec F S32x1 .f32) (v2434 : IVec S32x1 32) (v2435 : IVec S32x1 32) :
    Safe (defs₀ (F := F)) 𝒱 (c : Thread nD τ) bd Set.univ R (k0_part61 i _ harg1 _ harg2 _ harg3 _ harg4 _ harg5 _ harg6 _ harg7 _ harg8 _ harg9 _ harg10 _ harg11 _ harg12 _ harg13 _ harg14 _ harg15 _ harg16 _ harg17 _ harg18 v2388 v2434 v2435) := by
  rw [k0_part61_eq_skeleton]
  unfold k0_part61_skel
  exact safe_pure _

theorem k0_part62_safe (v2475 : FVec F S32x1 .f32) (v2479 : IVec S32x1 32) :
    Safe (defs₀ (F := F)) 𝒱 (c : Thread nD τ) bd Set.univ R (k0_part62 i _ harg1 _ harg2 _ harg3 _ harg4 _ harg5 _ harg6 _ harg7 _ harg8 _ harg9 _ harg10 _ harg11 _ harg12 _ harg13 _ harg14 _ harg15 _ harg16 _ harg17 _ harg18 v2475 v2479) := by
  rw [k0_part62_eq_skeleton]
  unfold k0_part62_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  refine ld_bind h.l14.ld fun _ => ?_
  refine st_bind h.l14 fun _ => ?_
  exact safe_pure _

theorem k0_part63_safe (v2497 : FVec F S32x1 .f32) (v2516 : FVec F S32x1024 .f32) :
    Safe (defs₀ (F := F)) 𝒱 (c : Thread nD τ) bd Set.univ R (k0_part63 i _ harg1 _ harg2 _ harg3 _ harg4 _ harg5 _ harg6 _ harg7 _ harg8 _ harg9 _ harg10 _ harg11 _ harg12 _ harg13 _ harg14 _ harg15 _ harg16 _ harg17 _ harg18 v2497 v2516) := by
  rw [k0_part63_eq_skeleton]
  unfold k0_part63_skel
  refine ld_bind h.l14.ld fun _ => ?_
  refine ld_bind h.l6 fun _ => ?_
  refine ld_bind h.l14.ld fun _ => ?_
  refine st_bind h.l14 fun _ => ?_
  exact safe_pure _

theorem k0_part64_safe (v2543 : FVec F S32x1 .f32) (v2553 : IVec S32x1 32) (v2558 : FVec F S32x1 .f32) :
    Safe (defs₀ (F := F)) 𝒱 (c : Thread nD τ) bd Set.univ R (k0_part64 i _ harg1 _ harg2 _ harg3 _ harg4 _ harg5 _ harg6 _ harg7 _ harg8 _ harg9 _ harg10 _ harg11 _ harg12 _ harg13 _ harg14 _ harg15 _ harg16 _ harg17 _ harg18 v2543 v2553 v2558) := by
  rw [k0_part64_eq_skeleton]
  unfold k0_part64_skel
  exact safe_pure _

theorem k0_part65_safe (v2543 : FVec F S32x1 .f32) (v2598 : IVec S32x1 32) (v2603 : FVec F S32x1 .f32) :
    Safe (defs₀ (F := F)) 𝒱 (c : Thread nD τ) bd Set.univ R (k0_part65 i _ harg1 _ harg2 _ harg3 _ harg4 _ harg5 _ harg6 _ harg7 _ harg8 _ harg9 _ harg10 _ harg11 _ harg12 _ harg13 _ harg14 _ harg15 _ harg16 _ harg17 _ harg18 v2543 v2598 v2603) := by
  rw [k0_part65_eq_skeleton]
  unfold k0_part65_skel
  refine ld_bind h.l14.ld fun _ => ?_
  exact safe_pure _

theorem k0_part66_safe (v2630 : FVec F S32x1 .f32) (v2645 : FVec F S32x2048 .fp8e4m3) :
    Safe (defs₀ (F := F)) 𝒱 (c : Thread nD τ) bd Set.univ R (k0_part66 i _ harg1 _ harg2 _ harg3 _ harg4 _ harg5 _ harg6 _ harg7 _ harg8 _ harg9 _ harg10 _ harg11 _ harg12 _ harg13 _ harg14 _ harg15 _ harg16 _ harg17 _ harg18 v2630 v2645) := by
  rw [k0_part66_eq_skeleton]
  unfold k0_part66_skel
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  refine ld_bind h.l14.ld fun _ => ?_
  refine st_bind h.l14 fun _ => ?_
  refine ld_bind h.l14.ld fun _ => ?_
  exact safe_pure _

theorem k0_part67_safe (v2674 : FVec F S32x1 .f32) (v2675 : Vec F S32x1024 .f32) (v2683 : FVec F S32x1 .f32) :
    Safe (defs₀ (F := F)) 𝒱 (c : Thread nD τ) bd Set.univ R (k0_part67 i _ harg1 _ harg2 _ harg3 _ harg4 _ harg5 _ harg6 _ harg7 _ harg8 _ harg9 _ harg10 _ harg11 _ harg12 _ harg13 _ harg14 _ harg15 _ harg16 _ harg17 _ harg18 v2674 v2675 v2683) := by
  rw [k0_part67_eq_skeleton]
  unfold k0_part67_skel
  refine ld_bind h.l6 fun _ => ?_
  refine ld_bind h.l14.ld fun _ => ?_
  refine st_bind h.l14 fun _ => ?_
  exact safe_pure _

theorem k0_part68_safe (v2698 : FVec F S32x1 .f32) (v2726 : IVec S32x1 32) :
    Safe (defs₀ (F := F)) 𝒱 (c : Thread nD τ) bd Set.univ R (k0_part68 i _ harg1 _ harg2 _ harg3 _ harg4 _ harg5 _ harg6 _ harg7 _ harg8 _ harg9 _ harg10 _ harg11 _ harg12 _ harg13 _ harg14 _ harg15 _ harg16 _ harg17 _ harg18 v2698 v2726) := by
  rw [k0_part68_eq_skeleton]
  unfold k0_part68_skel
  exact safe_pure _

theorem k0_part69_safe (v2771 : IVec S32x1 32) :
    Safe (defs₀ (F := F)) 𝒱 (c : Thread nD τ) bd Set.univ R (k0_part69 i _ harg1 _ harg2 _ harg3 _ harg4 _ harg5 _ harg6 _ harg7 _ harg8 _ harg9 _ harg10 _ harg11 _ harg12 _ harg13 _ harg14 _ harg15 _ harg16 _ harg17 _ harg18 v2771) := by
  rw [k0_part69_eq_skeleton]
  unfold k0_part69_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  exact safe_pure _

theorem k0_part70_safe (v2807 : FVec F S32x1 .f32) (v2808 : Vec F S32x1024 .f32) (v2809 : FVec F S32x1024 .f32) :
    Safe (defs₀ (F := F)) 𝒱 (c : Thread nD τ) bd Set.univ R (k0_part70 i _ harg1 _ harg2 _ harg3 _ harg4 _ harg5 _ harg6 _ harg7 _ harg8 _ harg9 _ harg10 _ harg11 _ harg12 _ harg13 _ harg14 _ harg15 _ harg16 _ harg17 _ harg18 v2807 v2808 v2809) := by
  rw [k0_part70_eq_skeleton]
  unfold k0_part70_skel
  refine ld_bind h.l6 fun _ => ?_
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part71_safe (v2829 : FVec F S32x1 .f32) (v2849 : FVec F S32 .f32) :
    Safe (defs₀ (F := F)) 𝒱 (c : Thread nD τ) bd Set.univ R (k0_part71 i _ harg1 _ harg2 _ harg3 _ harg4 _ harg5 _ harg6 _ harg7 _ harg8 _ harg9 _ harg10 _ harg11 _ harg12 _ harg13 _ harg14 _ harg15 _ harg16 _ harg17 _ harg18 v2829 v2849) := by
  rw [k0_part71_eq_skeleton]
  unfold k0_part71_skel
  exact safe_pure _

theorem k0_part72_safe (v2853 : FVec F S32x1 .f32) (v2890 : IVec S32x1 32) (v2892 : IVec S32x1 32) (v2893 : IVec S32x1 32) :
    Safe (defs₀ (F := F)) 𝒱 (c : Thread nD τ) bd Set.univ R (k0_part72 i _ harg1 _ harg2 _ harg3 _ harg4 _ harg5 _ harg6 _ harg7 _ harg8 _ harg9 _ harg10 _ harg11 _ harg12 _ harg13 _ harg14 _ harg15 _ harg16 _ harg17 _ harg18 v2853 v2890 v2892 v2893) := by
  rw [k0_part72_eq_skeleton]
  unfold k0_part72_skel
  exact safe_pure _

theorem k0_part73_safe (v2935 : IVec S32x1 32) (v2937 : IVec S32x1 32) (c23_i32_1218 : BitVec 32) :
    Safe (defs₀ (F := F)) 𝒱 (c : Thread nD τ) bd Set.univ R (k0_part73 i _ harg1 _ harg2 _ harg3 _ harg4 _ harg5 _ harg6 _ harg7 _ harg8 _ harg9 _ harg10 _ harg11 _ harg12 _ harg13 _ harg14 _ harg15 _ harg16 _ harg17 _ harg18 v2935 v2937 c23_i32_1218) := by
  rw [k0_part73_eq_skeleton]
  unfold k0_part73_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  exact safe_pure _

theorem k0_part74_safe (v2962 : FVec F S32x1 .f32) (v2973 : FVec F S32x1024 .f32) (v2976 : FVec F S32x1024 .f32) :
    Safe (defs₀ (F := F)) 𝒱 (c : Thread nD τ) bd Set.univ R (k0_part74 i _ harg1 _ harg2 _ harg3 _ harg4 _ harg5 _ harg6 _ harg7 _ harg8 _ harg9 _ harg10 _ harg11 _ harg12 _ harg13 _ harg14 _ harg15 _ harg16 _ harg17 _ harg18 v2962 v2973 v2976) := by
  rw [k0_part74_eq_skeleton]
  unfold k0_part74_skel
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part75_safe (v3008 : FVec F S32x1 .f32) (v3009 : IVec S32x1 32) (v3015 : IVec S32x1 1) (v3016 : IVec S32x1 32) :
    Safe (defs₀ (F := F)) 𝒱 (c : Thread nD τ) bd Set.univ R (k0_part75 i _ harg1 _ harg2 _ harg3 _ harg4 _ harg5 _ harg6 _ harg7 _ harg8 _ harg9 _ harg10 _ harg11 _ harg12 _ harg13 _ harg14 _ harg15 _ harg16 _ harg17 _ harg18 v3008 v3009 v3015 v3016) := by
  rw [k0_part75_eq_skeleton]
  unfold k0_part75_skel
  exact safe_pure _

theorem k0_part76_safe (v3008 : FVec F S32x1 .f32) (v3054 : IVec S32x1 32) (v3060 : IVec S32x1 1) (v3061 : IVec S32x1 32) :
    Safe (defs₀ (F := F)) 𝒱 (c : Thread nD τ) bd Set.univ R (k0_part76 i _ harg1 _ harg2 _ harg3 _ harg4 _ harg5 _ harg6 _ harg7 _ harg8 _ harg9 _ harg10 _ harg11 _ harg12 _ harg13 _ harg14 _ harg15 _ harg16 _ harg17 _ harg18 v3008 v3054 v3060 v3061) := by
  rw [k0_part76_eq_skeleton]
  unfold k0_part76_skel
  refine ld_bind h.l14.ld fun _ => ?_
  exact safe_pure _

end

end Cert.Scan.Own

end
-- ==== Proof.Scan.Whole.lean ====
/- The second kernel's body runs with its buffers and gives them back. -/
module

public import proofs.«01_k».proof.Proof.Scan.PartsA
public import proofs.«01_k».proof.Proof.Scan.PartsB
public import proofs.«01_k».proof.Proof.Scan.PartsC

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part77_safe :
    Safe (defs₀ (F := F)) 𝒱 (c : Thread nD τ) bd Set.univ R (k0_part77 i _ harg1 _ harg2 _ harg3 _ harg4 _ harg5 _ harg6 _ harg7 _ harg8 _ harg9 _ harg10 _ harg11 _ harg12 _ harg13 _ harg14 _ harg15 _ harg16 _ harg17 _ harg18) := by
  rw [k0_part77_eq_skeleton]
  unfold k0_part77_skel
  refine safe_bind (k0_part1_safe i _ h) fun v25 => ?_
  refine safe_bind (k0_part2_safe i _ h _) fun v58 => ?_
  refine safe_bind (k0_part3_safe i _ h _ _) fun ⟨v88, v91, v92⟩ => ?_
  refine safe_bind (k0_part4_safe i _ h _ _ _ _) fun ⟨v121, v123, v126⟩ => ?_
  refine safe_bind (k0_part5_safe i _ h _ _ _ _) fun v159 => ?_
  refine safe_bind (k0_part6_safe i _ h _ _) fun v191 => ?_
  refine safe_bind (k0_part7_safe i _ h _ _) fun ⟨v223, v224⟩ => ?_
  refine safe_bind (k0_part8_safe i _ h _ _ _) fun ⟨v256, v258⟩ => ?_
  refine safe_bind (k0_part9_safe i _ h _ _) fun ⟨v270, v273, v276, v294, v296, v297, cst_197⟩ => ?_
  refine safe_bind (k0_part10_safe i _ h _ _ _ _ _ _) fun ⟨v318, v319, v320, v323, v326, v327, v330, v331, v332, v333, v334, v337, v338⟩ => ?_
  refine safe_bind (k0_part11_safe i _ h _ _ _ _ _ _ _ _ _ _ _ _ _) fun ⟨v377, v378, v379, v380⟩ => ?_
  refine safe_bind (k0_part12_safe i _ h _ _ _ _ _ _ _ _) fun v422 => ?_
  refine safe_bind (k0_part13_safe i _ h _ _ _ _ _ _ _ _) fun v465 => ?_
  refine safe_bind (k0_part14_safe i _ h _ _ _ _ _ _ _ _) fun ⟨v482, v504, v506, v508⟩ => ?_
  refine safe_bind (k0_part15_safe i _ h _ _ _ _ _ _ _ _ _ _ _) fun ⟨v518, v528, v550⟩ => ?_
  refine safe_bind (k0_part16_safe i _ h _ _ _ _ _ _ _ _ _) fun ⟨v563, v564, v574, v593⟩ => ?_
  refine safe_bind (k0_part17_safe i _ h _ _ _ _ _ _ _ _ _ _ _) fun ⟨v608, v609, v610, v620, v633⟩ => ?_
  refine safe_bind (k0_part18_safe i _ h _ _ _ _ _ _ _ _ _ _ _ _) fun ⟨v654, v655, v656, v666, v677, v678⟩ => ?_
  refine safe_bind (k0_part19_safe i _ h _ _ _ _ _ _ _ _ _ _ _) fun ⟨v701, v702, v705, v706, v707, v708, v709, v716, v717⟩ => ?_
  refine safe_bind (k0_part20_safe i _ h _ _ _ _ _ _ _ _ _ _ _) fun ⟨v752, v753, v754, v755, v758, cst_365⟩ => ?_
  refine safe_bind (k0_part21_safe i _ h _ _ _ _ _ _ _ _ _ _ _ _ _) fun ⟨v798, v799, v800⟩ => ?_
  refine safe_bind (k0_part22_safe i _ h _ _ _ _ _ _ _ _) fun v840 => ?_
  refine safe_bind (k0_part23_safe i _ h _ _ _ _ _ _ _ _) fun v886 => ?_
  refine safe_bind (k0_part24_safe i _ h _ _ _ _ _ _ _ _) fun ⟨v903, v925, v927, v928⟩ => ?_
  refine safe_bind (k0_part25_safe i _ h _ _ _ _ _ _ _ _ _ _ _) fun ⟨v939, v949, v971⟩ => ?_
  refine safe_bind (k0_part26_safe i _ h _ _ _ _ _ _ _ _ _) fun ⟨v984, v985, v995, v1013⟩ => ?_
  refine safe_bind (k0_part27_safe i _ h _ _ _ _ _ _ _ _ _ _ _) fun ⟨v1029, v1030, v1031, v1041, v1054, v1055⟩ => ?_
  refine safe_bind (k0_part28_safe i _ h _ _ _ _ _ _ _ _) fun ⟨v1076, v1079, v1091, v1093, v1094, cst_489⟩ => ?_
  refine safe_bind (k0_part29_safe i _ h _ _ _ _ _ _) fun ⟨v1121, v1122, v1123, v1126, v1129, v1130, v1133⟩ => ?_
  refine safe_bind (k0_part30_safe i _ h _ _ _ _ _ _ _) fun v1176 => ?_
  refine safe_bind (k0_part31_safe i _ h _ _ _ _ _ _ _ _) fun ⟨v1193, v1215, v1220⟩ => ?_
  refine safe_bind (k0_part32_safe i _ h _ _ _ _ _ _ _ _ _ _) fun ⟨v1229, v1239, v1261⟩ => ?_
  refine safe_bind (k0_part33_safe i _ h _ _ _ _ _ _ _ _ _) fun ⟨v1275, v1285, v1305⟩ => ?_
  refine safe_bind (k0_part34_safe i _ h _ _ _ _ _ _ _ _ _ _) fun ⟨v1319, v1320, v1321, v1331, v1347⟩ => ?_
  refine safe_bind (k0_part35_safe i _ h _ _ _ _ _ _ _ _ _ _ _ _) fun ⟨v1365, v1366, v1367, v1377, v1390⟩ => ?_
  refine safe_bind (k0_part36_safe i _ h _ _ _ _ _ _ _ _ _ _ _ _) fun ⟨v1411, v1412, v1413, v1423, v1429, v1433⟩ => ?_
  refine safe_bind (k0_part37_safe i _ h _ _ _ _ _ _ _ _ _ _ _ _ _) fun ⟨v1457, v1458, v1459, v1469, v1475⟩ => ?_
  refine safe_bind (k0_part38_safe i _ h _ _ _ _ _ _ _ _ _) fun ⟨v1504, v1505, v1508, v1509, v1510, v1511, v1512⟩ => ?_
  refine safe_bind (k0_part39_safe i _ h _ _ _ _ _ _ _ _) fun v1554 => ?_
  refine safe_bind (k0_part40_safe i _ h _ _ _ _ _ _ _ _) fun v1597 => ?_
  refine safe_bind (k0_part41_safe i _ h _ _ _ _ _ _ _ _) fun ⟨v1614, v1636, v1638, v1640⟩ => ?_
  refine safe_bind (k0_part42_safe i _ h _ _ _ _ _ _ _ _ _ _ _) fun ⟨v1650, v1660, v1682⟩ => ?_
  refine safe_bind (k0_part43_safe i _ h _ _ _ _ _ _ _ _ _) fun ⟨v1695, v1696, v1706, v1725⟩ => ?_
  refine safe_bind (k0_part44_safe i _ h _ _ _ _ _ _ _ _ _ _ _) fun ⟨v1740, v1741, v1742, v1752, v1765⟩ => ?_
  refine safe_bind (k0_part45_safe i _ h _ _ _ _ _ _ _ _ _ _ _ _) fun ⟨v1786, v1787, v1788, v1798, v1809, v1810⟩ => ?_
  refine safe_bind (k0_part46_safe i _ h _ _ _ _ _ _ _ _ _ _ _ _ _) fun ⟨v1832, v1833, v1834, v1844, v1850, v1853⟩ => ?_
  refine safe_bind (k0_part47_safe i _ h _ _ _ _ _ _ _) fun ⟨v1877, v1892⟩ => ?_
  refine safe_bind (k0_part48_safe i _ h _ _) fun ⟨v1923, v1924, v1930, v1932⟩ => ?_
  refine safe_bind (k0_part49_safe i _ h _ _ _ _) fun ⟨v1969, v1975, v1977⟩ => ?_
  refine safe_bind (k0_part50_safe i _ h _ _ _ _) fun ⟨v2010, v2020⟩ => ?_
  refine safe_bind (k0_part51_safe i _ h _ _) fun ⟨v2054, v2055, v2057⟩ => ?_
  refine safe_bind (k0_part52_safe i _ h _ _ _) fun ⟨v2078, v2097, v2099, c23_i32_880⟩ => ?_
  refine safe_bind (k0_part53_safe i _ h _ _ _ _) fun ⟨v2142, v2144, c23_i32_895⟩ => ?_
  refine safe_bind (k0_part54_safe i _ h _ _ _ _) fun v2165 => ?_
  refine safe_bind (k0_part55_safe i _ h _) fun ⟨v2209, v2224⟩ => ?_
  refine safe_bind (k0_part56_safe i _ h _ _) fun ⟨v2233, v2261, v2267, c16_i32_947⟩ => ?_
  refine safe_bind (k0_part57_safe i _ h _ _ _ _) fun ⟨v2306, v2311, v2312⟩ => ?_
  refine safe_bind (k0_part58_safe i _ h _ _ _) fun ⟨v2342, v2343, v2350⟩ => ?_
  refine safe_bind (k0_part59_safe i _ h _ _ _) fun ⟨v2388, v2389, v2390⟩ => ?_
  refine safe_bind (k0_part60_safe i _ h _ _ _) fun ⟨v2434, v2435⟩ => ?_
  exact safe_pure _

theorem cc0_ssd_out_safe :
    Safe (defs₀ (F := F)) 𝒱 (c : Thread nD τ) bd Set.univ R (cc0_ssd_out i _ harg1 _ harg2 _ harg3 _ harg4 _ harg5 _ harg6 _ harg7 _ harg8 _ harg9 _ harg10 _ harg11 _ harg12 _ harg13 _ harg14 _ harg15 _ harg16 _ harg17 _ harg18) := by
  rw [cc0_ssd_out_eq_skeleton]
  unfold cc0_ssd_out_skel
  refine safe_bind (k0_part77_safe i _ h) fun ⟨v2388, v2434, v2435⟩ => ?_
  refine safe_bind (k0_part61_safe i _ h _ _ _) fun ⟨v2475, v2479⟩ => ?_
  refine safe_bind (k0_part62_safe i _ h _ _) fun ⟨v2497, v2516⟩ => ?_
  refine safe_bind (k0_part63_safe i _ h _ _) fun ⟨v2543, v2553, v2558⟩ => ?_
  refine safe_bind (k0_part64_safe i _ h _ _ _) fun ⟨v2598, v2603⟩ => ?_
  refine safe_bind (k0_part65_safe i _ h _ _ _) fun ⟨v2630, v2645⟩ => ?_
  refine safe_bind (k0_part66_safe i _ h _ _) fun ⟨v2674, v2675, v2683⟩ => ?_
  refine safe_bind (k0_part67_safe i _ h _ _ _) fun ⟨v2698, v2726⟩ => ?_
  refine safe_bind (k0_part68_safe i _ h _ _) fun v2771 => ?_
  refine safe_bind (k0_part69_safe i _ h _) fun ⟨v2807, v2808, v2809⟩ => ?_
  refine safe_bind (k0_part70_safe i _ h _ _ _) fun ⟨v2829, v2849⟩ => ?_
  refine safe_bind (k0_part71_safe i _ h _ _) fun ⟨v2853, v2890, v2892, v2893⟩ => ?_
  refine safe_bind (k0_part72_safe i _ h _ _ _ _) fun ⟨v2935, v2937, c23_i32_1218⟩ => ?_
  refine safe_bind (k0_part73_safe i _ h _ _ _) fun ⟨v2962, v2973, v2976⟩ => ?_
  refine safe_bind (k0_part74_safe i _ h _ _ _) fun ⟨v3008, v3009, v3015, v3016⟩ => ?_
  refine safe_bind (k0_part75_safe i _ h _ _ _ _) fun ⟨v3054, v3060, v3061⟩ => ?_
  refine safe_bind (k0_part76_safe i _ h _ _ _ _) fun ⟨v3095, v3103, v3104⟩ => ?_
  refine ld_bind h.l17.ld fun _ => ?_
  refine st_bind h.l17 fun _ => ?_
  refine ld_bind h.l18.ld fun _ => ?_
  refine st_bind h.l18 fun _ => ?_
  exact safe_pure _

end

end Cert.Scan.Own

end
-- ==== Proof.Scan.Run.lean ====
/- The second kernel's run: it ends, its arguments unchanged, its semaphores at zero. -/
module

public import proofs.«01_k».proof.Proof.Gen.Scan.Frame
public import proofs.«01_k».proof.Proof.Scan.Bufs
public import proofs.«01_k».proof.Proof.Scan.Whole

@[expose] public section

noncomputable section

namespace Cert.Scan.Own

open Cert.Own
open Cert.Scan Cert.Scan.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The proof data of the pipeline: the inputs' buffers at their blocks; the outputs' are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨_ + 12, h⟩ => absurd h (Nat.not_lt.2 (Nat.le_add_left _ _))
  Φ _ := Pipeline.ΦA spec0 c
  q _ := fullShare
  owed _ := 0

/-- The outputs. -/
def outs : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨_ + 12, h⟩ => absurd h (Nat.not_lt.2 (Nat.le_add_left _ _))

theorem A_eq (w : Fin cfg0.W) : (dats m 0 c).A w = V m c (Pipeline.arrRef spec0 w) := by
  dsimp only [dats]

theorem before_0 (t : Fin cfg0.N) (d) : (dats m 0 c).before 0 t d = iblk m c 0 t := before0_0_of m (dats m 0 c) (A_eq m c 0) (fun _ => rfl) t d
theorem before_1 (t : Fin cfg0.N) (d) : (dats m 0 c).before 1 t d = iblk m c 1 t := before0_1_of m (dats m 0 c) (A_eq m c 1) (fun _ => rfl) t d
theorem before_2 (t : Fin cfg0.N) (d) : (dats m 0 c).before 2 t d = iblk m c 2 t := before0_2_of m (dats m 0 c) (A_eq m c 2) (fun _ => rfl) t d
theorem before_3 (t : Fin cfg0.N) (d) : (dats m 0 c).before 3 t d = iblk m c 3 t := before0_3_of m (dats m 0 c) (A_eq m c 3) (fun _ => rfl) t d
theorem before_4 (t : Fin cfg0.N) (d) : (dats m 0 c).before 4 t d = iblk m c 4 t := before0_4_of m (dats m 0 c) (A_eq m c 4) (fun _ => rfl) t d
theorem before_5 (t : Fin cfg0.N) (d) : (dats m 0 c).before 5 t d = iblk m c 5 t := before0_5_of m (dats m 0 c) (A_eq m c 5) (fun _ => rfl) t d
theorem before_6 (t : Fin cfg0.N) (d) : (dats m 0 c).before 6 t d = iblk m c 6 t := before0_6_of m (dats m 0 c) (A_eq m c 6) (fun _ => rfl) t d
theorem before_7 (t : Fin cfg0.N) (d) : (dats m 0 c).before 7 t d = iblk m c 7 t := before0_7_of m (dats m 0 c) (A_eq m c 7) (fun _ => rfl) t d
theorem before_8 (t : Fin cfg0.N) (d) : (dats m 0 c).before 8 t d = iblk m c 8 t := before0_8_of m (dats m 0 c) (A_eq m c 8) (fun _ => rfl) t d

def pointPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X))

def pointPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X))

theorem owes_eq (t : Fin cfg0.N) : (dats m 0 c).owesAt () t.castSucc = (dats m 0 c).owesAt () t.succ := rfl

/-- The body of a point, over its buffers. -/
theorem body_safe (t : Fin cfg0.N) :
    Safe (defs₀ (F := F)) Variants.none (c : Thread nD τ) none Set.univ
      (Bufs c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (iblk m c 0 t) (iblk m c 1 t) (iblk m c 2 t) (iblk m c 3 t) (iblk m c 4 t) (iblk m c 5 t) (iblk m c 6 t) (iblk m c 7 t) (iblk m c 8 t))
      (bodyAt0 t) :=
  cc0_ssd_out_safe (grid0.coords t) _ bufs_holds

theorem sound_point (t : Fin cfg0.N) :
    pointPre m c t ⊢ wp frame (wpE (defs₀ (F := F)) Variants.none (c : Thread nD τ) none) Set.univ (bodyAt0 t) (fun _ => pointPost m c t) := by
  unfold pointPre pointPost
  simp only [before_0, before_1, before_2, before_3, before_4, before_5, before_6, before_7, before_8]
  rw [owes_eq, show (dats m 0 c).Φ t.castSucc = Pipeline.ΦA spec0 c from rfl, show (dats m 0 c).Φ t.succ = Pipeline.ΦA spec0 c from rfl]
  unfold Pipeline.ΦA
  rw [scopedRest0_eq]
  have hb := body_safe m c t
  unfold Safe Bufs at hb
  simp only [owns_whole] at hb
  iintro ⟨⟨⟨HS0, HS1, HS2, HS3, HS4, HS5⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (hb _) $$ [H0 H1 H2 H3 H4 H5 H6 H7 H8 H9 H10 H11 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    iexact HS5
  iintro %_ ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_loose : Pipeline.BodyObligationLoose (dats m 0 c) (defs₀ (F := F)) Variants.none () Set.univ outs := fun t => by
  rw [bigSep_W0, bigSep_W0, defs₀_row]
  exact triple_restated (sound_point m c t) rfl .rfl fun _ => .rfl

set_option backward.isDefEq.respectTransparency.types false in
theorem run_main : θ_run defs (onTc (τ := τ) (main (F := F))) (s₀ m ρ)
    (fun r => RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => body_loose m c) (hshare := fun c => (dats m 0 c).share_full fun _ => rfl)
    (howed := fun _ _ => rfl) (V := V m) (hmain := hmain m Variants.none) (hA := A_eq m)
    (hΦ := fun _ _ => rfl) (hQ' := fun _ h => h)

/-- The arguments are as they were. -/
theorem kept {r : PUnit × MemSt nD τ sig (Elt F)} (hR : RDat.FramePost cfg0 (fun c => (dats m 0 c).toRForget outs) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have rest : ∀ (b : Ref sig .tc) (hb : b ∈ Pipeline.restRefs sig spec0), r.2.mem ((c.tc : Thread nD τ).loc b) = V m c b :=
    fun b hb => (hR c).2 b hb
  have inp : ∀ (w : Fin cfg0.W) (hw : (cfg0.win w).isOut = false),
      r.2.mem ((cfg0.spec w).arr.view.loc (c.tc : Thread nD τ)) = V m c (Pipeline.arrRef spec0 w) := fun w hw =>
    (hR.arr_in c w hw).trans (A_eq m c w)
  exact ⟨(inp 0 rfl).trans (V_main_arg0 m c), (inp 1 rfl).trans (V_main_arg1 m c), (inp 2 rfl).trans (V_main_arg2 m c), (rest main_arg3 (Pipeline.mem_restRefs_of main_arg3 (by decide) (by decide))).trans (V_main_arg3 m c), (rest main_arg4 (Pipeline.mem_restRefs_of main_arg4 (by decide) (by decide))).trans (V_main_arg4 m c), (rest main_arg5 (Pipeline.mem_restRefs_of main_arg5 (by decide) (by decide))).trans (V_main_arg5 m c), (inp 6 rfl).trans (V_main_arg6 m c), (rest main_arg7 (Pipeline.mem_restRefs_of main_arg7 (by decide) (by decide))).trans (V_main_arg7 m c), (rest main_arg8 (Pipeline.mem_restRefs_of main_arg8 (by decide) (by decide))).trans (V_main_arg8 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => kept m h.1 c, h.2⟩) (run_main m ρ)

end Cert.Scan.Own

end
-- ==== Proof.ScanIdeal.Holds.lean ====
/- The second kernel's body, its buffers. -/
module

public import proofs.«01_k».proof.Proof.Gen.ScanIdeal.Skeleton
public import Idealize.ShloMosaic.Lib.Pipeline.Frame
public import proofs.«01_k».proof.Proof.Safe

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The buffers the body is called with are `R`'s: nine to read, nine to write. -/
structure Holds (c : Dev nD) (R : sProp 𝕄) (arg1 : Memref sig .tc .vmem S256x2048 .f32) (arg2 : Memref sig .tc .vmem S256x2560 .f32) (arg3 : Memref sig .tc .vmem S256x16 .f32) (arg4 : Memref sig .tc .vmem S1x128 .f32) (arg5 : Memref sig .tc .vmem S1x2048 .f32) (arg6 : Memref sig .tc .vmem S1x2048 .f32) (arg7 : Memref sig .tc .vmem S2048x8192 .fp8e4m3) (arg8 : Memref sig .tc .vmem S1x8192 .f32) (arg9 : Memref sig .tc .vmem S256x8192 .bf16) (arg10 : Memref sig .tc .vmem S256x8192 .bf16) (arg11 : Memref sig .tc .vmem S256x2048 .fp8e4m3) (arg12 : Memref sig .tc .vmem S256x1 .f32) (arg13 : Memref sig .tc .vmem S2x128x1024 .f32) (arg14 : Memref sig .tc .vmem S256x2048 .f32) (arg15 : Memref sig .tc .vmem S256x2048 .fp8e4m3) (arg16 : Memref sig .tc .vmem S256x1 .f32) (arg17 : Memref sig .tc .vmem S256x2048 .fp8e4m3) (arg18 : Memref sig .tc .vmem S256x1 .f32) : Prop where
  l1 : Ld (c : Thread nD τ) R arg1
  l2 : Ld (c : Thread nD τ) R arg2
  l3 : Ld (c : Thread nD τ) R arg3
  l4 : Ld (c : Thread nD τ) R arg4
  l5 : Ld (c : Thread nD τ) R arg5
  l6 : Ld (c : Thread nD τ) R arg6
  l7 : Ld (c : Thread nD τ) R arg7
  l8 : Ld (c : Thread nD τ) R arg8
  l9 : Ld (c : Thread nD τ) R arg9
  l10 : St (c : Thread nD τ) R arg10
  l11 : St (c : Thread nD τ) R arg11
  l12 : St (c : Thread nD τ) R arg12
  l13 : St (c : Thread nD τ) R arg13
  l14 : St (c : Thread nD τ) R arg14
  l15 : St (c : Thread nD τ) R arg15
  l16 : St (c : Thread nD τ) R arg16
  l17 : St (c : Thread nD τ) R arg17
  l18 : St (c : Thread nD τ) R arg18

end Cert.ScanIdeal.Own

end
-- ==== Proof.ScanIdeal.Bufs.lean ====
/- The second kernel's buffers: the inputs at given arrays, the others at any. -/
module

public import proofs.«01_k».proof.Proof.ScanIdeal.Holds

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

/-- The inputs' buffers at `X1`, …, `X9`, the outputs' and the scratch at any contents. -/
def Bufs (c : Dev nD) (arg1 : Memref sig .tc .vmem S256x2048 .f32) (arg2 : Memref sig .tc .vmem S256x2560 .f32) (arg3 : Memref sig .tc .vmem S256x16 .f32) (arg4 : Memref sig .tc .vmem S1x128 .f32) (arg5 : Memref sig .tc .vmem S1x2048 .f32) (arg6 : Memref sig .tc .vmem S1x2048 .f32) (arg7 : Memref sig .tc .vmem S2048x8192 .fp8e4m3) (arg8 : Memref sig .tc .vmem S1x8192 .f32) (arg9 : Memref sig .tc .vmem S256x8192 .bf16) (arg10 : Memref sig .tc .vmem S256x8192 .bf16) (arg11 : Memref sig .tc .vmem S256x2048 .fp8e4m3) (arg12 : Memref sig .tc .vmem S256x1 .f32) (arg13 : Memref sig .tc .vmem S2x128x1024 .f32) (arg14 : Memref sig .tc .vmem S256x2048 .f32) (arg15 : Memref sig .tc .vmem S256x2048 .fp8e4m3) (arg16 : Memref sig .tc .vmem S256x1 .f32) (arg17 : Memref sig .tc .vmem S256x2048 .fp8e4m3) (arg18 : Memref sig .tc .vmem S256x1 .f32) (X1 : Vec F S256x2048 .f32) (X2 : Vec F S256x2560 .f32) (X3 : Vec F S256x16 .f32) (X4 : Vec F S1x128 .f32) (X5 : Vec F S1x2048 .f32) (X6 : Vec F S1x2048 .f32) (X7 : Vec F S2048x8192 .fp8e4m3) (X8 : Vec F S1x8192 .f32) (X9 : Vec F S256x8192 .bf16) : sProp 𝕄 :=
  iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare X8 ∗ owns (c : Thread nD τ) arg9 fullShare X9 ∗ (∃ X : Vec F S256x8192 .bf16, owns (c : Thread nD τ) arg10 fullShare X) ∗ (∃ X : Vec F S256x2048 .fp8e4m3, owns (c : Thread nD τ) arg11 fullShare X) ∗ (∃ X : Vec F S256x1 .f32, owns (c : Thread nD τ) arg12 fullShare X) ∗ (∃ X : Vec F S2x128x1024 .f32, owns (c : Thread nD τ) arg13 fullShare X) ∗ (∃ X : Vec F S256x2048 .f32, owns (c : Thread nD τ) arg14 fullShare X) ∗ (∃ X : Vec F S256x2048 .fp8e4m3, owns (c : Thread nD τ) arg15 fullShare X) ∗ (∃ X : Vec F S256x1 .f32, owns (c : Thread nD τ) arg16 fullShare X) ∗ (∃ X : Vec F S256x2048 .fp8e4m3, owns (c : Thread nD τ) arg17 fullShare X) ∗ (∃ X : Vec F S256x1 .f32, owns (c : Thread nD τ) arg18 fullShare X))

variable {c : Dev nD} {arg1 : Memref sig .tc .vmem S256x2048 .f32} {arg2 : Memref sig .tc .vmem S256x2560 .f32} {arg3 : Memref sig .tc .vmem S256x16 .f32} {arg4 : Memref sig .tc .vmem S1x128 .f32} {arg5 : Memref sig .tc .vmem S1x2048 .f32} {arg6 : Memref sig .tc .vmem S1x2048 .f32} {arg7 : Memref sig .tc .vmem S2048x8192 .fp8e4m3} {arg8 : Memref sig .tc .vmem S1x8192 .f32} {arg9 : Memref sig .tc .vmem S256x8192 .bf16} {arg10 : Memref sig .tc .vmem S256x8192 .bf16} {arg11 : Memref sig .tc .vmem S256x2048 .fp8e4m3} {arg12 : Memref sig .tc .vmem S256x1 .f32} {arg13 : Memref sig .tc .vmem S2x128x1024 .f32} {arg14 : Memref sig .tc .vmem S256x2048 .f32} {arg15 : Memref sig .tc .vmem S256x2048 .fp8e4m3} {arg16 : Memref sig .tc .vmem S256x1 .f32} {arg17 : Memref sig .tc .vmem S256x2048 .fp8e4m3} {arg18 : Memref sig .tc .vmem S256x1 .f32} {X1 : Vec F S256x2048 .f32} {X2 : Vec F S256x2560 .f32} {X3 : Vec F S256x16 .f32} {X4 : Vec F S1x128 .f32} {X5 : Vec F S1x2048 .f32} {X6 : Vec F S1x2048 .f32} {X7 : Vec F S2048x8192 .fp8e4m3} {X8 : Vec F S1x8192 .f32} {X9 : Vec F S256x8192 .bf16}

theorem bufs_holds : Holds c (Bufs c arg1 arg2 arg3 arg4 arg5 arg6 arg7 arg8 arg9 arg10 arg11 arg12 arg13 arg14 arg15 arg16 arg17 arg18 X1 X2 X3 X4 X5 X6 X7 X8 X9) arg1 arg2 arg3 arg4 arg5 arg6 arg7 arg8 arg9 arg10 arg11 arg12 arg13 arg14 arg15 arg16 arg17 arg18 :=
  ⟨ld_here,
    ld_there ld_here,
    ld_there (ld_there ld_here),
    ld_there (ld_there (ld_there ld_here)),
    ld_there (ld_there (ld_there (ld_there ld_here))),
    ld_there (ld_there (ld_there (ld_there (ld_there ld_here)))),
    ld_there (ld_there (ld_there (ld_there (ld_there (ld_there ld_here))))),
    ld_there (ld_there (ld_there (ld_there (ld_there (ld_there (ld_there ld_here)))))),
    ld_there (ld_there (ld_there (ld_there (ld_there (ld_there (ld_there (ld_there ld_here))))))),
    st_there (st_there (st_there (st_there (st_there (st_there (st_there (st_there (st_there st_here)))))))),
    st_there (st_there (st_there (st_there (st_there (st_there (st_there (st_there (st_there (st_there st_here))))))))),
    st_there (st_there (st_there (st_there (st_there (st_there (st_there (st_there (st_there (st_there (st_there st_here)))))))))),
    st_there (st_there (st_there (st_there (st_there (st_there (st_there (st_there (st_there (st_there (st_there (st_there st_here))))))))))),
    st_there (st_there (st_there (st_there (st_there (st_there (st_there (st_there (st_there (st_there (st_there (st_there (st_there st_here)))))))))))),
    st_there (st_there (st_there (st_there (st_there (st_there (st_there (st_there (st_there (st_there (st_there (st_there (st_there (st_there st_here))))))))))))),
    st_there (st_there (st_there (st_there (st_there (st_there (st_there (st_there (st_there (st_there (st_there (st_there (st_there (st_there (st_there st_here)))))))))))))),
    st_there (st_there (st_there (st_there (st_there (st_there (st_there (st_there (st_there (st_there (st_there (st_there (st_there (st_there (st_there (st_there st_here))))))))))))))),
    st_there (st_there (st_there (st_there (st_there (st_there (st_there (st_there (st_there (st_there (st_there (st_there (st_there (st_there (st_there (st_there (st_there st_last))))))))))))))))⟩

end Cert.ScanIdeal.Own

end
-- ==== Proof.ScanIdeal.PartsA.lean ====
/- Parts of the second kernel's body: each runs with the body's buffers and gives them back. -/
module

public import proofs.«01_k».proof.Proof.ScanIdeal.Holds

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part1_safe :
    Safe (defs₀ (F := F)) 𝒱 (c : Thread nD τ) bd Set.univ R (k0_part1 i _ harg1 _ harg2 _ harg3 _ harg4 _ harg5 _ harg6 _ harg7 _ harg8 _ harg9 _ harg10 _ harg11 _ harg12 _ harg13 _ harg14 _ harg15 _ harg16 _ harg17 _ harg18) := by
  rw [k0_part1_eq_skeleton]
  unfold k0_part1_skel
  refine ld_bind h.l17.ld fun _ => ?_
  refine ld_bind h.l15.ld fun _ => ?_
  refine st_bind h.l15 fun _ => ?_
  refine ld_bind h.l18.ld fun _ => ?_
  refine ld_bind h.l16.ld fun _ => ?_
  refine st_bind h.l16 fun _ => ?_
  refine ld_bind h.l17.ld fun _ => ?_
  refine ld_bind h.l11.ld fun _ => ?_
  refine st_bind h.l11 fun _ => ?_
  refine ld_bind h.l18.ld fun _ => ?_
  refine ld_bind h.l12.ld fun _ => ?_
  refine st_bind h.l12 fun _ => ?_
  dsimp only
  refine safe_dite (fun _ => ?_) fun _ => ?_
  · refine ld_bind h.l13.ld fun _ => ?_
    refine st_bind h.l13 fun _ => ?_
    refine ld_bind h.l16.ld fun _ => ?_
    exact safe_pure _
  · refine ld_bind h.l16.ld fun _ => ?_
    exact safe_pure _

theorem k0_part2_safe (v25 : Vec F S256x1 .f32) :
    Safe (defs₀ (F := F)) 𝒱 (c : Thread nD τ) bd Set.univ R (k0_part2 i _ harg1 _ harg2 _ harg3 _ harg4 _ harg5 _ harg6 _ harg7 _ harg8 _ harg9 _ harg10 _ harg11 _ harg12 _ harg13 _ harg14 _ harg15 _ harg16 _ harg17 _ harg18 v25) := by
  rw [k0_part2_eq_skeleton]
  unfold k0_part2_skel
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  exact safe_pure _

theorem k0_part3_safe (v25 : Vec F S256x1 .f32) (v58 : FVec F S256x512 .f32) :
    Safe (defs₀ (F := F)) 𝒱 (c : Thread nD τ) bd Set.univ R (k0_part3 i _ harg1 _ harg2 _ harg3 _ harg4 _ harg5 _ harg6 _ harg7 _ harg8 _ harg9 _ harg10 _ harg11 _ harg12 _ harg13 _ harg14 _ harg15 _ harg16 _ harg17 _ harg18 v25 v58) := by
  rw [k0_part3_eq_skeleton]
  unfold k0_part3_skel
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  exact safe_pure _

theorem k0_part4_safe (v25 : Vec F S256x1 .f32) (v88 : FVec F S256x512 .f32) (v91 : FVec F S256x512 .f32) (v92 : FVec F S256x512 .f32) :
    Safe (defs₀ (F := F)) 𝒱 (c : Thread nD τ) bd Set.univ R (k0_part4 i _ harg1 _ harg2 _ harg3 _ harg4 _ harg5 _ harg6 _ harg7 _ harg8 _ harg9 _ harg10 _ harg11 _ harg12 _ harg13 _ harg14 _ harg15 _ harg16 _ harg17 _ harg18 v25 v88 v91 v92) := by
  rw [k0_part4_eq_skeleton]
  unfold k0_part4_skel
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  exact safe_pure _

theorem k0_part5_safe (v25 : Vec F S256x1 .f32) (v121 : FVec F S256x512 .f32) (v123 : FVec F S256x512 .f32) (v126 : FVec F S256x512 .f32) :
    Safe (defs₀ (F := F)) 𝒱 (c : Thread nD τ) bd Set.univ R (k0_part5 i _ harg1 _ harg2 _ harg3 _ harg4 _ harg5 _ harg6 _ harg7 _ harg8 _ harg9 _ harg10 _ harg11 _ harg12 _ harg13 _ harg14 _ harg15 _ harg16 _ harg17 _ harg18 v25 v121 v123 v126) := by
  rw [k0_part5_eq_skeleton]
  unfold k0_part5_skel
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  exact safe_pure _

theorem k0_part6_safe (v25 : Vec F S256x1 .f32) (v159 : FVec F S256x512 .bf16) :
    Safe (defs₀ (F := F)) 𝒱 (c : Thread nD τ) bd Set.univ R (k0_part6 i _ harg1 _ harg2 _ harg3 _ harg4 _ harg5 _ harg6 _ harg7 _ harg8 _ harg9 _ harg10 _ harg11 _ harg12 _ harg13 _ harg14 _ harg15 _ harg16 _ harg17 _ harg18 v25 v159) := by
  rw [k0_part6_eq_skeleton]
  unfold k0_part6_skel
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  exact safe_pure _

theorem k0_part7_safe (v25 : Vec F S256x1 .f32) (v191 : Vec F S256x2048 .fp8e4m3) :
    Safe (defs₀ (F := F)) 𝒱 (c : Thread nD τ) bd Set.univ R (k0_part7 i _ harg1 _ harg2 _ harg3 _ harg4 _ harg5 _ harg6 _ harg7 _ harg8 _ harg9 _ harg10 _ harg11 _ harg12 _ harg13 _ harg14 _ harg15 _ harg16 _ harg17 _ harg18 v25 v191) := by
  rw [k0_part7_eq_skeleton]
  unfold k0_part7_skel
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  exact safe_pure _

theorem k0_part8_safe (v25 : Vec F S256x1 .f32) (v223 : FVec F S256x512 .f32) (v224 : Vec F S256x512 .bf16) :
    Safe (defs₀ (F := F)) 𝒱 (c : Thread nD τ) bd Set.univ R (k0_part8 i _ harg1 _ harg2 _ harg3 _ harg4 _ harg5 _ harg6 _ harg7 _ harg8 _ harg9 _ harg10 _ harg11 _ harg12 _ harg13 _ harg14 _ harg15 _ harg16 _ harg17 _ harg18 v25 v223 v224) := by
  rw [k0_part8_eq_skeleton]
  unfold k0_part8_skel
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  refine ld_bind h.l8 fun _ => ?_
  refine ld_bind h.l10.ld fun _ => ?_
  refine st_bind h.l10 fun _ => ?_
  refine ld_bind h.l15.ld fun _ => ?_
  refine ld_bind h.l7 fun _ => ?_
  refine ld_bind h.l9 fun _ => ?_
  exact safe_pure _

theorem k0_part9_safe (v256 : FVec F S256x512 .f32) (v258 : FVec F S256x512 .f32) :
    Safe (defs₀ (F := F)) 𝒱 (c : Thread nD τ) bd Set.univ R (k0_part9 i _ harg1 _ harg2 _ harg3 _ harg4 _ harg5 _ harg6 _ harg7 _ harg8 _ harg9 _ harg10 _ harg11 _ harg12 _ harg13 _ harg14 _ harg15 _ harg16 _ harg17 _ harg18 v256 v258) := by
  rw [k0_part9_eq_skeleton]
  unfold k0_part9_skel
  refine ld_bind h.l8 fun _ => ?_
  refine ld_bind h.l10.ld fun _ => ?_
  refine st_bind h.l10 fun _ => ?_
  refine ld_bind h.l4 fun _ => ?_
  refine ld_bind h.l3 fun _ => ?_
  exact safe_pure _

theorem k0_part10_safe (v273 : FVec F S128x128 .f32) (v276 : IVec S128x128 32) (v294 : FVec F S128x128 .f32) (v296 : IVec S128x128 1) (v297 : FVec F S128x128 .f32) (cst_197 : F .f32) :
    Safe (defs₀ (F := F)) 𝒱 (c : Thread nD τ) bd Set.univ R (k0_part10 i _ harg1 _ harg2 _ harg3 _ harg4 _ harg5 _ harg6 _ harg7 _ harg8 _ harg9 _ harg10 _ harg11 _ harg12 _ harg13 _ harg14 _ harg15 _ harg16 _ harg17 _ harg18 v273 v276 v294 v296 v297 cst_197) := by
  rw [k0_part10_eq_skeleton]
  unfold k0_part10_skel
  refine ld_bind h.l2 fun _ => ?_
  refine ld_bind h.l2 fun _ => ?_
  refine ld_bind h.l13.ld fun _ => ?_
  exact safe_pure _

theorem k0_part11_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v331 : FVec F S128x1 .f32) (v332 : FVec F S1x128 .f32) (v333 : FVec F S1x128 .f32) (v334 : FVec F S1x1 .f32) (v337 : FVec F S128x128 .f32) (v338 : FVec F S128x128 .f32) :
    Safe (defs₀ (F := F)) 𝒱 (c : Thread nD τ) bd Set.univ R (k0_part11 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v331 v332 v333 v334 v337 v338) := by
  rw [k0_part11_eq_skeleton]
  unfold k0_part11_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  exact safe_pure _

theorem k0_part12_safe (v323 : IVec S128x128 1) (v326 : FVec F S128x128 .f32) (v327 : FVec F S128x128 .f32) (v330 : FVec F S128x1024 .f32) (v377 : FVec F S128x1 .f32) (v378 : FVec F S1x128 .f32) (v379 : FVec F S1x128 .f32) (v380 : FVec F S1x1 .f32) :
    Safe (defs₀ (F := F)) 𝒱 (c : Thread nD τ) bd Set.univ R (k0_part12 i _ harg1 _ harg2 _ harg3 _ harg4 _ harg5 _ harg6 _ harg7 _ harg8 _ harg9 _ harg10 _ harg11 _ harg12 _ harg13 _ harg14 _ harg15 _ harg16 _ harg17 _ harg18 v323 v326 v327 v330 v377 v378 v379 v380) := by
  rw [k0_part12_eq_skeleton]
  unfold k0_part12_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  exact safe_pure _

theorem k0_part13_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v422 : FVec F S1x128x128 .f32) :
    Safe (defs₀ (F := F)) 𝒱 (c : Thread nD τ) bd Set.univ R (k0_part13 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v422) := by
  rw [k0_part13_eq_skeleton]
  unfold k0_part13_skel
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part14_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v465 : FVec F S128x128 .f32) :
    Safe (defs₀ (F := F)) 𝒱 (c : Thread nD τ) bd Set.univ R (k0_part14 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v465) := by
  rw [k0_part14_eq_skeleton]
  unfold k0_part14_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part15_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v482 : Vec F S128x128 .f32) (v504 : FVec F S128x128 .f32) (v506 : FVec F S128x128 .f32) (v508 : FVec F S128x128 .f32) :
    Safe (defs₀ (F := F)) 𝒱 (c : Thread nD τ) bd Set.univ R (k0_part15 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v482 v504 v506 v508) := by
  rw [k0_part15_eq_skeleton]
  unfold k0_part15_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part16_safe (v318 : FVec F S128x128 .f32) (v319 : FVec F S128x128 .f32) (v320 : FVec F S128x128 .f32) (v323 : IVec S128x128 1) (v327 : FVec F S128x128 .f32) (v330 : FVec F S128x1024 .f32) (v518 : FVec F S1x1 .f32) (v528 : Vec F S128x128 .f32) (v550 : FVec F S128x128 .f32) :
    Safe (defs₀ (F := F)) 𝒱 (c : Thread nD τ) bd Set.univ R (k0_part16 i _ harg1 _ harg2 _ harg3 _ harg4 _ harg5 _ harg6 _ harg7 _ harg8 _ harg9 _ harg10 _ harg11 _ harg12 _ harg13 _ harg14 _ harg15 _ harg16 _ harg17 _ harg18 v318 v319 v320 v323 v327 v330 v518 v528 v550) := by
  rw [k0_part16_eq_skeleton]
  unfold k0_part16_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part17_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v563 : FVec F S1x128 .f32) (v564 : FVec F S1x1 .f32) (v574 : Vec F S128x128 .f32) (v593 : FVec F S1x128 .f32) :
    Safe (defs₀ (F := F)) 𝒱 (c : Thread nD τ) bd Set.univ R (k0_part17 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v563 v564 v574 v593) := by
  rw [k0_part17_eq_skeleton]
  unfold k0_part17_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part18_safe (v318 : FVec F S128x128 .f32) (v319 : FVec F S128x128 .f32) (v320 : FVec F S128x128 .f32) (v323 : IVec S128x128 1) (v326 : FVec F S128x128 .f32) (v327 : FVec F S128x128 .f32) (v330 : FVec F S128x1024 .f32) (v608 : FVec F S1x128 .f32) (v609 : FVec F S1x128 .f32) (v610 : FVec F S1x1 .f32) (v620 : Vec F S128x128 .f32) (v633 : FVec F S128x128 .f32) :
    Safe (defs₀ (F := F)) 𝒱 (c : Thread nD τ) bd Set.univ R (k0_part18 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v327 v330 v608 v609 v610 v620 v633) := by
  rw [k0_part18_eq_skeleton]
  unfold k0_part18_skel
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  exact safe_pure _

theorem k0_part19_safe (v318 : FVec F S128x128 .f32) (v319 : FVec F S128x128 .f32) (v320 : FVec F S128x128 .f32) (v323 : IVec S128x128 1) (v326 : FVec F S128x128 .f32) (v654 : FVec F S1x128 .f32) (v655 : FVec F S1x128 .f32) (v656 : FVec F S1x1 .f32) (v666 : Vec F S128x128 .f32) (v677 : FVec F S128x128 .f32) (v678 : Vec F S128x128 .f32) :
    Safe (defs₀ (F := F)) 𝒱 (c : Thread nD τ) bd Set.univ R (k0_part19 i _ harg1 _ harg2 _ harg3 _ harg4 _ harg5 _ harg6 _ harg7 _ harg8 _ harg9 _ harg10 _ harg11 _ harg12 _ harg13 _ harg14 _ harg15 _ harg16 _ harg17 _ harg18 v318 v319 v320 v323 v326 v654 v655 v656 v666 v677 v678) := by
  rw [k0_part19_eq_skeleton]
  unfold k0_part19_skel
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l2 fun _ => ?_
  refine ld_bind h.l13.ld fun _ => ?_
  exact safe_pure _

theorem k0_part20_safe (v318 : FVec F S128x128 .f32) (v319 : FVec F S128x128 .f32) (v320 : FVec F S128x128 .f32) (v701 : FVec F S128x128 .f32) (v705 : FVec F S128x1024 .f32) (v706 : FVec F S128x1 .f32) (v707 : FVec F S1x128 .f32) (v708 : FVec F S1x128 .f32) (v709 : FVec F S1x1 .f32) (v716 : FVec F S128x128 .f32) (v717 : FVec F S128x128 .f32) :
    Safe (defs₀ (F := F)) 𝒱 (c : Thread nD τ) bd Set.univ R (k0_part20 i _ harg1 _ harg2 _ harg3 _ harg4 _ harg5 _ harg6 _ harg7 _ harg8 _ harg9 _ harg10 _ harg11 _ harg12 _ harg13 _ harg14 _ harg15 _ harg16 _ harg17 _ harg18 v318 v319 v320 v701 v705 v706 v707 v708 v709 v716 v717) := by
  rw [k0_part20_eq_skeleton]
  unfold k0_part20_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  exact safe_pure _

end

end Cert.ScanIdeal.Own

end
-- ==== Proof.ScanIdeal.PartsB.lean ====
/- Parts of the second kernel's body: each runs with the body's buffers and gives them back. -/
module

public import proofs.«01_k».proof.Proof.ScanIdeal.Holds

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part21_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v752 : FVec F S128x1 .f32) (v753 : FVec F S1x128 .f32) (v754 : FVec F S1x128 .f32) (v755 : FVec F S1x1 .f32) (v758 : FVec F S128x128 .f32) (cst_365 : F .f32) :
    Safe (defs₀ (F := F)) 𝒱 (c : Thread nD τ) bd Set.univ R (k0_part21 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v752 v753 v754 v755 v758 cst_365) := by
  rw [k0_part21_eq_skeleton]
  unfold k0_part21_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  exact safe_pure _

theorem k0_part22_safe (v318 : FVec F S128x128 .f32) (v323 : IVec S128x128 1) (v701 : FVec F S128x128 .f32) (v702 : FVec F S128x128 .f32) (v705 : FVec F S128x1024 .f32) (v798 : FVec F S128x1 .f32) (v799 : FVec F S1x128 .f32) (v800 : FVec F S1x128 .f32) :
    Safe (defs₀ (F := F)) 𝒱 (c : Thread nD τ) bd Set.univ R (k0_part22 i _ harg1 _ harg2 _ harg3 _ harg4 _ harg5 _ harg6 _ harg7 _ harg8 _ harg9 _ harg10 _ harg11 _ harg12 _ harg13 _ harg14 _ harg15 _ harg16 _ harg17 _ harg18 v318 v323 v701 v702 v705 v798 v799 v800) := by
  rw [k0_part22_eq_skeleton]
  unfold k0_part22_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  exact safe_pure _

theorem k0_part23_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v840 : FVec F S128x128 .f32) :
    Safe (defs₀ (F := F)) 𝒱 (c : Thread nD τ) bd Set.univ R (k0_part23 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v840) := by
  rw [k0_part23_eq_skeleton]
  unfold k0_part23_skel
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part24_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v886 : FVec F S128x128 .f32) :
    Safe (defs₀ (F := F)) 𝒱 (c : Thread nD τ) bd Set.univ R (k0_part24 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v886) := by
  rw [k0_part24_eq_skeleton]
  unfold k0_part24_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part25_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v903 : Vec F S128x128 .f32) (v925 : FVec F S128x128 .f32) (v927 : FVec F S128x128 .f32) (v928 : FVec F S1x1 .f32) :
    Safe (defs₀ (F := F)) 𝒱 (c : Thread nD τ) bd Set.univ R (k0_part25 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v903 v925 v927 v928) := by
  rw [k0_part25_eq_skeleton]
  unfold k0_part25_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part26_safe (v318 : FVec F S128x128 .f32) (v319 : FVec F S128x128 .f32) (v320 : FVec F S128x128 .f32) (v323 : IVec S128x128 1) (v702 : FVec F S128x128 .f32) (v705 : FVec F S128x1024 .f32) (v939 : FVec F S1x1 .f32) (v949 : Vec F S128x128 .f32) (v971 : FVec F S128x128 .f32) :
    Safe (defs₀ (F := F)) 𝒱 (c : Thread nD τ) bd Set.univ R (k0_part26 i _ harg1 _ harg2 _ harg3 _ harg4 _ harg5 _ harg6 _ harg7 _ harg8 _ harg9 _ harg10 _ harg11 _ harg12 _ harg13 _ harg14 _ harg15 _ harg16 _ harg17 _ harg18 v318 v319 v320 v323 v702 v705 v939 v949 v971) := by
  rw [k0_part26_eq_skeleton]
  unfold k0_part26_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part27_safe (v318 : FVec F S128x128 .f32) (v319 : FVec F S128x128 .f32) (v320 : FVec F S128x128 .f32) (v323 : IVec S128x128 1) (v701 : FVec F S128x128 .f32) (v702 : FVec F S128x128 .f32) (v705 : FVec F S128x1024 .f32) (v984 : FVec F S1x128 .f32) (v985 : FVec F S1x1 .f32) (v995 : Vec F S128x128 .f32) (v1013 : FVec F S1x128 .f32) :
    Safe (defs₀ (F := F)) 𝒱 (c : Thread nD τ) bd Set.univ R (k0_part27 i _ harg1 _ harg2 _ harg3 _ harg4 _ harg5 _ harg6 _ harg7 _ harg8 _ harg9 _ harg10 _ harg11 _ harg12 _ harg13 _ harg14 _ harg15 _ harg16 _ harg17 _ harg18 v318 v319 v320 v323 v701 v702 v705 v984 v985 v995 v1013) := by
  rw [k0_part27_eq_skeleton]
  unfold k0_part27_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part28_safe (v270 : FVec F S1x128 .f32) (v701 : FVec F S128x128 .f32) (v1029 : FVec F S1x128 .f32) (v1030 : FVec F S1x128 .f32) (v1031 : FVec F S1x1 .f32) (v1041 : Vec F S128x128 .f32) (v1054 : FVec F S128x128 .f32) (v1055 : Vec F S128x128 .f32) :
    Safe (defs₀ (F := F)) 𝒱 (c : Thread nD τ) bd Set.univ R (k0_part28 i _ harg1 _ harg2 _ harg3 _ harg4 _ harg5 _ harg6 _ harg7 _ harg8 _ harg9 _ harg10 _ harg11 _ harg12 _ harg13 _ harg14 _ harg15 _ harg16 _ harg17 _ harg18 v270 v701 v1029 v1030 v1031 v1041 v1054 v1055) := by
  rw [k0_part28_eq_skeleton]
  unfold k0_part28_skel
  refine st_bind h.l14 fun _ => ?_
  refine ld_bind h.l13.ld fun _ => ?_
  refine ld_bind h.l13.ld fun _ => ?_
  refine st_bind h.l13 fun _ => ?_
  refine ld_bind h.l3 fun _ => ?_
  exact safe_pure _

theorem k0_part29_safe (v1076 : FVec F S128x128 .f32) (v1079 : IVec S128x128 32) (v1091 : FVec F S128x128 .f32) (v1093 : IVec S128x128 1) (v1094 : FVec F S128x128 .f32) (cst_489 : F .f32) :
    Safe (defs₀ (F := F)) 𝒱 (c : Thread nD τ) bd Set.univ R (k0_part29 i _ harg1 _ harg2 _ harg3 _ harg4 _ harg5 _ harg6 _ harg7 _ harg8 _ harg9 _ harg10 _ harg11 _ harg12 _ harg13 _ harg14 _ harg15 _ harg16 _ harg17 _ harg18 v1076 v1079 v1091 v1093 v1094 cst_489) := by
  rw [k0_part29_eq_skeleton]
  unfold k0_part29_skel
  refine ld_bind h.l2 fun _ => ?_
  refine ld_bind h.l2 fun _ => ?_
  refine ld_bind h.l13.ld fun _ => ?_
  exact safe_pure _

theorem k0_part30_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) :
    Safe (defs₀ (F := F)) 𝒱 (c : Thread nD τ) bd Set.univ R (k0_part30 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133) := by
  rw [k0_part30_eq_skeleton]
  unfold k0_part30_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part31_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1176 : FVec F S128x128 .f32) :
    Safe (defs₀ (F := F)) 𝒱 (c : Thread nD τ) bd Set.univ R (k0_part31 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1176) := by
  rw [k0_part31_eq_skeleton]
  unfold k0_part31_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part32_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1193 : Vec F S128x128 .f32) (v1215 : FVec F S128x128 .f32) (v1220 : FVec F S128x128 .f32) :
    Safe (defs₀ (F := F)) 𝒱 (c : Thread nD τ) bd Set.univ R (k0_part32 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1193 v1215 v1220) := by
  rw [k0_part32_eq_skeleton]
  unfold k0_part32_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part33_safe (v1121 : FVec F S128x128 .f32) (v1122 : FVec F S128x128 .f32) (v1123 : FVec F S128x128 .f32) (v1126 : IVec S128x128 1) (v1130 : FVec F S128x128 .f32) (v1133 : FVec F S128x1024 .f32) (v1229 : FVec F S1x1 .f32) (v1239 : Vec F S128x128 .f32) (v1261 : FVec F S128x128 .f32) :
    Safe (defs₀ (F := F)) 𝒱 (c : Thread nD τ) bd Set.univ R (k0_part33 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1130 v1133 v1229 v1239 v1261) := by
  rw [k0_part33_eq_skeleton]
  unfold k0_part33_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part34_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1275 : FVec F S1x1 .f32) (v1285 : Vec F S128x128 .f32) (v1305 : FVec F S1x128 .f32) :
    Safe (defs₀ (F := F)) 𝒱 (c : Thread nD τ) bd Set.univ R (k0_part34 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1275 v1285 v1305) := by
  rw [k0_part34_eq_skeleton]
  unfold k0_part34_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part35_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1319 : FVec F S1x128 .f32) (v1320 : FVec F S1x128 .f32) (v1321 : FVec F S1x1 .f32) (v1331 : Vec F S128x128 .f32) (v1347 : FVec F S128x128 .f32) :
    Safe (defs₀ (F := F)) 𝒱 (c : Thread nD τ) bd Set.univ R (k0_part35 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1319 v1320 v1321 v1331 v1347) := by
  rw [k0_part35_eq_skeleton]
  unfold k0_part35_skel
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  exact safe_pure _

theorem k0_part36_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1365 : FVec F S1x128 .f32) (v1366 : FVec F S1x128 .f32) (v1367 : FVec F S1x1 .f32) (v1377 : Vec F S128x128 .f32) (v1390 : FVec F S128x128 .f32) :
    Safe (defs₀ (F := F)) 𝒱 (c : Thread nD τ) bd Set.univ R (k0_part36 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1365 v1366 v1367 v1377 v1390) := by
  rw [k0_part36_eq_skeleton]
  unfold k0_part36_skel
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  exact safe_pure _

theorem k0_part37_safe (v1121 : FVec F S128x128 .f32) (v1122 : FVec F S128x128 .f32) (v1123 : FVec F S128x128 .f32) (v1126 : IVec S128x128 1) (v1129 : FVec F S128x128 .f32) (v1130 : FVec F S128x128 .f32) (v1133 : FVec F S128x1024 .f32) (v1411 : FVec F S1x128 .f32) (v1412 : FVec F S1x128 .f32) (v1413 : FVec F S1x1 .f32) (v1423 : Vec F S128x128 .f32) (v1429 : FVec F S128x128 .f32) (v1433 : FVec F S128x128 .f32) :
    Safe (defs₀ (F := F)) 𝒱 (c : Thread nD τ) bd Set.univ R (k0_part37 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1129 v1130 v1133 v1411 v1412 v1413 v1423 v1429 v1433) := by
  rw [k0_part37_eq_skeleton]
  unfold k0_part37_skel
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  exact safe_pure _

theorem k0_part38_safe (v1121 : FVec F S128x128 .f32) (v1122 : FVec F S128x128 .f32) (v1123 : FVec F S128x128 .f32) (v1129 : FVec F S128x128 .f32) (v1457 : FVec F S1x128 .f32) (v1458 : FVec F S1x128 .f32) (v1459 : FVec F S1x1 .f32) (v1469 : Vec F S128x128 .f32) (v1475 : FVec F S128x128 .f32) :
    Safe (defs₀ (F := F)) 𝒱 (c : Thread nD τ) bd Set.univ R (k0_part38 i _ harg1 _ harg2 _ harg3 _ harg4 _ harg5 _ harg6 _ harg7 _ harg8 _ harg9 _ harg10 _ harg11 _ harg12 _ harg13 _ harg14 _ harg15 _ harg16 _ harg17 _ harg18 v1121 v1122 v1123 v1129 v1457 v1458 v1459 v1469 v1475) := by
  rw [k0_part38_eq_skeleton]
  unfold k0_part38_skel
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l2 fun _ => ?_
  refine ld_bind h.l13.ld fun _ => ?_
  exact safe_pure _

theorem k0_part39_safe (v1126 : IVec S128x128 1) (v1504 : FVec F S128x128 .f32) (v1505 : FVec F S128x128 .f32) (v1508 : FVec F S128x1024 .f32) (v1509 : FVec F S128x1 .f32) (v1510 : FVec F S1x128 .f32) (v1511 : FVec F S1x128 .f32) (v1512 : FVec F S1x1 .f32) :
    Safe (defs₀ (F := F)) 𝒱 (c : Thread nD τ) bd Set.univ R (k0_part39 i _ harg1 _ harg2 _ harg3 _ harg4 _ harg5 _ harg6 _ harg7 _ harg8 _ harg9 _ harg10 _ harg11 _ harg12 _ harg13 _ harg14 _ harg15 _ harg16 _ harg17 _ harg18 v1126 v1504 v1505 v1508 v1509 v1510 v1511 v1512) := by
  rw [k0_part39_eq_skeleton]
  unfold k0_part39_skel
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  refine ld_bind h.l13.ld fun _ => ?_
  exact safe_pure _

theorem k0_part40_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1554 : FVec F S1x128x128 .f32) :
    Safe (defs₀ (F := F)) 𝒱 (c : Thread nD τ) bd Set.univ R (k0_part40 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1554) := by
  rw [k0_part40_eq_skeleton]
  unfold k0_part40_skel
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

end

end Cert.ScanIdeal.Own

end
-- ==== Proof.ScanIdeal.PartsC.lean ====
/- Parts of the second kernel's body: each runs with the body's buffers and gives them back. -/
module

public import proofs.«01_k».proof.Proof.ScanIdeal.Holds

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part41_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1597 : FVec F S128x128 .f32) :
    Safe (defs₀ (F := F)) 𝒱 (c : Thread nD τ) bd Set.univ R (k0_part41 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1597) := by
  rw [k0_part41_eq_skeleton]
  unfold k0_part41_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  refine ld_bind h.l13.ld fun _ => ?_
  exact safe_pure _

theorem k0_part42_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1614 : Vec F S128x128 .f32) (v1636 : FVec F S128x128 .f32) (v1638 : FVec F S128x128 .f32) (v1640 : FVec F S128x128 .f32) :
    Safe (defs₀ (F := F)) 𝒱 (c : Thread nD τ) bd Set.univ R (k0_part42 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1614 v1636 v1638 v1640) := by
  rw [k0_part42_eq_skeleton]
  unfold k0_part42_skel
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part43_safe (v1121 : FVec F S128x128 .f32) (v1122 : FVec F S128x128 .f32) (v1123 : FVec F S128x128 .f32) (v1126 : IVec S128x128 1) (v1505 : FVec F S128x128 .f32) (v1508 : FVec F S128x1024 .f32) (v1650 : FVec F S1x1 .f32) (v1660 : Vec F S128x128 .f32) (v1682 : FVec F S128x128 .f32) :
    Safe (defs₀ (F := F)) 𝒱 (c : Thread nD τ) bd Set.univ R (k0_part43 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1505 v1508 v1650 v1660 v1682) := by
  rw [k0_part43_eq_skeleton]
  unfold k0_part43_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  refine st_bind h.l14 fun _ => ?_
  exact safe_pure _

theorem k0_part44_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1695 : FVec F S1x128 .f32) (v1696 : FVec F S1x1 .f32) (v1706 : Vec F S128x128 .f32) (v1725 : FVec F S1x128 .f32) :
    Safe (defs₀ (F := F)) 𝒱 (c : Thread nD τ) bd Set.univ R (k0_part44 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1695 v1696 v1706 v1725) := by
  rw [k0_part44_eq_skeleton]
  unfold k0_part44_skel
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  refine ld_bind h.l14.ld fun _ => ?_
  exact safe_pure _

theorem k0_part45_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1740 : FVec F S1x128 .f32) (v1741 : FVec F S1x128 .f32) (v1742 : FVec F S1x1 .f32) (v1752 : Vec F S128x128 .f32) (v1765 : FVec F S128x128 .f32) :
    Safe (defs₀ (F := F)) 𝒱 (c : Thread nD τ) bd Set.univ R (k0_part45 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1740 v1741 v1742 v1752 v1765) := by
  rw [k0_part45_eq_skeleton]
  unfold k0_part45_skel
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  refine ld_bind h.l1 fun _ => ?_
  exact safe_pure _

theorem k0_part46_safe (v1121 : FVec F S128x128 .f32) (v1122 : FVec F S128x128 .f32) (v1123 : FVec F S128x128 .f32) (v1126 : IVec S128x128 1) (v1504 : FVec F S128x128 .f32) (v1505 : FVec F S128x128 .f32) (v1508 : FVec F S128x1024 .f32) (v1786 : FVec F S1x128 .f32) (v1787 : FVec F S1x128 .f32) (v1788 : FVec F S1x1 .f32) (v1798 : Vec F S128x128 .f32) (v1809 : FVec F S128x128 .f32) (v1810 : Vec F S128x128 .f32) :
    Safe (defs₀ (F := F)) 𝒱 (c : Thread nD τ) bd Set.univ R (k0_part46 i _ harg1 _ harg2 _ harg3 _ harg4 _ harg5 _ harg6 _ harg7 _ harg8 _ harg9 _ harg10 _ harg11 _ harg12 _ harg13 _ harg14 _ harg15 _ harg16 _ harg17 _ harg18 v1121 v1122 v1123 v1126 v1504 v1505 v1508 v1786 v1787 v1788 v1798 v1809 v1810) := by
  rw [k0_part46_eq_skeleton]
  unfold k0_part46_skel
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l2 fun _ => ?_
  refine ld_bind h.l5 fun _ => ?_
  exact safe_pure _

theorem k0_part47_safe (v1504 : FVec F S128x128 .f32) (v1832 : FVec F S1x128 .f32) (v1833 : FVec F S1x128 .f32) (v1834 : FVec F S1x1 .f32) (v1844 : Vec F S128x128 .f32) (v1850 : FVec F S128x128 .f32) (v1853 : FVec F S128x128 .f32) :
    Safe (defs₀ (F := F)) 𝒱 (c : Thread nD τ) bd Set.univ R (k0_part47 i _ harg1 _ harg2 _ harg3 _ harg4 _ harg5 _ harg6 _ harg7 _ harg8 _ harg9 _ harg10 _ harg11 _ harg12 _ harg13 _ harg14 _ harg15 _ harg16 _ harg17 _ harg18 v1504 v1832 v1833 v1834 v1844 v1850 v1853) := by
  rw [k0_part47_eq_skeleton]
  unfold k0_part47_skel
  refine ld_bind h.l1 fun _ => ?_
  refine ld_bind h.l14.ld fun _ => ?_
  refine st_bind h.l14 fun _ => ?_
  refine ld_bind h.l13.ld fun _ => ?_
  refine ld_bind h.l13.ld fun _ => ?_
  refine st_bind h.l13 fun _ => ?_
  refine ld_bind h.l14.ld fun _ => ?_
  refine ld_bind h.l6 fun _ => ?_
  exact safe_pure _

theorem k0_part48_safe (v1877 : FVec F S32x1 .f32) (v1892 : FVec F S32x1024 .f32) :
    Safe (defs₀ (F := F)) 𝒱 (c : Thread nD τ) bd Set.univ R (k0_part48 i _ harg1 _ harg2 _ harg3 _ harg4 _ harg5 _ harg6 _ harg7 _ harg8 _ harg9 _ harg10 _ harg11 _ harg12 _ harg13 _ harg14 _ harg15 _ harg16 _ harg17 _ harg18 v1877 v1892) := by
  rw [k0_part48_eq_skeleton]
  unfold k0_part48_skel
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part49_safe (v1923 : FVec F S32x1 .f32) (v1924 : IVec S32x1 32) (v1930 : IVec S32x1 1) (v1932 : IVec S32x1 32) :
    Safe (defs₀ (F := F)) 𝒱 (c : Thread nD τ) bd Set.univ R (k0_part49 i _ harg1 _ harg2 _ harg3 _ harg4 _ harg5 _ harg6 _ harg7 _ harg8 _ harg9 _ harg10 _ harg11 _ harg12 _ harg13 _ harg14 _ harg15 _ harg16 _ harg17 _ harg18 v1923 v1924 v1930 v1932) := by
  rw [k0_part49_eq_skeleton]
  unfold k0_part49_skel
  exact safe_pure _

theorem k0_part50_safe (v1923 : FVec F S32x1 .f32) (v1969 : IVec S32x1 32) (v1975 : IVec S32x1 1) (v1977 : IVec S32x1 32) :
    Safe (defs₀ (F := F)) 𝒱 (c : Thread nD τ) bd Set.univ R (k0_part50 i _ harg1 _ harg2 _ harg3 _ harg4 _ harg5 _ harg6 _ harg7 _ harg8 _ harg9 _ harg10 _ harg11 _ harg12 _ harg13 _ harg14 _ harg15 _ harg16 _ harg17 _ harg18 v1923 v1969 v1975 v1977) := by
  rw [k0_part50_eq_skeleton]
  unfold k0_part50_skel
  refine ld_bind h.l14.ld fun _ => ?_
  exact safe_pure _

theorem k0_part51_safe (v2010 : FVec F S32x1 .f32) (v2020 : FVec F S32x2048 .f32) :
    Safe (defs₀ (F := F)) 𝒱 (c : Thread nD τ) bd Set.univ R (k0_part51 i _ harg1 _ harg2 _ harg3 _ harg4 _ harg5 _ harg6 _ harg7 _ harg8 _ harg9 _ harg10 _ harg11 _ harg12 _ harg13 _ harg14 _ harg15 _ harg16 _ harg17 _ harg18 v2010 v2020) := by
  rw [k0_part51_eq_skeleton]
  unfold k0_part51_skel
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  refine ld_bind h.l14.ld fun _ => ?_
  refine st_bind h.l14 fun _ => ?_
  refine ld_bind h.l14.ld fun _ => ?_
  exact safe_pure _

theorem k0_part52_safe (v2054 : FVec F S32x1 .f32) (v2055 : Vec F S32x1024 .f32) (v2057 : FVec F S32 .f32) :
    Safe (defs₀ (F := F)) 𝒱 (c : Thread nD τ) bd Set.univ R (k0_part52 i _ harg1 _ harg2 _ harg3 _ harg4 _ harg5 _ harg6 _ harg7 _ harg8 _ harg9 _ harg10 _ harg11 _ harg12 _ harg13 _ harg14 _ harg15 _ harg16 _ harg17 _ harg18 v2054 v2055 v2057) := by
  rw [k0_part52_eq_skeleton]
  unfold k0_part52_skel
  refine ld_bind h.l6 fun _ => ?_
  refine ld_bind h.l14.ld fun _ => ?_
  refine st_bind h.l14 fun _ => ?_
  exact safe_pure _

theorem k0_part53_safe (v2078 : FVec F S32x1 .f32) (v2097 : IVec S32x1 32) (v2099 : IVec S32x1 32) (c23_i32_880 : BitVec 32) :
    Safe (defs₀ (F := F)) 𝒱 (c : Thread nD τ) bd Set.univ R (k0_part53 i _ harg1 _ harg2 _ harg3 _ harg4 _ harg5 _ harg6 _ harg7 _ harg8 _ harg9 _ harg10 _ harg11 _ harg12 _ harg13 _ harg14 _ harg15 _ harg16 _ harg17 _ harg18 v2078 v2097 v2099 c23_i32_880) := by
  rw [k0_part53_eq_skeleton]
  unfold k0_part53_skel
  exact safe_pure _

theorem k0_part54_safe (v2078 : FVec F S32x1 .f32) (v2142 : IVec S32x1 32) (v2144 : IVec S32x1 32) (c23_i32_895 : BitVec 32) :
    Safe (defs₀ (F := F)) 𝒱 (c : Thread nD τ) bd Set.univ R (k0_part54 i _ harg1 _ harg2 _ harg3 _ harg4 _ harg5 _ harg6 _ harg7 _ harg8 _ harg9 _ harg10 _ harg11 _ harg12 _ harg13 _ harg14 _ harg15 _ harg16 _ harg17 _ harg18 v2078 v2142 v2144 c23_i32_895) := by
  rw [k0_part54_eq_skeleton]
  unfold k0_part54_skel
  refine ld_bind h.l14.ld fun _ => ?_
  refine ld_bind h.l17.ld fun _ => ?_
  refine st_bind h.l17 fun _ => ?_
  refine ld_bind h.l18.ld fun _ => ?_
  exact safe_pure _

theorem k0_part55_safe (v2165 : FVec F S32x1 .f32) :
    Safe (defs₀ (F := F)) 𝒱 (c : Thread nD τ) bd Set.univ R (k0_part55 i _ harg1 _ harg2 _ harg3 _ harg4 _ harg5 _ harg6 _ harg7 _ harg8 _ harg9 _ harg10 _ harg11 _ harg12 _ harg13 _ harg14 _ harg15 _ harg16 _ harg17 _ harg18 v2165) := by
  rw [k0_part55_eq_skeleton]
  unfold k0_part55_skel
  refine st_bind h.l18 fun _ => ?_
  refine ld_bind h.l14.ld fun _ => ?_
  refine ld_bind h.l6 fun _ => ?_
  refine ld_bind h.l14.ld fun _ => ?_
  refine st_bind h.l14 fun _ => ?_
  refine ld_bind h.l14.ld fun _ => ?_
  refine ld_bind h.l6 fun _ => ?_
  exact safe_pure _

theorem k0_part56_safe (v2209 : FVec F S32x1 .f32) (v2224 : FVec F S32x1024 .f32) :
    Safe (defs₀ (F := F)) 𝒱 (c : Thread nD τ) bd Set.univ R (k0_part56 i _ harg1 _ harg2 _ harg3 _ harg4 _ harg5 _ harg6 _ harg7 _ harg8 _ harg9 _ harg10 _ harg11 _ harg12 _ harg13 _ harg14 _ harg15 _ harg16 _ harg17 _ harg18 v2209 v2224) := by
  rw [k0_part56_eq_skeleton]
  unfold k0_part56_skel
  refine ld_bind h.l14.ld fun _ => ?_
  refine st_bind h.l14 fun _ => ?_
  exact safe_pure _

theorem k0_part57_safe (v2233 : FVec F S32x1 .f32) (v2261 : IVec S32x1 32) (v2267 : IVec S32x1 1) (c16_i32_947 : BitVec 32) :
    Safe (defs₀ (F := F)) 𝒱 (c : Thread nD τ) bd Set.univ R (k0_part57 i _ harg1 _ harg2 _ harg3 _ harg4 _ harg5 _ harg6 _ harg7 _ harg8 _ harg9 _ harg10 _ harg11 _ harg12 _ harg13 _ harg14 _ harg15 _ harg16 _ harg17 _ harg18 v2233 v2261 v2267 c16_i32_947) := by
  rw [k0_part57_eq_skeleton]
  unfold k0_part57_skel
  exact safe_pure _

theorem k0_part58_safe (v2306 : IVec S32x1 32) (v2311 : IVec S32x1 1) (v2312 : IVec S32x1 32) :
    Safe (defs₀ (F := F)) 𝒱 (c : Thread nD τ) bd Set.univ R (k0_part58 i _ harg1 _ harg2 _ harg3 _ harg4 _ harg5 _ harg6 _ harg7 _ harg8 _ harg9 _ harg10 _ harg11 _ harg12 _ harg13 _ harg14 _ harg15 _ harg16 _ harg17 _ harg18 v2306 v2311 v2312) := by
  rw [k0_part58_eq_skeleton]
  unfold k0_part58_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  exact safe_pure _

theorem k0_part59_safe (v2342 : FVec F S32x1 .f32) (v2343 : Vec F S32x1024 .f32) (v2350 : FVec F S32x1 .f32) :
    Safe (defs₀ (F := F)) 𝒱 (c : Thread nD τ) bd Set.univ R (k0_part59 i _ harg1 _ harg2 _ harg3 _ harg4 _ harg5 _ harg6 _ harg7 _ harg8 _ harg9 _ harg10 _ harg11 _ harg12 _ harg13 _ harg14 _ harg15 _ harg16 _ harg17 _ harg18 v2342 v2343 v2350) := by
  rw [k0_part59_eq_skeleton]
  unfold k0_part59_skel
  refine ld_bind h.l6 fun _ => ?_
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part60_safe (v2388 : FVec F S32x1 .f32) (v2389 : IVec S32x1 32) (v2390 : IVec S32x1 32) :
    Safe (defs₀ (F := F)) 𝒱 (c : Thread nD τ) bd Set.univ R (k0_part60 i _ harg1 _ harg2 _ harg3 _ harg4 _ harg5 _ harg6 _ harg7 _ harg8 _ harg9 _ harg10 _ harg11 _ harg12 _ harg13 _ harg14 _ harg15 _ harg16 _ harg17 _ harg18 v2388 v2389 v2390) := by
  rw [k0_part60_eq_skeleton]
  unfold k0_part60_skel
  exact safe_pure _

theorem k0_part61_safe (v2388 : FVec F S32x1 .f32) (v2434 : IVec S32x1 32) (v2435 : IVec S32x1 32) :
    Safe (defs₀ (F := F)) 𝒱 (c : Thread nD τ) bd Set.univ R (k0_part61 i _ harg1 _ harg2 _ harg3 _ harg4 _ harg5 _ harg6 _ harg7 _ harg8 _ harg9 _ harg10 _ harg11 _ harg12 _ harg13 _ harg14 _ harg15 _ harg16 _ harg17 _ harg18 v2388 v2434 v2435) := by
  rw [k0_part61_eq_skeleton]
  unfold k0_part61_skel
  exact safe_pure _

theorem k0_part62_safe (v2475 : FVec F S32x1 .f32) (v2479 : IVec S32x1 32) :
    Safe (defs₀ (F := F)) 𝒱 (c : Thread nD τ) bd Set.univ R (k0_part62 i _ harg1 _ harg2 _ harg3 _ harg4 _ harg5 _ harg6 _ harg7 _ harg8 _ harg9 _ harg10 _ harg11 _ harg12 _ harg13 _ harg14 _ harg15 _ harg16 _ harg17 _ harg18 v2475 v2479) := by
  rw [k0_part62_eq_skeleton]
  unfold k0_part62_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  refine ld_bind h.l14.ld fun _ => ?_
  refine st_bind h.l14 fun _ => ?_
  exact safe_pure _

theorem k0_part63_safe (v2497 : FVec F S32x1 .f32) (v2516 : FVec F S32x1024 .f32) :
    Safe (defs₀ (F := F)) 𝒱 (c : Thread nD τ) bd Set.univ R (k0_part63 i _ harg1 _ harg2 _ harg3 _ harg4 _ harg5 _ harg6 _ harg7 _ harg8 _ harg9 _ harg10 _ harg11 _ harg12 _ harg13 _ harg14 _ harg15 _ harg16 _ harg17 _ harg18 v2497 v2516) := by
  rw [k0_part63_eq_skeleton]
  unfold k0_part63_skel
  refine ld_bind h.l14.ld fun _ => ?_
  refine ld_bind h.l6 fun _ => ?_
  refine ld_bind h.l14.ld fun _ => ?_
  refine st_bind h.l14 fun _ => ?_
  exact safe_pure _

theorem k0_part64_safe (v2543 : FVec F S32x1 .f32) (v2553 : IVec S32x1 32) (v2558 : FVec F S32x1 .f32) :
    Safe (defs₀ (F := F)) 𝒱 (c : Thread nD τ) bd Set.univ R (k0_part64 i _ harg1 _ harg2 _ harg3 _ harg4 _ harg5 _ harg6 _ harg7 _ harg8 _ harg9 _ harg10 _ harg11 _ harg12 _ harg13 _ harg14 _ harg15 _ harg16 _ harg17 _ harg18 v2543 v2553 v2558) := by
  rw [k0_part64_eq_skeleton]
  unfold k0_part64_skel
  exact safe_pure _

theorem k0_part65_safe (v2543 : FVec F S32x1 .f32) (v2598 : IVec S32x1 32) (v2603 : FVec F S32x1 .f32) :
    Safe (defs₀ (F := F)) 𝒱 (c : Thread nD τ) bd Set.univ R (k0_part65 i _ harg1 _ harg2 _ harg3 _ harg4 _ harg5 _ harg6 _ harg7 _ harg8 _ harg9 _ harg10 _ harg11 _ harg12 _ harg13 _ harg14 _ harg15 _ harg16 _ harg17 _ harg18 v2543 v2598 v2603) := by
  rw [k0_part65_eq_skeleton]
  unfold k0_part65_skel
  refine ld_bind h.l14.ld fun _ => ?_
  exact safe_pure _

theorem k0_part66_safe (v2630 : FVec F S32x1 .f32) (v2645 : FVec F S32x2048 .fp8e4m3) :
    Safe (defs₀ (F := F)) 𝒱 (c : Thread nD τ) bd Set.univ R (k0_part66 i _ harg1 _ harg2 _ harg3 _ harg4 _ harg5 _ harg6 _ harg7 _ harg8 _ harg9 _ harg10 _ harg11 _ harg12 _ harg13 _ harg14 _ harg15 _ harg16 _ harg17 _ harg18 v2630 v2645) := by
  rw [k0_part66_eq_skeleton]
  unfold k0_part66_skel
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  refine ld_bind h.l14.ld fun _ => ?_
  refine st_bind h.l14 fun _ => ?_
  refine ld_bind h.l14.ld fun _ => ?_
  exact safe_pure _

theorem k0_part67_safe (v2674 : FVec F S32x1 .f32) (v2675 : Vec F S32x1024 .f32) (v2683 : FVec F S32x1 .f32) :
    Safe (defs₀ (F := F)) 𝒱 (c : Thread nD τ) bd Set.univ R (k0_part67 i _ harg1 _ harg2 _ harg3 _ harg4 _ harg5 _ harg6 _ harg7 _ harg8 _ harg9 _ harg10 _ harg11 _ harg12 _ harg13 _ harg14 _ harg15 _ harg16 _ harg17 _ harg18 v2674 v2675 v2683) := by
  rw [k0_part67_eq_skeleton]
  unfold k0_part67_skel
  refine ld_bind h.l6 fun _ => ?_
  refine ld_bind h.l14.ld fun _ => ?_
  refine st_bind h.l14 fun _ => ?_
  exact safe_pure _

theorem k0_part68_safe (v2698 : FVec F S32x1 .f32) (v2726 : IVec S32x1 32) :
    Safe (defs₀ (F := F)) 𝒱 (c : Thread nD τ) bd Set.univ R (k0_part68 i _ harg1 _ harg2 _ harg3 _ harg4 _ harg5 _ harg6 _ harg7 _ harg8 _ harg9 _ harg10 _ harg11 _ harg12 _ harg13 _ harg14 _ harg15 _ harg16 _ harg17 _ harg18 v2698 v2726) := by
  rw [k0_part68_eq_skeleton]
  unfold k0_part68_skel
  exact safe_pure _

theorem k0_part69_safe (v2771 : IVec S32x1 32) :
    Safe (defs₀ (F := F)) 𝒱 (c : Thread nD τ) bd Set.univ R (k0_part69 i _ harg1 _ harg2 _ harg3 _ harg4 _ harg5 _ harg6 _ harg7 _ harg8 _ harg9 _ harg10 _ harg11 _ harg12 _ harg13 _ harg14 _ harg15 _ harg16 _ harg17 _ harg18 v2771) := by
  rw [k0_part69_eq_skeleton]
  unfold k0_part69_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  exact safe_pure _

theorem k0_part70_safe (v2807 : FVec F S32x1 .f32) (v2808 : Vec F S32x1024 .f32) (v2809 : FVec F S32x1024 .f32) :
    Safe (defs₀ (F := F)) 𝒱 (c : Thread nD τ) bd Set.univ R (k0_part70 i _ harg1 _ harg2 _ harg3 _ harg4 _ harg5 _ harg6 _ harg7 _ harg8 _ harg9 _ harg10 _ harg11 _ harg12 _ harg13 _ harg14 _ harg15 _ harg16 _ harg17 _ harg18 v2807 v2808 v2809) := by
  rw [k0_part70_eq_skeleton]
  unfold k0_part70_skel
  refine ld_bind h.l6 fun _ => ?_
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part71_safe (v2829 : FVec F S32x1 .f32) (v2849 : FVec F S32 .f32) :
    Safe (defs₀ (F := F)) 𝒱 (c : Thread nD τ) bd Set.univ R (k0_part71 i _ harg1 _ harg2 _ harg3 _ harg4 _ harg5 _ harg6 _ harg7 _ harg8 _ harg9 _ harg10 _ harg11 _ harg12 _ harg13 _ harg14 _ harg15 _ harg16 _ harg17 _ harg18 v2829 v2849) := by
  rw [k0_part71_eq_skeleton]
  unfold k0_part71_skel
  exact safe_pure _

theorem k0_part72_safe (v2853 : FVec F S32x1 .f32) (v2890 : IVec S32x1 32) (v2892 : IVec S32x1 32) (v2893 : IVec S32x1 32) :
    Safe (defs₀ (F := F)) 𝒱 (c : Thread nD τ) bd Set.univ R (k0_part72 i _ harg1 _ harg2 _ harg3 _ harg4 _ harg5 _ harg6 _ harg7 _ harg8 _ harg9 _ harg10 _ harg11 _ harg12 _ harg13 _ harg14 _ harg15 _ harg16 _ harg17 _ harg18 v2853 v2890 v2892 v2893) := by
  rw [k0_part72_eq_skeleton]
  unfold k0_part72_skel
  exact safe_pure _

theorem k0_part73_safe (v2935 : IVec S32x1 32) (v2937 : IVec S32x1 32) (c23_i32_1218 : BitVec 32) :
    Safe (defs₀ (F := F)) 𝒱 (c : Thread nD τ) bd Set.univ R (k0_part73 i _ harg1 _ harg2 _ harg3 _ harg4 _ harg5 _ harg6 _ harg7 _ harg8 _ harg9 _ harg10 _ harg11 _ harg12 _ harg13 _ harg14 _ harg15 _ harg16 _ harg17 _ harg18 v2935 v2937 c23_i32_1218) := by
  rw [k0_part73_eq_skeleton]
  unfold k0_part73_skel
  refine ld_bind h.l14.ld fun _ => ?_
  refine ld_bind h.l17.ld fun _ => ?_
  refine st_bind h.l17 fun _ => ?_
  refine ld_bind h.l18.ld fun _ => ?_
  refine st_bind h.l18 fun _ => ?_
  refine ld_bind h.l14.ld fun _ => ?_
  refine ld_bind h.l6 fun _ => ?_
  exact safe_pure _

theorem k0_part74_safe (v2962 : FVec F S32x1 .f32) (v2973 : FVec F S32x1024 .f32) (v2976 : FVec F S32x1024 .f32) :
    Safe (defs₀ (F := F)) 𝒱 (c : Thread nD τ) bd Set.univ R (k0_part74 i _ harg1 _ harg2 _ harg3 _ harg4 _ harg5 _ harg6 _ harg7 _ harg8 _ harg9 _ harg10 _ harg11 _ harg12 _ harg13 _ harg14 _ harg15 _ harg16 _ harg17 _ harg18 v2962 v2973 v2976) := by
  rw [k0_part74_eq_skeleton]
  unfold k0_part74_skel
  refine ld_bind h.l14.ld fun _ => ?_
  refine st_bind h.l14 fun _ => ?_
  refine ld_bind h.l14.ld fun _ => ?_
  refine ld_bind h.l6 fun _ => ?_
  refine ld_bind h.l14.ld fun _ => ?_
  refine st_bind h.l14 fun _ => ?_
  exact safe_pure _

theorem k0_part75_safe (v3008 : FVec F S32x1 .f32) (v3009 : IVec S32x1 32) (v3015 : IVec S32x1 1) (v3016 : IVec S32x1 32) :
    Safe (defs₀ (F := F)) 𝒱 (c : Thread nD τ) bd Set.univ R (k0_part75 i _ harg1 _ harg2 _ harg3 _ harg4 _ harg5 _ harg6 _ harg7 _ harg8 _ harg9 _ harg10 _ harg11 _ harg12 _ harg13 _ harg14 _ harg15 _ harg16 _ harg17 _ harg18 v3008 v3009 v3015 v3016) := by
  rw [k0_part75_eq_skeleton]
  unfold k0_part75_skel
  exact safe_pure _

theorem k0_part76_safe (v3008 : FVec F S32x1 .f32) (v3054 : IVec S32x1 32) (v3060 : IVec S32x1 1) (v3061 : IVec S32x1 32) :
    Safe (defs₀ (F := F)) 𝒱 (c : Thread nD τ) bd Set.univ R (k0_part76 i _ harg1 _ harg2 _ harg3 _ harg4 _ harg5 _ harg6 _ harg7 _ harg8 _ harg9 _ harg10 _ harg11 _ harg12 _ harg13 _ harg14 _ harg15 _ harg16 _ harg17 _ harg18 v3008 v3054 v3060 v3061) := by
  rw [k0_part76_eq_skeleton]
  unfold k0_part76_skel
  refine ld_bind h.l14.ld fun _ => ?_
  exact safe_pure _

end

end Cert.ScanIdeal.Own

end
-- ==== Proof.ScanIdeal.Whole.lean ====
/- The second kernel's body runs with its buffers and gives them back. -/
module

public import proofs.«01_k».proof.Proof.ScanIdeal.PartsA
public import proofs.«01_k».proof.Proof.ScanIdeal.PartsB
public import proofs.«01_k».proof.Proof.ScanIdeal.PartsC

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section
variable {arg1 : Memref sig .tc .vmem S256x2048 .f32} {harg1 : arg1.IsWhole} {arg2 : Memref sig .tc .vmem S256x2560 .f32} {harg2 : arg2.IsWhole} {arg3 : Memref sig .tc .vmem S256x16 .f32} {harg3 : arg3.IsWhole} {arg4 : Memref sig .tc .vmem S1x128 .f32} {harg4 : arg4.IsWhole} {arg5 : Memref sig .tc .vmem S1x2048 .f32} {harg5 : arg5.IsWhole} {arg6 : Memref sig .tc .vmem S1x2048 .f32} {harg6 : arg6.IsWhole} {arg7 : Memref sig .tc .vmem S2048x8192 .fp8e4m3} {harg7 : arg7.IsWhole} {arg8 : Memref sig .tc .vmem S1x8192 .f32} {harg8 : arg8.IsWhole} {arg9 : Memref sig .tc .vmem S256x8192 .bf16} {harg9 : arg9.IsWhole} {arg10 : Memref sig .tc .vmem S256x8192 .bf16} {harg10 : arg10.IsWhole} {arg11 : Memref sig .tc .vmem S256x2048 .fp8e4m3} {harg11 : arg11.IsWhole} {arg12 : Memref sig .tc .vmem S256x1 .f32} {harg12 : arg12.IsWhole} {arg13 : Memref sig .tc .vmem S2x128x1024 .f32} {harg13 : arg13.IsWhole} {arg14 : Memref sig .tc .vmem S256x2048 .f32} {harg14 : arg14.IsWhole} {arg15 : Memref sig .tc .vmem S256x2048 .fp8e4m3} {harg15 : arg15.IsWhole} {arg16 : Memref sig .tc .vmem S256x1 .f32} {harg16 : arg16.IsWhole} {arg17 : Memref sig .tc .vmem S256x2048 .fp8e4m3} {harg17 : arg17.IsWhole} {arg18 : Memref sig .tc .vmem S256x1 .f32} {harg18 : arg18.IsWhole}
variable {𝒱 : Variants} {c : Dev nD} {bd : Option 𝒱.V}
variable (i : grid0.Coords) (R : sProp (MT nD τ sig Unit (Elt F) ℕ (UR sig nD τ) ℕ)) (h : Holds c R arg1 arg2 arg3 arg4 arg5 arg6 arg7 arg8 arg9 arg10 arg11 arg12 arg13 arg14 arg15 arg16 arg17 arg18)
include h

theorem k0_part77_safe :
    Safe (defs₀ (F := F)) 𝒱 (c : Thread nD τ) bd Set.univ R (k0_part77 i _ harg1 _ harg2 _ harg3 _ harg4 _ harg5 _ harg6 _ harg7 _ harg8 _ harg9 _ harg10 _ harg11 _ harg12 _ harg13 _ harg14 _ harg15 _ harg16 _ harg17 _ harg18) := by
  rw [k0_part77_eq_skeleton]
  unfold k0_part77_skel
  refine safe_bind (k0_part1_safe i _ h) fun v25 => ?_
  refine safe_bind (k0_part2_safe i _ h _) fun v58 => ?_
  refine safe_bind (k0_part3_safe i _ h _ _) fun ⟨v88, v91, v92⟩ => ?_
  refine safe_bind (k0_part4_safe i _ h _ _ _ _) fun ⟨v121, v123, v126⟩ => ?_
  refine safe_bind (k0_part5_safe i _ h _ _ _ _) fun v159 => ?_
  refine safe_bind (k0_part6_safe i _ h _ _) fun v191 => ?_
  refine safe_bind (k0_part7_safe i _ h _ _) fun ⟨v223, v224⟩ => ?_
  refine safe_bind (k0_part8_safe i _ h _ _ _) fun ⟨v256, v258⟩ => ?_
  refine safe_bind (k0_part9_safe i _ h _ _) fun ⟨v270, v273, v276, v294, v296, v297, cst_197⟩ => ?_
  refine safe_bind (k0_part10_safe i _ h _ _ _ _ _ _) fun ⟨v318, v319, v320, v323, v326, v327, v330, v331, v332, v333, v334, v337, v338⟩ => ?_
  refine safe_bind (k0_part11_safe i _ h _ _ _ _ _ _ _ _ _ _ _ _ _) fun ⟨v377, v378, v379, v380⟩ => ?_
  refine safe_bind (k0_part12_safe i _ h _ _ _ _ _ _ _ _) fun v422 => ?_
  refine safe_bind (k0_part13_safe i _ h _ _ _ _ _ _ _ _) fun v465 => ?_
  refine safe_bind (k0_part14_safe i _ h _ _ _ _ _ _ _ _) fun ⟨v482, v504, v506, v508⟩ => ?_
  refine safe_bind (k0_part15_safe i _ h _ _ _ _ _ _ _ _ _ _ _) fun ⟨v518, v528, v550⟩ => ?_
  refine safe_bind (k0_part16_safe i _ h _ _ _ _ _ _ _ _ _) fun ⟨v563, v564, v574, v593⟩ => ?_
  refine safe_bind (k0_part17_safe i _ h _ _ _ _ _ _ _ _ _ _ _) fun ⟨v608, v609, v610, v620, v633⟩ => ?_
  refine safe_bind (k0_part18_safe i _ h _ _ _ _ _ _ _ _ _ _ _ _) fun ⟨v654, v655, v656, v666, v677, v678⟩ => ?_
  refine safe_bind (k0_part19_safe i _ h _ _ _ _ _ _ _ _ _ _ _) fun ⟨v701, v702, v705, v706, v707, v708, v709, v716, v717⟩ => ?_
  refine safe_bind (k0_part20_safe i _ h _ _ _ _ _ _ _ _ _ _ _) fun ⟨v752, v753, v754, v755, v758, cst_365⟩ => ?_
  refine safe_bind (k0_part21_safe i _ h _ _ _ _ _ _ _ _ _ _ _ _ _) fun ⟨v798, v799, v800⟩ => ?_
  refine safe_bind (k0_part22_safe i _ h _ _ _ _ _ _ _ _) fun v840 => ?_
  refine safe_bind (k0_part23_safe i _ h _ _ _ _ _ _ _ _) fun v886 => ?_
  refine safe_bind (k0_part24_safe i _ h _ _ _ _ _ _ _ _) fun ⟨v903, v925, v927, v928⟩ => ?_
  refine safe_bind (k0_part25_safe i _ h _ _ _ _ _ _ _ _ _ _ _) fun ⟨v939, v949, v971⟩ => ?_
  refine safe_bind (k0_part26_safe i _ h _ _ _ _ _ _ _ _ _) fun ⟨v984, v985, v995, v1013⟩ => ?_
  refine safe_bind (k0_part27_safe i _ h _ _ _ _ _ _ _ _ _ _ _) fun ⟨v1029, v1030, v1031, v1041, v1054, v1055⟩ => ?_
  refine safe_bind (k0_part28_safe i _ h _ _ _ _ _ _ _ _) fun ⟨v1076, v1079, v1091, v1093, v1094, cst_489⟩ => ?_
  refine safe_bind (k0_part29_safe i _ h _ _ _ _ _ _) fun ⟨v1121, v1122, v1123, v1126, v1129, v1130, v1133⟩ => ?_
  refine safe_bind (k0_part30_safe i _ h _ _ _ _ _ _ _) fun v1176 => ?_
  refine safe_bind (k0_part31_safe i _ h _ _ _ _ _ _ _ _) fun ⟨v1193, v1215, v1220⟩ => ?_
  refine safe_bind (k0_part32_safe i _ h _ _ _ _ _ _ _ _ _ _) fun ⟨v1229, v1239, v1261⟩ => ?_
  refine safe_bind (k0_part33_safe i _ h _ _ _ _ _ _ _ _ _) fun ⟨v1275, v1285, v1305⟩ => ?_
  refine safe_bind (k0_part34_safe i _ h _ _ _ _ _ _ _ _ _ _) fun ⟨v1319, v1320, v1321, v1331, v1347⟩ => ?_
  refine safe_bind (k0_part35_safe i _ h _ _ _ _ _ _ _ _ _ _ _ _) fun ⟨v1365, v1366, v1367, v1377, v1390⟩ => ?_
  refine safe_bind (k0_part36_safe i _ h _ _ _ _ _ _ _ _ _ _ _ _) fun ⟨v1411, v1412, v1413, v1423, v1429, v1433⟩ => ?_
  refine safe_bind (k0_part37_safe i _ h _ _ _ _ _ _ _ _ _ _ _ _ _) fun ⟨v1457, v1458, v1459, v1469, v1475⟩ => ?_
  refine safe_bind (k0_part38_safe i _ h _ _ _ _ _ _ _ _ _) fun ⟨v1504, v1505, v1508, v1509, v1510, v1511, v1512⟩ => ?_
  refine safe_bind (k0_part39_safe i _ h _ _ _ _ _ _ _ _) fun v1554 => ?_
  refine safe_bind (k0_part40_safe i _ h _ _ _ _ _ _ _ _) fun v1597 => ?_
  refine safe_bind (k0_part41_safe i _ h _ _ _ _ _ _ _ _) fun ⟨v1614, v1636, v1638, v1640⟩ => ?_
  refine safe_bind (k0_part42_safe i _ h _ _ _ _ _ _ _ _ _ _ _) fun ⟨v1650, v1660, v1682⟩ => ?_
  refine safe_bind (k0_part43_safe i _ h _ _ _ _ _ _ _ _ _) fun ⟨v1695, v1696, v1706, v1725⟩ => ?_
  refine safe_bind (k0_part44_safe i _ h _ _ _ _ _ _ _ _ _ _ _) fun ⟨v1740, v1741, v1742, v1752, v1765⟩ => ?_
  refine safe_bind (k0_part45_safe i _ h _ _ _ _ _ _ _ _ _ _ _ _) fun ⟨v1786, v1787, v1788, v1798, v1809, v1810⟩ => ?_
  refine safe_bind (k0_part46_safe i _ h _ _ _ _ _ _ _ _ _ _ _ _ _) fun ⟨v1832, v1833, v1834, v1844, v1850, v1853⟩ => ?_
  refine safe_bind (k0_part47_safe i _ h _ _ _ _ _ _ _) fun ⟨v1877, v1892⟩ => ?_
  refine safe_bind (k0_part48_safe i _ h _ _) fun ⟨v1923, v1924, v1930, v1932⟩ => ?_
  refine safe_bind (k0_part49_safe i _ h _ _ _ _) fun ⟨v1969, v1975, v1977⟩ => ?_
  refine safe_bind (k0_part50_safe i _ h _ _ _ _) fun ⟨v2010, v2020⟩ => ?_
  refine safe_bind (k0_part51_safe i _ h _ _) fun ⟨v2054, v2055, v2057⟩ => ?_
  refine safe_bind (k0_part52_safe i _ h _ _ _) fun ⟨v2078, v2097, v2099, c23_i32_880⟩ => ?_
  refine safe_bind (k0_part53_safe i _ h _ _ _ _) fun ⟨v2142, v2144, c23_i32_895⟩ => ?_
  refine safe_bind (k0_part54_safe i _ h _ _ _ _) fun v2165 => ?_
  refine safe_bind (k0_part55_safe i _ h _) fun ⟨v2209, v2224⟩ => ?_
  refine safe_bind (k0_part56_safe i _ h _ _) fun ⟨v2233, v2261, v2267, c16_i32_947⟩ => ?_
  refine safe_bind (k0_part57_safe i _ h _ _ _ _) fun ⟨v2306, v2311, v2312⟩ => ?_
  refine safe_bind (k0_part58_safe i _ h _ _ _) fun ⟨v2342, v2343, v2350⟩ => ?_
  refine safe_bind (k0_part59_safe i _ h _ _ _) fun ⟨v2388, v2389, v2390⟩ => ?_
  refine safe_bind (k0_part60_safe i _ h _ _ _) fun ⟨v2434, v2435⟩ => ?_
  exact safe_pure _

theorem cc0_ssd_out_safe :
    Safe (defs₀ (F := F)) 𝒱 (c : Thread nD τ) bd Set.univ R (cc0_ssd_out i _ harg1 _ harg2 _ harg3 _ harg4 _ harg5 _ harg6 _ harg7 _ harg8 _ harg9 _ harg10 _ harg11 _ harg12 _ harg13 _ harg14 _ harg15 _ harg16 _ harg17 _ harg18) := by
  rw [cc0_ssd_out_eq_skeleton]
  unfold cc0_ssd_out_skel
  refine safe_bind (k0_part77_safe i _ h) fun ⟨v2388, v2434, v2435⟩ => ?_
  refine safe_bind (k0_part61_safe i _ h _ _ _) fun ⟨v2475, v2479⟩ => ?_
  refine safe_bind (k0_part62_safe i _ h _ _) fun ⟨v2497, v2516⟩ => ?_
  refine safe_bind (k0_part63_safe i _ h _ _) fun ⟨v2543, v2553, v2558⟩ => ?_
  refine safe_bind (k0_part64_safe i _ h _ _ _) fun ⟨v2598, v2603⟩ => ?_
  refine safe_bind (k0_part65_safe i _ h _ _ _) fun ⟨v2630, v2645⟩ => ?_
  refine safe_bind (k0_part66_safe i _ h _ _) fun ⟨v2674, v2675, v2683⟩ => ?_
  refine safe_bind (k0_part67_safe i _ h _ _ _) fun ⟨v2698, v2726⟩ => ?_
  refine safe_bind (k0_part68_safe i _ h _ _) fun v2771 => ?_
  refine safe_bind (k0_part69_safe i _ h _) fun ⟨v2807, v2808, v2809⟩ => ?_
  refine safe_bind (k0_part70_safe i _ h _ _ _) fun ⟨v2829, v2849⟩ => ?_
  refine safe_bind (k0_part71_safe i _ h _ _) fun ⟨v2853, v2890, v2892, v2893⟩ => ?_
  refine safe_bind (k0_part72_safe i _ h _ _ _ _) fun ⟨v2935, v2937, c23_i32_1218⟩ => ?_
  refine safe_bind (k0_part73_safe i _ h _ _ _) fun ⟨v2962, v2973, v2976⟩ => ?_
  refine safe_bind (k0_part74_safe i _ h _ _ _) fun ⟨v3008, v3009, v3015, v3016⟩ => ?_
  refine safe_bind (k0_part75_safe i _ h _ _ _ _) fun ⟨v3054, v3060, v3061⟩ => ?_
  refine safe_bind (k0_part76_safe i _ h _ _ _ _) fun ⟨v3095, v3103, v3104⟩ => ?_
  refine ld_bind h.l17.ld fun _ => ?_
  refine st_bind h.l17 fun _ => ?_
  refine ld_bind h.l18.ld fun _ => ?_
  refine st_bind h.l18 fun _ => ?_
  exact safe_pure _

end

end Cert.ScanIdeal.Own

end
-- ==== Proof.ScanIdeal.Run.lean ====
/- The second kernel's run: it ends, its arguments unchanged, its semaphores at zero. -/
module

public import proofs.«01_k».proof.Proof.Gen.ScanIdeal.Frame
public import proofs.«01_k».proof.Proof.ScanIdeal.Bufs
public import proofs.«01_k».proof.Proof.ScanIdeal.Whole

@[expose] public section

noncomputable section

namespace Cert.ScanIdeal.Own

open Cert.Own
open Cert.ScanIdeal Cert.ScanIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg) (c : Dev nD)

/-- The proof data of the pipeline: the inputs' buffers at their blocks; the outputs' are forgotten. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨_ + 12, h⟩ => absurd h (Nat.not_lt.2 (Nat.le_add_left _ _))
  Φ _ := Pipeline.ΦA spec0 c
  q _ := fullShare
  owed _ := 0

/-- The outputs. -/
def outs : Fin cfg0.W → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | ⟨9, _⟩ => true
  | ⟨10, _⟩ => true
  | ⟨11, _⟩ => true
  | ⟨_ + 12, h⟩ => absurd h (Nat.not_lt.2 (Nat.le_add_left _ _))

theorem A_eq (w : Fin cfg0.W) : (dats m 0 c).A w = V m c (Pipeline.arrRef spec0 w) := by
  dsimp only [dats]

theorem before_0 (t : Fin cfg0.N) (d) : (dats m 0 c).before 0 t d = iblk m c 0 t := before0_0_of m (dats m 0 c) (A_eq m c 0) (fun _ => rfl) t d
theorem before_1 (t : Fin cfg0.N) (d) : (dats m 0 c).before 1 t d = iblk m c 1 t := before0_1_of m (dats m 0 c) (A_eq m c 1) (fun _ => rfl) t d
theorem before_2 (t : Fin cfg0.N) (d) : (dats m 0 c).before 2 t d = iblk m c 2 t := before0_2_of m (dats m 0 c) (A_eq m c 2) (fun _ => rfl) t d
theorem before_3 (t : Fin cfg0.N) (d) : (dats m 0 c).before 3 t d = iblk m c 3 t := before0_3_of m (dats m 0 c) (A_eq m c 3) (fun _ => rfl) t d
theorem before_4 (t : Fin cfg0.N) (d) : (dats m 0 c).before 4 t d = iblk m c 4 t := before0_4_of m (dats m 0 c) (A_eq m c 4) (fun _ => rfl) t d
theorem before_5 (t : Fin cfg0.N) (d) : (dats m 0 c).before 5 t d = iblk m c 5 t := before0_5_of m (dats m 0 c) (A_eq m c 5) (fun _ => rfl) t d
theorem before_6 (t : Fin cfg0.N) (d) : (dats m 0 c).before 6 t d = iblk m c 6 t := before0_6_of m (dats m 0 c) (A_eq m c 6) (fun _ => rfl) t d
theorem before_7 (t : Fin cfg0.N) (d) : (dats m 0 c).before 7 t d = iblk m c 7 t := before0_7_of m (dats m 0 c) (A_eq m c 7) (fun _ => rfl) t d
theorem before_8 (t : Fin cfg0.N) (d) : (dats m 0 c).before 8 t d = iblk m c 8 t := before0_8_of m (dats m 0 c) (A_eq m c 8) (fun _ => rfl) t d

def pointPre (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X)
    ∗ (∃ X, owns (c : Thread nD τ) (st0_10 t) fullShare X)
    ∗ (∃ X, owns (c : Thread nD τ) (st0_11 t) fullShare X))

def pointPost (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X)
    ∗ (∃ X, owns (c : Thread nD τ) (st0_10 t) fullShare X)
    ∗ (∃ X, owns (c : Thread nD τ) (st0_11 t) fullShare X))

theorem owes_eq (t : Fin cfg0.N) : (dats m 0 c).owesAt () t.castSucc = (dats m 0 c).owesAt () t.succ := rfl

/-- The body of a point, over its buffers. -/
theorem body_safe (t : Fin cfg0.N) :
    Safe (defs₀ (F := F)) Variants.none (c : Thread nD τ) none Set.univ
      (Bufs c (st0_0 t) (st0_1 t) (st0_2 t) (st0_3 t) (st0_4 t) (st0_5 t) (st0_6 t) (st0_7 t) (st0_8 t) (st0_9 t) (st0_10 t) (st0_11 t) (Memref.whole cc0_scratch0) (Memref.whole cc0_scratch1) (Memref.whole cc0_scratch2) (Memref.whole cc0_scratch3) (Memref.whole cc0_scratch4) (Memref.whole cc0_scratch5) (iblk m c 0 t) (iblk m c 1 t) (iblk m c 2 t) (iblk m c 3 t) (iblk m c 4 t) (iblk m c 5 t) (iblk m c 6 t) (iblk m c 7 t) (iblk m c 8 t))
      (bodyAt0 t) :=
  cc0_ssd_out_safe (grid0.coords t) _ bufs_holds

theorem sound_point (t : Fin cfg0.N) :
    pointPre m c t ⊢ wp frame (wpE (defs₀ (F := F)) Variants.none (c : Thread nD τ) none) Set.univ (bodyAt0 t) (fun _ => pointPost m c t) := by
  unfold pointPre pointPost
  simp only [before_0, before_1, before_2, before_3, before_4, before_5, before_6, before_7, before_8]
  rw [owes_eq, show (dats m 0 c).Φ t.castSucc = Pipeline.ΦA spec0 c from rfl, show (dats m 0 c).Φ t.succ = Pipeline.ΦA spec0 c from rfl]
  unfold Pipeline.ΦA
  rw [scopedRest0_eq]
  have hb := body_safe m c t
  unfold Safe Bufs at hb
  simp only [owns_whole] at hb
  iintro ⟨⟨⟨HS0, HS1, HS2, HS3, HS4, HS5⟩, Hg⟩, HO, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, H9, H10, H11⟩
  iapply (hb _) $$ [H0 H1 H2 H3 H4 H5 H6 H7 H8 H9 H10 H11 HS0 HS1 HS2 HS3 HS4 HS5]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [HS0]; · iexact HS0
    isplitl [HS1]; · iexact HS1
    isplitl [HS2]; · iexact HS2
    isplitl [HS3]; · iexact HS3
    isplitl [HS4]; · iexact HS4
    iexact HS5
  iintro %_ ⟨H0, H1, H2, H3, H4, H5, H6, H7, H8, H9, H10, H11, HS0, HS1, HS2, HS3, HS4, HS5⟩
  isplitl [HS0 HS1 HS2 HS3 HS4 HS5 Hg]
  · isplitl [HS0 HS1 HS2 HS3 HS4 HS5]
    · isplitl [HS0]; · iexact HS0
      isplitl [HS1]; · iexact HS1
      isplitl [HS2]; · iexact HS2
      isplitl [HS3]; · iexact HS3
      isplitl [HS4]; · iexact HS4
      iexact HS5
    iexact Hg
  isplitl [HO]; · iexact HO
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

theorem defs₀_row (t : Fin cfg0.N) :
    defs₀ (F := F) .tc cfg0.body (cfg0.bodyArgs t (cfg0.slots t)) = bodyAt0 t := by
  unfold defs₀; rw [Defs.onTc_tc]

theorem body_loose : Pipeline.BodyObligationLoose (dats m 0 c) (defs₀ (F := F)) Variants.none () Set.univ outs := fun t => by
  rw [bigSep_W0, bigSep_W0, defs₀_row]
  exact triple_restated (sound_point m c t) rfl .rfl fun _ => .rfl

set_option backward.isDefEq.respectTransparency.types false in
theorem run_main : θ_run defs (onTc (τ := τ) (main (F := F))) (s₀ m ρ)
    (fun r => RDat.FramePost cfg0 (fun c => (dats m 0 c).toRForget outs) (V m) r ∧ r.2.sem = fun _ => 0) :=
  Pipeline.θ_run_frame_forget (Q' := _) cfgs (dats m) (0 : Fin 1) launch0 defs₀ Variants.none outs m ρ main
    (hbody := fun c => body_loose m c) (hshare := fun c => (dats m 0 c).share_full fun _ => rfl)
    (howed := fun _ _ => rfl) (V := V m) (hmain := hmain m Variants.none) (hA := A_eq m)
    (hΦ := fun _ _ => rfl) (hQ' := fun _ h => h)

/-- The arguments are as they were. -/
theorem kept {r : PUnit × MemSt nD τ sig (Elt F)} (hR : RDat.FramePost cfg0 (fun c => (dats m 0 c).toRForget outs) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) := by
  have rest : ∀ (b : Ref sig .tc) (hb : b ∈ Pipeline.restRefs sig spec0), r.2.mem ((c.tc : Thread nD τ).loc b) = V m c b :=
    fun b hb => (hR c).2 b hb
  have inp : ∀ (w : Fin cfg0.W) (hw : (cfg0.win w).isOut = false),
      r.2.mem ((cfg0.spec w).arr.view.loc (c.tc : Thread nD τ)) = V m c (Pipeline.arrRef spec0 w) := fun w hw =>
    (hR.arr_in c w hw).trans (A_eq m c w)
  exact ⟨(inp 0 rfl).trans (V_main_arg0 m c), (inp 1 rfl).trans (V_main_arg1 m c), (inp 2 rfl).trans (V_main_arg2 m c), (rest main_arg3 (Pipeline.mem_restRefs_of main_arg3 (by decide) (by decide))).trans (V_main_arg3 m c), (rest main_arg4 (Pipeline.mem_restRefs_of main_arg4 (by decide) (by decide))).trans (V_main_arg4 m c), (rest main_arg5 (Pipeline.mem_restRefs_of main_arg5 (by decide) (by decide))).trans (V_main_arg5 m c), (inp 6 rfl).trans (V_main_arg6 m c), (rest main_arg7 (Pipeline.mem_restRefs_of main_arg7 (by decide) (by decide))).trans (V_main_arg7 m c), (rest main_arg8 (Pipeline.mem_restRefs_of main_arg8 (by decide) (by decide))).trans (V_main_arg8 m c)⟩

theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun r h => ⟨fun c => kept m h.1 c, h.2⟩) (run_main m ρ)

end Cert.ScanIdeal.Own

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Value
public import proofs.«01_k».proof.Proof.Gen.Scan
public import proofs.«01_k».proof.Proof.Gen.Scan.Skeleton
public import proofs.«01_k».proof.Proof.Gen.Scan.Launch
public import proofs.«01_k».proof.Proof.Gen.Scan.Points
public import proofs.«01_k».proof.Proof.Gen.Scan.Frame
public import proofs.«01_k».proof.Proof.Gen.ScanIdeal
public import proofs.«01_k».proof.Proof.Gen.ScanIdeal.Skeleton
public import proofs.«01_k».proof.Proof.Gen.ScanIdeal.Launch
public import proofs.«01_k».proof.Proof.Gen.ScanIdeal.Points
public import proofs.«01_k».proof.Proof.Gen.ScanIdeal.Frame
public import proofs.«01_k».proof.Proof.Kernel.Run
public import proofs.«01_k».proof.Proof.KernelIdeal.Run
public import proofs.«01_k».proof.Proof.Value.Main
public import proofs.«01_k».proof.Proof.Scan.Run
public import proofs.«01_k».proof.Proof.ScanIdeal.Run
public import Idealize.ShloMosaic.Adequacy
public import Idealize.ShloMosaic.Init

@[expose] public section

noncomputable section

namespace Cert.Proof

open Idealize.ShloMosaic Idealize.SL.Sem Cert.Kernel

/-- At the ideal reading the kernel ends at the reference's five arrays. -/
theorem algebraic : Cert.algebraic_KernelIdeal_ReferenceIdeal (hKernelIdeal := Cert.KernelIdeal.Gen.facts) (hReferenceIdeal := Cert.ReferenceIdeal.Gen.facts) := by
  intro m g m' g' _ hin
  refine ⟨fun c => Own.E0 (Own.a0 m c) (Own.a1 m c), fun c => Own.E1 (Own.a0 m c) (Own.a1 m c),
    fun c => Own.E2 (Own.a0 m c) (Own.a1 m c) (Own.a2 m c) (Own.a3 m c),
    fun c => Own.E3 (Own.a0 m c) (Own.a1 m c) (Own.a2 m c) (Own.a3 m c) (Own.a4 m c) (Own.a5 m c),
    fun c => Own.E4 (Own.a0 m c) (Own.a1 m c) (Own.a2 m c) (Own.a3 m c) (Own.a6 m c), Own.kernel_run m g, ?_⟩
  refine (θ_run _ _ _).mono (fun r h c => ?_) (Cert.ReferenceIdeal.Value.run m' g')
  obtain ⟨h0, h1, h2, h3, h4, hk⟩ := h c
  obtain ⟨e0, e1, e2, e3, e4, e5, e6⟩ := hin c
  rw [e0, e1, e2, e3, e4, e5, e6] at h0 h1 h2 h3 h4
  exact ⟨h0.trans (Own.end0 (Own.a0 m c) (Own.a1 m c) (Own.a2 m c) (Own.a3 m c) (Own.a4 m c) (Own.a5 m c) (Own.a6 m c)),
    h1.trans (Own.end1 (Own.a0 m c) (Own.a1 m c) (Own.a2 m c) (Own.a3 m c) (Own.a4 m c) (Own.a5 m c) (Own.a6 m c)),
    h2.trans (Own.end2 (Own.a0 m c) (Own.a1 m c) (Own.a2 m c) (Own.a3 m c) (Own.a4 m c) (Own.a5 m c) (Own.a6 m c)),
    h3.trans (Own.end3 (Own.a0 m c) (Own.a1 m c) (Own.a2 m c) (Own.a3 m c) (Own.a4 m c) (Own.a5 m c) (Own.a6 m c)),
    h4.trans (Own.end4 (Own.a0 m c) (Own.a1 m c) (Own.a2 m c) (Own.a3 m c) (Own.a4 m c) (Own.a5 m c) (Own.a6 m c)), hk⟩

theorem claim : Cert.Claim := ⟨Cert.Kernel.Gen.facts, Cert.KernelIdeal.Gen.facts, Cert.ReferenceIdeal.Gen.facts,
  Cert.Scan.Gen.facts, Cert.ScanIdeal.Gen.facts,
  ⟨fun m ρ _ => Cert.Kernel.Own.frame m ρ, fun m ρ _ => Cert.KernelIdeal.Own.frame m ρ, fun m ρ _ => Cert.ReferenceIdeal.Gen.frame m ρ,
   fun m ρ _ => Cert.Scan.Own.frame m ρ, fun m ρ _ => Cert.ScanIdeal.Own.frame m ρ, trivial, algebraic, trivial⟩⟩

end Cert.Proof

end
